-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_scales [hPre_finite_scales : Cert.Pre_finite_scales.Facts] (m : (ℓ : Loc Cert.ProjIdeal.nD Cert.ProjIdeal.τ Cert.ProjIdeal.sig) → Buf (Elt Ideal) ℓ) : Prop :=
  ∀ c : Dev Cert.ProjIdeal.nD,
    (Cert.Pre_finite_scales.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_scales [hPre_finite_scales : Cert.Pre_finite_scales.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_scales.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_finite_scales [hProjIdeal : Cert.ProjIdeal.Facts] [hPre_finite_scales : Cert.Pre_finite_scales.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_scales m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_finite_scales [hProjRefIdeal : Cert.ProjRefIdeal.Facts] [hPre_finite_scales : Cert.Pre_finite_scales.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_scales m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v176) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v1_0)) (v1 : (c : Dev Cert.GqaIdeal.nD) → Buf (Elt Ideal) ((c.tc : Thread Cert.GqaIdeal.nD Cert.GqaIdeal.τ).loc Cert.GqaIdeal.main_v1_1)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v1_0) = v0 c
          ∧ r.2.mem ((c.tc : Thread Cert.GqaIdeal.nD Cert.GqaIdeal.τ).loc Cert.GqaIdeal.main_v1_1) = v1 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v31) = v0 c
          ∧ r.2.mem ((c.tc : Thread Cert.GqaRefIdeal.nD Cert.GqaRefIdeal.τ).loc Cert.GqaRefIdeal.main_v32) = v1 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_v64) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Proj_ProjIdeal : Prop :=
  True

def algebraic_ProjIdeal_ProjRefIdeal_pre_finite_scales [hProjIdeal : Cert.ProjIdeal.Facts] [hProjRefIdeal : Cert.ProjRefIdeal.Facts] [hPre_finite_scales : Cert.Pre_finite_scales.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_scales m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v48) = v1 c
          ∧ r.2.mem ((c.tc : Thread Cert.ProjRefIdeal.nD Cert.ProjRefIdeal.τ).loc Cert.ProjRefIdeal.main_v50) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_finite_qk : Cert.Pre_finite_qk.Facts) (hPre_experts_named : Cert.Pre_experts_named.Facts) (hPre_gqa_finite : Cert.Pre_gqa_finite.Facts) (hPre_finite_scales : Cert.Pre_finite_scales.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjIdeal_pre_finite_scales (hProjIdeal := hProjIdeal) (hPre_finite_scales := hPre_finite_scales)
    ∧ quiescent_ProjRefIdeal (hProjRefIdeal := hProjRefIdeal)
    ∧ quiescent_ProjRefIdeal_pre_finite_scales (hProjRefIdeal := hProjRefIdeal) (hPre_finite_scales := hPre_finite_scales)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal_pre_finite_scales (hProjIdeal := hProjIdeal) (hProjRefIdeal := hProjRefIdeal) (hPre_finite_scales := hPre_finite_scales)
-- ==== Pre_experts_named.lean ====
abbrev S74 : Shape := ⟨1, ![74]⟩
abbrev S37888x1024 : Shape := ⟨2, ![37888, 1024]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S74 : S_.BroadcastsInDim S74 (![] : Fin 0 → Fin S74.rank)
  reducesTo_S74_S_d0 : S74.ReducesTo [0] S_
  h_S_ : 0 < S_.numel

variable [Facts]

def fn {F : FTy → Type} [FloatOps F] (main_arg0 : IVec S74 32) (main_arg1 : IVec S74 32) (main_arg2 : FVec F S37888x1024 .f32) (main_arg3 : FVec F S8x1024x7168 .bf16) (main_arg4 : FVec F S8x1024x7168 .bf16) (main_arg5 : FVec F S8x3584x1024 .bf16) : IVec S_ 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  let main_c_1 : IVec S_ 1 := constantI S_ 1 1#1
  let main_v5 : IVec S_ 1 := (fun x v => Host.reduce IntOp.andi x v reducesTo_S74_S_d0 h_S_) main_v4 main_c_1
  main_v5
-- ==== Pre_finite_qk.lean ====
abbrev S2x8448x2048 : Shape := ⟨3, ![2, 8448, 2048]⟩
abbrev S2x8448x1024 : Shape := ⟨3, ![2, 8448, 1024]⟩
abbrev S2x8x1024x7168 : Shape := ⟨4, ![2, 8, 1024, 7168]⟩
abbrev S_ : Shape := ⟨0, ![]⟩

class Facts : Prop where
  bitsLt_bf16_f32 : FTy.bits .bf16 < FTy.bits .f32
  bcast_S_S2x8448x2048 : S_.BroadcastsInDim S2x8448x2048 (![] : Fin 0 → Fin S2x8448x2048.rank)
  reducesTo_S2x8448x2048_S_d0_1_2 : S2x8448x2048.ReducesTo [0, 1, 2] S_
  h_S_ : 0 < S_.numel

variable [Facts]

def fn {F : FTy → Type} [FloatOps F] (main_arg0 : FVec F S2x8448x2048 .bf16) (main_arg1 : FVec F S2x8448x2048 .bf16) (main_arg2 : FVec F S2x8448x1024 .bf16) (main_arg3 : FVec F S2x8x1024x7168 .f32) : IVec S_ 1 :=
  let main_v0 : FVec F S2x8448x2048 .f32 := (extf .f32 · bitsLt_bf16_f32) main_arg0
  let main_v1 : FVec F S2x8448x2048 .f32 := Host.absf main_v0
  let main_cst : FVec F S_ .f32 := constant S_ .f32 0x7F800000#32
  let main_v2 : FVec F S2x8448x2048 .f32 := broadcastInDim S2x8448x2048 ![] bcast_S_S2x8448x2048 main_cst
  let main_v3 : IVec S2x8448x2048 1 := cmpf .olt main_v1 main_v2
  let main_c : IVec S_ 1 := constantI S_ 1 1#1
  let main_v4 : IVec S_ 1 := (fun x v => Host.reduce IntOp.andi x v reducesTo_S2x8448x2048_S_d0_1_2 h_S_) main_v3 main_c
  let main_v5 : FVec F S2x8448x2048 .f32 := (extf .f32 · bitsLt_bf16_f32) main_arg1
  let main_v6 : FVec F S2x8448x2048 .f32 := Host.absf main_v5
  let main_cst_0 : FVec F S_ .f32 := constant S_ .f32 0x7F800000#32
  let main_v7 : FVec F S2x8448x2048 .f32 := broadcastInDim S2x8448x2048 ![] bcast_S_S2x8448x2048 main_cst_0
  let main_v8 : IVec S2x8448x2048 1 := cmpf .olt main_v6 main_v7
  let main_c_1 : IVec S_ 1 := constantI S_ 1 1#1
  let main_v9 : IVec S_ 1 := (fun x v => Host.reduce IntOp.andi x v reducesTo_S2x8448x2048_S_d0_1_2 h_S_) main_v8 main_c_1
  let main_v10 : IVec S_ 1 := andi main_v4 main_v9
  main_v10
-- ==== Pre_finite_scales.lean ====
abbrev S2x8448x1024 : Shape := ⟨3, ![2, 8448, 1024]⟩
abbrev S1024x1024 : Shape := ⟨2, ![1024, 1024]⟩
abbrev S8x6x1024 : Shape := ⟨3, ![8, 6, 1024]⟩
abbrev S1024 : Shape := ⟨1, ![1024]⟩
abbrev S8x1024 : Shape := ⟨2, ![8, 1024]⟩
abbrev S3x2x1024 : Shape := ⟨3, ![3, 2, 1024]⟩
abbrev S_ : Shape := ⟨0, ![]⟩

class Facts : Prop where
  slices_S8x6x1024_S3x2x1024_0_3_0 : S8x6x1024.Slices ![0, 3, 0] S3x2x1024
  bcast_S_S3x2x1024 : S_.BroadcastsInDim S3x2x1024 (![] : Fin 0 → Fin S3x2x1024.rank)
  reducesTo_S3x2x1024_S_d0_1_2 : S3x2x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x8448x1024 .bf16) (main_arg1 : FVec F S1024x1024 .bf16) (main_arg2 : FVec F S2x8448x1024 .f32) (main_arg3 : FVec F S8x6x1024 .f32) (main_arg4 : FVec F S1024 .f32) (main_arg5 : FVec F S1024 .f32) (main_arg6 : FVec F S8x1024 .f32) : IVec S_ 1 :=
  let main_v0 : FVec F S3x2x1024 .f32 := (extractStridedSlice S3x2x1024 ![0, 3, 0] · slices_S8x6x1024_S3x2x1024_0_3_0) main_arg3
  let main_v1 : FVec F S3x2x1024 .f32 := Host.absf main_v0
  let main_cst : FVec F S_ .f32 := constant S_ .f32 0x7F800000#32
  let main_v2 : FVec F S3x2x1024 .f32 := broadcastInDim S3x2x1024 ![] bcast_S_S3x2x1024 main_cst
  let main_v3 : IVec S3x2x1024 1 := cmpf .olt main_v1 main_v2
  let main_c : IVec S_ 1 := constantI S_ 1 1#1
  let main_v4 : IVec S_ 1 := (fun x v => Host.reduce IntOp.andi x v reducesTo_S3x2x1024_S_d0_1_2 h_S_) main_v3 main_c
  let main_v5 : FVec F S1024 .f32 := Host.absf main_arg5
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S8x1024 .f32 := Host.absf main_arg6
  let main_cst_2 : FVec F S_ .f32 := constant S_ .f32 0x7F800000#32
  let main_v11 : FVec F S8x1024 .f32 := broadcastInDim S8x1024 ![] bcast_S_S8x1024 main_cst_2
  let main_v12 : IVec S8x1024 1 := cmpf .olt main_v10 main_v11
  let main_c_3 : IVec S_ 1 := constantI S_ 1 1#1
  let main_v13 : IVec S_ 1 := (fun x v => Host.reduce IntOp.andi x v reducesTo_S8x1024_S_d0_1 h_S_) main_v12 main_c_3
  let main_v14 : IVec S_ 1 := andi main_v9 main_v13
  main_v14
-- ==== Pre_gqa_finite.lean ====
abbrev S2x8448x512 : Shape := ⟨3, ![2, 8448, 512]⟩
abbrev S2x8448x256 : Shape := ⟨3, ![2, 8448, 256]⟩
abbrev S2x8x3584x1024 : Shape := ⟨4, ![2, 8, 3584, 1024]⟩
abbrev S_ : Shape := ⟨0, ![]⟩

class Facts : Prop where
  bitsLt_bf16_f32 : FTy.bits .bf16 < FTy.bits .f32
  bcast_S_S2x8448x512 : S_.BroadcastsInDim S2x8448x512 (![] : Fin 0 → Fin S2x8448x512.rank)
  reducesTo_S2x8448x512_S_d0_1_2 : S2x8448x512.ReducesTo [0, 1, 2] S_
  h_S_ : 0 < S_.numel
  bcast_S_S2x8448x256 : S_.BroadcastsInDim S2x8448x256 (![] : Fin 0 → Fin S2x8448x256.rank)
  reducesTo_S2x8448x256_S_d0_1_2 : S2x8448x256.ReducesTo [0, 1, 2] S_

variable [Facts]

def fn {F : FTy → Type} [FloatOps F] (main_arg0 : FVec F S2x8448x512 .bf16) (main_arg1 : FVec F S2x8448x256 .bf16) (main_arg2 : FVec F S2x8448x256 .bf16) (main_arg3 : FVec F S2x8x3584x1024 .f32) : IVec S_ 1 :=
  let main_v0 : FVec F S2x8448x512 .f32 := (extf .f32 · bitsLt_bf16_f32) main_arg0
  let main_v1 : FVec F S2x8448x512 .f32 := Host.absf main_v0
  let main_cst : FVec F S_ .f32 := constant S_ .f32 0x7F800000#32
  let main_v2 : FVec F S2x8448x512 .f32 := broadcastInDim S2x8448x512 ![] bcast_S_S2x8448x512 main_cst
  let main_v3 : IVec S2x8448x512 1 := cmpf .olt main_v1 main_v2
  let main_c : IVec S_ 1 := constantI S_ 1 1#1
  let main_v4 : IVec S_ 1 := (fun x v => Host.reduce IntOp.andi x v reducesTo_S2x8448x512_S_d0_1_2 h_S_) main_v3 main_c
  let main_v5 : FVec F S2x8448x256 .f32 := (extf .f32 · bitsLt_bf16_f32) main_arg1
  let main_v6 : FVec F S2x8448x256 .f32 := Host.absf main_v5
  let main_cst_0 : FVec F S_ .f32 := constant S_ .f32 0x7F800000#32
  let main_v7 : FVec F S2x8448x256 .f32 := broadcastInDim S2x8448x256 ![] bcast_S_S2x8448x256 main_cst_0
  let main_v8 : IVec S2x8448x256 1 := cmpf .olt main_v6 main_v7
  let main_c_1 : IVec S_ 1 := constantI S_ 1 1#1
  let main_v9 : IVec S_ 1 := (fun x v => Host.reduce IntOp.andi x v reducesTo_S2x8448x256_S_d0_1_2 h_S_) main_v8 main_c_1
  let main_v10 : IVec S_ 1 := andi main_v4 main_v9
  main_v10
-- ==== Kernel.lean ====
abbrev S2x8448x2048 : Shape := ⟨3, ![2, 8448, 2048]⟩
abbrev S2x8448x1024 : Shape := ⟨3, ![2, 8448, 1024]⟩
abbrev S2x8x1024x7168 : Shape := ⟨4, ![2, 8, 1024, 7168]⟩
abbrev S256x64x7168 : Shape := ⟨3, ![256, 64, 7168]⟩
abbrev S2x8192x1024 : Shape := ⟨3, ![2, 8192, 1024]⟩
abbrev S128x64x7168 : Shape := ⟨3, ![128, 64, 7168]⟩
abbrev S37888x1024 : Shape := ⟨2, ![37888, 1024]⟩
abbrev S1x1024x256 : Shape := ⟨3, ![1, 1024, 256]⟩
abbrev S1x8448x256 : Shape := ⟨3, ![1, 8448, 256]⟩
abbrev S1x8448x128 : Shape := ⟨3, ![1, 8448, 128]⟩
abbrev S1x64x7168 : Shape := ⟨3, ![1, 64, 7168]⟩
abbrev S1x1024x128 : Shape := ⟨3, ![1, 1024, 128]⟩
abbrev S296x1024 : Shape := ⟨2, ![296, 1024]⟩
abbrev S1024x128 : Shape := ⟨2, ![1024, 128]⟩
abbrev S1024x256 : Shape := ⟨2, ![1024, 256]⟩
abbrev S1x2816x256 : Shape := ⟨3, ![1, 2816, 256]⟩
abbrev S2816x256 : Shape := ⟨2, ![2816, 256]⟩
abbrev S1024x2816 : Shape := ⟨2, ![1024, 2816]⟩
abbrev S1024 : Shape := ⟨1, ![1024]⟩
abbrev S1024x1 : Shape := ⟨2, ![1024, 1]⟩
abbrev S1x2816x128 : Shape := ⟨3, ![1, 2816, 128]⟩
abbrev S2816x128 : Shape := ⟨2, ![2816, 128]⟩

abbrev nBuf : Space → Nat
  | .hbm => 8
  | .vmem => 17
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8x1024x7168, .f32⟩
  | .hbm, ⟨4, _⟩ => ⟨S256x64x7168, .f32⟩
  | .hbm, ⟨5, _⟩ => ⟨S2x8192x1024, .bf16⟩
  | .hbm, ⟨6, _⟩ => ⟨S128x64x7168, .bf16⟩
  | .hbm, ⟨7, _⟩ => ⟨S37888x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x64x7168, .f32⟩
  | .local _ .vmem, ⟨7, _⟩ => ⟨S1x64x7168, .f32⟩
  | .local _ .vmem, ⟨8, _⟩ => ⟨S1x1024x128, .bf16⟩
  | .local _ .vmem, ⟨9, _⟩ => ⟨S1x1024x128, .bf16⟩
  | .local _ .vmem, ⟨10, _⟩ => ⟨S1x64x7168, .bf16⟩
  | .local _ .vmem, ⟨11, _⟩ => ⟨S1x64x7168, .bf16⟩
  | .local _ .vmem, ⟨12, _⟩ => ⟨S296x1024, .f32⟩
  | .local _ .vmem, ⟨13, _⟩ => ⟨S296x1024, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let v4 : BitVec 32 := Scalar.addi c0_i32 v3
  let c0_i32_1 : BitVec 32 := 0#32
  let c0_i32_2 : BitVec 32 := 0#32
  let c0_i32_3 : BitVec 32 := 0#32
  ![v4.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S296x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x8448x2048 : Shape := ⟨3, ![2, 8448, 2048]⟩
abbrev S2x8448x1024 : Shape := ⟨3, ![2, 8448, 1024]⟩
abbrev S2x8x1024x7168 : Shape := ⟨4, ![2, 8, 1024, 7168]⟩
abbrev S2x8192x2048 : Shape := ⟨3, ![2, 8192, 2048]⟩
abbrev S2x8192x8x256 : Shape := ⟨4, ![2, 8192, 8, 256]⟩
abbrev S2x8448x8x256 : Shape := ⟨4, ![2, 8448, 8, 256]⟩
abbrev S2x8448x8x128 : Shape := ⟨4, ![2, 8448, 8, 128]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8x128 : Shape := ⟨4, ![2, 8192, 8, 128]⟩
abbrev S1x8x1024x7168 : Shape := ⟨4, ![1, 8, 1024, 7168]⟩
abbrev S8x1024x7168 : Shape := ⟨3, ![8, 1024, 7168]⟩
abbrev S2x8192x1024 : Shape := ⟨3, ![2, 8192, 1024]⟩
abbrev S128x64x7168 : Shape := ⟨3, ![128, 64, 7168]⟩
abbrev S37888x1024 : Shape := ⟨2, ![37888, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x1024, .bf16⟩
  | .hbm, ⟨3, _⟩ => ⟨S2x8x1024x7168, .f32⟩
  | .hbm, ⟨4, _⟩ => ⟨S2x8448x2048, .f32⟩
  | .hbm, ⟨5, _⟩ => ⟨S2x8192x2048, .f32⟩
  | .hbm, ⟨6, _⟩ => ⟨S2x8192x8x256, .f32⟩
  | .hbm, ⟨7, _⟩ => ⟨S2x8448x2048, .f32⟩
  | .hbm, ⟨8, _⟩ => ⟨S2x8448x8x256, .f32⟩
  | .hbm, ⟨9, _⟩ => ⟨S2x8448x1024, .f32⟩
  | .hbm, ⟨10, _⟩ => ⟨S2x8448x8x128, .f32⟩
  | .hbm, ⟨11, _⟩ => ⟨S2x8x8192x8448, .f32⟩
  | .hbm, ⟨12, _⟩ => ⟨S_, .f32⟩
  | .hbm, ⟨13, _⟩ => ⟨S_, .f32⟩
  | .hbm, ⟨14, _⟩ => ⟨S2x8x8192x8448, .f32⟩
  | .hbm, ⟨15, _⟩ => ⟨S2x8x8192x8448, .f32⟩
  | .hbm, ⟨16, _⟩ => ⟨S_, .f32⟩
  | .hbm, ⟨17, _⟩ => ⟨S2x8x8192, .f32⟩
  | .hbm, ⟨18, _⟩ => ⟨S_, .f32⟩
  | .hbm, ⟨19, _⟩ => ⟨S2x8x8192, .f32⟩
  | .hbm, ⟨20, _⟩ => ⟨S2x8x8192, .f32⟩
  | .hbm, ⟨21, _⟩ => ⟨S2x8x8192x1, .f32⟩
  | .hbm, ⟨22, _⟩ => ⟨S2x8x8192x8448, .f32⟩
  | .hbm, ⟨23, _⟩ => ⟨S2x8x8192x8448, .f32⟩
  | .hbm, ⟨24, _⟩ => ⟨S2x8x8192x8448, .f32⟩
  | .hbm, ⟨25, _⟩ => ⟨S_, .f32⟩
  | .hbm, ⟨26, _⟩ => ⟨S2x8x8192, .f32⟩
  | .hbm, ⟨27, _⟩ => ⟨S2x8x8192x1, .f32⟩
  | .hbm, ⟨28, _⟩ => ⟨S2x8x8192x8448, .f32⟩
  | .hbm, ⟨29, _⟩ => ⟨S2x8x8192x8448, .f32⟩
  | .hbm, ⟨30, _⟩ => ⟨S2x8x8192x8448, .bf16⟩
  | .hbm, ⟨31, _⟩ => ⟨S2x8x8192x8448, .f32⟩
  | .hbm, ⟨32, _⟩ => ⟨S2x8x128x8192, .f32⟩
  | .hbm, ⟨33, _⟩ => ⟨S2x8192x8x128, .f32⟩
  | .hbm, ⟨34, _⟩ => ⟨S2x8192x8x128, .bf16⟩
  | .hbm, ⟨35, _⟩ => ⟨S1x8x1024x7168, .f32⟩
  | .hbm, ⟨36, _⟩ => ⟨S8x1024x7168, .f32⟩
  | .hbm, ⟨37, _⟩ => ⟨S8x1024x7168, .bf16⟩
  | .hbm, ⟨38, _⟩ => ⟨S2x8192x1024, .bf16⟩
  | .hbm, ⟨39, _⟩ => ⟨S128x64x7168, .bf16⟩
  | .hbm, ⟨40, _⟩ => ⟨S_, .f32⟩
  | .hbm, ⟨41, _⟩ => ⟨S37888x1024, .f32⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Experts.lean ====
abbrev S74 : Shape := ⟨1, ![74]⟩
abbrev S37888x1024 : Shape := ⟨2, ![37888, 1024]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S37888x1024, .f32⟩
  | .hbm, ⟨1, _⟩ => ⟨S8x1024x7168, .bf16⟩
  | .hbm, ⟨2, _⟩ => ⟨S8x1024x7168, .bf16⟩
  | .hbm, ⟨3, _⟩ => ⟨S8x3584x1024, .bf16⟩
  | .hbm, ⟨4, _⟩ => ⟨S37888x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S74, .i32⟩
  | .local _ .smem, ⟨1, _⟩ => ⟨S74, .i32⟩
  | _, _ => ⟨S37888x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![74, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v1 : BitVec 32) : BitVec 1 :=
  let c1_i32 : BitVec 32 := 1#32
  let v2 : BitVec 1 := Scalar.cmpi .eq v1 c1_i32
  let arg1 : BitVec 32 := BitVec.ofNat 32 (i 1).val
  let c1_i32_2 : BitVec 32 := 1#32
  let v9 : BitVec 1 := Scalar.cmpi .eq arg1 c1_i32_2
  let v10 : BitVec 1 := Scalar.andi v2 v9
  let v11 : BitVec 32 := Scalar.extui v10
  let c0_i32_3 : BitVec 32 := 0#32
  let v12 : BitVec 1 := Scalar.cmpi .ne v11 c0_i32_3
  v12

def k0_cond4 (i : grid0.Coords) (v1 : BitVec 32) : BitVec 1 :=
  let c1_i32 : BitVec 32 := 1#32
  let v2 : BitVec 1 := Scalar.cmpi .eq v1 c1_i32
  let v_true : BitVec 1 := 1#1
  let v13 : BitVec 1 := Scalar.xori v2 v_true
  let arg1 : BitVec 32 := BitVec.ofNat 32 (i 1).val
  let c1_i32_4 : BitVec 32 := 1#32
  let v14 : BitVec 1 := Scalar.cmpi .eq arg1 c1_i32_4
  let v15 : BitVec 1 := Scalar.andi v13 v14
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let v2 : Index := Scalar.indexCast arg0
  let v3 : BitVec 32 := pf.at 1 (Rect.unit (s := S74) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, c0_i32.toNat, v5.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let v2 : Index := Scalar.indexCast arg0
  let v3 : BitVec 32 := pf.at 1 (Rect.unit (s := S74) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c2_i32 : BitVec 32 := 2#32
  let v6 : BitVec 32 := Scalar.addi c2_i32 v5
  let c0_i32 : BitVec 32 := 0#32
  let c0_i32_1 : BitVec 32 := 0#32
  ![v1.toNat, c0_i32.toNat, v6.toNat]

def cc0_transform_3 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let v2 : Index := Scalar.indexCast arg0
  let v3 : BitVec 32 := pf.at 1 (Rect.unit (s := S74) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.select v4 arg1 c1_i32_0
  let c0_i32 : BitVec 32 := 0#32
  let c0_i32_1 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S74 : Shape := ⟨1, ![74]⟩
abbrev S37888x1024 : Shape := ⟨2, ![37888, 1024]⟩
abbrev S8x1024x7168 : Shape := ⟨3, ![8, 1024, 7168]⟩
abbrev S8x3584x1024 : Shape := ⟨3, ![8, 3584, 1024]⟩
abbrev S74x512 : Shape := ⟨2, ![74, 512]⟩
abbrev S37888 : Shape := ⟨1, ![37888]⟩
abbrev S_ : Shape := ⟨0, ![]⟩
abbrev S1x1024x3584 : Shape := ⟨3, ![1, 1024, 3584]⟩
abbrev S1024x3584 : Shape := ⟨2, ![1024, 3584]⟩
abbrev S37888x3584 : Shape := ⟨2, ![37888, 3584]⟩
abbrev S1x3584x1024 : Shape := ⟨3, ![1, 3584, 1024]⟩
abbrev S3584x1024 : Shape := ⟨2, ![3584, 1024]⟩
abbrev S37888x1 : Shape := ⟨2, ![37888, 1]⟩

abbrev nBuf : Space → Nat
  | .hbm => 265
  | .vmem => 0
  | .smem => 0
  | _ => 0

abbrev hbmTy0_0 (i : Nat) : BufTy := match i % 128 with
  | 0 => ⟨S74, .i32⟩
  | 1 => ⟨S74, .i32⟩
  | 2 => ⟨S37888x1024, .f32⟩
  | 3 => ⟨S8x1024x7168, .bf16⟩
  | 4 => ⟨S8x1024x7168, .bf16⟩
  | 5 => ⟨S8x3584x1024, .bf16⟩
  | 6 => ⟨S74x512, .i32⟩
  | 7 => ⟨S37888, .i32⟩
  | 8 => ⟨S74x512, .i32⟩
  | 9 => ⟨S37888, .i32⟩
  | 10 => ⟨S_, .i32⟩
  | 11 => ⟨S37888, .i32⟩
  | 12 => ⟨S37888, .i1⟩
  | 13 => ⟨S37888x1024, .bf16⟩
  | 14 => ⟨S37888x1024, .f32⟩
  | 15 => ⟨S_, .f32⟩
  | 16 => ⟨S37888x1024, .f32⟩
  | 17 => ⟨S1x1024x3584, .bf16⟩
  | 18 => ⟨S1024x3584, .bf16⟩
  | 19 => ⟨S1024x3584, .f32⟩
  | 20 => ⟨S37888x3584, .f32⟩
  | 21 => ⟨S1x1024x3584, .bf16⟩
  | 22 => ⟨S1024x3584, .bf16⟩
  | 23 => ⟨S1024x3584, .f32⟩
  | 24 => ⟨S37888x3584, .f32⟩
  | 25 => ⟨S37888x3584, .f32⟩
  | 26 => ⟨S37888x3584, .f32⟩
  | 27 => ⟨S_, .f32⟩
  | 28 => ⟨S37888x3584, .f32⟩
  | 29 => ⟨S37888x3584, .f32⟩
  | 30 => ⟨S_, .f32⟩
  | 31 => ⟨S37888x3584, .f32⟩
  | 32 => ⟨S37888x3584, .f32⟩
  | 33 => ⟨S37888x3584, .f32⟩
  | 34 => ⟨S37888x3584, .f32⟩
  | 35 => ⟨S37888x3584, .bf16⟩
  | 36 => ⟨S37888x3584, .f32⟩
  | 37 => ⟨S1x3584x1024, .bf16⟩
  | 38 => ⟨S3584x1024, .bf16⟩
  | 39 => ⟨S3584x1024, .f32⟩
  | 40 => ⟨S37888x1024, .f32⟩
  | 41 => ⟨S_, .i32⟩
  | 42 => ⟨S37888, .i32⟩
  | 43 => ⟨S37888, .i1⟩
  | 44 => ⟨S37888, .i1⟩
  | 45 => ⟨S37888x1, .i1⟩
  | 46 => ⟨S37888x1024, .i1⟩
  | 47 => ⟨S37888x1024, .f32⟩
  | 48 => ⟨S1x1024x3584, .bf16⟩
  | 49 => ⟨S1024x3584, .bf16⟩
  | 50 => ⟨S1024x3584, .f32⟩
  | 51 => ⟨S37888x3584, .f32⟩
  | 52 => ⟨S1x1024x3584, .bf16⟩
  | 53 => ⟨S1024x3584, .bf16⟩
  | 54 => ⟨S1024x3584, .f32⟩
  | 55 => ⟨S37888x3584, .f32⟩
  | 56 => ⟨S37888x3584, .f32⟩
  | 57 => ⟨S37888x3584, .f32⟩
  | 58 => ⟨S_, .f32⟩
  | 59 => ⟨S37888x3584, .f32⟩
  | 60 => ⟨S37888x3584, .f32⟩
  | 61 => ⟨S_, .f32⟩
  | 62 => ⟨S37888x3584, .f32⟩
  | 63 => ⟨S37888x3584, .f32⟩
  | 64 => ⟨S37888x3584, .f32⟩
  | 65 => ⟨S37888x3584, .f32⟩
  | 66 => ⟨S37888x3584, .bf16⟩
  | 67 => ⟨S37888x3584, .f32⟩
  | 68 => ⟨S1x3584x1024, .bf16⟩
  | 69 => ⟨S3584x1024, .bf16⟩
  | 70 => ⟨S3584x1024, .f32⟩
  | 71 => ⟨S37888x1024, .f32⟩
  | 72 => ⟨S_, .i32⟩
  | 73 => ⟨S37888, .i32⟩
  | 74 => ⟨S37888, .i1⟩
  | 75 => ⟨S37888, .i1⟩
  | 76 => ⟨S37888x1, .i1⟩
  | 77 => ⟨S37888x1024, .i1⟩
  | 78 => ⟨S37888x1024, .f32⟩
  | 79 => ⟨S1x1024x3584, .bf16⟩
  | 80 => ⟨S1024x3584, .bf16⟩
  | 81 => ⟨S1024x3584, .f32⟩
  | 82 => ⟨S37888x3584, .f32⟩
  | 83 => ⟨S1x1024x3584, .bf16⟩
  | 84 => ⟨S1024x3584, .bf16⟩
  | 85 => ⟨S1024x3584, .f32⟩
  | 86 => ⟨S37888x3584, .f32⟩
  | 87 => ⟨S37888x3584, .f32⟩
  | 88 => ⟨S37888x3584, .f32⟩
  | 89 => ⟨S_, .f32⟩
  | 90 => ⟨S37888x3584, .f32⟩
  | 91 => ⟨S37888x3584, .f32⟩
  | 92 => ⟨S_, .f32⟩
  | 93 => ⟨S37888x3584, .f32⟩
  | 94 => ⟨S37888x3584, .f32⟩
  | 95 => ⟨S37888x3584, .f32⟩
  | 96 => ⟨S37888x3584, .f32⟩
  | 97 => ⟨S37888x3584, .bf16⟩
  | 98 => ⟨S37888x3584, .f32⟩
  | 99 => ⟨S1x3584x1024, .bf16⟩
  | 100 => ⟨S3584x1024, .bf16⟩
  | 101 => ⟨S3584x1024, .f32⟩
  | 102 => ⟨S37888x1024, .f32⟩
  | 103 => ⟨S_, .i32⟩
  | 104 => ⟨S37888, .i32⟩
  | 105 => ⟨S37888, .i1⟩
  | 106 => ⟨S37888, .i1⟩
  | 107 => ⟨S37888x1, .i1⟩
  | 108 => ⟨S37888x1024, .i1⟩
  | 109 => ⟨S37888x1024, .f32⟩
  | 110 => ⟨S1x1024x3584, .bf16⟩
  | 111 => ⟨S1024x3584, .bf16⟩
  | 112 => ⟨S1024x3584, .f32⟩
  | 113 => ⟨S37888x3584, .f32⟩
  | 114 => ⟨S1x1024x3584, .bf16⟩
  | 115 => ⟨S1024x3584, .bf16⟩
  | 116 => ⟨S1024x3584, .f32⟩
  | 117 => ⟨S37888x3584, .f32⟩
  | 118 => ⟨S37888x3584, .f32⟩
  | 119 => ⟨S37888x3584, .f32⟩
  | 120 => ⟨S_, .f32⟩
  | 121 => ⟨S37888x3584, .f32⟩
  | 122 => ⟨S37888x3584, .f32⟩
  | 123 => ⟨S_, .f32⟩
  | 124 => ⟨S37888x3584, .f32⟩
  | 125 => ⟨S37888x3584, .f32⟩
  | 126 => ⟨S37888x3584, .f32⟩
  | 127 => ⟨S37888x3584, .f32⟩
  | _ => ⟨S74, .i32⟩

abbrev hbmTy0_1 (i : Nat) : BufTy := match i % 128 with
  | 0 => ⟨S37888x3584, .bf16⟩
  | 1 => ⟨S37888x3584, .f32⟩
  | 2 => ⟨S1x3584x1024, .bf16⟩
  | 3 => ⟨S3584x1024, .bf16⟩
  | 4 => ⟨S3584x1024, .f32⟩
  | 5 => ⟨S37888x1024, .f32⟩
  | 6 => ⟨S_, .i32⟩
  | 7 => ⟨S37888, .i32⟩
  | 8 => ⟨S37888, .i1⟩
  | 9 => ⟨S37888, .i1⟩
  | 10 => ⟨S37888x1, .i1⟩
  | 11 => ⟨S37888x1024, .i1⟩
  | 12 => ⟨S37888x1024, .f32⟩
  | 13 => ⟨S1x1024x3584, .bf16⟩
  | 14 => ⟨S1024x3584, .bf16⟩
  | 15 => ⟨S1024x3584, .f32⟩
  | 16 => ⟨S37888x3584, .f32⟩
  | 17 => ⟨S1x1024x3584, .bf16⟩
  | 18 => ⟨S1024x3584, .bf16⟩
  | 19 => ⟨S1024x3584, .f32⟩
  | 20 => ⟨S37888x3584, .f32⟩
  | 21 => ⟨S37888x3584, .f32⟩
  | 22 => ⟨S37888x3584, .f32⟩
  | 23 => ⟨S_, .f32⟩
  | 24 => ⟨S37888x3584, .f32⟩
  | 25 => ⟨S37888x3584, .f32⟩
  | 26 => ⟨S_, .f32⟩
  | 27 => ⟨S37888x3584, .f32⟩
  | 28 => ⟨S37888x3584, .f32⟩
  | 29 => ⟨S37888x3584, .f32⟩
  | 30 => ⟨S37888x3584, .f32⟩
  | 31 => ⟨S37888x3584, .bf16⟩
  | 32 => ⟨S37888x3584, .f32⟩
  | 33 => ⟨S1x3584x1024, .bf16⟩
  | 34 => ⟨S3584x1024, .bf16⟩
  | 35 => ⟨S3584x1024, .f32⟩
  | 36 => ⟨S37888x1024, .f32⟩
  | 37 => ⟨S_, .i32⟩
  | 38 => ⟨S37888, .i32⟩
  | 39 => ⟨S37888, .i1⟩
  | 40 => ⟨S37888, .i1⟩
  | 41 => ⟨S37888x1, .i1⟩
  | 42 => ⟨S37888x1024, .i1⟩
  | 43 => ⟨S37888x1024, .f32⟩
  | 44 => ⟨S1x1024x3584, .bf16⟩
  | 45 => ⟨S1024x3584, .bf16⟩
  | 46 => ⟨S1024x3584, .f32⟩
  | 47 => ⟨S37888x3584, .f32⟩
  | 48 => ⟨S1x1024x3584, .bf16⟩
  | 49 => ⟨S1024x3584, .bf16⟩
  | 50 => ⟨S1024x3584, .f32⟩
  | 51 => ⟨S37888x3584, .f32⟩
  | 52 => ⟨S37888x3584, .f32⟩
  | 53 => ⟨S37888x3584, .f32⟩
  | 54 => ⟨S_, .f32⟩
  | 55 => ⟨S37888x3584, .f32⟩
  | 56 => ⟨S37888x3584, .f32⟩
  | 57 => ⟨S_, .f32⟩
  | 58 => ⟨S37888x3584, .f32⟩
  | 59 => ⟨S37888x3584, .f32⟩
  | 60 => ⟨S37888x3584, .f32⟩
  | 61 => ⟨S37888x3584, .f32⟩
  | 62 => ⟨S37888x3584, .bf16⟩
  | 63 => ⟨S37888x3584, .f32⟩
  | 64 => ⟨S1x3584x1024, .bf16⟩
  | 65 => ⟨S3584x1024, .bf16⟩
  | 66 => ⟨S3584x1024, .f32⟩
  | 67 => ⟨S37888x1024, .f32⟩
  | 68 => ⟨S_, .i32⟩
  | 69 => ⟨S37888, .i32⟩
  | 70 => ⟨S37888, .i1⟩
  | 71 => ⟨S37888, .i1⟩
  | 72 => ⟨S37888x1, .i1⟩
  | 73 => ⟨S37888x1024, .i1⟩
  | 74 => ⟨S37888x1024, .f32⟩
  | 75 => ⟨S1x1024x3584, .bf16⟩
  | 76 => ⟨S1024x3584, .bf16⟩
  | 77 => ⟨S1024x3584, .f32⟩
  | 78 => ⟨S37888x3584, .f32⟩
  | 79 => ⟨S1x1024x3584, .bf16⟩
  | 80 => ⟨S1024x3584, .bf16⟩
  | 81 => ⟨S1024x3584, .f32⟩
  | 82 => ⟨S37888x3584, .f32⟩
  | 83 => ⟨S37888x3584, .f32⟩
  | 84 => ⟨S37888x3584, .f32⟩
  | 85 => ⟨S_, .f32⟩
  | 86 => ⟨S37888x3584, .f32⟩
  | 87 => ⟨S37888x3584, .f32⟩
  | 88 => ⟨S_, .f32⟩
  | 89 => ⟨S37888x3584, .f32⟩
  | 90 => ⟨S37888x3584, .f32⟩
  | 91 => ⟨S37888x3584, .f32⟩
  | 92 => ⟨S37888x3584, .f32⟩
  | 93 => ⟨S37888x3584, .bf16⟩
  | 94 => ⟨S37888x3584, .f32⟩
  | 95 => ⟨S1x3584x1024, .bf16⟩
  | 96 => ⟨S3584x1024, .bf16⟩
  | 97 => ⟨S3584x1024, .f32⟩
  | 98 => ⟨S37888x1024, .f32⟩
  | 99 => ⟨S_, .i32⟩
  | 100 => ⟨S37888, .i32⟩
  | 101 => ⟨S37888, .i1⟩
  | 102 => ⟨S37888, .i1⟩
  | 103 => ⟨S37888x1, .i1⟩
  | 104 => ⟨S37888x1024, .i1⟩
  | 105 => ⟨S37888x1024, .f32⟩
  | 106 => ⟨S1x1024x3584, .bf16⟩
  | 107 => ⟨S1024x3584, .bf16⟩
  | 108 => ⟨S1024x3584, .f32⟩
  | 109 => ⟨S37888x3584, .f32⟩
  | 110 => ⟨S1x1024x3584, .bf16⟩
  | 111 => ⟨S1024x3584, .bf16⟩
  | 112 => ⟨S1024x3584, .f32⟩
  | 113 => ⟨S37888x3584, .f32⟩
  | 114 => ⟨S37888x3584, .f32⟩
  | 115 => ⟨S37888x3584, .f32⟩
  | 116 => ⟨S_, .f32⟩
  | 117 => ⟨S37888x3584, .f32⟩
  | 118 => ⟨S37888x3584, .f32⟩
  | 119 => ⟨S_, .f32⟩
  | 120 => ⟨S37888x3584, .f32⟩
  | 121 => ⟨S37888x3584, .f32⟩
  | 122 => ⟨S37888x3584, .f32⟩
  | 123 => ⟨S37888x3584, .f32⟩
  | 124 => ⟨S37888x3584, .bf16⟩
  | 125 => ⟨S37888x3584, .f32⟩
  | 126 => ⟨S1x3584x1024, .bf16⟩
  | 127 => ⟨S3584x1024, .bf16⟩
  | _ => ⟨S74, .i32⟩

abbrev hbmTy0_2 (i : Nat) : BufTy := match i % 128 with
  | 0 => ⟨S3584x1024, .f32⟩
  | 1 => ⟨S37888x1024, .f32⟩
  | 2 => ⟨S_, .i32⟩
  | 3 => ⟨S37888, .i32⟩
  | 4 => ⟨S37888, .i1⟩
  | 5 => ⟨S37888, .i1⟩
  | 6 => ⟨S37888x1, .i1⟩
  | 7 => ⟨S37888x1024, .i1⟩
  | 8 => ⟨S37888x1024, .f32⟩
  | _ => ⟨S74, .i32⟩

abbrev hbmTy (i : Nat) : BufTy := match i / 128 with
  | 0 => hbmTy0_0 i
  | 1 => hbmTy0_1 i
  | 2 => hbmTy0_2 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call3_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call4_v0 : Ref sig .tc := ⟨.hbm, 87, rfl⟩
abbrev main_call4_v1 : Ref sig .tc := ⟨.hbm, 88, rfl⟩
abbrev main_call4_cst : Ref sig .tc := ⟨.hbm, 89, rfl⟩
abbrev main_call4_v2 : Ref sig .tc := ⟨.hbm, 90, rfl⟩
abbrev main_call4_v3 : Ref sig .tc := ⟨.hbm, 91, rfl⟩
abbrev main_call4_cst_0 : Ref sig .tc := ⟨.hbm, 92, rfl⟩
abbrev main_call4_v4 : Ref sig .tc := ⟨.hbm, 93, rfl⟩
abbrev main_call4_v5 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call5_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call6_v0 : Ref sig .tc := ⟨.hbm, 118, rfl⟩
abbrev main_call6_v1 : Ref sig .tc := ⟨.hbm, 119, rfl⟩
abbrev main_call6_cst : Ref sig .tc := ⟨.hbm, 120, rfl⟩
abbrev main_call6_v2 : Ref sig .tc := ⟨.hbm, 121, rfl⟩
abbrev main_call6_v3 : Ref sig .tc := ⟨.hbm, 122, rfl⟩
abbrev main_call6_cst_0 : Ref sig .tc := ⟨.hbm, 123, rfl⟩
abbrev main_call6_v4 : Ref sig .tc := ⟨.hbm, 124, rfl⟩
abbrev main_call6_v5 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_3 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_call7_v0 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_c_4 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call9_v0 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_call10_v0 : Ref sig .tc := ⟨.hbm, 180, rfl⟩
abbrev main_call10_v1 : Ref sig .tc := ⟨.hbm, 181, rfl⟩
abbrev main_call10_cst : Ref sig .tc := ⟨.hbm, 182, rfl⟩
abbrev main_call10_v2 : Ref sig .tc := ⟨.hbm, 183, rfl⟩
abbrev main_call10_v3 : Ref sig .tc := ⟨.hbm, 184, rfl⟩
abbrev main_call10_cst_0 : Ref sig .tc := ⟨.hbm, 185, rfl⟩
abbrev main_call10_v4 : Ref sig .tc := ⟨.hbm, 186, rfl⟩
abbrev main_call10_v5 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_c_5 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_call11_v0 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_call12_v0 : Ref sig .tc := ⟨.hbm, 211, rfl⟩
abbrev main_call12_v1 : Ref sig .tc := ⟨.hbm, 212, rfl⟩
abbrev main_call12_cst : Ref sig .tc := ⟨.hbm, 213, rfl⟩
abbrev main_call12_v2 : Ref sig .tc := ⟨.hbm, 214, rfl⟩
abbrev main_call12_v3 : Ref sig .tc := ⟨.hbm, 215, rfl⟩
abbrev main_call12_cst_0 : Ref sig .tc := ⟨.hbm, 216, rfl⟩
abbrev main_call12_v4 : Ref sig .tc := ⟨.hbm, 217, rfl⟩
abbrev main_call12_v5 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_c_6 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_call13_v0 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_call14_v0 : Ref sig .tc := ⟨.hbm, 242, rfl⟩
abbrev main_call14_v1 : Ref sig .tc := ⟨.hbm, 243, rfl⟩
abbrev main_call14_cst : Ref sig .tc := ⟨.hbm, 244, rfl⟩
abbrev main_call14_v2 : Ref sig .tc := ⟨.hbm, 245, rfl⟩
abbrev main_call14_v3 : Ref sig .tc := ⟨.hbm, 246, rfl⟩
abbrev main_call14_cst_0 : Ref sig .tc := ⟨.hbm, 247, rfl⟩
abbrev main_call14_v4 : Ref sig .tc := ⟨.hbm, 248, rfl⟩
abbrev main_call14_v5 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_c_7 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_call15_v0 : Ref sig .tc := ⟨.hbm, 263, rfl⟩
abbrev main_v176 : Ref sig .tc := ⟨.hbm, 264, rfl⟩

abbrev nD : Nat := 1
abbrev τ : Topo := Topo.v7x

variable {F : FTy → Type} [FloatOps F]
-- ==== Gqa.lean ====
abbrev S2x8448x512 : Shape := ⟨3, ![2, 8448, 512]⟩
abbrev S2x8448x256 : Shape := ⟨3, ![2, 8448, 256]⟩
abbrev S2x8x3584x1024 : Shape := ⟨4, ![2, 8, 3584, 1024]⟩
abbrev S128x448x1024 : Shape := ⟨3, ![128, 448, 1024]⟩
abbrev S2x8192x512 : Shape := ⟨3, ![2, 8192, 512]⟩
abbrev S64x448x1024 : Shape := ⟨3, ![64, 448, 1024]⟩
abbrev S1x512x256 : Shape := ⟨3, ![1, 512, 256]⟩
abbrev S1x8448x128 : Shape := ⟨3, ![1, 8448, 128]⟩
abbrev S1x448x1024 : Shape := ⟨3, ![1, 448, 1024]⟩
abbrev S1024x128 : Shape := ⟨2, ![1024, 128]⟩
abbrev S1x512x128 : Shape := ⟨3, ![1, 512, 128]⟩
abbrev S512x128 : Shape := ⟨2, ![512, 128]⟩
abbrev S1x2816x128 : Shape := ⟨3, ![1, 2816, 128]⟩
abbrev S2816x128 : Shape := ⟨2, ![2816, 128]⟩
abbrev S1024x2816 : Shape := ⟨2, ![1024, 2816]⟩
abbrev S1024 : Shape := ⟨1, ![1024]⟩
abbrev S1024x1 : Shape := ⟨2, ![1024, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x8448x512, .bf16⟩
  | .hbm, ⟨1, _⟩ => ⟨S2x8448x256, .bf16⟩
  | .hbm, ⟨2, _⟩ => ⟨S2x8448x256, .bf16⟩
  | .hbm, ⟨3, _⟩ => ⟨S2x8x3584x1024, .f32⟩
  | .hbm, ⟨4, _⟩ => ⟨S128x448x1024, .f32⟩
  | .hbm, ⟨5, _⟩ => ⟨S2x8192x512, .bf16⟩
  | .hbm, ⟨6, _⟩ => ⟨S64x448x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x448x1024, .f32⟩
  | .local _ .vmem, ⟨7, _⟩ => ⟨S1x448x1024, .f32⟩
  | .local _ .vmem, ⟨8, _⟩ => ⟨S1x512x256, .bf16⟩
  | .local _ .vmem, ⟨9, _⟩ => ⟨S1x512x256, .bf16⟩
  | .local _ .vmem, ⟨10, _⟩ => ⟨S1x448x1024, .bf16⟩
  | .local _ .vmem, ⟨11, _⟩ => ⟨S1x448x1024, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let v4 : BitVec 32 := Scalar.addi c0_i32 v3
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x448x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x448x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S2x8448x512 : Shape := ⟨3, ![2, 8448, 512]⟩
abbrev S2x8448x256 : Shape := ⟨3, ![2, 8448, 256]⟩
abbrev S2x8x3584x1024 : Shape := ⟨4, ![2, 8, 3584, 1024]⟩
abbrev S2x8192x512 : Shape := ⟨3, ![2, 8192, 512]⟩
abbrev S2x8192x2x2x128 : Shape := ⟨5, ![2, 8192, 2, 2, 128]⟩
abbrev S2x8448x2x128 : Shape := ⟨4, ![2, 8448, 2, 128]⟩
abbrev S2x2x8448x8192x2 : Shape := ⟨5, ![2, 2, 8448, 8192, 2]⟩
abbrev S2x2x2x8192x8448 : Shape := ⟨5, ![2, 2, 2, 8192, 8448]⟩
abbrev S_ : Shape := ⟨0, ![]⟩
abbrev S2x2x2x8192 : Shape := ⟨4, ![2, 2, 2, 8192]⟩
abbrev S2x2x2x8192x1 : Shape := ⟨5, ![2, 2, 2, 8192, 1]⟩
abbrev S2x2x128x2x8192 : Shape := ⟨5, ![2, 2, 128, 2, 8192]⟩
abbrev S1x8x3584x1024 : Shape := ⟨4, ![1, 8, 3584, 1024]⟩
abbrev S8x3584x1024 : Shape := ⟨3, ![8, 3584, 1024]⟩
abbrev S64x448x1024 : Shape := ⟨3, ![64, 448, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x8448x512, .bf16⟩
  | .hbm, ⟨1, _⟩ => ⟨S2x8448x256, .bf16⟩
  | .hbm, ⟨2, _⟩ => ⟨S2x8448x256, .bf16⟩
  | .hbm, ⟨3, _⟩ => ⟨S2x8x3584x1024, .f32⟩
  | .hbm, ⟨4, _⟩ => ⟨S2x8448x512, .f32⟩
  | .hbm, ⟨5, _⟩ => ⟨S2x8192x512, .f32⟩
  | .hbm, ⟨6, _⟩ => ⟨S2x8192x2x2x128, .f32⟩
  | .hbm, ⟨7, _⟩ => ⟨S2x8448x256, .f32⟩
  | .hbm, ⟨8, _⟩ => ⟨S2x8448x2x128, .f32⟩
  | .hbm, ⟨9, _⟩ => ⟨S2x8448x256, .f32⟩
  | .hbm, ⟨10, _⟩ => ⟨S2x8448x2x128, .f32⟩
  | .hbm, ⟨11, _⟩ => ⟨S2x2x8448x8192x2, .f32⟩
  | .hbm, ⟨12, _⟩ => ⟨S2x2x2x8192x8448, .f32⟩
  | .hbm, ⟨13, _⟩ => ⟨S_, .f32⟩
  | .hbm, ⟨14, _⟩ => ⟨S_, .f32⟩
  | .hbm, ⟨15, _⟩ => ⟨S2x2x2x8192x8448, .f32⟩
  | .hbm, ⟨16, _⟩ => ⟨S2x2x2x8192x8448, .f32⟩
  | .hbm, ⟨17, _⟩ => ⟨S_, .f32⟩
  | .hbm, ⟨18, _⟩ => ⟨S2x2x2x8192, .f32⟩
  | .hbm, ⟨19, _⟩ => ⟨S_, .f32⟩
  | .hbm, ⟨20, _⟩ => ⟨S2x2x2x8192, .f32⟩
  | .hbm, ⟨21, _⟩ => ⟨S2x2x2x8192, .f32⟩
  | .hbm, ⟨22, _⟩ => ⟨S2x2x2x8192x1, .f32⟩
  | .hbm, ⟨23, _⟩ => ⟨S2x2x2x8192x8448, .f32⟩
  | .hbm, ⟨24, _⟩ => ⟨S2x2x2x8192x8448, .f32⟩
  | .hbm, ⟨25, _⟩ => ⟨S2x2x2x8192x8448, .f32⟩
  | .hbm, ⟨26, _⟩ => ⟨S_, .f32⟩
  | .hbm, ⟨27, _⟩ => ⟨S2x2x2x8192, .f32⟩
  | .hbm, ⟨28, _⟩ => ⟨S2x2x2x8192x1, .f32⟩
  | .hbm, ⟨29, _⟩ => ⟨S2x2x2x8192x8448, .f32⟩
  | .hbm, ⟨30, _⟩ => ⟨S2x2x2x8192x8448, .f32⟩
  | .hbm, ⟨31, _⟩ => ⟨S2x2x2x8192x8448, .bf16⟩
  | .hbm, ⟨32, _⟩ => ⟨S2x2x2x8192x8448, .f32⟩
  | .hbm, ⟨33, _⟩ => ⟨S2x2x128x2x8192, .f32⟩
  | .hbm, ⟨34, _⟩ => ⟨S2x8192x2x2x128, .f32⟩
  | .hbm, ⟨35, _⟩ => ⟨S2x8192x2x2x128, .bf16⟩
  | .hbm, ⟨36, _⟩ => ⟨S1x8x3584x1024, .f32⟩
  | .hbm, ⟨37, _⟩ => ⟨S8x3584x1024, .f32⟩
  | .hbm, ⟨38, _⟩ => ⟨S8x3584x1024, .bf16⟩
  | .hbm, ⟨39, _⟩ => ⟨S2x8192x512, .bf16⟩
  | .hbm, ⟨40, _⟩ => ⟨S64x448x1024, .bf16⟩
  | _, _ => ⟨S2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Ffn.lean ====
abbrev S2x8448x1024 : Shape := ⟨3, ![2, 8448, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S6x1024 : Shape := ⟨2, ![6, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x8448x1024, .bf16⟩
  | .hbm, ⟨1, _⟩ => ⟨S1024x5632, .bf16⟩
  | .hbm, ⟨2, _⟩ => ⟨S2816x1024, .bf16⟩
  | .hbm, ⟨3, _⟩ => ⟨S2x8448x1024, .f32⟩
  | .hbm, ⟨4, _⟩ => ⟨S8x6x1024, .f32⟩
  | .hbm, ⟨5, _⟩ => ⟨S1024, .f32⟩
  | .hbm, ⟨6, _⟩ => ⟨S1x1024, .f32⟩
  | .hbm, ⟨7, _⟩ => ⟨S2x8448x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x5632, .bf16⟩
  | .local _ .vmem, ⟨3, _⟩ => ⟨S2816x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S2x8448x1024 : Shape := ⟨3, ![2, 8448, 1024]⟩
abbrev S1024x5632 : Shape := ⟨2, ![1024, 5632]⟩
abbrev S2816x1024 : Shape := ⟨2, ![2816, 1024]⟩
abbrev S8x6x1024 : Shape := ⟨3, ![8, 6, 1024]⟩
abbrev S1024 : Shape := ⟨1, ![1024]⟩
abbrev S1024x2816 : Shape := ⟨2, ![1024, 2816]⟩
abbrev S2x8448x2816 : Shape := ⟨3, ![2, 8448, 2816]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x1x1024 : Shape := ⟨3, ![2, 1, 1024]⟩
abbrev S2x1024 : Shape := ⟨2, ![2, 1024]⟩
abbrev S2x8192x1024 : Shape := ⟨3, ![2, 8192, 1024]⟩
abbrev S2x256x1024 : Shape := ⟨3, ![2, 256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S1024x5632, .bf16⟩
  | .hbm, ⟨2, _⟩ => ⟨S2816x1024, .bf16⟩
  | .hbm, ⟨3, _⟩ => ⟨S2x8448x1024, .f32⟩
  | .hbm, ⟨4, _⟩ => ⟨S8x6x1024, .f32⟩
  | .hbm, ⟨5, _⟩ => ⟨S1024, .f32⟩
  | .hbm, ⟨6, _⟩ => ⟨S2x8448x1024, .f32⟩
  | .hbm, ⟨7, _⟩ => ⟨S1024x2816, .bf16⟩
  | .hbm, ⟨8, _⟩ => ⟨S1024x2816, .f32⟩
  | .hbm, ⟨9, _⟩ => ⟨S2x8448x2816, .f32⟩
  | .hbm, ⟨10, _⟩ => ⟨S1024x2816, .bf16⟩
  | .hbm, ⟨11, _⟩ => ⟨S1024x2816, .f32⟩
  | .hbm, ⟨12, _⟩ => ⟨S2x8448x2816, .f32⟩
  | .hbm, ⟨13, _⟩ => ⟨S2x8448x2816, .f32⟩
  | .hbm, ⟨14, _⟩ => ⟨S2x8448x2816, .f32⟩
  | .hbm, ⟨15, _⟩ => ⟨S_, .f32⟩
  | .hbm, ⟨16, _⟩ => ⟨S2x8448x2816, .f32⟩
  | .hbm, ⟨17, _⟩ => ⟨S2x8448x2816, .f32⟩
  | .hbm, ⟨18, _⟩ => ⟨S_, .f32⟩
  | .hbm, ⟨19, _⟩ => ⟨S2x8448x2816, .f32⟩
  | .hbm, ⟨20, _⟩ => ⟨S2x8448x2816, .f32⟩
  | .hbm, ⟨21, _⟩ => ⟨S2x8448x2816, .f32⟩
  | .hbm, ⟨22, _⟩ => ⟨S2x8448x2816, .f32⟩
  | .hbm, ⟨23, _⟩ => ⟨S2x8448x2816, .bf16⟩
  | .hbm, ⟨24, _⟩ => ⟨S2x8448x2816, .f32⟩
  | .hbm, ⟨25, _⟩ => ⟨S2816x1024, .f32⟩
  | .hbm, ⟨26, _⟩ => ⟨S2x8448x1024, .f32⟩
  | .hbm, ⟨27, _⟩ => ⟨S2x8448x1024, .f32⟩
  | .hbm, ⟨28, _⟩ => ⟨S_, .f32⟩
  | .hbm, ⟨29, _⟩ => ⟨S2x8448, .f32⟩
  | .hbm, ⟨30, _⟩ => ⟨S2x8448x1, .f32⟩
  | .hbm, ⟨31, _⟩ => ⟨S_, .f32⟩
  | .hbm, ⟨32, _⟩ => ⟨S2x8448x1, .f32⟩
  | .hbm, ⟨33, _⟩ => ⟨S2x8448x1, .f32⟩
  | .hbm, ⟨34, _⟩ => ⟨S_, .f32⟩
  | .hbm, ⟨35, _⟩ => ⟨S2x8448x1, .f32⟩
  | .hbm, ⟨36, _⟩ => ⟨S2x8448x1, .f32⟩
  | .hbm, ⟨37, _⟩ => ⟨S2x8448x1, .f32⟩
  | .hbm, ⟨38, _⟩ => ⟨S2x8448x1024, .f32⟩
  | .hbm, ⟨39, _⟩ => ⟨S2x8448x1024, .f32⟩
  | .hbm, ⟨40, _⟩ => ⟨S1x1x1024, .f32⟩
  | .hbm, ⟨41, _⟩ => ⟨S2x8448x1024, .f32⟩
  | .hbm, ⟨42, _⟩ => ⟨S2x8448x1024, .f32⟩
  | .hbm, ⟨43, _⟩ => ⟨S2x1x1024, .f32⟩
  | .hbm, ⟨44, _⟩ => ⟨S2x1024, .f32⟩
  | .hbm, ⟨45, _⟩ => ⟨S2x1x1024, .f32⟩
  | .hbm, ⟨46, _⟩ => ⟨S2x8192x1024, .f32⟩
  | .hbm, ⟨47, _⟩ => ⟨S1x1x1024, .f32⟩
  | .hbm, ⟨48, _⟩ => ⟨S1024, .f32⟩
  | .hbm, ⟨49, _⟩ => ⟨S2x256x1024, .f32⟩
  | .hbm, ⟨50, _⟩ => ⟨S2x8448x1024, .f32⟩
  | .hbm, ⟨51, _⟩ => ⟨S2x8448x1024, .f32⟩
  | .hbm, ⟨52, _⟩ => ⟨S2x8448x1024, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Mix.lean ====
abbrev S2x8448x512 : Shape := ⟨3, ![2, 8448, 512]⟩
abbrev S4x128x128 : Shape := ⟨3, ![4, 128, 128]⟩
abbrev S128x512 : Shape := ⟨2, ![128, 512]⟩
abbrev S1024x1024 : Shape := ⟨2, ![1024, 1024]⟩
abbrev S2x8448x1024 : Shape := ⟨3, ![2, 8448, 1024]⟩
abbrev S8x6x1024 : Shape := ⟨3, ![8, 6, 1024]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S512x512 : Shape := ⟨2, ![512, 512]⟩
abbrev S512x1024 : Shape := ⟨2, ![512, 1024]⟩
abbrev S1x128x128 : Shape := ⟨3, ![1, 128, 128]⟩
abbrev S128x128 : Shape := ⟨2, ![128, 128]⟩
abbrev S1x128x512 : Shape := ⟨3, ![1, 128, 512]⟩
abbrev S6x1024 : Shape := ⟨2, ![6, 1024]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S2x8448x512, .bf16⟩
  | .hbm, ⟨3, _⟩ => ⟨S4x128x128, .bf16⟩
  | .hbm, ⟨4, _⟩ => ⟨S128x512, .f32⟩
  | .hbm, ⟨5, _⟩ => ⟨S1024x1024, .bf16⟩
  | .hbm, ⟨6, _⟩ => ⟨S2x8448x1024, .f32⟩
  | .hbm, ⟨7, _⟩ => ⟨S8x6x1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x8448x1024, .f32⟩
  | .hbm, ⟨13, _⟩ => ⟨S2x8448x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S4x128x128, .bf16⟩
  | .local _ .vmem, ⟨7, _⟩ => ⟨S128x512, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | _, _ => ⟨S2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S2x8448x512 : Shape := ⟨3, ![2, 8448, 512]⟩
abbrev S4x128x128 : Shape := ⟨3, ![4, 128, 128]⟩
abbrev S128x512 : Shape := ⟨2, ![128, 512]⟩
abbrev S1024x1024 : Shape := ⟨2, ![1024, 1024]⟩
abbrev S2x8448x1024 : Shape := ⟨3, ![2, 8448, 1024]⟩
abbrev S8x6x1024 : Shape := ⟨3, ![8, 6, 1024]⟩
abbrev S1024 : Shape := ⟨1, ![1024]⟩
abbrev S2x66x128x4x128 : Shape := ⟨5, ![2, 66, 128, 4, 128]⟩
abbrev S4x2x66x128x128 : Shape := ⟨5, ![4, 2, 66, 128, 128]⟩
abbrev S128x4x128 : Shape := ⟨3, ![128, 4, 128]⟩
abbrev S1x1x128x4x128 : Shape := ⟨5, ![1, 1, 128, 4, 128]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x3x1024 : Shape := ⟨3, ![2, 3, 1024]⟩
abbrev S2x3x1x1024 : Shape := ⟨4, ![2, 3, 1, 1024]⟩
abbrev S2x3x8192x1024 : Shape := ⟨4, ![2, 3, 8192, 1024]⟩
abbrev S1x3x1024 : Shape := ⟨3, ![1, 3, 1024]⟩
abbrev S3x1024 : Shape := ⟨2, ![3, 1024]⟩
abbrev S3x1x1024 : Shape := ⟨3, ![3, 1, 1024]⟩
abbrev S2x3x256x1024 : Shape := ⟨4, ![2, 3, 256, 1024]⟩
abbrev S2x3x8448x1024 : Shape := ⟨4, ![2, 3, 8448, 1024]⟩
abbrev S2x1x8448x1024 : Shape := ⟨4, ![2, 1, 8448, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8448x512, .bf16⟩
  | .hbm, ⟨1, _⟩ => ⟨S2x8448x512, .bf16⟩
  | .hbm, ⟨2, _⟩ => ⟨S2x8448x512, .bf16⟩
  | .hbm, ⟨3, _⟩ => ⟨S4x128x128, .bf16⟩
  | .hbm, ⟨4, _⟩ => ⟨S128x512, .f32⟩
  | .hbm, ⟨5, _⟩ => ⟨S1024x1024, .bf16⟩
  | .hbm, ⟨6, _⟩ => ⟨S2x8448x1024, .f32⟩
  | .hbm, ⟨7, _⟩ => ⟨S8x6x1024, .f32⟩
  | .hbm, ⟨8, _⟩ => ⟨S1024, .f32⟩
  | .hbm, ⟨9, _⟩ => ⟨S1024, .f32⟩
  | .hbm, ⟨10, _⟩ => ⟨S2x8448x512, .f32⟩
  | .hbm, ⟨11, _⟩ => ⟨S2x66x128x4x128, .f32⟩
  | .hbm, ⟨12, _⟩ => ⟨S4x128x128, .f32⟩
  | .hbm, ⟨13, _⟩ => ⟨S4x2x66x128x128, .f32⟩
  | .hbm, ⟨14, _⟩ => ⟨S2x66x128x4x128, .f32⟩
  | .hbm, ⟨15, _⟩ => ⟨S128x4x128, .f32⟩
  | .hbm, ⟨16, _⟩ => ⟨S1x1x128x4x128, .f32⟩
  | .hbm, ⟨17, _⟩ => ⟨S2x66x128x4x128, .f32⟩
  | .hbm, ⟨18, _⟩ => ⟨S2x66x128x4x128, .f32⟩
  | .hbm, ⟨19, _⟩ => ⟨S2x8448x512, .f32⟩
  | .hbm, ⟨20, _⟩ => ⟨S2x8448x512, .f32⟩
  | .hbm, ⟨21, _⟩ => ⟨S2x8448x512, .f32⟩
  | .hbm, ⟨22, _⟩ => ⟨S2x8448x512, .bf16⟩
  | .hbm, ⟨23, _⟩ => ⟨S2x8448x512, .f32⟩
  | .hbm, ⟨24, _⟩ => ⟨S2x8448x512, .f32⟩
  | .hbm, ⟨25, _⟩ => ⟨S2x8448x1024, .f32⟩
  | .hbm, ⟨26, _⟩ => ⟨S1024x1024, .f32⟩
  | .hbm, ⟨27, _⟩ => ⟨S2x8448x1024, .f32⟩
  | .hbm, ⟨28, _⟩ => ⟨S2x8448x1024, .f32⟩
  | .hbm, ⟨29, _⟩ => ⟨S_, .f32⟩
  | .hbm, ⟨30, _⟩ => ⟨S2x8448, .f32⟩
  | .hbm, ⟨31, _⟩ => ⟨S2x8448x1, .f32⟩
  | .hbm, ⟨32, _⟩ => ⟨S_, .f32⟩
  | .hbm, ⟨33, _⟩ => ⟨S2x8448x1, .f32⟩
  | .hbm, ⟨34, _⟩ => ⟨S2x8448x1, .f32⟩
  | .hbm, ⟨35, _⟩ => ⟨S_, .f32⟩
  | .hbm, ⟨36, _⟩ => ⟨S2x8448x1, .f32⟩
  | .hbm, ⟨37, _⟩ => ⟨S2x8448x1, .f32⟩
  | .hbm, ⟨38, _⟩ => ⟨S2x8448x1, .f32⟩
  | .hbm, ⟨39, _⟩ => ⟨S2x8448x1024, .f32⟩
  | .hbm, ⟨40, _⟩ => ⟨S2x8448x1024, .f32⟩
  | .hbm, ⟨41, _⟩ => ⟨S1x1x1024, .f32⟩
  | .hbm, ⟨42, _⟩ => ⟨S2x8448x1024, .f32⟩
  | .hbm, ⟨43, _⟩ => ⟨S2x8448x1024, .f32⟩
  | .hbm, ⟨44, _⟩ => ⟨S2x3x1024, .f32⟩
  | .hbm, ⟨45, _⟩ => ⟨S2x3x1x1024, .f32⟩
  | .hbm, ⟨46, _⟩ => ⟨S2x3x8192x1024, .f32⟩
  | .hbm, ⟨47, _⟩ => ⟨S1x3x1024, .f32⟩
  | .hbm, ⟨48, _⟩ => ⟨S3x1024, .f32⟩
  | .hbm, ⟨49, _⟩ => ⟨S3x1x1024, .f32⟩
  | .hbm, ⟨50, _⟩ => ⟨S2x3x256x1024, .f32⟩
  | .hbm, ⟨51, _⟩ => ⟨S2x3x8448x1024, .f32⟩
  | .hbm, ⟨52, _⟩ => ⟨S2x1x8448x1024, .f32⟩
  | .hbm, ⟨53, _⟩ => ⟨S2x8448x1024, .f32⟩
  | .hbm, ⟨54, _⟩ => ⟨S2x8448x1024, .f32⟩
  | .hbm, ⟨55, _⟩ => ⟨S2x8448x1024, .f32⟩
  | .hbm, ⟨56, _⟩ => ⟨S2x8448x1024, .f32⟩
  | .hbm, ⟨57, _⟩ => ⟨S_, .f32⟩
  | .hbm, ⟨58, _⟩ => ⟨S2x8448, .f32⟩
  | .hbm, ⟨59, _⟩ => ⟨S2x8448x1, .f32⟩
  | .hbm, ⟨60, _⟩ => ⟨S_, .f32⟩
  | .hbm, ⟨61, _⟩ => ⟨S2x8448x1, .f32⟩
  | .hbm, ⟨62, _⟩ => ⟨S2x8448x1, .f32⟩
  | .hbm, ⟨63, _⟩ => ⟨S_, .f32⟩
  | .hbm, ⟨64, _⟩ => ⟨S2x8448x1, .f32⟩
  | .hbm, ⟨65, _⟩ => ⟨S2x8448x1, .f32⟩
  | .hbm, ⟨66, _⟩ => ⟨S2x8448x1, .f32⟩
  | .hbm, ⟨67, _⟩ => ⟨S2x8448x1024, .f32⟩
  | .hbm, ⟨68, _⟩ => ⟨S2x8448x1024, .f32⟩
  | .hbm, ⟨69, _⟩ => ⟨S1x1x1024, .f32⟩
  | .hbm, ⟨70, _⟩ => ⟨S2x8448x1024, .f32⟩
  | .hbm, ⟨71, _⟩ => ⟨S2x8448x1024, .f32⟩
  | .hbm, ⟨72, _⟩ => ⟨S2x1x8448x1024, .f32⟩
  | .hbm, ⟨73, _⟩ => ⟨S2x8448x1024, .f32⟩
  | .hbm, ⟨74, _⟩ => ⟨S_, .f32⟩
  | .hbm, ⟨75, _⟩ => ⟨S2x8448x1024, .f32⟩
  | .hbm, ⟨76, _⟩ => ⟨S2x8448x1024, .f32⟩
  | .hbm, ⟨77, _⟩ => ⟨S2x8448x1024, .f32⟩
  | .hbm, ⟨78, _⟩ => ⟨S2x1x8448x1024, .f32⟩
  | .hbm, ⟨79, _⟩ => ⟨S2x8448x1024, .f32⟩
  | .hbm, ⟨80, _⟩ => ⟨S2x8448x1024, .f32⟩
  | .hbm, ⟨81, _⟩ => ⟨S2x8448x1024, .bf16⟩
  | _, _ => ⟨S2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proj.lean ====
abbrev S2x8448x1024 : Shape := ⟨3, ![2, 8448, 1024]⟩
abbrev S1024x1024 : Shape := ⟨2, ![1024, 1024]⟩
abbrev S8x6x1024 : Shape := ⟨3, ![8, 6, 1024]⟩
abbrev S1024 : Shape := ⟨1, ![1024]⟩
abbrev S8x1024 : Shape := ⟨2, ![8, 1024]⟩
abbrev S1x1024 : Shape := ⟨2, ![1, 1024]⟩
abbrev S2x8x8448 : Shape := ⟨3, ![2, 8, 8448]⟩
abbrev S1x512x1024 : Shape := ⟨3, ![1, 512, 1024]⟩
abbrev S1x6x1024 : Shape := ⟨3, ![1, 6, 1024]⟩
abbrev S1x8x512 : Shape := ⟨3, ![1, 8, 512]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩
abbrev S112x1024 : Shape := ⟨2, ![112, 1024]⟩
abbrev S128x1024 : Shape := ⟨2, ![128, 1024]⟩
abbrev S512x128 : Shape := ⟨2, ![512, 128]⟩
abbrev S120x1024 : Shape := ⟨2, ![120, 1024]⟩
abbrev S128x512 : Shape := ⟨2, ![128, 512]⟩
abbrev S8x512 : Shape := ⟨2, ![8, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x8448x1024, .bf16⟩
  | .hbm, ⟨1, _⟩ => ⟨S1024x1024, .bf16⟩
  | .hbm, ⟨2, _⟩ => ⟨S2x8448x1024, .f32⟩
  | .hbm, ⟨3, _⟩ => ⟨S8x6x1024, .f32⟩
  | .hbm, ⟨4, _⟩ => ⟨S1024, .f32⟩
  | .hbm, ⟨5, _⟩ => ⟨S1024, .f32⟩
  | .hbm, ⟨6, _⟩ => ⟨S8x1024, .f32⟩
  | .hbm, ⟨7, _⟩ => ⟨S1x1024, .f32⟩
  | .hbm, ⟨8, _⟩ => ⟨S1x1024, .f32⟩
  | .hbm, ⟨9, _⟩ => ⟨S2x8448x1024, .f32⟩
  | .hbm, ⟨10, _⟩ => ⟨S2x8448x1024, .f32⟩
  | .hbm, ⟨11, _⟩ => ⟨S2x8x8448, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S8x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x8x512, .f32⟩
  | .local _ .vmem, ⟨15, _⟩ => ⟨S1x8x512, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S2x8448x1024 : Shape := ⟨3, ![2, 8448, 1024]⟩
abbrev S1024x1024 : Shape := ⟨2, ![1024, 1024]⟩
abbrev S8x6x1024 : Shape := ⟨3, ![8, 6, 1024]⟩
abbrev S1024 : Shape := ⟨1, ![1024]⟩
abbrev S8x1024 : Shape := ⟨2, ![8, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x3x1024 : Shape := ⟨3, ![2, 3, 1024]⟩
abbrev S2x3x1x1024 : Shape := ⟨4, ![2, 3, 1, 1024]⟩
abbrev S2x3x8192x1024 : Shape := ⟨4, ![2, 3, 8192, 1024]⟩
abbrev S1x3x1024 : Shape := ⟨3, ![1, 3, 1024]⟩
abbrev S3x1024 : Shape := ⟨2, ![3, 1024]⟩
abbrev S3x1x1024 : Shape := ⟨3, ![3, 1, 1024]⟩
abbrev S2x3x256x1024 : Shape := ⟨4, ![2, 3, 256, 1024]⟩
abbrev S2x3x8448x1024 : Shape := ⟨4, ![2, 3, 8448, 1024]⟩
abbrev S2x1x8448x1024 : Shape := ⟨4, ![2, 1, 8448, 1024]⟩
abbrev S8x2x8448 : Shape := ⟨3, ![8, 2, 8448]⟩
abbrev S2x8x8448 : Shape := ⟨3, ![2, 8, 8448]⟩

abbrev nBuf : Space → Nat
  | .hbm => 65
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S1024x1024, .bf16⟩
  | .hbm, ⟨2, _⟩ => ⟨S2x8448x1024, .f32⟩
  | .hbm, ⟨3, _⟩ => ⟨S8x6x1024, .f32⟩
  | .hbm, ⟨4, _⟩ => ⟨S1024, .f32⟩
  | .hbm, ⟨5, _⟩ => ⟨S1024, .f32⟩
  | .hbm, ⟨6, _⟩ => ⟨S8x1024, .f32⟩
  | .hbm, ⟨7, _⟩ => ⟨S2x8448x1024, .f32⟩
  | .hbm, ⟨8, _⟩ => ⟨S1024x1024, .f32⟩
  | .hbm, ⟨9, _⟩ => ⟨S2x8448x1024, .f32⟩
  | .hbm, ⟨10, _⟩ => ⟨S2x8448x1024, .f32⟩
  | .hbm, ⟨11, _⟩ => ⟨S_, .f32⟩
  | .hbm, ⟨12, _⟩ => ⟨S2x8448, .f32⟩
  | .hbm, ⟨13, _⟩ => ⟨S2x8448x1, .f32⟩
  | .hbm, ⟨14, _⟩ => ⟨S_, .f32⟩
  | .hbm, ⟨15, _⟩ => ⟨S2x8448x1, .f32⟩
  | .hbm, ⟨16, _⟩ => ⟨S2x8448x1, .f32⟩
  | .hbm, ⟨17, _⟩ => ⟨S_, .f32⟩
  | .hbm, ⟨18, _⟩ => ⟨S2x8448x1, .f32⟩
  | .hbm, ⟨19, _⟩ => ⟨S2x8448x1, .f32⟩
  | .hbm, ⟨20, _⟩ => ⟨S2x8448x1, .f32⟩
  | .hbm, ⟨21, _⟩ => ⟨S2x8448x1024, .f32⟩
  | .hbm, ⟨22, _⟩ => ⟨S2x8448x1024, .f32⟩
  | .hbm, ⟨23, _⟩ => ⟨S1x1x1024, .f32⟩
  | .hbm, ⟨24, _⟩ => ⟨S2x8448x1024, .f32⟩
  | .hbm, ⟨25, _⟩ => ⟨S2x8448x1024, .f32⟩
  | .hbm, ⟨26, _⟩ => ⟨S2x3x1024, .f32⟩
  | .hbm, ⟨27, _⟩ => ⟨S2x3x1x1024, .f32⟩
  | .hbm, ⟨28, _⟩ => ⟨S2x3x8192x1024, .f32⟩
  | .hbm, ⟨29, _⟩ => ⟨S1x3x1024, .f32⟩
  | .hbm, ⟨30, _⟩ => ⟨S3x1024, .f32⟩
  | .hbm, ⟨31, _⟩ => ⟨S3x1x1024, .f32⟩
  | .hbm, ⟨32, _⟩ => ⟨S2x3x256x1024, .f32⟩
  | .hbm, ⟨33, _⟩ => ⟨S2x3x8448x1024, .f32⟩
  | .hbm, ⟨34, _⟩ => ⟨S2x1x8448x1024, .f32⟩
  | .hbm, ⟨35, _⟩ => ⟨S2x8448x1024, .f32⟩
  | .hbm, ⟨36, _⟩ => ⟨S2x8448x1024, .f32⟩
  | .hbm, ⟨37, _⟩ => ⟨S2x8448x1024, .f32⟩
  | .hbm, ⟨38, _⟩ => ⟨S2x8448x1024, .f32⟩
  | .hbm, ⟨39, _⟩ => ⟨S_, .f32⟩
  | .hbm, ⟨40, _⟩ => ⟨S2x8448, .f32⟩
  | .hbm, ⟨41, _⟩ => ⟨S2x8448x1, .f32⟩
  | .hbm, ⟨42, _⟩ => ⟨S_, .f32⟩
  | .hbm, ⟨43, _⟩ => ⟨S2x8448x1, .f32⟩
  | .hbm, ⟨44, _⟩ => ⟨S2x8448x1, .f32⟩
  | .hbm, ⟨45, _⟩ => ⟨S_, .f32⟩
  | .hbm, ⟨46, _⟩ => ⟨S2x8448x1, .f32⟩
  | .hbm, ⟨47, _⟩ => ⟨S2x8448x1, .f32⟩
  | .hbm, ⟨48, _⟩ => ⟨S2x8448x1, .f32⟩
  | .hbm, ⟨49, _⟩ => ⟨S2x8448x1024, .f32⟩
  | .hbm, ⟨50, _⟩ => ⟨S2x8448x1024, .f32⟩
  | .hbm, ⟨51, _⟩ => ⟨S1x1x1024, .f32⟩
  | .hbm, ⟨52, _⟩ => ⟨S2x8448x1024, .f32⟩
  | .hbm, ⟨53, _⟩ => ⟨S2x8448x1024, .f32⟩
  | .hbm, ⟨54, _⟩ => ⟨S2x1x8448x1024, .f32⟩
  | .hbm, ⟨55, _⟩ => ⟨S2x8448x1024, .f32⟩
  | .hbm, ⟨56, _⟩ => ⟨S_, .f32⟩
  | .hbm, ⟨57, _⟩ => ⟨S2x8448x1024, .f32⟩
  | .hbm, ⟨58, _⟩ => ⟨S2x8448x1024, .f32⟩
  | .hbm, ⟨59, _⟩ => ⟨S2x8448x1024, .f32⟩
  | .hbm, ⟨60, _⟩ => ⟨S2x1x8448x1024, .f32⟩
  | .hbm, ⟨61, _⟩ => ⟨S2x8448x1024, .f32⟩
  | .hbm, ⟨62, _⟩ => ⟨S2x8448x1024, .f32⟩
  | .hbm, ⟨63, _⟩ => ⟨S8x2x8448, .f32⟩
  | .hbm, ⟨64, _⟩ => ⟨S2x8x8448, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Experts.Points.lean ====
/-
  The experts' call at any contents of its two prefetched tables: @main up to the call, the windows' blocks, which of the
  body's branches each grid point takes — a word of the second table decides it — and where the output's window is idle.
-/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (result 0 (%0)) is written back at the points ≡ 1 (mod 2), at any contents of the tables (its index map reads none). -/
theorem flush0_4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- The program up to the pipeline: nothing but the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 is as launched. -/
theorem V_main_arg0 (c : Dev nD) : V m c main_arg0 = m ((c : Thread nD τ).loc main_arg0) := rfl
/-- Argument 1 is as launched. -/
theorem V_main_arg1 (c : Dev nD) : V m c main_arg1 = m ((c : Thread nD τ).loc main_arg1) := rfl
/-- Argument 2 is as launched. -/
theorem V_main_arg2 (c : Dev nD) : V m c main_arg2 = m ((c : Thread nD τ).loc main_arg2) := rfl
/-- Argument 3 is as launched. -/
theorem V_main_arg3 (c : Dev nD) : V m c main_arg3 = m ((c : Thread nD τ).loc main_arg3) := rfl
/-- Argument 4 is as launched. -/
theorem V_main_arg4 (c : Dev nD) : V m c main_arg4 = m ((c : Thread nD τ).loc main_arg4) := rfl
/-- Argument 5 is as launched. -/
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point. The frame holds under it; it follows from the precondition. -/
abbrev Ok : Prop := ok0 (F := F) (tbl m)
/-- The tables' contents, admissible. -/
abbrev adm (hO : Ok m) : (pcfg0 (F := F)).Adm := ⟨tbl m, hO⟩
/-- The pipeline at them. -/
abbrev cfgM (hO : Ok m) : Pipeline.Cfg sig Λ₀ := cfg0 (adm m hO)

/-- The table of experts as the body is handed it: a whole buffer. -/
abbrev tbM0_0 : Memref sig .tc .smem S74 .i32 := Memref.whole main_arg0
/-- It is whole. -/
abbrev htbM0_0 : tbM0_0.IsWhole := Memref.isWhole_whole _
/-- The table of live tiles, likewise. -/
abbrev tbM0_1 : Memref sig .tc .smem S74 .i32 := Memref.whole main_arg1
/-- It is whole. -/
abbrev htbM0_1 : tbM0_1.IsWhole := Memref.isWhole_whole _

/-- The contents of a table's buffer on a core. -/
abbrev TbBuf0 (c : Dev nD) {S : Shape} {e : EltTy} (M : Memref sig .tc .smem S e) : Type := Buf (Elt F) (M.view.loc (c : Thread nD τ))
/-- A table held for reading, at half the share: the pipeline keeps the other half. -/
abbrev tbPt0 (c : Dev nD) {S : Shape} {e : EltTy} (M : Memref sig .tc .smem S e) (f : TbBuf0 (F := F) c M) : sProp 𝕄 :=
  M.view.loc (c : Thread nD τ) ↦{fullShare.right} f

/-- What the body is handed of the tables, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's staging buffer holds its block at every point, fetched there or not, for any data whose array is the
    launch's and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block at every point, fetched there or not, for any data whose array is the
    launch's and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block at every point, fetched there or not, for any data whose array is the
    launch's and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's staging buffer holds its block at every point, fetched there or not, for any data whose array is the
    launch's and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that leaves every array as the pipeline does, the arguments end unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The body's branch conditions -/

/-- The word of the second table that the body reads at grid point `i`. -/
abbrev word (i : grid0.Coords) (T : S74.Idx → Elt F .i32) : BitVec 32 :=
  View.readAt (Elt F) tbM0_1.view (Rect.unit (s := S74) (k0_off1 i) S1.size (k0_off1_inb i)).toLoadRect T (Shape.Idx.first (numel1_S1.symm ▸ Nat.one_pos))

/-- The first branch: the tile is live and its first half is at hand. -/
abbrev cond0 (i : grid0.Coords) (w : BitVec 32) : Prop := Scalar.cmpi .ne (Scalar.extui (Scalar.andi (Scalar.cmpi .eq w 1#32) (Scalar.cmpi .eq (BitVec.ofNat 32 (i 1).val) 0#32)) : BitVec 32) 0#32 = 1#1
/-- The second: the tile is live. -/
abbrev cond1 (w : BitVec 32) : Prop := Scalar.cmpi .ne (Scalar.extui (Scalar.cmpi .eq w 1#32) : BitVec 32) 0#32 = 1#1
/-- The third: the tile is live and its second half is at hand. -/
abbrev cond2 (i : grid0.Coords) (w : BitVec 32) : Prop := k0_cond3 i w = 1#1
/-- The fourth: the tile is not live, at its second step. -/
abbrev cond3 (i : grid0.Coords) (w : BitVec 32) : Prop := k0_cond4 i w = 1#1

/-- A comparison with one holds of the word one. -/
theorem cmp_one (w : BitVec 32) : Scalar.cmpi .eq w 1#32 = 1#1 ↔ w = 1#32 := by
  show BitVec.ofBool (w == 1#32) = 1#1 ↔ _
  by_cases h : w = 1#32
  · subst h; decide
  · rw [beq_false_of_ne h]; exact iff_of_false (by decide) h

/-- The bit joined with a comparison of a coordinate of two values: both hold. -/
theorem gate (b : BitVec 1) (j k : Fin 2) :
    Scalar.cmpi .ne (Scalar.extui (Scalar.andi b (Scalar.cmpi .eq (BitVec.ofNat 32 j.val) (BitVec.ofNat 32 k.val))) : BitVec 32) 0#32 = 1#1 ↔ b = 1#1 ∧ j.val = k.val := by
  rcases BitVec.eq_zero_or_eq_one b with h | h <;> subst h <;> revert j k <;> decide

/-- A bit widened differs from zero where it is one. -/
theorem widened (b : BitVec 1) : Scalar.cmpi .ne (Scalar.extui b : BitVec 32) 0#32 = 1#1 ↔ b = 1#1 := by
  rcases BitVec.eq_zero_or_eq_one b with h | h <;> subst h <;> decide

/-- A bit flipped is one where it was not. -/
theorem flipped (b : BitVec 1) : Scalar.xori b 1#1 = 1#1 ↔ ¬b = 1#1 := by
  rcases BitVec.eq_zero_or_eq_one b with h | h <;> subst h <;> decide

/-- The branch's word, 1 of 4: a first point of a live tile. -/
theorem cond0_iff (i : grid0.Coords) (w : BitVec 32) : cond0 i w ↔ w = 1#32 ∧ (i 1).val = 0 :=
  (gate _ (i 1) 0).trans (and_congr (cmp_one w) Iff.rfl)

/-- The branch's word, 2 of 4: any point of a live tile. -/
theorem cond1_iff (w : BitVec 32) : cond1 w ↔ w = 1#32 := (widened _).trans (cmp_one w)

/-- The branch's word, 3 of 4: a second point of a live tile. -/
theorem cond2_iff (i : grid0.Coords) (w : BitVec 32) : cond2 i w ↔ w = 1#32 ∧ (i 1).val = 1 :=
  (gate _ (i 1) 1).trans (and_congr (cmp_one w) Iff.rfl)

/-- The branch's word, 4 of 4: a second point of a tile that is not live. -/
theorem cond3_iff (i : grid0.Coords) (w : BitVec 32) : cond3 i w ↔ ¬w = 1#32 ∧ (i 1).val = 1 :=
  (gate _ (i 1) 1).trans (and_congr ((flipped _).trans (not_congr (cmp_one w))) Iff.rfl)

/-- A point's first coordinate is its tile, -/
theorem coord_tile : ∀ t : Fin grid0.N, (grid0.coords t 0).val = t.val / 2 := by decide +kernel
/-- its second which half of the hidden columns it takes. -/
theorem coord_half : ∀ t : Fin grid0.N, (grid0.coords t 1).val = t.val % 2 := by decide +kernel

/-- The tile of point `t` is live: its word is one. -/
abbrev Live (t : Fin grid0.N) : Prop := word (grid0.coords t) (tbl m 1) = 1#32

/-! ## Where the output's window is idle -/

/-- The contents' element at the load's offset is the word the body reads. -/
theorem atD_eq (i : grid0.Coords) : (tbl m).atD 1 (k0_off1 i) = word i (tbl m 1) := by
  unfold Pipeline.Prefetch.Contents.atD
  split
  · refine congrArg (tbl m 1) (funext fun a => Fin.ext ?_)
    match a with
    | ⟨0, _⟩ => rfl
  · next h =>
    refine absurd (fun a => ?_) h
    match a with
    | ⟨0, _⟩ => exact k0_off1_inb i 0

/-- The output's window is idle exactly where neither of the last two branches is taken. -/
theorem idle_iff (hO : Ok m) (t : Fin (cfgM m hO).N) : (cfgM m hO).idle 4 (grid0.coords t) = true ↔
    ¬cond2 (grid0.coords t) (word (grid0.coords t) (tbl m 1)) ∧ ¬cond3 (grid0.coords t) (word (grid0.coords t) (tbl m 1)) := by
  rw [show (cfgM m hO).idle 4 (grid0.coords t) = (!(k0_cond3 (grid0.coords t) ((tbl m).atD 1 (k0_off1 (grid0.coords t))) == 1#1) && !(k0_cond4 (grid0.coords t) ((tbl m).atD 1 (k0_off1 (grid0.coords t))) == 1#1)) from rfl, atD_eq]
  simp

/-- At a tile's first step it is idle, -/
theorem idle_even (hO : Ok m) (t : Fin (cfgM m hO).N) (h : t.val % 2 = 0) : (cfgM m hO).idle 4 (grid0.coords t) = true := by
  rw [idle_iff, cond2_iff, cond3_iff, coord_half t]
  omega

/-- and at its second step it is not. -/
theorem live_odd (hO : Ok m) (t : Fin (cfgM m hO).N) (h : t.val % 2 = 1) : (cfgM m hO).idle 4 (grid0.coords t) = false := by
  rw [← Bool.not_eq_true, idle_iff, cond2_iff, cond3_iff, coord_half t]
  tauto

/-- The block is not written back at a tile's first step. -/
theorem noflush_even (hO : Ok m) (t : Fin (cfgM m hO).N) (h : t.val % 2 = 0) : ((cfgM m hO).win 4).flush t = false := by
  rw [← Bool.not_eq_true, flush0_4 (adm m hO) t]; omega

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-! ## The kernel body on any staging memrefs: a subtype the run finds -/

/-- One staging buffer of output window 4, through which its contents are stated (the
    choice does not matter). -/
abbrev VO0_4 : View sig .tc .vmem S512x1024 .f32 := (Memref.whole cc0_stg4_0 : Memref sig .tc .vmem S512x1024 .f32).view
/-- Window 0's staging buffer at a point. -/
abbrev ms0_0 (hO : Ok m) (t : Fin (cfgM m hO).N) : Memref sig .tc .vmem S512x1024 .f32 := spec0_0.stage ((cfgM m hO).slots t 0)
/-- It is whole. -/
abbrev hs0_0 (hO : Ok m) (t : Fin (cfgM m hO).N) : (ms0_0 m hO t).IsWhole := hstage0_0 (((cfgM m hO).slots t 0).cast nbuf0_0)
/-- Window 1's staging buffer at a point. -/
abbrev ms0_1 (hO : Ok m) (t : Fin (cfgM m hO).N) : Memref sig .tc .vmem S1x1024x1792 .bf16 := spec0_1.stage ((cfgM m hO).slots t 1)
/-- It is whole. -/
abbrev hs0_1 (hO : Ok m) (t : Fin (cfgM m hO).N) : (ms0_1 m hO t).IsWhole := hstage0_1 (((cfgM m hO).slots t 1).cast nbuf0_1)
/-- Window 2's staging buffer at a point. -/
abbrev ms0_2 (hO : Ok m) (t : Fin (cfgM m hO).N) : Memref sig .tc .vmem S1x1024x1792 .bf16 := spec0_2.stage ((cfgM m hO).slots t 2)
/-- It is whole. -/
abbrev hs0_2 (hO : Ok m) (t : Fin (cfgM m hO).N) : (ms0_2 m hO t).IsWhole := hstage0_2 (((cfgM m hO).slots t 2).cast nbuf0_2)
/-- Window 3's staging buffer at a point. -/
abbrev ms0_3 (hO : Ok m) (t : Fin (cfgM m hO).N) : Memref sig .tc .vmem S1x1792x1024 .bf16 := spec0_3.stage ((cfgM m hO).slots t 3)
/-- It is whole. -/
abbrev hs0_3 (hO : Ok m) (t : Fin (cfgM m hO).N) : (ms0_3 m hO t).IsWhole := hstage0_3 (((cfgM m hO).slots t 3).cast nbuf0_3)
/-- Window 4's staging buffer at a point. -/
abbrev ms0_4 (hO : Ok m) (t : Fin (cfgM m hO).N) : Memref sig .tc .vmem S512x1024 .f32 := spec0_4.stage ((cfgM m hO).slots t 4)
/-- It is whole. -/
abbrev hs0_4 (hO : Ok m) (t : Fin (cfgM m hO).N) : (ms0_4 m hO t).IsWhole := hstage0_4 (((cfgM m hO).slots t 4).cast nbuf0_4)
/-- The scratch of the rounded rows. -/
abbrev scM0_0 : Memref sig .tc .vmem S512x1024 .bf16 := Memref.whole cc0_scratch0
/-- The scratch of the sum. -/
abbrev scM0_1 : Memref sig .tc .vmem S512x1024 .f32 := Memref.whole cc0_scratch1
/-- The scratch `arg9` the kernel carries between points, as a view: what it holds is stated through it. -/
abbrev VS0_0 : View sig .tc .vmem S512x1024 .bf16 := scM0_0.view
/-- The scratch `arg10` the kernel carries between points, as a view: what it holds is stated through it. -/
abbrev VS0_1 : View sig .tc .vmem S512x1024 .f32 := scM0_1.view

/-- What a point finds when nothing is known of the scratch. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ExpertsIdeal.Tile

end
-- ==== Proof.Experts.RunLive.lean ====
/-
  The body at a live tile's two steps, on any staging buffers.
-/
module

public import proofs.«01_k».proof.Proof.Experts.Points

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A live tile's first half: the queries' rows are rounded and the sum started in the two scratch arrays; the output is handed back untouched. -/
noncomputable def runA (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 xt1 : S74.Idx → Elt F .i32)
    (hc0 : cond0 i (word i xt1)) (hc1 : cond1 (word i xt1)) (hc2 : ¬cond2 i (word i xt1)) (hc3 : ¬cond3 i (word i xt1)) :
    Σ' (L0 : List (View.Piece (Elt F) S512x1024 .bf16)), { L1 : List (View.Piece (Elt F) S512x1024 .f32) //
      ∀ (xi : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10) K } := by
  refine ⟨?_, ?_, fun xi E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    isplitl [HT0]; · iexact HT0
    iexact HT1

set_option maxHeartbeats 2000000 in
/-- A live tile's second half: the sum continued from what the first half left, and stored to the output. -/
noncomputable def runB (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 xt1 : S74.Idx → Elt F .i32) (xs0 : Vec F S512x1024 .bf16) (xs1 : Vec F S512x1024 .f32)
    (hc0 : ¬cond0 i (word i xt1)) (hc1 : cond1 (word i xt1)) (hc2 : cond2 i (word i xt1)) (hc3 : ¬cond3 i (word i xt1)) :
    Σ' (L4 : List (View.Piece (Elt F) S512x1024 .f32)), { L1 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ owns (c : Thread nD τ) arg9 fullShare xs0 ∗ (∃ f, arg10.view.loc (c : Thread nD τ) ↦[arg10.view.set]{fullShare} arg10.view.writes (Elt F) f L1) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10) K } := by
  refine ⟨?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg7.eq_unread hf3; obtain rfl := harg9.eq_unread hfs0; obtain rfl := harg10.eq_unread hfs1
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HS1]; · iexists _; iexact HS1
    isplitl [HT0]; · iexact HT0
    iexact HT1

end Cert.ExpertsIdeal.Tile

end
-- ==== Proof.Experts.RunDead.lean ====
/-
  The body at the two steps of a tile that is not live, on any staging buffers.
-/
module

public import proofs.«01_k».proof.Proof.Experts.Points

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A tile not live, at its first step: nothing is stored. -/
theorem runC (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 xt1 : S74.Idx → Elt F .i32)
    (hc0 : ¬cond0 i (word i xt1)) (hc1 : ¬cond1 (word i xt1)) (hc2 : ¬cond2 i (word i xt1)) (hc3 : ¬cond3 i (word i xt1)) :
    ∀ (xi : Vec F S512x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10) K := by
  intro xi E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists (arg9.view.read (Elt F) fs0); iexists fs0; isplitr; · ipureintro; exact rfl
    iexact HS0
  isplitl [HS1]
  · iexists (arg10.view.read (Elt F) fs1); iexists fs1; isplitr; · ipureintro; exact rfl
    iexact HS1
  isplitl [HT0]; · iexact HT0
  iexact HT1

set_option maxHeartbeats 2000000 in
/-- A tile not live, at its second step: zeros are stored to the output. -/
noncomputable def runD (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x1024 .f32) (x1 : Vec F S1x1024x1792 .bf16) (x2 : Vec F S1x1024x1792 .bf16) (x3 : Vec F S1x1792x1024 .bf16) (xt0 xt1 : S74.Idx → Elt F .i32)
    (hc0 : ¬cond0 i (word i xt1)) (hc1 : ¬cond1 (word i xt1)) (hc2 : ¬cond2 i (word i xt1)) (hc3 : cond3 i (word i xt1)) :
    { L4 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ d, owns (c : Thread nD τ) arg9 fullShare d) ∗ (∃ d, owns (c : Thread nD τ) arg10 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists (arg9.view.read (Elt F) fs0); iexists fs0; isplitr; · ipureintro; exact rfl
      iexact HS0
    isplitl [HS1]
    · iexists (arg10.view.read (Elt F) fs1); iexists fs1; isplitr; · ipureintro; exact rfl
      iexact HS1
    isplitl [HT0]; · iexact HT0
    iexact HT1

end Cert.ExpertsIdeal.Tile

end
-- ==== Proof.Experts.Frame.lean ====
/-
  The experts' call run at any contents of its tables that name blocks inside the arrays: what each point leaves, the
  body's obligation in its four cases, the launch and the frame.
-/
module

public import proofs.«01_k».proof.Proof.Experts.RunLive
public import proofs.«01_k».proof.Proof.Experts.RunDead
public import Idealize.ShloMosaic.Lib.Claim

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The word of a tile, and the branches by the parity of the point -/

/-- The cell of the tables that tile `k` reads. -/
abbrev cell (k : Fin 74) : S74.Idx := fun a => match a with | ⟨0, _⟩ => k

/-- The word read at a point is its tile's. -/
theorem word_eq (i : grid0.Coords) (T : S74.Idx → Elt F .i32) : word i T = T (cell (i 0)) := by
  refine congrArg T (funext fun a => Fin.ext ?_)
  match a with
  | ⟨0, _⟩ => exact congrFun (k0_off1_eq i) 0

/-- A tile's two points read the same word. -/
theorem live_pred (t t' : Fin grid0.N) (h : t.val % 2 = 1) (h' : t'.val = t.val - 1) : Live m t' ↔ Live m t := by
  have e : grid0.coords t' 0 = grid0.coords t 0 := Fin.ext (by rw [coord_tile, coord_tile]; omega)
  have ew : word (grid0.coords t') (tbl m 1) = word (grid0.coords t) (tbl m 1) :=
    (word_eq _ _).trans ((congrArg (fun k => (tbl m 1 : S74.Idx → Elt F .i32) (cell k)) e).trans (word_eq _ _).symm)
  exact iff_of_eq (congrArg (fun x : BitVec 32 => x = 1#32) ew)

/-- The first branch is taken at a first point of a live tile, -/
theorem first_taken {t : Fin grid0.N} (h : t.val % 2 = 0 ∧ Live m t) : cond0 (grid0.coords t) (word (grid0.coords t) (tbl m 1)) :=
  (cond0_iff _ _).mpr ⟨h.2, (coord_half t).trans h.1⟩
/-- not at a second point, -/
theorem first_odd {t : Fin grid0.N} (h : t.val % 2 = 1) : ¬cond0 (grid0.coords t) (word (grid0.coords t) (tbl m 1)) := fun hc => by
  have := ((cond0_iff _ _).mp hc).2; rw [coord_half t] at this; omega
/-- nor in a tile that is not live. -/
theorem first_dead {t : Fin grid0.N} (h : ¬Live m t) : ¬cond0 (grid0.coords t) (word (grid0.coords t) (tbl m 1)) := fun hc =>
  h ((cond0_iff _ _).mp hc).1
/-- The second branch is taken in a live tile, -/
theorem second_live {t : Fin grid0.N} (h : Live m t) : cond1 (word (grid0.coords t) (tbl m 1)) := (cond1_iff _).mpr h
/-- and not elsewhere. -/
theorem second_dead {t : Fin grid0.N} (h : ¬Live m t) : ¬cond1 (word (grid0.coords t) (tbl m 1)) := fun hc => h ((cond1_iff _).mp hc)
/-- The third branch is taken at a live tile's second point, -/
theorem third_taken {t : Fin grid0.N} (h : t.val % 2 = 1 ∧ Live m t) : cond2 (grid0.coords t) (word (grid0.coords t) (tbl m 1)) :=
  (cond2_iff _ _).mpr ⟨h.2, (coord_half t).trans h.1⟩
/-- not at a first point, -/
theorem third_even {t : Fin grid0.N} (h : t.val % 2 = 0) : ¬cond2 (grid0.coords t) (word (grid0.coords t) (tbl m 1)) := fun hc => by
  have := ((cond2_iff _ _).mp hc).2; rw [coord_half t] at this; omega
/-- nor in a tile that is not live. -/
theorem third_dead {t : Fin grid0.N} (h : ¬Live m t) : ¬cond2 (grid0.coords t) (word (grid0.coords t) (tbl m 1)) := fun hc =>
  h ((cond2_iff _ _).mp hc).1
/-- The fourth branch is taken at the second point of a tile that is not live, -/
theorem fourth_taken {t : Fin grid0.N} (h : t.val % 2 = 1 ∧ ¬Live m t) : cond3 (grid0.coords t) (word (grid0.coords t) (tbl m 1)) :=
  (cond3_iff _ _).mpr ⟨h.2, (coord_half t).trans h.1⟩
/-- not at a first point, -/
theorem fourth_even {t : Fin grid0.N} (h : t.val % 2 = 0) : ¬cond3 (grid0.coords t) (word (grid0.coords t) (tbl m 1)) := fun hc => by
  have := ((cond3_iff _ _).mp hc).2; rw [coord_half t] at this; omega
/-- nor in a live tile. -/
theorem fourth_live {t : Fin grid0.N} (h : Live m t) : ¬cond3 (grid0.coords t) (word (grid0.coords t) (tbl m 1)) := fun hc =>
  ((cond3_iff _ _).mp hc).1 h

/-! ## What the runs leave -/

/-- The run at a live tile's first point, -/
def atA (hO : Ok m) (c : Dev nD) (t : Fin (cfgM m hO).N) (h : t.val % 2 = 0 ∧ Live m t) :=
  runA (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (first_taken m h) (second_live m h.2) (third_even m h.1) (fourth_even m h.1)

/-- what it leaves in the scratch of the rounded rows, -/
def rows (hO : Ok m) (c : Dev nD) (t : Fin (cfgM m hO).N) (h : t.val % 2 = 0 ∧ Live m t) : Vec F S512x1024 .bf16 :=
  VS0_0.read (Elt F) (VS0_0.writes (Elt F) VS0_0.junk (atA m hO c t h).1)

/-- and in the scratch of the sum. -/
def part (hO : Ok m) (c : Dev nD) (t : Fin (cfgM m hO).N) (h : t.val % 2 = 0 ∧ Live m t) : Vec F S512x1024 .f32 :=
  VS0_1.read (Elt F) (VS0_1.writes (Elt F) VS0_1.junk (atA m hO c t h).2.1)

/-- The writes fill the scratch of the rounded rows, -/
theorem rows_cover (hO : Ok m) (c : Dev nD) (t : Fin (cfgM m hO).N) (h : t.val % 2 = 0 ∧ Live m t) (y : S512x1024.Idx) : ∃ pc ∈ (atA m hO c t h).1, y ∈ pc.1.set :=
  View.cover_of_tiledL (atA m hO c t h).1 S512x1024.size (by unfold atA; sl_kernel_rfl) y
/-- and that of the sum. -/
theorem part_cover (hO : Ok m) (c : Dev nD) (t : Fin (cfgM m hO).N) (h : t.val % 2 = 0 ∧ Live m t) (y : S512x1024.Idx) : ∃ pc ∈ (atA m hO c t h).2.1, y ∈ pc.1.set :=
  View.cover_of_tiledL (atA m hO c t h).2.1 S512x1024.size (by unfold atA; sl_kernel_rfl) y

/-- The point before. -/
abbrev prev (hO : Ok m) (t : Fin (cfgM m hO).N) : Fin (cfgM m hO).N := ⟨t.val - 1, lt_of_le_of_lt (Nat.sub_le _ _) t.isLt⟩

/-- It is the first point of the same live tile. -/
theorem prev_ok (hO : Ok m) (t : Fin (cfgM m hO).N) (h : t.val % 2 = 1 ∧ Live m t) : (prev m hO t).val % 2 = 0 ∧ Live m (prev m hO t) :=
  ⟨by have := h.1; show (t.val - 1) % 2 = 0; omega, (live_pred m t (prev m hO t) h.1 rfl).mpr h.2⟩

/-- The run at a live tile's second point, from what the first left. -/
def atB (hO : Ok m) (c : Dev nD) (t : Fin (cfgM m hO).N) (h : t.val % 2 = 1 ∧ Live m t) :=
  runB (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (rows m hO c (prev m hO t) (prev_ok m hO t h)) (part m hO c (prev m hO t) (prev_ok m hO t h))
    (first_odd m h.1) (second_live m h.2) (third_taken m h) (fourth_live m h.2)

/-- The run at the second point of a tile that is not live. -/
def atD (hO : Ok m) (c : Dev nD) (t : Fin (cfgM m hO).N) (h : t.val % 2 = 1 ∧ ¬Live m t) :=
  runD (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (first_dead m h.2) (second_dead m h.2) (third_dead m h.2) (fourth_taken m h)

/-- The writes fill the output's buffer, -/
theorem outB_cover (hO : Ok m) (c : Dev nD) (t : Fin (cfgM m hO).N) (h : t.val % 2 = 1 ∧ Live m t) (y : S512x1024.Idx) : ∃ pc ∈ (atB m hO c t h).1, y ∈ pc.1.set :=
  View.cover_of_tiledL (atB m hO c t h).1 S512x1024.size (by unfold atB; sl_kernel_rfl) y
/-- here too. -/
theorem outD_cover (hO : Ok m) (c : Dev nD) (t : Fin (cfgM m hO).N) (h : t.val % 2 = 1 ∧ ¬Live m t) (y : S512x1024.Idx) : ∃ pc ∈ (atD m hO c t h).1, y ∈ pc.1.set :=
  View.cover_of_tiledL (atD m hO c t h).1 S512x1024.size (by unfold atD; sl_kernel_rfl) y

/-- What a point leaves in the output's staging buffer (at a first point nothing reads it). -/
def outAt (hO : Ok m) (c : Dev nD) (t : Fin (cfgM m hO).N) : Vec F S512x1024 .f32 :=
  if h : t.val % 2 = 1 ∧ Live m t then VO0_4.read (Elt F) (VO0_4.writes (Elt F) VO0_4.junk (atB m hO c t h).1)
  else if h : t.val % 2 = 1 ∧ ¬Live m t then VO0_4.read (Elt F) (VO0_4.writes (Elt F) VO0_4.junk (atD m hO c t h).1)
  else VO0_4.read (Elt F) VO0_4.junk

/-! ## The invariant between points -/

/-- Before a live tile's second point the scratch holds what its first left; elsewhere anything. -/
def Phi (hO : Ok m) (c : Dev nD) (n : ℕ) (hn : n ≤ (cfgM m hO).N) : sProp 𝕄 :=
  if h : n % 2 = 1 ∧ ∃ t : Fin (cfgM m hO).N, t.val + 1 = n ∧ t.val % 2 = 0 ∧ Live m t then
    iprop(iprop(iprop(owns (c : Thread nD τ) scM0_0 fullShare (rows m hO c h.2.choose h.2.choose_spec.2) ∗ owns (c : Thread nD τ) scM0_1 fullShare (part m hO c h.2.choose h.2.choose_spec.2)) ∗ (∃ r, prngReg c r)) ∗ Pipeline.ΦT pre0 (tbl m) c)
  else iprop(Pipeline.ΦA spec0 c ∗ Pipeline.ΦT pre0 (tbl m) c)

/-- Before a first point, and before any point of a tile that is not live: anything. -/
theorem Phi_any (hO : Ok m) (c : Dev nD) (n : ℕ) (hn : n ≤ (cfgM m hO).N) (h : ∀ t : Fin (cfgM m hO).N, t.val + 1 = n → t.val % 2 = 0 → ¬Live m t) :
    Phi m hO c n hn = iprop(Pipeline.ΦA spec0 c ∗ Pipeline.ΦT pre0 (tbl m) c) :=
  dif_neg fun h' => by obtain ⟨-, t, h1, h2, h3⟩ := h'; exact h t h1 h2 h3

/-- After a live tile's first point: what it left. -/
theorem Phi_named (hO : Ok m) (c : Dev nD) (t : Fin (cfgM m hO).N) (h : t.val % 2 = 0 ∧ Live m t) (n : ℕ) (hn : n ≤ (cfgM m hO).N) (e : n = t.val + 1) :
    Phi m hO c n hn = iprop(iprop(iprop(owns (c : Thread nD τ) scM0_0 fullShare (rows m hO c t h) ∗ owns (c : Thread nD τ) scM0_1 fullShare (part m hO c t h)) ∗ (∃ r, prngReg c r)) ∗ Pipeline.ΦT pre0 (tbl m) c) := by
  have hx : n % 2 = 1 ∧ ∃ t : Fin (cfgM m hO).N, t.val + 1 = n ∧ t.val % 2 = 0 ∧ Live m t := ⟨by omega, t, e.symm, h⟩
  refine (dif_pos hx).trans ?_
  have key : ∀ (s : Fin (cfgM m hO).N) (hs : s.val % 2 = 0 ∧ Live m s), s = t → rows m hO c s hs = rows m hO c t h ∧ part m hO c s hs = part m hO c t h := by
    intro s hs e; subst e; exact ⟨rfl, rfl⟩
  obtain ⟨e1, e2⟩ := key hx.2.choose hx.2.choose_spec.2 (Fin.ext (by have := hx.2.choose_spec.1; omega))
  rw [e1, e2]

/-! ## The pipeline's proof data -/

/-- The arrays as the call finds them; after each point every input's buffer at its block, the output's at `outAt`;
    the invariant `Phi`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val (Nat.le_of_lt_succ t.isLt)
  q _ := fullShare
  owed _ := 0

/-- The proof data's arrays are those the call finds. -/
theorem A_eq (hO : Ok m) (c : Dev nD) (w : Fin (cfgM m hO).W) : (dats m hO 0 c).A w = V m c (Pipeline.arrRef spec0 w) := by
  dsimp only [dats]

/-- The invariant at a point's start, restated at the point's number. -/
theorem Phi_castSucc (hO : Ok m) (c : Dev nD) (t : Fin (cfgM m hO).N) :
    (dats m hO 0 c).Φ t.castSucc = Phi m hO c t.val (Nat.le_of_lt t.isLt) := by
  dsimp only [dats]; exact Pipeline.Dat.Φ_castSucc (Phi m hO c) t

/-- What the body leaves in window 0. -/
theorem after0_0 (hO : Ok m) (c : Dev nD) (t : Fin (cfgM m hO).N) : (dats m hO 0 c).after 0 t = iblk m hO c 0 t := by dsimp only [dats]; try rfl
/-- What the body leaves in window 1. -/
theorem after0_1 (hO : Ok m) (c : Dev nD) (t : Fin (cfgM m hO).N) : (dats m hO 0 c).after 1 t = iblk m hO c 1 t := by dsimp only [dats]; try rfl
/-- What the body leaves in window 2. -/
theorem after0_2 (hO : Ok m) (c : Dev nD) (t : Fin (cfgM m hO).N) : (dats m hO 0 c).after 2 t = iblk m hO c 2 t := by dsimp only [dats]; try rfl
/-- What the body leaves in window 3. -/
theorem after0_3 (hO : Ok m) (c : Dev nD) (t : Fin (cfgM m hO).N) : (dats m hO 0 c).after 3 t = iblk m hO c 3 t := by dsimp only [dats]; try rfl
/-- What the body leaves in window 4. -/
theorem after0_4 (hO : Ok m) (c : Dev nD) (t : Fin (cfgM m hO).N) : (dats m hO 0 c).after 4 t = outAt m hO c t := by dsimp only [dats]; try rfl

/-- What the body finds in window 0: its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- What the body finds in window 1: its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- What the body finds in window 2: its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- What the body finds in window 3: its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 3200000 in
/-- The body at a live tile's first point. -/
theorem body_A (hO : Ok m) (c : Dev nD) (t : Fin (cfgM m hO).N) (h : t.val % 2 = 0 ∧ Live m t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = Phi m hO c (t.val + 1) t.isLt from rfl, Phi_castSucc]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [Dat.leavesExact_idle (dats m hO 0 c) 4 t (idle_even m hO t h.1) (noflush_even m hO t h.1)]
  rw [Phi_any m hO c t.val _ (fun s e h' => by have := h.1; omega), Phi_named m hO c t h _ _ rfl, PhiT0_eq, PhiA0_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((atA m hO c t h).2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  iintro ⟨H0, H1, H2, H3, H4, ⟨%es0, HS0⟩, ⟨%es1, HS1⟩, HT0, HT1⟩
  isplitl [HS0 HS1 Hg HT0 HT1]
  · isplitl [HS0 HS1 Hg]
    · isplitl [HS0 HS1]
      · isplitl [HS0]
        · unfold owns; iexists _; isplitr
          swap; · iexact HS0
          ipureintro; exact View.read_writes_of_cover _ _ _ _ _ (rows_cover m hO c t h)
        unfold owns; iexists _; isplitr
        swap; · iexact HS1
        ipureintro; exact View.read_writes_of_cover _ _ _ _ _ (part_cover m hO c t h)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexists _; iexact H4

set_option maxHeartbeats 3200000 in
/-- The body at a live tile's second point. -/
theorem body_B (hO : Ok m) (c : Dev nD) (t : Fin (cfgM m hO).N) (h : t.val % 2 = 1 ∧ Live m t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = Phi m hO c (t.val + 1) t.isLt from rfl, Phi_castSucc]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [live_odd m hO t h.1]; try rfl, after0_4]
  rw [Phi_named m hO c (prev m hO t) (prev_ok m hO t h) t.val _ (by have := h.1; show t.val = t.val - 1 + 1; omega),
    Phi_any m hO c (t.val + 1) _ (fun s e h' => by have := h.1; omega), PhiT0_eq, PhiA0_eq]
  rw [show outAt m hO c t = VO0_4.read (Elt F) (VO0_4.writes (Elt F) VO0_4.junk (atB m hO c t h).1) from dif_pos h]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((atB m hO c t h).2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HT0]; · iexact HT0
  isplitl [HT1]; · iexact HT1
  iintro ⟨H0, H1, H2, H3, ⟨%e4, H4⟩, HS0, ⟨%es1, HS1⟩, HT0, HT1⟩
  isplitl [HS0 HS1 Hg HT0 HT1]
  · isplitl [HS0 HS1 Hg]
    · isplitl [HS0 HS1]
      · isplitl [HS0]
        · iexists _; iexact HS0
        iexists _; unfold owns; iexists _; isplitr
        swap; · iexact HS1
        ipureintro; exact rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outB_cover m hO c t h)

set_option maxHeartbeats 3200000 in
/-- The body at the first point of a tile that is not live. -/
theorem body_C (hO : Ok m) (c : Dev nD) (t : Fin (cfgM m hO).N) (h : t.val % 2 = 0 ∧ ¬Live m t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = Phi m hO c (t.val + 1) t.isLt from rfl, Phi_castSucc]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [Dat.leavesExact_idle (dats m hO 0 c) 4 t (idle_even m hO t h.1) (noflush_even m hO t h.1)]
  rw [Phi_any m hO c t.val _ (fun s e h' => by have := h.1; omega),
    Phi_any m hO c (t.val + 1) _ (fun s e h' => by obtain rfl : s = t := Fin.ext (by omega); exact h.2), PhiT0_eq, PhiA0_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply (runC (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (first_dead m h.2) (second_dead m h.2) (third_even m h.1) (fourth_even m h.1) _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  iintro ⟨H0, H1, H2, H3, H4, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexists _; iexact H4

set_option maxHeartbeats 3200000 in
/-- The body at the second point of a tile that is not live. -/
theorem body_D (hO : Ok m) (c : Dev nD) (t : Fin (cfgM m hO).N) (h : t.val % 2 = 1 ∧ ¬Live m t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = Phi m hO c (t.val + 1) t.isLt from rfl, Phi_castSucc]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [live_odd m hO t h.1]; try rfl, after0_4]
  rw [Phi_any m hO c t.val _ (fun s e _ => fun hl => h.2 ((live_pred m t s h.1 (by omega)).mp hl)),
    Phi_any m hO c (t.val + 1) _ (fun s e h' => by have := h.1; omega), PhiT0_eq, PhiA0_eq]
  rw [show outAt m hO c t = VO0_4.read (Elt F) (VO0_4.writes (Elt F) VO0_4.junk (atD m hO c t h).1) from (dif_neg fun h' => h.2 h'.2).trans (dif_pos h)]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply ((atD m hO c t h).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HT0]; · iexact HT0
  isplitl [HT1]; · iexact HT1
  iintro ⟨H0, H1, H2, H3, ⟨%e4, H4⟩, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outD_cover m hO c t h)

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases hL : Live m t
  · rcases Nat.mod_two_eq_zero_or_one t.val with h | h
    · exact body_A m hO c t ⟨h, hL⟩
    · exact body_B m hO c t ⟨h, hL⟩
  · rcases Nat.mod_two_eq_zero_or_one t.val with h | h
    · exact body_C m hO c t ⟨h, hL⟩
    · exact body_D m hO c t ⟨h, hL⟩

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every point's run, as the pipeline asks for it. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands over is the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 (Nat.zero_le _) from rfl, Phi_any m hO c 0 _ (fun s e _ => by omega)]

/-- and after the last point it gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N (Nat.le_refl _) from rfl,
    Phi_any m hO c _ _ (fun s e h' => by have : (cfgM m hO).N = 148 := N_0; omega)]
  iintro ⟨H, -⟩
  iexact H

/-! ## The run and the frame -/

-- `θ_run_frameP_track`'s implicit arguments are found by unifying its conclusion with this one, which takes unfolding plain
-- definitions in a metavariable's type
set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the points
    leave and every other buffer as the pipeline found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: the arguments end unchanged and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Tile

end
-- ==== Proof.Experts.Same.lean ====
/-
  The experts' program and its ideal are the same text, read over any values; so what is proved of the ideal's run at any
  values holds of the program's.
-/
module

public import proofs.«01_k».proof.Proof.Experts.Frame
public import proofs.«01_k».proof.Proof.Gen.Experts
public import proofs.«01_k».proof.Proof.Gen.Experts.Launch

@[expose] public section

set_option maxRecDepth 16384
set_option maxHeartbeats 0

noncomputable section

namespace Cert.Experts.Tile

open Cert.Experts Cert.Experts.Gen Idealize.ShloMosaic Idealize.ShloMosaic.TcCoe Idealize.SL.Sem

variable {F : FTy → Type} [FloatOps F]

/-- The kernel bodies are equal. -/
theorem bodies_eq : @Cert.Experts.defs₀ F _ Cert.Experts.Gen.facts = @Cert.ExpertsIdeal.defs₀ F _ Cert.ExpertsIdeal.Gen.facts := by
  unfold Cert.Experts.defs₀ Cert.ExpertsIdeal.defs₀
  congr 1
  funext l a
  match l, a with
  | 0, (t, s) => rfl

/-- The programs' functions are equal. -/
theorem defs_eq : @Cert.Experts.defs F _ Cert.Experts.Gen.facts = @Cert.ExpertsIdeal.defs F _ Cert.ExpertsIdeal.Gen.facts :=
  congrArg (Pipeline.defs (@Cert.Experts.pcfgs F _ Cert.Experts.Gen.facts)) bodies_eq

/-- From admissible tables, the program runs, its arguments unchanged, every counter zero again. -/
theorem frame (m : (ℓ : Loc nD τ sig) → Buf (Elt F) ℓ) (ρ : Dev nD → PrngReg) (hO : Cert.ExpertsIdeal.Tile.Ok (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (congrArg (fun D => θ_run D (onTc (τ := τ) (main (F := F))) ⟨m, fun _ => 0, ρ⟩ _) defs_eq).mpr (Cert.ExpertsIdeal.Tile.frame m ρ hO)

end Cert.Experts.Tile

end
-- ==== Proof.Experts.Half.lean ====
/-
  What a live tile's two points leave, as sums over chunks of 256 hidden columns.
-/
module

public import proofs.«01_k».proof.Proof.Experts.Frame
public import Idealize.ShloMosaic.Lib.Tactic
public import Idealize.ShloMosaic.Lib.Pipeline.ValueKit.Acc

@[expose] public section

set_option maxRecDepth 16384

noncomputable section

namespace Cert.ExpertsIdeal.Tile

open Cert.ExpertsIdeal Cert.ExpertsIdeal.Gen Idealize.ShloMosaic Idealize.ShloMosaic.TcCoe Idealize.SL.Sem

variable {F : FTy → Type} [FloatOps F]

/-- The zero offsets of rank 2. -/
theorem hz2 : (![0, 0] : Fin 2 → Nat) = fun _ => 0 := funext fun a => by fin_cases a <;> rfl
/-- Each offset of rank 2 is zero. -/
theorem zero2 : ∀ a, (![0, 0] : Fin 2 → Nat) a = 0 := fun a => congrFun hz2 a

/-- The 256 columns from `256 n` on of a gate or up block. -/
theorem cols_inb (n : Fin 7) : ∀ a, (![0, 0, 256 * n.val] : Fin 3 → Nat) a + S1x1024x256.size a ≤ S1x1024x1792.size a := by
  revert n; decide
/-- The 256 rows from `256 n` on of an output block. -/
theorem rows_inb (n : Fin 7) : ∀ a, (![0, 256 * n.val, 0] : Fin 3 → Nat) a + S1x256x1024.size a ≤ S1x1792x1024.size a := by
  revert n; decide

/-- Chunk `n` of a gate or up block. -/
def cols (x : Vec F S1x1024x1792 .bf16) (n : Fin 7) : Vec F S1x1024x256 .bf16 :=
  View.ld x (Rect.unit ![0, 0, 256 * n.val] S1x1024x256.size (cols_inb n))
/-- Chunk `n` of an output block. -/
def outRows (x : Vec F S1x1792x1024 .bf16) (n : Fin 7) : Vec F S1x256x1024 .bf16 :=
  View.ld x (Rect.unit ![0, 256 * n.val, 0] S1x256x1024.size (rows_inb n))

/-- What chunk `n` adds. -/
def chunk (xb : Vec F S512x1024 .bf16) (g u : Vec F S1x1024x1792 .bf16) (o : Vec F S1x1792x1024 .bf16) (n : Fin 7) : FVec F S512x1024 .f32 :=
  k0_pay11 xb (cols g n) (cols u n) (outRows o n)

/-- A point's sum: its seven chunks added to what was there. -/
def half (xb : Vec F S512x1024 .bf16) (acc : Vec F S512x1024 .f32) (g u : Vec F S1x1024x1792 .bf16) (o : Vec F S1x1792x1024 .bf16) : FVec F S512x1024 .f32 :=
  addf (addf (addf (addf (addf (addf (addf acc (chunk xb g u o 0)) (chunk xb g u o 1)) (chunk xb g u o 2)) (chunk xb g u o 3)) (chunk xb g u o 4)) (chunk xb g u o 5)) (chunk xb g u o 6)

/-- The seven chunks as the body computes them. -/
theorem half_eq (xb : Vec F S512x1024 .bf16) (acc : Vec F S512x1024 .f32) (g u : Vec F S1x1024x1792 .bf16) (o : Vec F S1x1792x1024 .bf16) :
    k0_pay3 xb (k0_pay12 xb (k0_pay10 xb (k0_pay7 xb (k0_pay5 xb acc (cols g 0) (cols u 0) (outRows o 0)) (k0_pay6 xb (cols g 1)) (cols u 1) (outRows o 1) (cols g 2) (cols u 2) (outRows o 2))
        (k0_pay8 xb (cols g 3)) k0_pay9 (cols u 3) (outRows o 3)) (k0_pay11 xb (cols g 4) (cols u 4) (outRows o 4)) (cols g 5) (cols u 5) (outRows o 5))
      (k0_pay13 xb (cols g 6)) (k0_pay14 (cols u 6)) (constant S512x256 .f32 0x00000000#32) (outRows o 6) = half xb acc g u o := by
  unfold k0_pay3
  dsimp only
  rw [shapeCast_self]
  rfl

section
variable (c : Dev nD) (i : grid0.Coords) (a4 : Memref sig .tc .vmem S512x1024 .f32) (h4 : a4.IsWhole) (a5 : Memref sig .tc .vmem S1x1024x1792 .bf16) (h5 : a5.IsWhole) (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole) (a9 : Memref sig .tc .vmem S512x1024 .bf16) (h9 : a9.IsWhole) (a10 : Memref sig .tc .vmem S512x1024 .f32) (h10 : a10.IsWhole)
  (x0 : Vec F S512x1024 .f32) (x1 : Vec F S1x1024x1792 .bf16) (x2 : Vec F S1x1024x1792 .bf16) (x3 : Vec F S1x1792x1024 .bf16) (xt0 xt1 : S74.Idx → Elt F .i32)

set_option maxHeartbeats 2000000 in
/-- The first run of a live tile rounds its rows, -/
theorem runA_rows (hc0 : cond0 i (word i xt1)) (hc1 : cond1 (word i xt1)) (hc2 : ¬cond2 i (word i xt1)) (hc3 : ¬cond3 i (word i xt1)) :
    View.canon (runA (F := F) c i a4 h4 a5 h5 a6 h6 a7 h7 a8 h8 a9 h9 a10 h10 x0 x1 x2 x3 xt0 xt1 hc0 hc1 hc2 hc3).1 = k0_pay1 x0 := by
  unfold runA
  dsimp only
  sl_unfold_words
  rw [View.canon_unit_zero hz2]
  simp only [View.readAt_eq_ld, h4.read_unread, h5.read_unread, h6.read_unread, h7.read_unread, h9.read_unread, h10.read_unread, View.ld_unit_zero (S := S512x1024) hz2]

set_option maxHeartbeats 2000000 in
/-- and starts the sum from zero. -/
theorem runA_part (hc0 : cond0 i (word i xt1)) (hc1 : cond1 (word i xt1)) (hc2 : ¬cond2 i (word i xt1)) (hc3 : ¬cond3 i (word i xt1)) :
    View.canon (runA (F := F) c i a4 h4 a5 h5 a6 h6 a7 h7 a8 h8 a9 h9 a10 h10 x0 x1 x2 x3 xt0 xt1 hc0 hc1 hc2 hc3).2.1 = half (k0_pay1 x0) k0_pay2 x1 x2 x3 := by
  unfold runA
  dsimp only
  sl_unfold_words
  rw [View.canon_cons_unit_lit' _ _ _ zero2]
  sl_unfold_words
  simp only [View.readCov_cons_unit_lit' (S := S512x1024) _ _ _ _ _ zero2 zero2, View.readAt_eq_ld, h4.read_unread, h5.read_unread, h6.read_unread, h7.read_unread, h9.read_unread, h10.read_unread, View.ld_unit_zero (S := S512x1024) hz2]
  exact half_eq ..

set_option maxHeartbeats 2000000 in
/-- The second run of a live tile continues the sum and stores it. -/
theorem runB_out (xs0 : Vec F S512x1024 .bf16) (xs1 : Vec F S512x1024 .f32) (hc0 : ¬cond0 i (word i xt1)) (hc1 : cond1 (word i xt1)) (hc2 : cond2 i (word i xt1)) (hc3 : ¬cond3 i (word i xt1)) :
    View.canon (runB (F := F) c i a4 h4 a5 h5 a6 h6 a7 h7 a8 h8 a9 h9 a10 h10 x0 x1 x2 x3 xt0 xt1 xs0 xs1 hc0 hc1 hc2 hc3).1 = half xs0 xs1 x1 x2 x3 := by
  unfold runB
  dsimp only
  sl_unfold_words
  rw [View.canon_unit_zero hz2]
  simp only [View.readCov_cons_unit_lit' (S := S512x1024) _ _ _ _ _ zero2 zero2, View.readAt_eq_ld, h4.read_unread, h5.read_unread, h6.read_unread, h7.read_unread, h9.read_unread, h10.read_unread, View.ld_unit_zero (S := S512x1024) hz2]
  exact half_eq ..

/-- The second run of a tile that is not live stores zeros. -/
theorem runD_out (hc0 : ¬cond0 i (word i xt1)) (hc1 : ¬cond1 (word i xt1)) (hc2 : ¬cond2 i (word i xt1)) (hc3 : cond3 i (word i xt1)) :
    View.canon (runD (F := F) c i a4 h4 a5 h5 a6 h6 a7 h7 a8 h8 a9 h9 a10 h10 x0 x1 x2 x3 xt0 xt1 hc0 hc1 hc2 hc3).1 = k0_pay4 := by
  unfold runD
  dsimp only
  sl_unfold_words
  rw [View.canon_unit_zero hz2]

end

variable (m : (ℓ : Loc nD τ sig) → Buf (Elt F) ℓ)

/-- A live tile's first point leaves its rows rounded, -/
theorem rows_eq (hO : Ok m) (c : Dev nD) (t : Fin (cfgM m hO).N) (h : t.val % 2 = 0 ∧ Live m t) :
    rows m hO c t h = k0_pay1 (iblk m hO c 0 t) :=
  (View.read_writes_eq_canon _ _ _ (rows_cover m hO c t h)).trans (runA_rows ..)

/-- and the sum started from zero. -/
theorem part_eq (hO : Ok m) (c : Dev nD) (t : Fin (cfgM m hO).N) (h : t.val % 2 = 0 ∧ Live m t) :
    part m hO c t h = half (k0_pay1 (iblk m hO c 0 t)) k0_pay2 (iblk m hO c 1 t) (iblk m hO c 2 t) (iblk m hO c 3 t) :=
  (View.read_writes_eq_canon _ _ _ (part_cover m hO c t h)).trans (runA_part ..)

/-- The second point's output: the sum continued. -/
theorem outB_eq (hO : Ok m) (c : Dev nD) (t : Fin (cfgM m hO).N) (h : t.val % 2 = 1 ∧ Live m t) :
    outAt m hO c t = half (rows m hO c (prev m hO t) (prev_ok m hO t h)) (part m hO c (prev m hO t) (prev_ok m hO t h)) (iblk m hO c 1 t) (iblk m hO c 2 t) (iblk m hO c 3 t) :=
  (dif_pos h).trans ((View.read_writes_eq_canon _ _ _ (outB_cover m hO c t h)).trans (runB_out ..))

/-- The output of a tile that is not live. -/
theorem outD_eq (hO : Ok m) (c : Dev nD) (t : Fin (cfgM m hO).N) (h : t.val % 2 = 1 ∧ ¬Live m t) :
    outAt m hO c t = k0_pay4 :=
  ((dif_neg fun h' => h.2 (And.right h')).trans (dif_pos h)).trans ((View.read_writes_eq_canon _ _ _ (outD_cover m hO c t h)).trans (runD_out ..))

end Cert.ExpertsIdeal.Tile

end
-- ==== Proof.Experts.Table.lean ====
/-
  The blocks the experts' call takes, by the contents of its two tables, and its output read at an index.
-/
module

public import proofs.«01_k».proof.Proof.Experts.Half
public import Idealize.ShloMosaic.Lib.ValueIdx
public import Idealize.ShloMosaic.Lib.Pointwise
public import Idealize.ShloMosaic.Lib.Pipeline.Value

@[expose] public section

set_option maxRecDepth 16384

noncomputable section

namespace Cert.ExpertsIdeal.Tile

open Cert.ExpertsIdeal Cert.ExpertsIdeal.Gen Idealize.ShloMosaic Idealize.ShloMosaic.TcCoe Idealize.SL.Sem
open Idealize.ShloMosaic.Pipeline (Dat)

variable {F : FTy → Type} [FloatOps F]

/-- Which half of the hidden columns a point takes: its own where the tile is live, the second elsewhere. -/
def side (w : BitVec 32) (j : ℕ) : BitVec 32 := Scalar.select (Scalar.cmpi .eq w 1#32) (BitVec.ofNat 32 j) 1#32

/-- It is the first or the second. -/
theorem side_lt (w : BitVec 32) (j : Fin 2) : (side w j.val).toNat < 2 := by
  unfold side Scalar.select
  split
  · revert j; decide
  · decide

/-- In a live tile it is the point's own. -/
theorem side_live (w : BitVec 32) (j : Fin 2) (h : w = 1#32) : (side w j.val).toNat = j.val := by
  subst h; revert j; decide

/-- Two halves further, as a number. -/
theorem up_toNat (b : BitVec 32) (h : b.toNat < 2) : (2#32 + b).toNat = 2 + b.toNat := by
  rw [BitVec.toNat_add]
  show (2 + b.toNat) % 4294967296 = _
  omega

/-- It is one of the four. -/
theorem up_lt (b : BitVec 32) (h : b.toNat < 2) : (2#32 + b).toNat < 4 := by
  rw [up_toNat b h]; omega

/-- The gate's block: the tile's expert, the point's half. -/
theorem gate_index (pf : pre0.Contents (Elt F)) (i : grid0.Coords) :
    cc0_transform_1 k0_off1_inb numel1_S1 pf i
      = ![BitVec.toNat ((pf 0 : S74.Idx → Elt F .i32) (cell (i 0))), 0, (side ((pf 1 : S74.Idx → Elt F .i32) (cell (i 0))) (i 1).val).toNat] := by
  have e : ∀ T : S74.Idx → Elt F .i32, T ((Rect.unit (s := S74) (k0_off1 i) S1.size (k0_off1_inb i)).emb (Shape.Idx.first (numel1_S1.symm ▸ Nat.one_pos))) = T (cell (i 0)) := fun T => word_eq i T
  have e0 := e (pf 0)
  have e1 := e (pf 1)
  exact congrArg₂ (fun a b : BitVec 32 => ![a.toNat, 0, (side b (i 1).val).toNat]) e0 e1

/-- The up columns' block: two halves further. -/
theorem up_index (pf : pre0.Contents (Elt F)) (i : grid0.Coords) :
    cc0_transform_2 k0_off1_inb numel1_S1 pf i
      = ![BitVec.toNat ((pf 0 : S74.Idx → Elt F .i32) (cell (i 0))), 0, (2#32 + side ((pf 1 : S74.Idx → Elt F .i32) (cell (i 0))) (i 1).val).toNat] := by
  have e : ∀ T : S74.Idx → Elt F .i32, T ((Rect.unit (s := S74) (k0_off1 i) S1.size (k0_off1_inb i)).emb (Shape.Idx.first (numel1_S1.symm ▸ Nat.one_pos))) = T (cell (i 0)) := fun T => word_eq i T
  exact congrArg₂ (fun a b : BitVec 32 => ![a.toNat, 0, (2#32 + side b (i 1).val).toNat]) (e (pf 0)) (e (pf 1))

/-- The output weights' block. -/
theorem out_index (pf : pre0.Contents (Elt F)) (i : grid0.Coords) :
    cc0_transform_3 k0_off1_inb numel1_S1 pf i
      = ![BitVec.toNat ((pf 0 : S74.Idx → Elt F .i32) (cell (i 0))), (side ((pf 1 : S74.Idx → Elt F .i32) (cell (i 0))) (i 1).val).toNat, 0] := by
  have e : ∀ T : S74.Idx → Elt F .i32, T ((Rect.unit (s := S74) (k0_off1 i) S1.size (k0_off1_inb i)).emb (Shape.Idx.first (numel1_S1.symm ▸ Nat.one_pos))) = T (cell (i 0)) := fun T => word_eq i T
  exact congrArg₂ (fun a b : BitVec 32 => ![a.toNat, (side b (i 1).val).toNat, 0]) (e (pf 0)) (e (pf 1))

/-- A gate or up block of one of the eight experts lies in the weights, at whole words. -/
theorem fits_in (e : Fin 8) (j : Fin 4) : ∃ h : (∀ a, (![e.val, 0, j.val] a + 1) * S1x1024x1792.size a ≤ S8x1024x7168.size a),
    EltTy.bits .bf16 = 32 ∨ (Rect.block (s := S8x1024x7168) S1x1024x1792.size ![e.val, 0, j.val] h).WholeWords (EltTy.packing .bf16) :=
  ⟨by revert e j; decide, .inr ((Rect.wholeWords_iff_at _ _).mpr (by revert e j; decide))⟩

/-- So does a block of output weights. -/
theorem fits_out (e : Fin 8) (j : Fin 2) : ∃ h : (∀ a, (![e.val, j.val, 0] a + 1) * S1x1792x1024.size a ≤ S8x3584x1024.size a),
    EltTy.bits .bf16 = 32 ∨ (Rect.block (s := S8x3584x1024) S1x1792x1024.size ![e.val, j.val, 0] h).WholeWords (EltTy.packing .bf16) :=
  ⟨by revert e j; decide, .inr ((Rect.wholeWords_iff_at _ _).mpr (by revert e j; decide))⟩

/-- Tables that name the eight experts are admissible. -/
theorem ok_of (pf : pre0.Contents (Elt F)) (h : ∀ k : Fin 74, BitVec.toNat ((pf 0 : S74.Idx → Elt F .i32) (cell k)) < 8) : ok0 pf := by
  refine ⟨fun i => ?_, fun i => ?_, fun i => ?_⟩
  · rw [gate_index]
    exact fits_in ⟨_, h (i 0)⟩ ⟨_, (side_lt _ (i 1)).trans (by decide)⟩
  · rw [up_index]
    exact fits_in ⟨_, h (i 0)⟩ ⟨_, up_lt _ (side_lt _ (i 1))⟩
  · rw [out_index]
    exact fits_out ⟨_, h (i 0)⟩ ⟨_, side_lt _ (i 1)⟩

variable (m : (ℓ : Loc nD τ sig) → Buf (Elt F) ℓ)

/-- The block a point's rows, or its output, take: its tile's. -/
theorem row_index : ∀ t : Fin grid0.N, cc0_transform_0 (grid0.coords t) 0 = t.val / 2 ∧ cc0_transform_4 (grid0.coords t) 0 = t.val / 2 := by decide +kernel

/-- The rows' block at a point. -/
theorem X0_apply (hO : Ok m) (c : Dev nD) (t : Fin (cfgM m hO).N) (r : Fin 512) (d : Fin 1024) (R : Fin 37888) (hR : R.val = 512 * (t.val / 2) + r.val) :
    iblk m hO c 0 t (ix2 r d) = m ((c : Thread nD τ).loc main_arg2) (ix2 R d) := by
  have ei := (row_index t).1
  unfold iblk
  refine (View.read_apply _ _).trans ?_
  show V m c main_arg2 _ = _
  rw [V_main_arg2]
  congr 1
  funext a
  apply Fin.ext
  match a with
  | ⟨0, _⟩ => show cc0_transform_0 (grid0.coords t) 0 * 512 + 1 * r.val = R.val; rw [ei]; omega
  | ⟨1, _⟩ => show 0 * 1024 + 1 * d.val = d.val; omega

/-- The gate's block at a point of a live tile. -/
theorem X1_apply (hO : Ok m) (c : Dev nD) (t : Fin (cfgM m hO).N) (hl : Live m t) (e : Fin 8)
    (he : BitVec.toNat ((tbl m 0 : S74.Idx → Elt F .i32) (cell (grid0.coords t 0))) = e.val) (d : Fin 1024) (h : Fin 1792) (H : Fin 7168) (hH : H.val = 1792 * (t.val % 2) + h.val) :
    iblk m hO c 1 t (ix3 0 d h) = m ((c : Thread nD τ).loc main_arg3) (ix3 e d H) := by
  have ei := gate_index (tbl m) (grid0.coords t)
  have hs := side_live _ (grid0.coords t 1) ((word_eq _ _).symm.trans hl)
  unfold iblk
  refine (View.read_apply _ _).trans ?_
  show V m c main_arg3 _ = _
  rw [V_main_arg3]
  congr 1
  funext a
  apply Fin.ext
  match a with
  | ⟨0, _⟩ =>
    show cc0_transform_1 k0_off1_inb numel1_S1 (tbl m) (grid0.coords t) 0 * 1 + 1 * 0 = e.val
    rw [ei]
    show BitVec.toNat ((tbl m 0 : S74.Idx → Elt F .i32) (cell (grid0.coords t 0))) * 1 + 1 * 0 = e.val
    rw [he]; omega
  | ⟨1, _⟩ =>
    show cc0_transform_1 k0_off1_inb numel1_S1 (tbl m) (grid0.coords t) 1 * 1024 + 1 * d.val = d.val
    rw [ei]
    show 0 * 1024 + 1 * d.val = d.val
    omega
  | ⟨2, _⟩ =>
    show cc0_transform_1 k0_off1_inb numel1_S1 (tbl m) (grid0.coords t) 2 * 1792 + 1 * h.val = H.val
    rw [ei]
    show (side ((tbl m 1 : S74.Idx → Elt F .i32) (cell (grid0.coords t 0))) (grid0.coords t 1).val).toNat * 1792 + 1 * h.val = H.val
    rw [hs, coord_half t]; omega

/-- The up columns' block at a point of a live tile. -/
theorem X2_apply (hO : Ok m) (c : Dev nD) (t : Fin (cfgM m hO).N) (hl : Live m t) (e : Fin 8)
    (he : BitVec.toNat ((tbl m 0 : S74.Idx → Elt F .i32) (cell (grid0.coords t 0))) = e.val) (d : Fin 1024) (h : Fin 1792) (H : Fin 7168) (hH : H.val = 3584 + 1792 * (t.val % 2) + h.val) :
    iblk m hO c 2 t (ix3 0 d h) = m ((c : Thread nD τ).loc main_arg4) (ix3 e d H) := by
  have ei := up_index (tbl m) (grid0.coords t)
  have hs := side_live _ (grid0.coords t 1) ((word_eq _ _).symm.trans hl)
  unfold iblk
  refine (View.read_apply _ _).trans ?_
  show V m c main_arg4 _ = _
  rw [V_main_arg4]
  congr 1
  funext a
  apply Fin.ext
  match a with
  | ⟨0, _⟩ =>
    show cc0_transform_2 k0_off1_inb numel1_S1 (tbl m) (grid0.coords t) 0 * 1 + 1 * 0 = e.val
    rw [ei]
    show BitVec.toNat ((tbl m 0 : S74.Idx → Elt F .i32) (cell (grid0.coords t 0))) * 1 + 1 * 0 = e.val
    rw [he]; omega
  | ⟨1, _⟩ =>
    show cc0_transform_2 k0_off1_inb numel1_S1 (tbl m) (grid0.coords t) 1 * 1024 + 1 * d.val = d.val
    rw [ei]
    show 0 * 1024 + 1 * d.val = d.val
    omega
  | ⟨2, _⟩ =>
    show cc0_transform_2 k0_off1_inb numel1_S1 (tbl m) (grid0.coords t) 2 * 1792 + 1 * h.val = H.val
    rw [ei]
    show (2#32 + (side ((tbl m 1 : S74.Idx → Elt F .i32) (cell (grid0.coords t 0))) (grid0.coords t 1).val)).toNat * 1792 + 1 * h.val = H.val
    have eu := up_toNat _ (side_lt (tbl m 1 (cell (grid0.coords t 0))) (grid0.coords t 1))
    have ec := coord_half t
    generalize side (tbl m 1 (cell (grid0.coords t 0))) (grid0.coords t 1).val = w at eu hs ⊢
    omega

/-- The output weights' block at a point of a live tile. -/
theorem X3_apply (hO : Ok m) (c : Dev nD) (t : Fin (cfgM m hO).N) (hl : Live m t) (e : Fin 8)
    (he : BitVec.toNat ((tbl m 0 : S74.Idx → Elt F .i32) (cell (grid0.coords t 0))) = e.val) (h : Fin 1792) (k : Fin 1024) (H : Fin 3584) (hH : H.val = 1792 * (t.val % 2) + h.val) :
    iblk m hO c 3 t (ix3 0 h k) = m ((c : Thread nD τ).loc main_arg5) (ix3 e H k) := by
  have ei := out_index (tbl m) (grid0.coords t)
  have hs := side_live _ (grid0.coords t 1) ((word_eq _ _).symm.trans hl)
  unfold iblk
  refine (View.read_apply _ _).trans ?_
  show V m c main_arg5 _ = _
  rw [V_main_arg5]
  congr 1
  funext a
  apply Fin.ext
  match a with
  | ⟨0, _⟩ =>
    show cc0_transform_3 k0_off1_inb numel1_S1 (tbl m) (grid0.coords t) 0 * 1 + 1 * 0 = e.val
    rw [ei]
    show BitVec.toNat ((tbl m 0 : S74.Idx → Elt F .i32) (cell (grid0.coords t 0))) * 1 + 1 * 0 = e.val
    rw [he]; omega
  | ⟨1, _⟩ =>
    show cc0_transform_3 k0_off1_inb numel1_S1 (tbl m) (grid0.coords t) 1 * 1792 + 1 * h.val = H.val
    rw [ei]
    show (side ((tbl m 1 : S74.Idx → Elt F .i32) (cell (grid0.coords t 0))) (grid0.coords t 1).val).toNat * 1792 + 1 * h.val = H.val
    rw [hs, coord_half t]; omega
  | ⟨2, _⟩ =>
    show cc0_transform_3 k0_off1_inb numel1_S1 (tbl m) (grid0.coords t) 2 * 1024 + 1 * k.val = k.val
    rw [ei]
    show 0 * 1024 + 1 * k.val = k.val
    omega

/-- What a point writes back to the output. -/
theorem flushed4 (hO : Ok m) (c : Dev nD) (t : Fin (cfgM m hO).N) :
    (dats m hO 0 c).flushed 4 t = ((cfgM m hO).win 4).cut (grid0.coords t) (outAt m hO c t) := by
  show ((cfgM m hO).win 4).cut (grid0.coords t) ((dats m hO 0 c).after 4 t) = _
  rw [after0_4]

/-- Two points that write back write different blocks: only second points do, and their tiles differ. -/
theorem disjoint4 (hO : Ok m) : ∀ t t' : Fin (cfgM m hO).N, ((cfgM m hO).win 4).flush t = true → ((cfgM m hO).win 4).flush t' = true → t ≠ t' →
    Disjoint (((cfgM m hO).win 4).blk t).view.set (((cfgM m hO).win 4).blk t').view.set :=
  fun t t' h h' hne => ((cfgM m hO).win 4).disjoint_blk fun hi => hne (by
    have e : cc0_transform_4 (grid0.coords t) 0 = cc0_transform_4 (grid0.coords t') 0 := congrFun (show cc0_transform_4 (grid0.coords t) = cc0_transform_4 (grid0.coords t') from hi) 0
    have h1 := (flush0_4 (adm m hO) t).1 h
    have h2 := (flush0_4 (adm m hO) t').1 h'
    rw [(row_index t).2, (row_index t').2] at e
    exact Fin.ext (by omega))

/-- A second point's block of the final output is what the point wrote. -/
theorem blocks4 (hO : Ok m) (c : Dev nD) (t : Fin (cfgM m hO).N) (hf : ((cfgM m hO).win 4).flush t = true) :
    (((cfgM m hO).win 4).blk t).view.read (Elt F) ((dats m hO 0 c).arrAt 4 (cfgM m hO).N) = (dats m hO 0 c).flushed 4 t :=
  (dats m hO 0 c).read_blk_arrAt_eq_flushed 4 (disjoint4 m hO) (cfgM m hO).N t t.isLt hf

/-- The output at a row of the tile of `t`, the tile's second point. -/
theorem arr4_apply (hO : Ok m) (c : Dev nD) (t : Fin (cfgM m hO).N) (ht : t.val % 2 = 1) (r : Fin 512) (k : Fin 1024) (R : Fin 37888) (hR : R.val = 512 * (t.val / 2) + r.val) :
    (dats m hO 0 c).arrAt 4 (cfgM m hO).N (ix2 R k) = outAt m hO c t (ix2 r k) := by
  have e := (row_index t).2
  have hb := congrFun (blocks4 m hO c t ((flush0_4 (adm m hO) t).2 ht)) (ix2 r k)
  refine Eq.trans ?_ ((View.read_apply _ _).symm.trans (hb.trans ((congrFun (flushed4 m hO c t) (ix2 r k)).trans ?_)))
  · congr 1
    funext a
    apply Fin.ext
    match a with
    | ⟨0, _⟩ => show R.val = cc0_transform_4 (grid0.coords t) 0 * 512 + 1 * r.val; rw [e]; omega
    | ⟨1, _⟩ => show k.val = 0 * 1024 + 1 * k.val; omega
  · rfl

/-- The run: the output array is the pipeline's last, the arguments are unchanged. -/
theorem run_out (ρ : Dev nD → PrngReg) (hO : Ok m) : θ_run defs (onTc (τ := τ) (main (F := F))) ⟨m, fun _ => 0, ρ⟩ fun r => ∀ c : Dev nD,
      r.2.mem ((c.tc : Thread nD τ).loc main_v0) = (dats m hO 0 c).arrAt 4 (cfgM m hO).N :=
  (θ_run defs _ _).mono (fun _ h c => (h c).1 4) (run_main m ρ hO)

end Cert.ExpertsIdeal.Tile

end
-- ==== Proof.Experts.Sum.lean ====
/-
  A tile's output read at an index: the sum over an expert's hidden columns, taken a half at a time and 256 columns at a
  time, is the sum over all of them.
-/
module

public import proofs.«01_k».proof.Proof.Experts.Half
public import Idealize.ShloMosaic.Lib.ValueIdx
public import Idealize.ShloMosaic.Lib.Pointwise
public import Idealize.ShloMosaic.Lib.Tactic

@[expose] public section

set_option maxRecDepth 16384

noncomputable section

namespace Cert.ExpertsIdeal.Tile

open Cert.ExpertsIdeal Cert.ExpertsIdeal.Gen Idealize.ShloMosaic Idealize.ShloMosaic.TcCoe Idealize.SL.Sem

/-- A hidden entry: the gate product times its logistic function, times the up product. -/
def act (g u : EReal) : EReal :=
  g * Ideal.div 1 (1 + Ideal.exp (-g)) * u

/-- A sum over `a * b` entries, `b` at a time. -/
theorem sum_blocks (a b n : ℕ) (h : n = a * b) (f : Fin n → EReal) :
    ∑ x, f x = ∑ i : Fin a, ∑ j : Fin b, f ⟨b * i.val + j.val, by
      subst h; have := (finProdFinEquiv (i, j)).isLt; simp only [finProdFinEquiv_apply_val] at this; omega⟩ := by
  subst h
  rw [← finProdFinEquiv.sum_comp, Fintype.sum_prod_type]
  refine Finset.sum_congr rfl fun i _ => Finset.sum_congr rfl fun j _ => congrArg f (Fin.ext ?_)
  simp only [finProdFinEquiv_apply_val]
  omega

/-- A chunk of a gate or up block, at an index. -/
theorem cols_apply (x : Vec Ideal S1x1024x1792 .bf16) (n : Fin 7) (d : Fin 1024) (j : Fin 256) :
    cols x n (ix3 0 d j) = x (ix3 0 d ⟨256 * n.val + j.val, by omega⟩) := by
  unfold cols View.ld
  congr 1
  funext a
  apply Fin.ext
  match a with
  | ⟨0, _⟩ => rfl
  | ⟨1, _⟩ => show 0 + 1 * d.val = d.val; omega
  | ⟨2, _⟩ => show 256 * n.val + 1 * j.val = 256 * n.val + j.val; omega

/-- A chunk of an output block, at an index. -/
theorem outRows_apply (x : Vec Ideal S1x1792x1024 .bf16) (n : Fin 7) (j : Fin 256) (k : Fin 1024) :
    outRows x n (ix3 0 j k) = x (ix3 0 ⟨256 * n.val + j.val, by omega⟩ k) := by
  unfold outRows View.ld
  congr 1
  funext a
  apply Fin.ext
  match a with
  | ⟨0, _⟩ => rfl
  | ⟨1, _⟩ => show 256 * n.val + 1 * j.val = 256 * n.val + j.val; omega
  | ⟨2, _⟩ => show 0 + 1 * k.val = k.val; omega

/-- A product of the rows with a chunk of 256 columns. -/
theorem prod_apply (xb : FVec Ideal S512x1024 .bf16) (g : FVec Ideal S1x1024x256 .bf16) (r : Fin 512) (j : Fin 256) :
    matmul (F := Ideal) dot_S512x1024_S1024x256_S512x256_1_0_0_1_n_n none xb (shapeCast S1024x256 g shapeCasts_S1x1024x256_S1024x256) (constant S512x256 .f32 0x00000000#32) (ix2 r j)
      = ∑ d : Fin 1024, xb (ix2 r d) * g (ix3 0 d j) := by
  pointwise

/-- What 256 hidden columns add to a row's output. -/
theorem add_apply (xb : Vec Ideal S512x1024 .bf16) (g u : Vec Ideal S1x1024x256 .bf16) (o : Vec Ideal S1x256x1024 .bf16) (r : Fin 512) (k : Fin 1024) :
    k0_pay11 (F := Ideal) xb g u o (ix2 r k)
      = ∑ j : Fin 256, act (∑ d : Fin 1024, xb (ix2 r d) * g (ix3 0 d j)) (∑ d : Fin 1024, xb (ix2 r d) * u (ix3 0 d j)) * o (ix3 0 j k) := by
  have hg := prod_apply xb g r
  have hu := prod_apply xb u r
  unfold k0_pay11
  generalize matmul (F := Ideal) dot_S512x1024_S1024x256_S512x256_1_0_0_1_n_n none xb (shapeCast S1024x256 g shapeCasts_S1x1024x256_S1024x256) (constant S512x256 .f32 0x00000000#32) = G at hg ⊢
  generalize matmul (F := Ideal) dot_S512x1024_S1024x256_S512x256_1_0_0_1_n_n none xb (shapeCast S1024x256 u shapeCasts_S1x1024x256_S1024x256) (constant S512x256 .f32 0x00000000#32) = U at hu ⊢
  simp only [← hg, ← hu, act]
  pointwise
  exact Finset.sum_congr rfl fun j _ => by rw [sub_eq_add_neg, zero_add]

/-- What chunk `n` of a point's blocks adds to a row's output. -/
theorem chunk_apply (xb : Vec Ideal S512x1024 .bf16) (g u : Vec Ideal S1x1024x1792 .bf16) (o : Vec Ideal S1x1792x1024 .bf16) (n : Fin 7) (r : Fin 512) (k : Fin 1024) :
    chunk xb g u o n (ix2 r k)
      = ∑ j : Fin 256, act (∑ d : Fin 1024, xb (ix2 r d) * g (ix3 0 d ⟨256 * n.val + j.val, by omega⟩)) (∑ d : Fin 1024, xb (ix2 r d) * u (ix3 0 d ⟨256 * n.val + j.val, by omega⟩))
          * o (ix3 0 ⟨256 * n.val + j.val, by omega⟩ k) := by
  refine (add_apply xb (cols g n) (cols u n) (outRows o n) r k).trans ?_
  simp only [cols_apply, outRows_apply]

/-- A point's sum, at an index: what was there and the 1792 hidden columns of the point's half. -/
theorem half_apply (xb : Vec Ideal S512x1024 .bf16) (acc : Vec Ideal S512x1024 .f32) (g u : Vec Ideal S1x1024x1792 .bf16) (o : Vec Ideal S1x1792x1024 .bf16) (r : Fin 512) (k : Fin 1024) :
    half xb acc g u o (ix2 r k)
      = acc (ix2 r k) + ∑ h : Fin 1792, act (∑ d : Fin 1024, xb (ix2 r d) * g (ix3 0 d h)) (∑ d : Fin 1024, xb (ix2 r d) * u (ix3 0 d h)) * o (ix3 0 h k) := by
  rw [sum_blocks 7 256 1792 rfl, Finset.sum_congr rfl fun n _ => (chunk_apply xb g u o n r k).symm]
  unfold half
  generalize chunk xb g u o = C
  simp only [Fin.sum_univ_castSucc, Finset.univ_eq_empty, Finset.sum_empty, zero_add, ← add_assoc]
  rfl

/-- A row through one expert, given the expert's columns. -/
def mlp (x : Fin 1024 → EReal) (g u : Fin 1024 → Fin 3584 → EReal) (o : Fin 3584 → EReal) : EReal :=
  ∑ h : Fin 3584, act (∑ d : Fin 1024, x d * g d h) (∑ d : Fin 1024, x d * u d h) * o h

/-- Rounding the rows changes no value. -/
theorem pay1_apply (x : Vec Ideal S512x1024 .f32) (i : S512x1024.Idx) : k0_pay1 (F := Ideal) x i = x i := by
  unfold k0_pay1
  pointwise

/-- The sum's start. -/
theorem pay2_apply (i : S512x1024.Idx) : k0_pay2 (F := Ideal) i = (0 : EReal) := by
  unfold k0_pay2
  pointwise

/-- The output of a tile that is not live. -/
theorem pay4_apply (i : S512x1024.Idx) : k0_pay4 (F := Ideal) i = (0 : EReal) := by
  unfold k0_pay4
  pointwise

/-- A live tile's output: its two points' halves of the hidden columns make the whole sum. -/
theorem tile_apply (x0 : Vec Ideal S512x1024 .f32) (x1 x2 y1 y2 : Vec Ideal S1x1024x1792 .bf16) (x3 y3 : Vec Ideal S1x1792x1024 .bf16)
    (g u : Fin 1024 → Fin 3584 → EReal) (o : Fin 3584 → EReal) (r : Fin 512) (k : Fin 1024)
    (hx1 : ∀ (d : Fin 1024) (h : Fin 1792), x1 (ix3 0 d h) = g d ⟨1792 * 0 + h.val, by omega⟩)
    (hx2 : ∀ (d : Fin 1024) (h : Fin 1792), x2 (ix3 0 d h) = u d ⟨1792 * 0 + h.val, by omega⟩)
    (hx3 : ∀ h : Fin 1792, x3 (ix3 0 h k) = o ⟨1792 * 0 + h.val, by omega⟩)
    (hy1 : ∀ (d : Fin 1024) (h : Fin 1792), y1 (ix3 0 d h) = g d ⟨1792 * 1 + h.val, by omega⟩)
    (hy2 : ∀ (d : Fin 1024) (h : Fin 1792), y2 (ix3 0 d h) = u d ⟨1792 * 1 + h.val, by omega⟩)
    (hy3 : ∀ h : Fin 1792, y3 (ix3 0 h k) = o ⟨1792 * 1 + h.val, by omega⟩) :
    half (k0_pay1 x0) (half (k0_pay1 x0) (k0_pay2 (F := Ideal)) x1 x2 x3) y1 y2 y3 (ix2 r k) = mlp (fun d => x0 (ix2 r d)) g u o := by
  rw [half_apply, half_apply, mlp, sum_blocks 2 1792 3584 rfl]
  simp only [pay1_apply, pay2_apply, hx1, hx2, hx3, hy1, hy2, hy3, zero_add, Fin.sum_univ_two]
  rfl

end Cert.ExpertsIdeal.Tile

end
-- ==== Proof.Experts.Ref.lean ====
/-
  The reference's experts, read at an index.
-/
module

public import proofs.«01_k».proof.Proof.Experts.Sum
public import proofs.«01_k».proof.Proof.Gen.ExpertsRefIdeal
public import proofs.«01_k».proof.Proof.Gen.ExpertsRefIdeal.Run

@[expose] public section

set_option maxRecDepth 16384

noncomputable section

namespace Cert.ExpertsRefIdeal.Value

open Cert.ExpertsRefIdeal Cert.ExpertsRefIdeal.Gen Idealize.ShloMosaic Idealize.ShloMosaic.TcCoe Idealize.SL.Sem Idealize.ShloMosaic.StableHlo
open Cert.ExpertsIdeal.Tile (act mlp)

/-- All rows times the 3584 columns from `off` on. -/
def refIn (x : FVec Ideal S37888x1024 .f32) (w : Vec Ideal S8x1024x7168 .bf16) (off : Fin 3 → ℕ) (hs : S8x1024x7168.Slices off S1x1024x3584) : FVec Ideal S37888x3584 .f32 :=
  Host.dotGeneral dot_S37888x1024_S1024x3584_S37888x3584_1_0_0_1_n_n none x
    (extf .f32 (shapeCast S1024x3584 (extractStridedSlice S1x1024x3584 off w hs) shapeCasts_S1x1024x3584_S1024x3584) bitsLt_bf16_f32)

/-- The hidden entries, rounded. -/
def refAct (g u : FVec Ideal S37888x3584 .f32) : FVec Ideal S37888x3584 .bf16 :=
  truncf .bf16 (mulf (mulf g (Host.divf (broadcastInDim S37888x3584 ![] bcast_S_S37888x3584 (constant S_ .f32 0x3F800000#32))
    (addf (broadcastInDim S37888x3584 ![] bcast_S_S37888x3584 (constant S_ .f32 0x3F800000#32)) (Host.exp (Host.negf g))))) u) bitsLt_bf16_f32

/-- The hidden entries times the rows of an expert's output weights. -/
def refOut (a : FVec Ideal S37888x3584 .bf16) (w : Vec Ideal S8x3584x1024 .bf16) (off : Fin 3 → ℕ) (hs : S8x3584x1024.Slices off S1x3584x1024) : FVec Ideal S37888x1024 .f32 :=
  Host.dotGeneral dot_S37888x3584_S3584x1024_S37888x1024_1_0_0_1_n_n none (extf .f32 a bitsLt_bf16_f32)
    (extf .f32 (shapeCast S3584x1024 (extractStridedSlice S1x3584x1024 off w hs) shapeCasts_S1x3584x1024_S3584x1024) bitsLt_bf16_f32)

/-- All rows through one expert where the row names it, what was there elsewhere. -/
def refSel (name : IVec S37888 32) (on : IVec S37888 1) (e : BitVec 32) (y prev : FVec Ideal S37888x1024 .f32) : FVec Ideal S37888x1024 .f32 :=
  select (broadcastInDim S37888x1024 ![0, 1] bcast_S37888x1_S37888x1024_0_1 (broadcastInDim S37888x1 ![0] bcast_S37888_S37888x1_0
    (andi on (cmpi .eq name (broadcastInDim S37888 ![] bcast_S_S37888 (constantI S_ 32 e)))))) y prev

/-- A product at an index. -/
theorem refIn_apply (x : FVec Ideal S37888x1024 .f32) (w : Vec Ideal S8x1024x7168 .bf16) (e : Fin 8) (o : ℕ) (ho : o + 3584 ≤ 7168)
    (hs : S8x1024x7168.Slices ![e.val, 0, o] S1x1024x3584) (R : Fin 37888) (h : Fin 3584) :
    refIn x w ![e.val, 0, o] hs (ix2 R h) = ∑ d : Fin 1024, x (ix2 R d) * w (ix3 e d ⟨o + h.val, by omega⟩) := by
  unfold refIn
  pointwise

/-- A hidden entry. -/
theorem refAct_apply (g u : FVec Ideal S37888x3584 .f32) (i : S37888x3584.Idx) : refAct g u i = act (g i) (u i) := by
  unfold refAct act
  pointwise

/-- A product with output weights at an index. -/
theorem refOut_apply (a : FVec Ideal S37888x3584 .bf16) (w : Vec Ideal S8x3584x1024 .bf16) (e : Fin 8)
    (hs : S8x3584x1024.Slices ![e.val, 0, 0] S1x3584x1024) (R : Fin 37888) (k : Fin 1024) :
    refOut a w ![e.val, 0, 0] hs (ix2 R k) = ∑ h : Fin 3584, a (ix2 R h) * w (ix3 e h k) := by
  unfold refOut
  pointwise

/-- The choice at an index. -/
theorem refSel_apply (name : IVec S37888 32) (on : IVec S37888 1) (e : BitVec 32) (y prev : FVec Ideal S37888x1024 .f32) (R : Fin 37888) (k : Fin 1024) :
    refSel name on e y prev (ix2 R k) = if on (ix1 R) = 1#1 ∧ name (ix1 R) = e then y (ix2 R k) else prev (ix2 R k) := by
  unfold refSel
  pointwise
  have hb : ∀ b : BitVec 1, b = 0#1 ∨ b = 1#1 := by decide
  by_cases hn : name (ix1 R) = e
  · rcases hb (on (ix1 R)) with h | h <;> simp [Scalar.select, IntOp.andi, IntOp.cmpi, hn, h]
  · rcases hb (on (ix1 R)) with h | h <;> simp [Scalar.select, IntOp.andi, IntOp.cmpi, beq_eq_false_iff_ne.2 hn, hn, h]

/-- An expert's gate or up columns lie in the weights. -/
theorem slices_in (e : Fin 8) (j : Fin 2) : S8x1024x7168.Slices ![e.val, 0, 3584 * j.val] S1x1024x3584 := by
  revert e j; decide

/-- An expert's output rows lie in the weights. -/
theorem slices_out (e : Fin 8) : S8x3584x1024.Slices ![e.val, 0, 0] S1x3584x1024 := by
  revert e; decide

/-- All rows through one expert. -/
def refExpert (x : FVec Ideal S37888x1024 .f32) (wg wu : Vec Ideal S8x1024x7168 .bf16) (wo : Vec Ideal S8x3584x1024 .bf16) (e : Fin 8) : FVec Ideal S37888x1024 .f32 :=
  refOut (refAct (refIn x wg ![e.val, 0, 3584 * (0 : Fin 2).val] (slices_in e 0)) (refIn x wu ![e.val, 0, 3584 * (1 : Fin 2).val] (slices_in e 1))) wo ![e.val, 0, 0] (slices_out e)

/-- A row through one expert. -/
theorem refExpert_apply (x : FVec Ideal S37888x1024 .f32) (wg wu : Vec Ideal S8x1024x7168 .bf16) (wo : Vec Ideal S8x3584x1024 .bf16) (e : Fin 8) (R : Fin 37888) (k : Fin 1024) :
    refExpert x wg wu wo e (ix2 R k)
      = mlp (fun d => x (ix2 R d)) (fun d h => wg (ix3 e d ⟨0 + h.val, by omega⟩)) (fun d h => wu (ix3 e d ⟨3584 + h.val, by omega⟩)) (fun h => wo (ix3 e h k)) := by
  unfold refExpert mlp
  rw [refOut_apply]
  refine Finset.sum_congr rfl fun h _ => congrArg (· * _) ?_
  rw [refAct_apply, refIn_apply x wg e (3584 * (0 : Fin 2).val) (by decide), refIn_apply x wu e (3584 * (1 : Fin 2).val) (by decide)]
  rfl

/-- The first `n` experts' choices, one over the other. -/
def refUpTo (name : IVec S37888 32) (on : IVec S37888 1) (x : FVec Ideal S37888x1024 .f32) (wg wu : Vec Ideal S8x1024x7168 .bf16) (wo : Vec Ideal S8x3584x1024 .bf16) :
    (n : ℕ) → n ≤ 8 → FVec Ideal S37888x1024 .f32
  | 0, _ => broadcastInDim S37888x1024 ![] bcast_S_S37888x1024 (constant S_ .f32 0x00000000#32)
  | n + 1, h => refSel name on (BitVec.ofNat 32 n) (refExpert x wg wu wo ⟨n, h⟩) (refUpTo name on x wg wu wo n (Nat.le_of_succ_le h))

/-- A row that is on and names one of the first `n` experts goes through that one; the others are zero. -/
theorem refUpTo_apply (name : IVec S37888 32) (on : IVec S37888 1) (x : FVec Ideal S37888x1024 .f32) (wg wu : Vec Ideal S8x1024x7168 .bf16) (wo : Vec Ideal S8x3584x1024 .bf16)
    (R : Fin 37888) (k : Fin 1024) : (n : ℕ) → (h : n ≤ 8) →
    refUpTo name on x wg wu wo n h (ix2 R k)
      = if h' : on (ix1 R) = 1#1 ∧ (name (ix1 R)).toNat < n then refExpert x wg wu wo ⟨(name (ix1 R)).toNat, by omega⟩ (ix2 R k) else (0 : EReal)
  | 0, h => by
    rw [dif_neg (by omega)]
    unfold refUpTo
    pointwise
  | n + 1, h => by
    rw [refUpTo, refSel_apply, refUpTo_apply name on x wg wu wo R k n]
    by_cases ho : on (ix1 R) = 1#1
    · by_cases hn : name (ix1 R) = BitVec.ofNat 32 n
      · have ht : (name (ix1 R)).toNat = n := by rw [hn, BitVec.toNat_ofNat]; omega
        rw [if_pos ⟨ho, hn⟩, dif_pos ⟨ho, by omega⟩]
        exact congrArg (fun e => refExpert x wg wu wo e (ix2 R k)) (Fin.ext ht.symm)
      · have ht : (name (ix1 R)).toNat ≠ n := fun h' => hn (by apply BitVec.eq_of_toNat_eq; rw [h', BitVec.toNat_ofNat]; omega)
        rw [if_neg (fun h' => hn h'.2)]
        by_cases hl : (name (ix1 R)).toNat < n
        · rw [dif_pos ⟨ho, hl⟩, dif_pos ⟨ho, by omega⟩]
        · rw [dif_neg (fun h' => hl h'.2), dif_neg (fun h' => by omega)]
    · rw [if_neg (fun h' => ho h'.1), dif_neg (fun h' => ho h'.1), dif_neg (fun h' => ho h'.1)]

/-- A tile's word, repeated for the tile's rows. -/
def refRows (t : IVec S74 32) : IVec S37888 32 :=
  shapeCast S37888 (broadcastInDim S74x512 ![0] bcast_S74_S74x512_0 t) shapeCasts_S74x512_S37888

/-- The rows' word is their tile's. -/
theorem refRows_apply (t : IVec S74 32) (R : Fin 37888) : refRows t (ix1 R) = t (ix1 ⟨R.val / 512, by omega⟩) := by
  unfold refRows
  pointwise

/-- The word of the rows whose tile is live. -/
def refOn (t : IVec S74 32) : IVec S37888 1 := cmpi .eq (refRows t) (broadcastInDim S37888 ![] bcast_S_S37888 (constantI S_ 32 1#32))

/-- It is 1 where the tile's word is. -/
theorem refOn_apply (t : IVec S74 32) (R : Fin 37888) : refOn t (ix1 R) = 1#1 ↔ t (ix1 ⟨R.val / 512, by omega⟩) = 1#32 := by
  rw [← refRows_apply t R]
  unfold refOn
  generalize refRows t = T
  pointwise
  by_cases h : T (ix1 R) = 1#32
  · simp [IntOp.cmpi, h]
  · simp [IntOp.cmpi, beq_eq_false_iff_ne.2 h, h]

/-- The reference's result. -/
def refMoe (te ta : IVec S74 32) (x : Vec Ideal S37888x1024 .f32) (wg wu : Vec Ideal S8x1024x7168 .bf16) (wo : Vec Ideal S8x3584x1024 .bf16) : FVec Ideal S37888x1024 .f32 :=
  refUpTo (refRows te) (refOn ta) (extf .f32 (truncf .bf16 x bitsLt_bf16_f32) bitsLt_bf16_f32) wg wu wo 8 le_rfl

set_option maxHeartbeats 2000000 in
/-- The reference's run leaves it. -/
theorem res_eq (V0 : Valuation τ sig (Elt Ideal)) :
    res_main_v176 V0 = refMoe (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) := by
  unfold res_main_v176 res_main_v92 refMoe
  rfl

/-- A row of a live tile goes through the tile's expert, a row of another is zero. -/
theorem refMoe_apply (te ta : IVec S74 32) (x : Vec Ideal S37888x1024 .f32) (wg wu : Vec Ideal S8x1024x7168 .bf16) (wo : Vec Ideal S8x3584x1024 .bf16) (R : Fin 37888) (k : Fin 1024)
    (e : Fin 8) (he : (te (ix1 ⟨R.val / 512, by omega⟩)).toNat = e.val) :
    refMoe te ta x wg wu wo (ix2 R k)
      = if ta (ix1 ⟨R.val / 512, by omega⟩) = 1#32 then
          mlp (fun d => x (ix2 R d)) (fun d h => wg (ix3 e d ⟨0 + h.val, by omega⟩)) (fun d h => wu (ix3 e d ⟨3584 + h.val, by omega⟩)) (fun h => wo (ix3 e h k))
        else (0 : EReal) := by
  unfold refMoe
  rw [refUpTo_apply]
  have hn : (refRows te (ix1 R)).toNat = e.val := by rw [refRows_apply]; exact he
  by_cases ho : ta (ix1 ⟨R.val / 512, by omega⟩) = 1#32
  · rw [if_pos ho, dif_pos ⟨(refOn_apply ta R).2 ho, by omega⟩, refExpert_apply]
    simp only [hn]
    rfl
  · rw [if_neg ho, dif_neg fun h' => ho ((refOn_apply ta R).1 h'.1)]

/-- The reference's result of equal arrays. -/
theorem moe_congr {te ta te' ta' : IVec S74 32} {x x' : Vec Ideal S37888x1024 .f32} {wg wu wg' wu' : Vec Ideal S8x1024x7168 .bf16} {wo wo' : Vec Ideal S8x3584x1024 .bf16}
    (h0 : te' = te) (h1 : ta' = ta) (h2 : x' = x) (h3 : wg' = wg) (h4 : wu' = wu) (h5 : wo' = wo) : refMoe te' ta' x' wg' wu' wo' = refMoe te ta x wg wu wo := by
  rw [h0, h1, h2, h3, h4, h5]

end Cert.ExpertsRefIdeal.Value

end
-- ==== Proof.Experts.Equal.lean ====
/-
  The array the experts' kernel leaves is the reference's result, and the precondition makes its launch well-defined.
-/
module

public import proofs.«01_k».proof.Defs
public import proofs.«01_k».proof.Proof.Experts.Table
public import proofs.«01_k».proof.Proof.Experts.Ref
public import proofs.«01_k».proof.Proof.Gen.Pre_experts_named
public import Idealize.ShloMosaic.Lib.ReduceAll

@[expose] public section

set_option maxRecDepth 16384

noncomputable section

namespace Cert.ExpertsIdeal.Tile

open Cert.ExpertsIdeal Cert.ExpertsIdeal.Gen Idealize.ShloMosaic Idealize.ShloMosaic.TcCoe Idealize.SL.Sem
open Cert.ExpertsRefIdeal.Value (refMoe refMoe_apply)

/-- Both words of a conjunction that is 1 are 1. -/
theorem both_one : ∀ a b : BitVec 1, IntOp.andi a b = 1#1 → a = 1#1 ∧ b = 1#1 := by decide

/-- A word that is at least 0 and below 8 as a signed number names one of eight. -/
theorem word_lt (w : BitVec 32) (h0 : IntOp.cmpi .sge w 0#32 = 1#1) (h8 : IntOp.cmpi .slt w 8#32 = 1#1) : w.toNat < 8 := by
  have a : 0 ≤ w.toInt := IntOp.cmpi_sge.1 h0
  have b : w.toInt < 8 := IntOp.cmpi_slt.1 h8
  have hw := w.isLt
  rw [BitVec.toInt_eq_toNat_cond] at a b
  split at a <;> rename_i hs
  · rw [if_pos hs] at b; omega
  · omega

/-- What the precondition says: every tile names one of the eight experts. -/
theorem pre_named {F : FTy → Type} [FloatOps F] (te ta : IVec S74 32) (x : FVec F S37888x1024 .f32) (wg wu : FVec F S8x1024x7168 .bf16) (wo : FVec F S8x3584x1024 .bf16)
    (h : @Cert.Pre_experts_named.fn Cert.Pre_experts_named.Gen.facts F _ te ta x wg wu wo = fun _ => 1#1) (i : S74.Idx) : (te i).toNat < 8 := by
  have h0 := congrFun h Idealize.ShloMosaic.ix0
  dsimp only [Cert.Pre_experts_named.fn] at h0
  obtain ⟨e1, e2⟩ := both_one _ _ (Host.reduce_andi_all _ _ _ _ Idealize.ShloMosaic.ix0 h0 i)
  exact word_lt _ e1 e2

section
variable {F : FTy → Type} [FloatOps F] (m : (ℓ : Loc nD τ sig) → Buf (Elt F) ℓ)

/-- The experts' table is the first argument, -/
theorem tbl_expert (c : Dev nD) (k : Fin 74) : (tbl m 0 : S74.Idx → Elt F .i32) (cell k) = (m ((c : Thread nD τ).loc main_arg0) : S74.Idx → Elt F .i32) (ix1 k) := by
  refine (congrFun ((V_pre m c 0).symm.trans (V_main_arg0 m c)) (cell k)).trans ?_
  refine congrArg (m ((c : Thread nD τ).loc main_arg0)) (funext fun a => ?_)
  match a with
  | ⟨0, _⟩ => rfl

/-- and the table of the live tiles the second. -/
theorem tbl_live (c : Dev nD) (k : Fin 74) : (tbl m 1 : S74.Idx → Elt F .i32) (cell k) = (m ((c : Thread nD τ).loc main_arg1) : S74.Idx → Elt F .i32) (ix1 k) := by
  refine (congrFun ((V_pre m c 1).symm.trans (V_main_arg1 m c)) (cell k)).trans ?_
  refine congrArg (m ((c : Thread nD τ).loc main_arg1)) (funext fun a => ?_)
  match a with
  | ⟨0, _⟩ => rfl

/-- When every tile names one of the eight experts, every block the launch names lies in its array. -/
theorem ok_named (h : ∀ (c : Dev nD) (i : S74.Idx), BitVec.toNat ((m ((c : Thread nD τ).loc main_arg0) : S74.Idx → Elt F .i32) i) < 8) : Ok m :=
  ok_of _ fun k => lt_of_eq_of_lt (congrArg BitVec.toNat (tbl_expert m 0 k)) (h 0 _)

end

variable (m : (ℓ : Loc nD τ sig) → Buf (Elt Ideal) ℓ)

/-- A live tile's output at its second point: its expert's, of the tile's rows. -/
theorem live_apply (hO : Ok m) (c : Dev nD) (t : Fin (cfgM m hO).N) (h : t.val % 2 = 1 ∧ Live m t) (e : Fin 8)
    (he : BitVec.toNat ((tbl m 0 : S74.Idx → Elt Ideal .i32) (cell (grid0.coords t 0))) = e.val) (r : Fin 512) (k : Fin 1024) (R : Fin 37888) (hR : R.val = 512 * (t.val / 2) + r.val) :
    outAt m hO c t (ix2 r k)
      = mlp (fun d => m ((c : Thread nD τ).loc main_arg2) (ix2 R d)) (fun d h => m ((c : Thread nD τ).loc main_arg3) (ix3 e d ⟨0 + h.val, by omega⟩))
          (fun d h => m ((c : Thread nD τ).loc main_arg4) (ix3 e d ⟨3584 + h.val, by omega⟩)) (fun h => m ((c : Thread nD τ).loc main_arg5) (ix3 e h k)) := by
  have hp := prev_ok m hO t h
  have hv : (prev m hO t).val = t.val - 1 := rfl
  have hc : grid0.coords (prev m hO t) 0 = grid0.coords t 0 := Fin.ext (by rw [coord_tile, coord_tile, hv]; omega)
  have he' : BitVec.toNat ((tbl m 0 : S74.Idx → Elt Ideal .i32) (cell (grid0.coords (prev m hO t) 0))) = e.val :=
    (congrArg (fun q => BitVec.toNat ((tbl m 0 : S74.Idx → Elt Ideal .i32) (cell q))) hc).trans he
  refine (congrFun ((outB_eq m hO c t h).trans (congrArg₂ (fun a b => half a b (iblk m hO c 1 t) (iblk m hO c 2 t) (iblk m hO c 3 t)) (rows_eq m hO c _ hp) (part_eq m hO c _ hp))) (ix2 r k)).trans ?_
  refine (tile_apply (iblk m hO c 0 (prev m hO t)) (iblk m hO c 1 (prev m hO t)) (iblk m hO c 2 (prev m hO t)) (iblk m hO c 1 t) (iblk m hO c 2 t) (iblk m hO c 3 (prev m hO t)) (iblk m hO c 3 t)
    (fun d h => m ((c : Thread nD τ).loc main_arg3) (ix3 e d ⟨0 + h.val, by omega⟩))
    (fun d h => m ((c : Thread nD τ).loc main_arg4) (ix3 e d ⟨3584 + h.val, by omega⟩)) (fun h => m ((c : Thread nD τ).loc main_arg5) (ix3 e h k)) r k
    (fun d s => X1_apply m hO c _ hp.2 e he' d s _ ?_) (fun d s => X2_apply m hO c _ hp.2 e he' d s _ ?_) (fun s => X3_apply m hO c _ hp.2 e he' s k _ ?_)
    (fun d s => X1_apply m hO c _ h.2 e he d s _ ?_) (fun d s => X2_apply m hO c _ h.2 e he d s _ ?_) (fun s => X3_apply m hO c _ h.2 e he s k _ ?_)).trans ?_
  · show 0 + (1792 * 0 + s.val) = 1792 * ((prev m hO t).val % 2) + s.val; rw [hp.1]; omega
  · show 3584 + (1792 * 0 + s.val) = 3584 + 1792 * ((prev m hO t).val % 2) + s.val; rw [hp.1]; omega
  · show 1792 * 0 + s.val = 1792 * ((prev m hO t).val % 2) + s.val; rw [hp.1]
  · show 0 + (1792 * 1 + s.val) = 1792 * (t.val % 2) + s.val; rw [h.1]; omega
  · show 3584 + (1792 * 1 + s.val) = 3584 + 1792 * (t.val % 2) + s.val; rw [h.1]; omega
  · show 1792 * 1 + s.val = 1792 * (t.val % 2) + s.val; rw [h.1]
  · exact congrArg (fun x => mlp x _ _ _) (funext fun d => X0_apply m hO c (prev m hO t) r d R (by rw [hv]; have := h.1; omega))

/-- The kernel's output is the reference's. -/
theorem moe_eq (hO : Ok m) (c : Dev nD) (hte : ∀ i : S74.Idx, BitVec.toNat ((m ((c : Thread nD τ).loc main_arg0) : S74.Idx → Elt Ideal .i32) i) < 8) :
    (dats m hO 0 c).arrAt 4 (cfgM m hO).N
      = refMoe (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine funext fun j : S37888x1024.Idx => ?_
  obtain ⟨R, k, rfl⟩ : ∃ (R : Fin 37888) (k : Fin 1024), j = ix2 R k := ⟨j 0, j 1, funext fun a => by
    match a with
    | ⟨0, _⟩ => rfl
    | ⟨1, _⟩ => rfl⟩
  have hN : (cfgM m hO).N = 148 := N_0
  let i : Fin 74 := ⟨R.val / 512, by omega⟩
  let r : Fin 512 := ⟨R.val % 512, by omega⟩
  let t : Fin (cfgM m hO).N := ⟨2 * (R.val / 512) + 1, by omega⟩
  have ht : t.val % 2 = 1 := by show (2 * (R.val / 512) + 1) % 2 = 1; omega
  have hR : R.val = 512 * (t.val / 2) + r.val := by show R.val = 512 * ((2 * (R.val / 512) + 1) / 2) + R.val % 512; omega
  have hi : grid0.coords t 0 = i := Fin.ext ((coord_tile t).trans (by show (2 * (R.val / 512) + 1) / 2 = R.val / 512; omega))
  have he : BitVec.toNat ((tbl m 0 : S74.Idx → Elt Ideal .i32) (cell (grid0.coords t 0))) = (⟨_, hte (ix1 i)⟩ : Fin 8).val :=
    congrArg BitVec.toNat ((congrArg (fun q => (tbl m 0 : S74.Idx → Elt Ideal .i32) (cell q)) hi).trans (tbl_expert m c i))
  have hl : Live m t ↔ (m ((c : Thread nD τ).loc main_arg1) : S74.Idx → Elt Ideal .i32) (ix1 i) = 1#32 :=
    iff_of_eq (congrArg (fun w : BitVec 32 => w = 1#32) ((word_eq _ _).trans ((congrArg (fun q => (tbl m 1 : S74.Idx → Elt Ideal .i32) (cell q)) hi).trans (tbl_live m c i))))
  refine (arr4_apply m hO c t ht r k R hR).trans (Eq.trans ?_ (refMoe_apply _ _ _ _ _ _ R k ⟨_, hte (ix1 i)⟩ rfl).symm)
  by_cases h : Live m t
  · exact (live_apply m hO c t ⟨ht, h⟩ _ he r k R hR).trans (if_pos (hl.1 h)).symm
  · exact ((congrFun (outD_eq m hO c t ⟨ht, h⟩) (ix2 r k)).trans (pay4_apply _)).trans (if_neg fun h' => h (hl.2 h')).symm

end Cert.ExpertsIdeal.Tile

end
-- ==== Proof.Flash.Online.lean ====
/-
  The arithmetic of a running softmax over the extended reals: weights `2^(s - M)` relative to a running reference `M`
  are re-based when `M` changes, and the quotient of the weighted sum by the sum of the weights does not depend on
  `M`, nor on whether the powers are of 2 or of e.
-/
module

public import Idealize.ShloMosaic.PureOps.Ideal
public import Idealize.ShloMosaic.PureOps.Ideal.Laws

@[expose] public section

noncomputable section

namespace Cert.Flash

open Idealize.ShloMosaic

/-- A nonnegative real factor distributes over a sum of extended reals. -/
theorem coe_mul_sum {ι : Type*} (I : Finset ι) (c : ℝ) (hc : 0 ≤ c) (f : ι → EReal) :
    (c : EReal) * ∑ i ∈ I, f i = ∑ i ∈ I, (c : EReal) * f i := by
  classical
  induction I using Finset.induction_on with
  | empty => simp
  | insert a I ha ih =>
    rw [Finset.sum_insert ha, Finset.sum_insert ha, EReal.left_distrib_of_nonneg_of_ne_top (by exact_mod_cast hc) (EReal.coe_ne_top c), ih]

/-- A sum of reals, read in the extended reals. -/
theorem coe_sum {ι : Type*} (I : Finset ι) (f : ι → ℝ) : ((∑ i ∈ I, f i : ℝ) : EReal) = ∑ i ∈ I, (f i : EReal) := by
  classical
  induction I using Finset.induction_on with
  | empty => simp
  | insert a I ha ih => rw [Finset.sum_insert ha, Finset.sum_insert ha, EReal.coe_add, ih]

/-- The weight of a real score `s` relative to a real `M`. -/
theorem exp2_sub (s M : ℝ) : Ideal.exp2 ((s : EReal) - (M : EReal)) = (((2 : ℝ) ^ (s - M) : ℝ) : EReal) := by
  rw [← EReal.coe_sub, Ideal.exp2_coe]; rfl

/-- Re-basing: the factor `2^(M - M')` turns weights relative to `M` into weights relative to `M'`. -/
theorem rebase {ι : Type*} (I : Finset ι) (s : ι → ℝ) (v : ι → EReal) (M M' : ℝ) :
    Ideal.exp2 ((M : EReal) - (M' : EReal)) * ∑ i ∈ I, Ideal.exp2 ((s i : EReal) - (M : EReal)) * v i
      = ∑ i ∈ I, Ideal.exp2 ((s i : EReal) - (M' : EReal)) * v i := by
  simp only [exp2_sub]
  rw [coe_mul_sum I _ (Real.rpow_nonneg (by norm_num) _)]
  refine Finset.sum_congr rfl fun i _ => ?_
  rw [← mul_assoc, ← EReal.coe_mul]
  congr 2
  rw [← Real.rpow_add (by norm_num)]
  congr 1; ring

/-- The same without values. -/
theorem rebase_one {ι : Type*} (I : Finset ι) (s : ι → ℝ) (M M' : ℝ) :
    Ideal.exp2 ((M : EReal) - (M' : EReal)) * ∑ i ∈ I, Ideal.exp2 ((s i : EReal) - (M : EReal))
      = ∑ i ∈ I, Ideal.exp2 ((s i : EReal) - (M' : EReal)) := by
  simpa only [mul_one] using rebase I s (fun _ => 1) M M'

/-- From the empty state (running maximum `-∞`, sum 0) the old sum contributes nothing. -/
theorem start (M : ℝ) (x : EReal) : Ideal.exp2 ((⊥ : EReal) - (M : EReal)) * 0 + x = x := by
  rw [mul_zero, zero_add]

/-- The weighted mean by powers of 2 relative to any `M` is the weighted mean by powers of e of `s * log 2` relative to any `R`. -/
theorem softmax_eq {ι : Type*} [Fintype ι] [Nonempty ι] (s : ι → ℝ) (v : ι → EReal) (M R : ℝ) :
    (∑ i, Ideal.exp2 ((s i : EReal) - (M : EReal)) * v i) * Ideal.div 1 (∑ i, Ideal.exp2 ((s i : EReal) - (M : EReal)))
      = ∑ i, v i * Ideal.div (Ideal.exp (((s i * Real.log 2 : ℝ) : EReal) - (R : EReal)))
          (∑ j, Ideal.exp (((s j * Real.log 2 : ℝ) : EReal) - (R : EReal))) := by
  have h2 : ∀ i, Ideal.exp2 ((s i : EReal) - (M : EReal)) = ((Real.exp (s i * Real.log 2 - R) * Real.exp (R - M * Real.log 2) : ℝ) : EReal) := by
    intro i
    rw [exp2_sub, ← Real.exp_add]
    congr 1
    rw [Real.rpow_def_of_pos (by norm_num)]
    congr 1; ring
  have he : ∀ i, Ideal.exp (((s i * Real.log 2 : ℝ) : EReal) - (R : EReal)) = ((Real.exp (s i * Real.log 2 - R) : ℝ) : EReal) := by
    intro i; rw [← EReal.coe_sub, Ideal.exp_coe]
  simp only [h2, he]
  rw [← coe_sum, ← coe_sum, ← Finset.sum_mul]
  have hE : 0 < ∑ i, Real.exp (s i * Real.log 2 - R) := Finset.sum_pos (fun i _ => Real.exp_pos _) Finset.univ_nonempty
  have hK : 0 < Real.exp (R - M * Real.log 2) := Real.exp_pos _
  generalize (∑ i, Real.exp (s i * Real.log 2 - R)) = E at hE
  generalize Real.exp (R - M * Real.log 2) = K at hK
  rw [Ideal.div_coe (by positivity), one_mul, mul_comm, coe_mul_sum _ _ (by positivity)]
  refine Finset.sum_congr rfl fun i _ => ?_
  rw [Ideal.div_coe hE.ne', ← mul_assoc, ← EReal.coe_mul, ← EReal.coe_mul, mul_comm (v i)]
  congr 2
  field_simp

/-- The maximum of finitely many reals, at least one of them, started at `-∞`, is a real. -/
theorem fold_max_real {n : ℕ} (hn : 0 < n) (f : Fin n → ℝ) :
    ∃ r : ℝ, (Finset.univ.fold max (⊥ : EReal) fun k => (f k : EReal)) = (r : EReal) := by
  have key : ∀ I : Finset (Fin n), I.Nonempty → ∃ r : ℝ, (I.fold max (⊥ : EReal) fun k => (f k : EReal)) = (r : EReal) := by
    intro I
    induction I using Finset.induction_on with
    | empty => intro h; exact absurd h Finset.not_nonempty_empty
    | insert a I ha ih =>
      intro _
      rw [Finset.fold_insert ha]
      rcases I.eq_empty_or_nonempty with rfl | hI
      · exact ⟨f a, by simp⟩
      · obtain ⟨r, hr⟩ := ih hI
        rw [hr]
        exact ⟨max (f a) r, (EReal.coe_strictMono.monotone.map_max).symm⟩
  exact key _ ⟨⟨0, hn⟩, Finset.mem_univ _⟩

/-- Adding all lanes of all groups adds all positions: position `128 u + b` is lane `b` of group `u`. -/
theorem sum_lanes {A : Type*} [AddCommMonoid A] (f : Fin 2816 → A) :
    ∑ b : Fin 128, ∑ u : Fin 22, f ⟨128 * u.val + b.val, by omega⟩ = ∑ k, f k := by
  rw [Finset.sum_comm, ← Finset.sum_product', ← (finProdFinEquiv (m := 22) (n := 128)).sum_comp]
  refine Finset.sum_congr rfl fun x _ => congrArg f (Fin.ext ?_)
  simp [finProdFinEquiv]; omega

/-- Adding all positions of the three key chunks adds all keys. -/
theorem sum_chunks {A : Type*} [AddCommMonoid A] (f : Fin 8448 → A) :
    (∑ k : Fin 2816, f ⟨0 + k.val, by omega⟩) + (∑ k : Fin 2816, f ⟨2816 + k.val, by omega⟩) + ∑ k : Fin 2816, f ⟨5632 + k.val, by omega⟩
      = ∑ t, f t := by
  rw [← (finProdFinEquiv (m := 3) (n := 2816)).sum_comp, Fintype.sum_prod_type, Fin.sum_univ_three]
  refine congrArg₂ _ (congrArg₂ _ ?_ ?_) ?_ <;>
    exact Finset.sum_congr rfl fun k _ => congrArg f (Fin.ext (by simp [finProdFinEquiv]; try omega))

end Cert.Flash

end
-- ==== Proof.Flash.Block.lean ====
/-
  The attention block one grid point writes: three key chunks, each updating the running maximum, the running sum of
  weights and the running weighted sum of values, then the quotient.
-/
module

public import proofs.«01_k».proof.Proof.Gen.KernelIdeal.Value
public import Idealize.ShloMosaic.Lib.Tactic
public import Idealize.ShloMosaic.Lib.Pipeline.ValueKit.Acc

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The zero offsets of rank 2. -/
theorem hz2 : (![0, 0] : Fin 2 → Nat) = fun _ => 0 := funext fun a => by fin_cases a <;> rfl
/-- Each offset of rank 2 is zero. -/
theorem zero2 : ∀ a, (![0, 0] : Fin 2 → Nat) a = 0 := fun a => congrFun hz2 a
/-- The zero offsets of rank 3. -/
theorem hz3 : (![0, 0, 0] : Fin 3 → Nat) = fun _ => 0 := funext fun a => by fin_cases a <;> rfl

/-- The 128 columns from `128 u` on lie inside a chunk's 2816 columns. -/
theorem slices_lane (u : Fin 22) : S1024x2816.Slices ![0, 128 * u.val] S1024x128 := by
  revert u; decide

/-- Lane group `u` of a chunk's weights: `2^(score - running maximum)`. -/
def piece (S : FVec F S1024x2816 .f32) (mn : FVec F S1024x128 .f32) (u : Fin 22) : FVec F S1024x128 .f32 :=
  exp2 (subf (extractStridedSlice S1024x128 ![0, 128 * u.val] S (slices_lane u)) mn)

/-- The factor a chunk applies to the old sums. -/
def alpha (S : FVec F S1024x2816 .f32) (m : FVec F S1024x128 .f32) : FVec F S1024x128 .f32 :=
  exp2 (subf m (k0_pay9 S m))

/-- The running sum of weights, lane by lane, after a chunk. -/
def lStep (S : FVec F S1024x2816 .f32) (m l : FVec F S1024x128 .f32) : FVec F S1024x128 .f32 :=
  addf (mulf (alpha S m) l)
    (Fin.foldl 21 (fun a u => addf a (piece S (k0_pay9 S m) u.succ)) (piece S (k0_pay9 S m) 0))

/-- The running weighted sum of values after a chunk. -/
def accStep (S : FVec F S1024x2816 .f32) (m acc : FVec F S1024x128 .f32) (v : Vec F S1x2816x128 .bf16) : FVec F S1024x128 .f32 :=
  addf (mulf (alpha S m) acc)
    (matmul dot_S1024x2816_S2816x128_S1024x128_1_0_0_1_n_n none
      (concatenate S1024x2816 1 (List.ofFn fun u : Fin 22 => (⟨S1024x128, truncf .bf16 (piece S (k0_pay9 S m) u) bitsLt_bf16_f32⟩ : (s : Shape) × (s.Idx → F .bf16)))
        concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2816_d1)
      (shapeCast S2816x128 v shapeCasts_S1x2816x128_S2816x128)
      (constant S1024x128 .f32 0x00000000#32))

/-- The state before the first chunk, and after each of the three. -/
def m0 : FVec F S1024x128 .f32 := broadcast S1024x128 (Scalar.ofBits .f32 0xFF800000#32)
/-- The zeros both sums start from. -/
def z0 : FVec F S1024x128 .f32 := broadcast S1024x128 (Scalar.ofBits .f32 0x00000000#32)

/-- A chunk of the keys' block, of the values' block. -/
abbrev kCh (x1 : Vec F S1x8448x256 .bf16) (o : ℕ) (h : ∀ a, ![0, o, 0] a + S1x2816x256.size a ≤ S1x8448x256.size a) : Vec F S1x2816x256 .bf16 :=
  View.ld x1 (Rect.unit ![0, o, 0] S1x2816x256.size h)
abbrev vCh (x2 : Vec F S1x8448x128 .bf16) (o : ℕ) (h : ∀ a, ![0, o, 0] a + S1x2816x128.size a ≤ S1x8448x128.size a) : Vec F S1x2816x128 .bf16 :=
  View.ld x2 (Rect.unit ![0, o, 0] S1x2816x128.size h)

section
variable (x0 : Vec F S1x1024x256 .bf16) (x1 : Vec F S1x8448x256 .bf16) (x2 : Vec F S1x8448x128 .bf16)

/-- The first chunk's scores. -/
def sc0 : FVec F S1024x2816 .f32 := k0_pay8 x0 (kCh x1 0 inb_S1x8448x256_S1x2816x256_0_0_0)
/-- The second chunk's scores. -/
def sc1 : FVec F S1024x2816 .f32 := k0_pay8 x0 (kCh x1 2816 inb_S1x8448x256_S1x2816x256_0_2816_0)
/-- The third chunk's scores. -/
def sc2 : FVec F S1024x2816 .f32 := k0_pay8 x0 (kCh x1 5632 inb_S1x8448x256_S1x2816x256_0_5632_0)
/-- The running maximum after the first chunk. -/
def m1 : FVec F S1024x128 .f32 := k0_pay9 (sc0 x0 x1) m0
/-- The running maximum after the second chunk. -/
def m2 : FVec F S1024x128 .f32 := k0_pay9 (sc1 x0 x1) (m1 x0 x1)
/-- The lane sums after the first chunk. -/
def l1 : FVec F S1024x128 .f32 := lStep (sc0 x0 x1) m0 z0
/-- The lane sums after the second chunk. -/
def l2 : FVec F S1024x128 .f32 := lStep (sc1 x0 x1) (m1 x0 x1) (l1 x0 x1)
/-- The lane sums after the third chunk. -/
def l3 : FVec F S1024x128 .f32 := lStep (sc2 x0 x1) (m2 x0 x1) (l2 x0 x1)
/-- The weighted values after the first chunk. -/
def acc1 : FVec F S1024x128 .f32 := accStep (sc0 x0 x1) m0 z0 (vCh x2 0 inb_S1x8448x128_S1x2816x128_0_0_0)
/-- The weighted values after the second chunk. -/
def acc2 : FVec F S1024x128 .f32 := accStep (sc1 x0 x1) (m1 x0 x1) (acc1 x0 x1 x2) (vCh x2 2816 inb_S1x8448x128_S1x2816x128_0_2816_0)
/-- The weighted values after the third chunk. -/
def acc3 : FVec F S1024x128 .f32 := accStep (sc2 x0 x1) (m2 x0 x1) (acc2 x0 x1 x2) (vCh x2 5632 inb_S1x8448x128_S1x2816x128_0_5632_0)
end

/-- The update of the weighted sum, its 22 lane groups written as a list. -/
theorem accStep_list (S : FVec F S1024x2816 .f32) (m acc : FVec F S1024x128 .f32) (v : Vec F S1x2816x128 .bf16) :
    accStep S m acc v = addf (mulf (alpha S m) acc)
      (matmul dot_S1024x2816_S2816x128_S1024x128_1_0_0_1_n_n none
        (concatenate S1024x2816 1 [⟨S1024x128, truncf .bf16 (piece S (k0_pay9 S m) 0) bitsLt_bf16_f32⟩, ⟨S1024x128, truncf .bf16 (piece S (k0_pay9 S m) 1) bitsLt_bf16_f32⟩, ⟨S1024x128, truncf .bf16 (piece S (k0_pay9 S m) 2) bitsLt_bf16_f32⟩, ⟨S1024x128, truncf .bf16 (piece S (k0_pay9 S m) 3) bitsLt_bf16_f32⟩, ⟨S1024x128, truncf .bf16 (piece S (k0_pay9 S m) 4) bitsLt_bf16_f32⟩, ⟨S1024x128, truncf .bf16 (piece S (k0_pay9 S m) 5) bitsLt_bf16_f32⟩, ⟨S1024x128, truncf .bf16 (piece S (k0_pay9 S m) 6) bitsLt_bf16_f32⟩, ⟨S1024x128, truncf .bf16 (piece S (k0_pay9 S m) 7) bitsLt_bf16_f32⟩, ⟨S1024x128, truncf .bf16 (piece S (k0_pay9 S m) 8) bitsLt_bf16_f32⟩, ⟨S1024x128, truncf .bf16 (piece S (k0_pay9 S m) 9) bitsLt_bf16_f32⟩, ⟨S1024x128, truncf .bf16 (piece S (k0_pay9 S m) 10) bitsLt_bf16_f32⟩, ⟨S1024x128, truncf .bf16 (piece S (k0_pay9 S m) 11) bitsLt_bf16_f32⟩, ⟨S1024x128, truncf .bf16 (piece S (k0_pay9 S m) 12) bitsLt_bf16_f32⟩, ⟨S1024x128, truncf .bf16 (piece S (k0_pay9 S m) 13) bitsLt_bf16_f32⟩, ⟨S1024x128, truncf .bf16 (piece S (k0_pay9 S m) 14) bitsLt_bf16_f32⟩, ⟨S1024x128, truncf .bf16 (piece S (k0_pay9 S m) 15) bitsLt_bf16_f32⟩, ⟨S1024x128, truncf .bf16 (piece S (k0_pay9 S m) 16) bitsLt_bf16_f32⟩, ⟨S1024x128, truncf .bf16 (piece S (k0_pay9 S m) 17) bitsLt_bf16_f32⟩, ⟨S1024x128, truncf .bf16 (piece S (k0_pay9 S m) 18) bitsLt_bf16_f32⟩, ⟨S1024x128, truncf .bf16 (piece S (k0_pay9 S m) 19) bitsLt_bf16_f32⟩, ⟨S1024x128, truncf .bf16 (piece S (k0_pay9 S m) 20) bitsLt_bf16_f32⟩, ⟨S1024x128, truncf .bf16 (piece S (k0_pay9 S m) 21) bitsLt_bf16_f32⟩]
          concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2816_d1)
        (shapeCast S2816x128 v shapeCasts_S1x2816x128_S2816x128)
        (constant S1024x128 .f32 0x00000000#32)) := rfl

/-- The 21 additions of a chunk's lane groups, from the left. -/
theorem foldl_lanes (g : Fin 22 → FVec F S1024x128 .f32) :
    Fin.foldl 21 (fun a u => addf a (g u.succ)) (g 0) = addf (addf (addf (addf (addf (addf (addf (addf (addf (addf (addf (addf (addf (addf (addf (addf (addf (addf (addf (addf (addf (g 0) (g 1)) (g 2)) (g 3)) (g 4)) (g 5)) (g 6)) (g 7)) (g 8)) (g 9)) (g 10)) (g 11)) (g 12)) (g 13)) (g 14)) (g 15)) (g 16)) (g 17)) (g 18)) (g 19)) (g 20)) (g 21) := rfl

/-- The stored running maximum is the new one, as it is. -/
theorem pay51_eq (x : FVec F S1024x128 .f32) : k0_pay51 x = x := shapeCast_self _ _
/-- A cast of an array to its own shape, later in the body. -/
theorem pay83_eq (x : FVec F S1024x128 .f32) : k0_pay83 x = x := shapeCast_self _ _
/-- The state before the first chunk. -/
theorem pay5_eq : k0_pay5 (F := F) = m0 := shapeCast_self _ _
/-- The lane sums start at zero. -/
theorem pay6_eq : k0_pay6 (F := F) = z0 := shapeCast_self _ _
/-- The weighted values start at zero. -/
theorem pay7_eq : k0_pay7 (F := F) = z0 := shapeCast_self _ _
/-- The scores of the second and third chunk, and their running maximum. -/
theorem pay52_eq (q : Vec F S1x1024x256 .bf16) (k : Vec F S1x2816x256 .bf16) : k0_pay52 (k0_pay4 q) k = k0_pay8 q k := rfl
/-- The third chunk's scores are the first's product. -/
theorem pay84_eq (q : Vec F S1x1024x256 .bf16) (k : Vec F S1x2816x256 .bf16) : k0_pay84 (k0_pay4 q) k = k0_pay8 q k := rfl
/-- The second chunk's running maximum. -/
theorem pay53_eq (q : Vec F S1x1024x256 .bf16) (k : Vec F S1x2816x256 .bf16) (m : FVec F S1024x128 .f32) :
    k0_pay53 (k0_pay4 q) k m = k0_pay9 (k0_pay8 q k) m := rfl
/-- The third chunk's running maximum. -/
theorem pay85_eq (q : Vec F S1x1024x256 .bf16) (k : Vec F S1x2816x256 .bf16) (m : FVec F S1024x128 .f32) :
    k0_pay85 (k0_pay4 q) k m = k0_pay9 (k0_pay8 q k) m := rfl

/-- The chunks' scores and running maxima, named. -/
theorem sc0_eq (x0 : Vec F S1x1024x256 .bf16) (x1 : Vec F S1x8448x256 .bf16) : k0_pay8 x0 (View.ld x1 (Rect.unit ![0, 0, 0] S1x2816x256.size inb_S1x8448x256_S1x2816x256_0_0_0)) = sc0 x0 x1 := rfl
/-- The second chunk's scores, named. -/
theorem sc1_eq (x0 : Vec F S1x1024x256 .bf16) (x1 : Vec F S1x8448x256 .bf16) : k0_pay8 x0 (View.ld x1 (Rect.unit ![0, 2816, 0] S1x2816x256.size inb_S1x8448x256_S1x2816x256_0_2816_0)) = sc1 x0 x1 := rfl
/-- The third chunk's scores, named. -/
theorem sc2_eq (x0 : Vec F S1x1024x256 .bf16) (x1 : Vec F S1x8448x256 .bf16) : k0_pay8 x0 (View.ld x1 (Rect.unit ![0, 5632, 0] S1x2816x256.size inb_S1x8448x256_S1x2816x256_0_5632_0)) = sc2 x0 x1 := rfl
/-- The first running maximum, named. -/
theorem m1_eq (x0 : Vec F S1x1024x256 .bf16) (x1 : Vec F S1x8448x256 .bf16) : k0_pay9 (sc0 x0 x1) m0 = m1 x0 x1 := rfl
/-- The second running maximum, named. -/
theorem m2_eq (x0 : Vec F S1x1024x256 .bf16) (x1 : Vec F S1x8448x256 .bf16) : k0_pay9 (sc1 x0 x1) (m1 x0 x1) = m2 x0 x1 := rfl

set_option maxHeartbeats 2000000 in
/-- What a point leaves in the attention window: the quotient of the two sums after the third chunk. -/
theorem out4_eq (c : Dev nD) (i : grid0.Coords) (a3 : Memref sig .tc .vmem S1x1024x256 .bf16) (h3 : a3.IsWhole) (a4 : Memref sig .tc .vmem S1x8448x256 .bf16) (h4 : a4.IsWhole) (a5 : Memref sig .tc .vmem S1x8448x128 .bf16) (h5 : a5.IsWhole) (a6 : Memref sig .tc .vmem S1x64x7168 .f32) (h6 : a6.IsWhole) (a7 : Memref sig .tc .vmem S1x1024x128 .bf16) (h7 : a7.IsWhole) (a8 : Memref sig .tc .vmem S1x64x7168 .bf16) (h8 : a8.IsWhole) (a9 : Memref sig .tc .vmem S296x1024 .f32) (h9 : a9.IsWhole) (a10 : Memref sig .tc .vmem S1024x128 .f32) (h10 : a10.IsWhole) (a11 : Memref sig .tc .vmem S1024x128 .f32) (h11 : a11.IsWhole) (a12 : Memref sig .tc .vmem S1024x128 .f32) (h12 : a12.IsWhole)
    (x0 : Vec F S1x1024x256 .bf16) (x1 : Vec F S1x8448x256 .bf16) (x2 : Vec F S1x8448x128 .bf16) (x3 : Vec F S1x64x7168 .f32) :
    out0_A_4 c i a3 h3 a4 h4 a5 h5 a6 h6 a7 h7 a8 h8 a9 h9 a10 h10 a11 h11 a12 h12 x0 x1 x2 x3 = k0_pay1 (acc3 x0 x1 x2) (l3 x0 x1) := by
  unfold out0_A_4
  rw [View.read_writes_eq_canon _ _ _ (cover0_A_4 c i a3 h3 a4 h4 a5 h5 a6 h6 a7 h7 a8 h8 a9 h9 a10 h10 a11 h11 a12 h12 x0 x1 x2 x3)]
  unfold kernelRun0_A
  dsimp only
  rw [View.canon_unit_zero hz3]
  sl_unfold_words
  simp only [View.readCov_cons_unit_lit' (S := S1024x128) _ _ _ _ _ zero2 zero2, View.readAt_eq_ld, h3.read_unread, h4.read_unread, h5.read_unread, View.ld_unit_zero (S := S1x1024x256) hz3]
  simp only [pay51_eq, pay83_eq, pay5_eq, pay6_eq, pay7_eq, pay52_eq, pay53_eq, pay84_eq, pay85_eq]
  simp only [sc0_eq, sc1_eq, sc2_eq, m1_eq, m2_eq]
  refine congrArg₂ k0_pay1 ?_ ?_
  · rw [acc3, accStep_list]
    unfold k0_pay112
    dsimp only
    rw [shapeCast_self]
    refine congrArg₂ addf (congrArg₂ mulf rfl ?_) rfl
    rw [acc2, accStep_list]
    unfold k0_pay82
    dsimp only
    rw [shapeCast_self]
    refine congrArg₂ addf (congrArg₂ mulf rfl ?_) rfl
    rw [acc1, accStep_list]
    unfold k0_pay50
    dsimp only
    rw [shapeCast_self]
    exact congrArg₂ addf rfl rfl
  · rw [l3, lStep, foldl_lanes]
    unfold k0_pay111
    dsimp only
    rw [shapeCast_self]
    refine congrArg₂ addf (congrArg₂ mulf rfl ?_) rfl
    rw [l2, lStep, foldl_lanes]
    unfold k0_pay79
    dsimp only
    rw [shapeCast_self]
    refine congrArg₂ addf (congrArg₂ mulf rfl ?_) rfl
    rw [l1, lStep, foldl_lanes]
    unfold k0_pay33
    dsimp only
    rw [shapeCast_self]
    exact congrArg₂ addf rfl rfl

/-- What a point leaves in the cast window: the block of weights, cast. -/
theorem out5_eq (c : Dev nD) (i : grid0.Coords) (a3 : Memref sig .tc .vmem S1x1024x256 .bf16) (h3 : a3.IsWhole) (a4 : Memref sig .tc .vmem S1x8448x256 .bf16) (h4 : a4.IsWhole) (a5 : Memref sig .tc .vmem S1x8448x128 .bf16) (h5 : a5.IsWhole) (a6 : Memref sig .tc .vmem S1x64x7168 .f32) (h6 : a6.IsWhole) (a7 : Memref sig .tc .vmem S1x1024x128 .bf16) (h7 : a7.IsWhole) (a8 : Memref sig .tc .vmem S1x64x7168 .bf16) (h8 : a8.IsWhole) (a9 : Memref sig .tc .vmem S296x1024 .f32) (h9 : a9.IsWhole) (a10 : Memref sig .tc .vmem S1024x128 .f32) (h10 : a10.IsWhole) (a11 : Memref sig .tc .vmem S1024x128 .f32) (h11 : a11.IsWhole) (a12 : Memref sig .tc .vmem S1024x128 .f32) (h12 : a12.IsWhole)
    (x0 : Vec F S1x1024x256 .bf16) (x1 : Vec F S1x8448x256 .bf16) (x2 : Vec F S1x8448x128 .bf16) (x3 : Vec F S1x64x7168 .f32) :
    out0_A_5 c i a3 h3 a4 h4 a5 h5 a6 h6 a7 h7 a8 h8 a9 h9 a10 h10 a11 h11 a12 h12 x0 x1 x2 x3 = k0_pay2 x3 := by
  unfold out0_A_5
  rw [View.read_writes_eq_canon _ _ _ (cover0_A_5 c i a3 h3 a4 h4 a5 h5 a6 h6 a7 h7 a8 h8 a9 h9 a10 h10 a11 h11 a12 h12 x0 x1 x2 x3)]
  unfold kernelRun0_A
  dsimp only
  rw [View.canon_unit_zero hz3]
  sl_unfold_words
  simp only [View.readAt_eq_ld, h6.read_unread, View.ld_unit_zero (S := S1x64x7168) hz3]

/-- What a point leaves in the third window: zeros. -/
theorem out6_eq (c : Dev nD) (i : grid0.Coords) (a3 : Memref sig .tc .vmem S1x1024x256 .bf16) (h3 : a3.IsWhole) (a4 : Memref sig .tc .vmem S1x8448x256 .bf16) (h4 : a4.IsWhole) (a5 : Memref sig .tc .vmem S1x8448x128 .bf16) (h5 : a5.IsWhole) (a6 : Memref sig .tc .vmem S1x64x7168 .f32) (h6 : a6.IsWhole) (a7 : Memref sig .tc .vmem S1x1024x128 .bf16) (h7 : a7.IsWhole) (a8 : Memref sig .tc .vmem S1x64x7168 .bf16) (h8 : a8.IsWhole) (a9 : Memref sig .tc .vmem S296x1024 .f32) (h9 : a9.IsWhole) (a10 : Memref sig .tc .vmem S1024x128 .f32) (h10 : a10.IsWhole) (a11 : Memref sig .tc .vmem S1024x128 .f32) (h11 : a11.IsWhole) (a12 : Memref sig .tc .vmem S1024x128 .f32) (h12 : a12.IsWhole)
    (x0 : Vec F S1x1024x256 .bf16) (x1 : Vec F S1x8448x256 .bf16) (x2 : Vec F S1x8448x128 .bf16) (x3 : Vec F S1x64x7168 .f32) :
    out0_A_6 c i a3 h3 a4 h4 a5 h5 a6 h6 a7 h7 a8 h8 a9 h9 a10 h10 a11 h11 a12 h12 x0 x1 x2 x3 = k0_pay3 := by
  unfold out0_A_6
  rw [View.read_writes_eq_canon _ _ _ (cover0_A_6 c i a3 h3 a4 h4 a5 h5 a6 h6 a7 h7 a8 h8 a9 h9 a10 h10 a11 h11 a12 h12 x0 x1 x2 x3)]
  unfold kernelRun0_A
  dsimp only
  rw [View.canon_unit_zero hz2]

end Cert.KernelIdeal.Value

end
-- ==== Proof.Flash.Step.lean ====
/-
  What one key chunk does to the running maximum, the running sum of weights and the running weighted sum of values,
  read at an index.
-/
module

public import proofs.«01_k».proof.Proof.Flash.Online
public import proofs.«01_k».proof.Proof.Flash.Block
public import Idealize.ShloMosaic.Lib.ValueIdx
public import Idealize.ShloMosaic.Lib.Pointwise
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

/-- The pattern of `-∞`. -/
theorem ofBits_neg_inf : Ideal.ofBits .f32 4286578688#32 = ⊥ := by
  simp [Ideal.ofBits, Ideal.ieee]

/-- A row's maximum, started from a pattern. -/
theorem rowMax_apply (S : FVec Ideal S1024x2816 .f32) (w : BitVec 32) (h : S1024x2816.Reduces [1] S1024) (hφ : FKind.Formats .f32) (hw : w = FKind.maximumf.neutral .f32 hφ) (j : S1024.Idx) :
    multiReduction (F := Ideal) .maximumf [1] S1024 S w h hφ hw j = Finset.univ.fold max (Ideal.ofBits .f32 w) fun k : Fin 2816 => S (ix2 (j 0) k) := by
  pointwise

/-- The running maximum after a chunk: the old one and the chunk's row maximum. -/
theorem mNew_apply (S : FVec Ideal S1024x2816 .f32) (m : FVec Ideal S1024x128 .f32) (j : S1024x128.Idx) :
    k0_pay9 (F := Ideal) S m j = max (m j) (Finset.univ.fold max ⊥ fun k : Fin 2816 => S (ix2 (j 0) k)) := by
  have hM := rowMax_apply S 0xFF800000#32 reduces_S1024x2816_S1024 (.inl rfl) rfl
  rw [ofBits_neg_inf] at hM
  unfold k0_pay9
  dsimp only
  generalize multiReduction (F := Ideal) .maximumf [1] S1024 S 0xFF800000#32 reduces_S1024x2816_S1024 (.inl rfl) rfl = M at hM ⊢
  pointwise
  rw [hM]
  rfl

/-- A chunk's scores. -/
theorem scores_apply (q : Vec Ideal S1x1024x256 .bf16) (k : Vec Ideal S1x2816x256 .bf16) (j : S1024x2816.Idx) :
    k0_pay8 (F := Ideal) q k j = ∑ d : Fin 256, q (ix3 0 (j 0) d) * k (ix3 0 (j 1) d) := by
  unfold k0_pay8 k0_pay4
  pointwise

/-- The quotient written at the end. -/
theorem out_apply (acc l : Vec Ideal S1024x128 .f32) (j : S1x1024x128.Idx) :
    k0_pay1 (F := Ideal) acc l j = acc (ix2 (j 1) (j 2)) * Ideal.div 1 (∑ b : Fin 128, l (ix2 (j 1) b)) := by
  unfold k0_pay1
  pointwise

/-- A lane group's weight: lane `b` of group `u` is the score at `128 u + b`, relative to the running maximum. -/
theorem piece_apply (S : FVec Ideal S1024x2816 .f32) (mn : FVec Ideal S1024x128 .f32) (u : Fin 22) (j : S1024x128.Idx) :
    piece S mn u j = Ideal.exp2 (S (ix2 (j 0) ⟨128 * u.val + (j 1).val, by have := (j 1).isLt; have : (j 1).val < 128 := this; omega⟩) - mn j) := by
  unfold piece
  pointwise
  rfl

/-- The sum of weights, lane by lane, after a chunk. -/
theorem lStep_apply (S : FVec Ideal S1024x2816 .f32) (m l : FVec Ideal S1024x128 .f32) (j : S1024x128.Idx) :
    lStep S m l j = Ideal.exp2 (m j - k0_pay9 S m j) * l j + ∑ u : Fin 22, piece S (k0_pay9 S m) u j := by
  rw [lStep, foldl_lanes, alpha]
  pointwise
  refine congrArg₂ (· + ·) rfl ?_
  simp only [Fin.sum_univ_castSucc, Finset.univ_eq_empty, Finset.sum_empty, zero_add]
  rfl

/-- The weights of a chunk, side by side. -/
def weights (S : FVec Ideal S1024x2816 .f32) (mn : FVec Ideal S1024x128 .f32) : FVec Ideal S1024x2816 .bf16 :=
  concatenate S1024x2816 1 (List.ofFn fun u : Fin 22 => (⟨S1024x128, truncf .bf16 (piece S mn u) bitsLt_bf16_f32⟩ : (s : Shape) × (s.Idx → Ideal .bf16)))
        concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2816_d1

/-- A chunk's weights at a row and a position. -/
theorem weights_apply (S : FVec Ideal S1024x2816 .f32) (mn : FVec Ideal S1024x128 .f32) (r : Fin 1024) (k : Fin 2816) :
    weights S mn (ix2 r k) = Ideal.exp2 (S (ix2 r k) - mn (ix2 r ⟨k.val % 128, by omega⟩)) := by
  unfold weights
  refine Eq.trans (concatenate_ofFn_apply (t := S1024x2816) (s₁ := S1024x128) (1 : Fin 2) (fun u : Fin 22 => truncf .bf16 (piece S mn u) bitsLt_bf16_f32) _ rfl 128 rfl (ix2 r k : S1024x2816.Idx) ⟨k.val / 128, by omega⟩ rfl (ix2 r (⟨k.val % 128, by omega⟩ : Fin 128)) rfl (by intro b hb; fin_cases b; rfl; exact absurd rfl hb)) ?_
  show piece S mn _ _ = _
  rw [piece_apply]
  congr 3
  show (ix2 r _) = _
  congr 1
  exact Fin.ext (Nat.div_add_mod k.val 128)

/-- The weighted sum of values after a chunk. -/
theorem accStep_apply (S : FVec Ideal S1024x2816 .f32) (m acc : FVec Ideal S1024x128 .f32) (v : Vec Ideal S1x2816x128 .bf16) (j : S1024x128.Idx) :
    accStep S m acc v j = Ideal.exp2 (m j - k0_pay9 S m j) * acc j + ∑ k : Fin 2816, weights S (k0_pay9 S m) (ix2 (j 0) k) * v (ix3 0 k (j 1)) := by
  show addf (mulf (alpha S m) acc) (matmul dot_S1024x2816_S2816x128_S1024x128_1_0_0_1_n_n none (weights S (k0_pay9 S m)) (shapeCast S2816x128 v shapeCasts_S1x2816x128_S2816x128) (constant S1024x128 .f32 0x00000000#32)) j = _
  generalize weights S (k0_pay9 S m) = W
  unfold alpha
  generalize k0_pay9 S m = mn
  pointwise
  rfl

end Cert.KernelIdeal.Value

end
-- ==== Proof.Flash.Row.lean ====
/-
  One row of an attention block: when the row's scores are real numbers, the three chunks and the final quotient give the
  softmax-weighted mean of the values over all 8448 keys.
-/
module

public import proofs.«01_k».proof.Proof.Flash.Step

@[expose] public section

set_option maxRecDepth 16384

noncomputable section

namespace Cert.KernelIdeal.Value

open Cert.KernelIdeal Cert.KernelIdeal.Gen Idealize.ShloMosaic Idealize.ShloMosaic.TcCoe Idealize.SL.Sem

/-- A chunk of the keys, read at an index. -/
theorem kCh_apply (x1 : Vec Ideal S1x8448x256 .bf16) (o : ℕ) (h : ∀ a, (![0, o, 0] : Fin 3 → ℕ) a + S1x2816x256.size a ≤ S1x8448x256.size a)
    (k : Fin 2816) (d : Fin 256) (hk : o + k.val < 8448) :
    kCh x1 o h (ix3 0 k d) = x1 (ix3 0 ⟨o + k.val, hk⟩ d) := by
  show x1 _ = x1 _
  congr 1
  funext a
  fin_cases a <;> exact Fin.ext (by simp [Rect.unit])

/-- A chunk of the values, read at an index. -/
theorem vCh_apply (x2 : Vec Ideal S1x8448x128 .bf16) (o : ℕ) (h : ∀ a, (![0, o, 0] : Fin 3 → ℕ) a + S1x2816x128.size a ≤ S1x8448x128.size a)
    (k : Fin 2816) (d : Fin 128) (hk : o + k.val < 8448) :
    vCh x2 o h (ix3 0 k d) = x2 (ix3 0 ⟨o + k.val, hk⟩ d) := by
  show x2 _ = x2 _
  congr 1
  funext a
  fin_cases a <;> exact Fin.ext (by simp [Rect.unit])

/-- After a chunk of real scores the running maximum is a real number, the same in all lanes. -/
theorem mNew_real (S : FVec Ideal S1024x2816 .f32) (m : FVec Ideal S1024x128 .f32) (r : Fin 1024) (σ : Fin 2816 → ℝ)
    (hS : ∀ k, S (ix2 r k) = (σ k : EReal)) (hm : (∀ b, m (ix2 r b) = ⊥) ∨ ∃ μ : ℝ, ∀ b, m (ix2 r b) = (μ : EReal)) :
    ∃ M : ℝ, ∀ b, k0_pay9 S m (ix2 r b) = (M : EReal) := by
  obtain ⟨R, hR⟩ := Cert.Flash.fold_max_real (by omega) σ
  have h : ∀ b, k0_pay9 S m (ix2 r b) = max (m (ix2 r b)) (R : EReal) := by
    intro b
    rw [mNew_apply, ← hR]
    exact congrArg (max _) (Finset.fold_congr fun k _ => hS k)
  rcases hm with hm | ⟨μ, hm⟩
  · exact ⟨R, fun b => by rw [h, hm]; exact max_eq_right bot_le⟩
  · exact ⟨max μ R, fun b => by rw [h, hm]; exact (EReal.coe_strictMono.monotone.map_max).symm⟩

/-- The lanes' sums after a chunk of real scores. -/
theorem lStep_real (S : FVec Ideal S1024x2816 .f32) (m l : FVec Ideal S1024x128 .f32) (r : Fin 1024) (σ : Fin 2816 → ℝ) (M : ℝ)
    (hS : ∀ k, S (ix2 r k) = (σ k : EReal)) (hM : ∀ b, k0_pay9 S m (ix2 r b) = (M : EReal)) (b : Fin 128) :
    lStep S m l (ix2 r b) = Ideal.exp2 (m (ix2 r b) - (M : EReal)) * l (ix2 r b)
      + ∑ u : Fin 22, Ideal.exp2 ((σ ⟨128 * u.val + b.val, by omega⟩ : EReal) - (M : EReal)) := by
  rw [lStep_apply, hM]
  congr 1
  refine Finset.sum_congr rfl fun u _ => ?_
  rw [piece_apply, hM]
  exact congrArg (fun z => Ideal.exp2 (z - (M : EReal))) (hS _)

/-- The weighted sums after a chunk of real scores. -/
theorem accStep_real (S : FVec Ideal S1024x2816 .f32) (m acc : FVec Ideal S1024x128 .f32) (v : Vec Ideal S1x2816x128 .bf16) (r : Fin 1024) (σ : Fin 2816 → ℝ) (M : ℝ)
    (hS : ∀ k, S (ix2 r k) = (σ k : EReal)) (hM : ∀ b, k0_pay9 S m (ix2 r b) = (M : EReal)) (d : Fin 128) :
    accStep S m acc v (ix2 r d) = Ideal.exp2 (m (ix2 r d) - (M : EReal)) * acc (ix2 r d)
      + ∑ k : Fin 2816, Ideal.exp2 ((σ k : EReal) - (M : EReal)) * v (ix3 0 k d) := by
  rw [accStep_apply, hM]
  congr 1
  refine Finset.sum_congr rfl fun k _ => ?_
  refine congrArg (· * v (ix3 0 k d)) ?_
  refine (weights_apply S _ r k).trans ?_
  rw [hM, hS]

/-- The maximum starts at −∞. -/
theorem m0_apply (j : S1024x128.Idx) : m0 (F := Ideal) j = ⊥ := ofBits_neg_inf
/-- The sums start at zero. -/
theorem z0_apply (j : S1024x128.Idx) : z0 (F := Ideal) j = 0 := Ideal.ofBits_zero_f32

/-- The running maximum after the first of three chunks of scores. -/
def mAll1 {F : FTy → Type} [FloatOps F] (S0 : FVec F S1024x2816 .f32) : FVec F S1024x128 .f32 := k0_pay9 S0 m0

/-- The running maximum after the second. -/
def mAll2 {F : FTy → Type} [FloatOps F] (S0 S1 : FVec F S1024x2816 .f32) : FVec F S1024x128 .f32 := k0_pay9 S1 (mAll1 S0)

/-- The lanes' sums after three chunks of scores, from `-∞` and zero. -/
def lAll {F : FTy → Type} [FloatOps F] (S0 S1 S2 : FVec F S1024x2816 .f32) : FVec F S1024x128 .f32 :=
  lStep S2 (mAll2 S0 S1) (lStep S1 (mAll1 S0) (lStep S0 m0 z0))

/-- The weighted values after three chunks of scores and values, from `-∞` and zero. -/
def accAll {F : FTy → Type} [FloatOps F] (S0 S1 S2 : FVec F S1024x2816 .f32) (V0 V1 V2 : Vec F S1x2816x128 .bf16) : FVec F S1024x128 .f32 :=
  accStep S2 (mAll2 S0 S1) (accStep S1 (mAll1 S0) (accStep S0 m0 z0 V0) V1) V2

section
variable (S0 S1 S2 : FVec Ideal S1024x2816 .f32) (V0 V1 V2 : Vec Ideal S1x2816x128 .bf16) (r : Fin 1024) (s : Fin 8448 → ℝ)
  (h0 : ∀ (k : Fin 2816) (hk : 0 + k.val < 8448), S0 (ix2 r k) = ((s ⟨0 + k.val, hk⟩ : ℝ) : EReal))
  (h1 : ∀ (k : Fin 2816) (hk : 2816 + k.val < 8448), S1 (ix2 r k) = ((s ⟨2816 + k.val, hk⟩ : ℝ) : EReal))
  (h2 : ∀ (k : Fin 2816) (hk : 5632 + k.val < 8448), S2 (ix2 r k) = ((s ⟨5632 + k.val, hk⟩ : ℝ) : EReal))
include h0 h1 h2

/-- A row of real scores after three chunks: the two sums are over all 8448 keys, the weights `2^(score - M)` for some real `M`. -/
theorem chunks_eq : ∃ M : ℝ, (∀ (d : Fin 128) (x : Fin 8448 → EReal), (∀ (k : Fin 2816) (hk : 0 + k.val < 8448), V0 (ix3 0 k d) = x ⟨0 + k.val, hk⟩) →
      (∀ (k : Fin 2816) (hk : 2816 + k.val < 8448), V1 (ix3 0 k d) = x ⟨2816 + k.val, hk⟩) → (∀ (k : Fin 2816) (hk : 5632 + k.val < 8448), V2 (ix3 0 k d) = x ⟨5632 + k.val, hk⟩) →
      accAll S0 S1 S2 V0 V1 V2 (ix2 r d) = ∑ t : Fin 8448, Ideal.exp2 ((s t : EReal) - (M : EReal)) * x t)
    ∧ (∑ b : Fin 128, lAll S0 S1 S2 (ix2 r b)) = ∑ t : Fin 8448, Ideal.exp2 ((s t : EReal) - (M : EReal)) := by
  have h0 : ∀ k : Fin 2816, S0 (ix2 r k) = ((s ⟨0 + k.val, by omega⟩ : ℝ) : EReal) := fun k => h0 k (by omega)
  have h1 : ∀ k : Fin 2816, S1 (ix2 r k) = ((s ⟨2816 + k.val, by omega⟩ : ℝ) : EReal) := fun k => h1 k (by omega)
  have h2 : ∀ k : Fin 2816, S2 (ix2 r k) = ((s ⟨5632 + k.val, by omega⟩ : ℝ) : EReal) := fun k => h2 k (by omega)
  obtain ⟨M1, e1⟩ := mNew_real _ m0 r _ h0 (.inl fun b => m0_apply _)
  obtain ⟨M2, e2⟩ := mNew_real _ (mAll1 S0) r _ h1 (.inr ⟨M1, e1⟩)
  obtain ⟨M3, e3⟩ := mNew_real _ (mAll2 S0 S1) r _ h2 (.inr ⟨M2, e2⟩)
  have nn : ∀ x y : ℝ, ∃ c : ℝ, 0 ≤ c ∧ Ideal.exp2 ((x : EReal) - (y : EReal)) = (c : EReal) := fun x y =>
    ⟨_, Real.rpow_nonneg (by norm_num) _, Cert.Flash.exp2_sub x y⟩
  have dist : ∀ (x y : ℝ) (A B : EReal), Ideal.exp2 ((x : EReal) - (y : EReal)) * (A + B)
      = Ideal.exp2 ((x : EReal) - (y : EReal)) * A + Ideal.exp2 ((x : EReal) - (y : EReal)) * B := by
    intro x y A B
    obtain ⟨c, hc, hc'⟩ := nn x y
    rw [hc', EReal.left_distrib_of_nonneg_of_ne_top (by exact_mod_cast hc) (EReal.coe_ne_top c)]
  have hm1 : ∀ b, mAll1 S0 (ix2 r b) = (M1 : EReal) := e1
  have hm2 : ∀ b, mAll2 S0 S1 (ix2 r b) = (M2 : EReal) := e2
  refine ⟨M3, fun d x v0 v1 v2 => ?_, ?_⟩
  · rw [accAll, accStep_real _ _ _ _ r _ M3 h2 e3, hm2, accStep_real _ _ _ _ r _ M2 h1 e2, hm1,
      accStep_real _ _ _ _ r _ M1 h0 e1, m0_apply, z0_apply, Cert.Flash.start, Cert.Flash.rebase, dist, Cert.Flash.rebase, Cert.Flash.rebase,
      ← Cert.Flash.sum_chunks]
    refine congrArg₂ (· + ·) (congrArg₂ (· + ·) ?_ ?_) ?_
    · exact Finset.sum_congr rfl fun k _ => congrArg (_ * ·) (v0 k (by omega))
    · exact Finset.sum_congr rfl fun k _ => congrArg (_ * ·) (v1 k (by omega))
    · exact Finset.sum_congr rfl fun k _ => congrArg (_ * ·) (v2 k (by omega))
  · have hl : ∀ b : Fin 128, lAll S0 S1 S2 (ix2 r b)
        = (∑ u : Fin 22, Ideal.exp2 ((s ⟨0 + (128 * u.val + b.val), by omega⟩ : EReal) - (M3 : EReal)))
          + (∑ u : Fin 22, Ideal.exp2 ((s ⟨2816 + (128 * u.val + b.val), by omega⟩ : EReal) - (M3 : EReal)))
          + ∑ u : Fin 22, Ideal.exp2 ((s ⟨5632 + (128 * u.val + b.val), by omega⟩ : EReal) - (M3 : EReal)) := by
      intro b
      rw [lAll, lStep_real _ _ _ r _ M3 h2 e3, hm2, lStep_real _ _ _ r _ M2 h1 e2, hm1,
        lStep_real _ _ _ r _ M1 h0 e1, m0_apply, z0_apply, Cert.Flash.start, Cert.Flash.rebase_one, dist, Cert.Flash.rebase_one, Cert.Flash.rebase_one]
    simp only [hl, Finset.sum_add_distrib]
    rw [← Cert.Flash.sum_chunks]
    refine congrArg₂ (· + ·) (congrArg₂ (· + ·) ?_ ?_) ?_
    · exact Cert.Flash.sum_lanes fun k : Fin 2816 => Ideal.exp2 ((s ⟨0 + k.val, by omega⟩ : EReal) - (M3 : EReal))
    · exact Cert.Flash.sum_lanes fun k : Fin 2816 => Ideal.exp2 ((s ⟨2816 + k.val, by omega⟩ : EReal) - (M3 : EReal))
    · exact Cert.Flash.sum_lanes fun k : Fin 2816 => Ideal.exp2 ((s ⟨5632 + k.val, by omega⟩ : EReal) - (M3 : EReal))

/-- The row's quotient is the softmax-weighted mean of the values, the exponentials taken relative to any real `R`. -/
theorem chunks_softmax (R : ℝ) (d : Fin 128) (x : Fin 8448 → EReal) (v0 : ∀ (k : Fin 2816) (hk : 0 + k.val < 8448), V0 (ix3 0 k d) = x ⟨0 + k.val, hk⟩)
    (v1 : ∀ (k : Fin 2816) (hk : 2816 + k.val < 8448), V1 (ix3 0 k d) = x ⟨2816 + k.val, hk⟩) (v2 : ∀ (k : Fin 2816) (hk : 5632 + k.val < 8448), V2 (ix3 0 k d) = x ⟨5632 + k.val, hk⟩) :
    accAll S0 S1 S2 V0 V1 V2 (ix2 r d) * Ideal.div 1 (∑ b : Fin 128, lAll S0 S1 S2 (ix2 r b))
      = ∑ t : Fin 8448, x t * Ideal.div (Ideal.exp (((s t * Real.log 2 : ℝ) : EReal) - (R : EReal)))
          (∑ t' : Fin 8448, Ideal.exp (((s t' * Real.log 2 : ℝ) : EReal) - (R : EReal))) := by
  obtain ⟨M, hA, hL⟩ := chunks_eq S0 S1 S2 V0 V1 V2 r s h0 h1 h2
  rw [hA d x v0 v1 v2, hL]
  exact Cert.Flash.softmax_eq s x M R
end

section
variable (x0 : Vec Ideal S1x1024x256 .bf16) (x1 : Vec Ideal S1x8448x256 .bf16) (x2 : Vec Ideal S1x8448x128 .bf16)
  (r : Fin 1024) (s : Fin 8448 → ℝ) (hs : ∀ t, ∑ d : Fin 256, x0 (ix3 0 r d) * x1 (ix3 0 t d) = (s t : EReal))
include hs

/-- The scores of the three chunks. -/
theorem sc0_real (k : Fin 2816) : sc0 x0 x1 (ix2 r k) = ((s ⟨0 + k.val, by omega⟩ : ℝ) : EReal) := by
  rw [sc0, scores_apply, ← hs]
  exact Finset.sum_congr rfl fun d _ => congrArg (x0 (ix3 0 r d) * ·) (kCh_apply x1 0 _ k d (by omega))
/-- The second chunk's scores are the real scores from position 2816 on. -/
theorem sc1_real (k : Fin 2816) : sc1 x0 x1 (ix2 r k) = ((s ⟨2816 + k.val, by omega⟩ : ℝ) : EReal) := by
  rw [sc1, scores_apply, ← hs]
  exact Finset.sum_congr rfl fun d _ => congrArg (x0 (ix3 0 r d) * ·) (kCh_apply x1 2816 _ k d (by omega))
/-- The third chunk's scores are the real scores from position 5632 on. -/
theorem sc2_real (k : Fin 2816) : sc2 x0 x1 (ix2 r k) = ((s ⟨5632 + k.val, by omega⟩ : ℝ) : EReal) := by
  rw [sc2, scores_apply, ← hs]
  exact Finset.sum_congr rfl fun d _ => congrArg (x0 (ix3 0 r d) * ·) (kCh_apply x1 5632 _ k d (by omega))

/-- The block's row is the softmax-weighted mean of the values, the exponentials taken relative to any real `R`. -/
theorem row_softmax (R : ℝ) (d : Fin 128) : k0_pay1 (acc3 x0 x1 x2) (l3 x0 x1) (ix3 0 r d)
    = ∑ t : Fin 8448, x2 (ix3 0 t d) * Ideal.div (Ideal.exp (((s t * Real.log 2 : ℝ) : EReal) - (R : EReal)))
        (∑ t' : Fin 8448, Ideal.exp (((s t' * Real.log 2 : ℝ) : EReal) - (R : EReal))) := by
  rw [out_apply]
  exact chunks_softmax (sc0 x0 x1) (sc1 x0 x1) (sc2 x0 x1) _ _ _ r s (fun k _ => sc0_real x0 x1 r s hs k) (fun k _ => sc1_real x0 x1 r s hs k) (fun k _ => sc2_real x0 x1 r s hs k) R d
    (fun t => x2 (ix3 0 t d)) (fun k hk => vCh_apply x2 _ _ k d hk) (fun k hk => vCh_apply x2 _ _ k d hk) (fun k hk => vCh_apply x2 _ _ k d hk)
end

end Cert.KernelIdeal.Value

end
-- ==== Proof.Flash.Array.lean ====
/-
  The three arrays the kernel leaves, read at an index: every grid point writes one block of each, and every index lies in
  exactly one point's block.
-/
module

public import proofs.«01_k».proof.Proof.Flash.Row

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- The block each window takes at point `t = 64 batch + 8 head + tile`. -/
theorem index_pt : ∀ t : Fin cfg0.N,
    (win0_0.index t 0 = t.val / 64 ∧ win0_0.index t 1 = t.val % 8 ∧ win0_0.index t 2 = t.val / 8 % 8)
    ∧ (win0_1.index t 0 = t.val / 64 ∧ win0_1.index t 1 = 0 ∧ win0_1.index t 2 = t.val / 8 % 8)
    ∧ (win0_2.index t 0 = t.val / 64 ∧ win0_2.index t 1 = 0 ∧ win0_2.index t 2 = t.val / 8 % 8)
    ∧ (win0_3.index t 0 = t.val ∧ win0_3.index t 1 = 0 ∧ win0_3.index t 2 = 0)
    ∧ (win0_4.index t 0 = t.val / 64 ∧ win0_4.index t 1 = t.val % 8 ∧ win0_4.index t 2 = t.val / 8 % 8)
    ∧ (win0_5.index t 0 = t.val ∧ win0_5.index t 1 = 0 ∧ win0_5.index t 2 = 0)
    ∧ (win0_6.index t 0 = t.val ∧ win0_6.index t 1 = 0) :=
  (by decide +kernel : ∀ t : Fin grid0.N, _)

/-- The cast of a weight block changes no value. -/
theorem pay2_apply (x : Vec Ideal S1x64x7168 .f32) (j : S1x64x7168.Idx) : k0_pay2 (F := Ideal) x j = x j := by
  unfold k0_pay2
  pointwise

variable (m : (ℓ : Loc nD τ sig) → Buf (Elt Ideal) ℓ)

/-- The point of a batch, a head and a tile of queries. -/
def pt (b : Fin 2) (h : Fin 8) (i : Fin 8) : Fin cfg0.N := ⟨64 * b.val + 8 * h.val + i.val, by rw [show cfg0.N = 128 from N_0]; omega⟩

/-- The queries' block at a point. -/
theorem X0_apply (c : Dev nD) (b : Fin 2) (h i : Fin 8) (r : Fin 1024) (d : Fin 256) :
    X0_0 m c (pt b h i) (ix3 0 r d) = m ((c : Thread nD τ).loc main_arg0) (ix3 b ⟨1024 * i.val + r.val, by omega⟩ ⟨256 * h.val + d.val, by omega⟩) := by
  have e := (index_pt (pt b h i)).1
  have ht : (pt b h i).val = 64 * b.val + 8 * h.val + i.val := rfl
  unfold X0_0 Pipeline.Window.fill
  rw [dif_pos (moved0_0 _ _)]
  unfold iblk
  rw [View.read_apply]
  show V m c main_arg0 _ = _
  rw [V_main_arg0]
  congr 1
  funext a
  apply Fin.ext
  match a with
  | ⟨0, _⟩ => show win0_0.index (pt b h i) 0 * 1 + 1 * 0 = b.val; rw [e.1]; omega
  | ⟨1, _⟩ => show win0_0.index (pt b h i) 1 * 1024 + 1 * r.val = 1024 * i.val + r.val; rw [e.2.1]; omega
  | ⟨2, _⟩ => show win0_0.index (pt b h i) 2 * 256 + 1 * d.val = 256 * h.val + d.val; rw [e.2.2]; omega

/-- The keys' block at a point. -/
theorem X1_apply (c : Dev nD) (b : Fin 2) (h i : Fin 8) (k : Fin 8448) (d : Fin 256) :
    iblk m c 1 (pt b h i) (ix3 0 k d) = m ((c : Thread nD τ).loc main_arg1) (ix3 b k ⟨256 * h.val + d.val, by omega⟩) := by
  have e := (index_pt (pt b h i)).2.1
  have ht : (pt b h i).val = 64 * b.val + 8 * h.val + i.val := rfl
  unfold iblk
  rw [View.read_apply]
  show V m c main_arg1 _ = _
  rw [V_main_arg1]
  congr 1
  funext a
  apply Fin.ext
  match a with
  | ⟨0, _⟩ => show win0_1.index (pt b h i) 0 * 1 + 1 * 0 = b.val; rw [e.1]; omega
  | ⟨1, _⟩ => show win0_1.index (pt b h i) 1 * 8448 + 1 * k.val = k.val; rw [e.2.1]; omega
  | ⟨2, _⟩ => show win0_1.index (pt b h i) 2 * 256 + 1 * d.val = 256 * h.val + d.val; rw [e.2.2]; omega

/-- The values' block at a point. -/
theorem X2_apply (c : Dev nD) (b : Fin 2) (h i : Fin 8) (k : Fin 8448) (d : Fin 128) :
    iblk m c 2 (pt b h i) (ix3 0 k d) = m ((c : Thread nD τ).loc main_arg2) (ix3 b k ⟨128 * h.val + d.val, by omega⟩) := by
  have e := (index_pt (pt b h i)).2.2.1
  have ht : (pt b h i).val = 64 * b.val + 8 * h.val + i.val := rfl
  unfold iblk
  rw [View.read_apply]
  show V m c main_arg2 _ = _
  rw [V_main_arg2]
  congr 1
  funext a
  apply Fin.ext
  match a with
  | ⟨0, _⟩ => show win0_2.index (pt b h i) 0 * 1 + 1 * 0 = b.val; rw [e.1]; omega
  | ⟨1, _⟩ => show win0_2.index (pt b h i) 1 * 8448 + 1 * k.val = k.val; rw [e.2.1]; omega
  | ⟨2, _⟩ => show win0_2.index (pt b h i) 2 * 128 + 1 * d.val = 128 * h.val + d.val; rw [e.2.2]; omega

/-- The attention array at row `1024 i + r` of batch `b`, lane `d` of head `h`. -/
theorem arr4_apply (c : Dev nD) (b : Fin 2) (h i : Fin 8) (r : Fin 1024) (d : Fin 128) :
    (dats m 0 c).arrAt 4 cfg0.N (ix3 b ⟨1024 * i.val + r.val, by omega⟩ ⟨128 * h.val + d.val, by omega⟩)
      = k0_pay1 (acc3 (X0_0 m c (pt b h i)) (iblk m c 1 (pt b h i)) (iblk m c 2 (pt b h i))) (l3 (X0_0 m c (pt b h i)) (iblk m c 1 (pt b h i))) (ix3 0 r d) := by
  have e := (index_pt (pt b h i)).2.2.2.2.1
  have ht : (pt b h i).val = 64 * b.val + 8 * h.val + i.val := rfl
  have hb := congrFun (blocks4 m c (pt b h i) (flush0_4 _)) (ix3 0 r d)
  rw [flushed4_A, out4_eq, View.read_apply] at hb
  refine Eq.trans ?_ (hb.trans ?_)
  · congr 1
    funext a
    apply Fin.ext
    match a with
    | ⟨0, _⟩ => show b.val = win0_4.index (pt b h i) 0 * 1 + 1 * 0; rw [e.1]; omega
    | ⟨1, _⟩ => show 1024 * i.val + r.val = win0_4.index (pt b h i) 1 * 1024 + 1 * r.val; rw [e.2.1]; omega
    | ⟨2, _⟩ => show 128 * h.val + d.val = win0_4.index (pt b h i) 2 * 128 + 1 * d.val; rw [e.2.2]; omega
  · rfl

/-- The reshaped expert weights the launch hands to window 3. -/
theorem V_v0 (c : Dev nD) : V m c main_v0 = shapeCast S256x64x7168 (m ((c : Thread nD τ).loc main_arg3)) shapeCasts_S2x8x1024x7168_S256x64x7168 := by
  unfold V hostOps0
  after_results_simp
  rfl

/-- The cast weights at group `n`, row `a`, lane `k`: expert `n / 16`, row `64 (n mod 16) + a` of the first layer. -/
theorem arr5_apply (c : Dev nD) (n : Fin 128) (a : Fin 64) (k : Fin 7168) :
    (dats m 0 c).arrAt 5 cfg0.N (ix3 n a k)
      = shapeCast S256x64x7168 (m ((c : Thread nD τ).loc main_arg3)) shapeCasts_S2x8x1024x7168_S256x64x7168 (ix3 ⟨n.val, by omega⟩ a k) := by
  obtain ⟨t, ht⟩ : ∃ t : Fin cfg0.N, t.val = n.val := ⟨⟨n.val, by rw [show cfg0.N = 128 from N_0]; omega⟩, rfl⟩
  have e3 := (index_pt t).2.2.2.1
  have e := (index_pt t).2.2.2.2.2.1
  have hb := congrFun (blocks5 m c t (flush0_5 _)) (ix3 0 a k)
  rw [flushed5_A, out5_eq, View.read_apply] at hb
  refine Eq.trans ?_ (hb.trans ?_)
  · congr 1
    funext x
    apply Fin.ext
    match x with
    | ⟨0, _⟩ => show n.val = win0_5.index t 0 * 1 + 1 * 0; rw [e.1]; omega
    | ⟨1, _⟩ => show a.val = win0_5.index t 1 * 64 + 1 * a.val; rw [e.2.1]; omega
    | ⟨2, _⟩ => show k.val = win0_5.index t 2 * 7168 + 1 * k.val; rw [e.2.2]; omega
  · show k0_pay2 (iblk m c 3 t) (ix3 0 a k) = _
    rw [pay2_apply]
    unfold iblk
    rw [View.read_apply]
    show V m c main_v0 _ = _
    rw [V_v0]
    congr 1
    funext x
    apply Fin.ext
    match x with
    | ⟨0, _⟩ => show win0_3.index t 0 * 1 + 1 * 0 = n.val; rw [e3.1]; omega
    | ⟨1, _⟩ => show win0_3.index t 1 * 64 + 1 * a.val = a.val; rw [e3.2.1]; omega
    | ⟨2, _⟩ => show win0_3.index t 2 * 7168 + 1 * k.val = k.val; rw [e3.2.2]; omega

/-- The array of zeros. -/
theorem arr6_apply (c : Dev nD) (n : Fin 37888) (k : Fin 1024) :
    (dats m 0 c).arrAt 6 cfg0.N (ix2 n k) = (0 : EReal) := by
  obtain ⟨t, ht⟩ : ∃ t : Fin cfg0.N, t.val = n.val / 296 := ⟨⟨n.val / 296, by rw [show cfg0.N = 128 from N_0]; omega⟩, rfl⟩
  have e := (index_pt t).2.2.2.2.2.2
  have hb := congrFun (blocks6 m c t (flush0_6 _)) (ix2 ⟨n.val % 296, by omega⟩ k)
  rw [flushed6_A, out6_eq, View.read_apply] at hb
  refine Eq.trans ?_ (hb.trans ?_)
  · congr 1
    funext x
    apply Fin.ext
    match x with
    | ⟨0, _⟩ => show n.val = win0_6.index t 0 * 296 + 1 * (n.val % 296); rw [e.1]; omega
    | ⟨1, _⟩ => show k.val = win0_6.index t 1 * 1024 + 1 * k.val; rw [e.2]; omega
  · exact Ideal.ofBits_zero_f32

end Cert.KernelIdeal.Value

end
-- ==== Proof.Flash.Ref.lean ====
/-
  The reference's attention, read at an index.
-/
module

public import proofs.«01_k».proof.Proof.Flash.Online
public import proofs.«01_k».proof.Proof.Gen.ReferenceIdeal
public import Idealize.ShloMosaic.Lib.ValueIdx
public import Idealize.ShloMosaic.Lib.Pointwise
public import Idealize.ShloMosaic.Lib.Tactic

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The scaled scores. -/
def refS (q k : Vec Ideal S2x8448x2048 .bf16) : FVec Ideal S2x8x8192x8448 .f32 :=
  mulf (Host.dotGeneral dot_S2x8192x8x256_S2x8448x8x256_S2x8x8192x8448_3_3_1_1_02_02 none
      (shapeCast _ (extractStridedSlice S2x8192x2048 ![0, 0, 0] (extf .f32 q bitsLt_bf16_f32) slices_S2x8448x2048_S2x8192x2048_0_0_0) shapeCasts_S2x8192x2048_S2x8192x8x256)
      (shapeCast _ (extf .f32 k bitsLt_bf16_f32) shapeCasts_S2x8448x2048_S2x8448x8x256))
    (broadcastInDim S2x8x8192x8448 ![] bcast_S_S2x8x8192x8448 (Host.log (constant S_ .f32 0x40000000#32)))

/-- A row's maximum, the word `w` its start. -/
def refMax (w : BitVec 32) (S : FVec Ideal S2x8x8192x8448 .f32) : FVec Ideal S2x8x8192 .f32 :=
  maximumf (broadcastInDim S2x8x8192 ![] bcast_S_S2x8x8192 (constant S_ .f32 w))
    (Host.reduce FloatOps.maximumf S (constant S_ .f32 w) reducesTo_S2x8x8192x8448_S2x8x8192_d3 h_S_)

/-- A number per row, repeated along the row. -/
def refRow (M : FVec Ideal S2x8x8192 .f32) : FVec Ideal S2x8x8192x8448 .f32 :=
  broadcastInDim S2x8x8192x8448 ![0, 1, 2, 3] bcast_S2x8x8192x1_S2x8x8192x8448_0_1_2_3 (broadcastInDim S2x8x8192x1 ![0, 1, 2] bcast_S2x8x8192_S2x8x8192x1_0_1_2 M)

/-- A row's sum. -/
def refSum (E : FVec Ideal S2x8x8192x8448 .f32) : FVec Ideal S2x8x8192 .f32 :=
  Host.reduceAdd E (constant S_ .f32 0x00000000#32) reducesTo_S2x8x8192x8448_S2x8x8192_d3 h_S_

/-- The exponentials, given the scores and each row's maximum. -/
def refE (S : FVec Ideal S2x8x8192x8448 .f32) (M : FVec Ideal S2x8x8192 .f32) : FVec Ideal S2x8x8192x8448 .f32 :=
  Host.exp (subf S (refRow M))

/-- The weighted values, given the exponentials and their sums. -/
def refO (v : Vec Ideal S2x8448x1024 .bf16) (E : FVec Ideal S2x8x8192x8448 .f32) (L : FVec Ideal S2x8x8192 .f32) : FVec Ideal S2x8192x1024 .bf16 :=
  shapeCast _ (truncf .bf16 (transpose S2x8192x8x128 [0, 3, 1, 2]
    (Host.dotGeneral dot_S2x8448x8x128_S2x8x8192x8448_S2x8x128x8192_1_3_3_2_02_01 none
      (shapeCast _ (extf .f32 v bitsLt_bf16_f32) shapeCasts_S2x8448x1024_S2x8448x8x128)
      (extf .f32 (truncf .bf16 (Host.divf E (refRow L)) bitsLt_bf16_f32) bitsLt_bf16_f32))
    transposes_S2x8x128x8192_S2x8192x8x128_0_3_1_2) bitsLt_bf16_f32) shapeCasts_S2x8192x8x128_S2x8192x1024

/-- The logarithm of the pattern of 2. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe]
  norm_num

/-- A scaled score, read at an index. -/
theorem refS_apply (q k : Vec Ideal S2x8448x2048 .bf16) (b : Fin 2) (h : Fin 8) (r : Fin 8192) (t : Fin 8448) :
    refS q k (ix4 b h r t) = (∑ d : Fin 256, q (ix3 b ⟨r.val, by omega⟩ ⟨256 * h.val + d.val, by omega⟩) * k (ix3 b t ⟨256 * h.val + d.val, by omega⟩)) * ((Real.log 2 : ℝ) : EReal) := by
  rw [← log_two]
  unfold refS
  pointwise
  simp only [Nat.mul_comm 256]

/-- A row's maximum from any start. -/
theorem rowMax_apply (z : FVec Ideal S_ .f32) (S : FVec Ideal S2x8x8192x8448 .f32) (b : Fin 2) (h : Fin 8) (r : Fin 8192) :
    Host.reduce FloatOps.maximumf S z reducesTo_S2x8x8192x8448_S2x8x8192_d3 h_S_ (ix3 b h r)
      = Finset.univ.fold max (z (Shape.Idx.first h_S_)) fun t : Fin 8448 => S (ix4 b h r t) := by
  pointwise

/-- A row's maximum, read at an index. -/
theorem refMax_apply (w : BitVec 32) (S : FVec Ideal S2x8x8192x8448 .f32) (b : Fin 2) (h : Fin 8) (r : Fin 8192) :
    refMax w S (ix3 b h r) = max (Ideal.ofBits .f32 w) (Finset.univ.fold max (Ideal.ofBits .f32 w) fun t : Fin 8448 => S (ix4 b h r t)) :=
  congrArg (max (Ideal.ofBits .f32 w)) (rowMax_apply (constant S_ .f32 w) S b h r)

/-- A number per row, read along the row. -/
theorem refRow_apply (M : FVec Ideal S2x8x8192 .f32) (b : Fin 2) (h : Fin 8) (r : Fin 8192) (t : Fin 8448) :
    refRow M (ix4 b h r t) = M (ix3 b h r) := by
  unfold refRow
  pointwise

/-- A row's sum, read at an index. -/
theorem refSum_apply (E : FVec Ideal S2x8x8192x8448 .f32) (b : Fin 2) (h : Fin 8) (r : Fin 8192) :
    refSum E (ix3 b h r) = ∑ t : Fin 8448, E (ix4 b h r t) := by
  unfold refSum
  pointwise

/-- An exponential, read at an index. -/
theorem refE_apply (S : FVec Ideal S2x8x8192x8448 .f32) (M : FVec Ideal S2x8x8192 .f32) (b : Fin 2) (h : Fin 8) (r : Fin 8192) (t : Fin 8448) :
    refE S M (ix4 b h r t) = Ideal.exp (S (ix4 b h r t) - M (ix3 b h r)) := by
  rw [← refRow_apply M b h r t]
  rfl

/-- The weighted values, read at an index. -/
theorem refO_apply (v : Vec Ideal S2x8448x1024 .bf16) (E : FVec Ideal S2x8x8192x8448 .f32) (L : FVec Ideal S2x8x8192 .f32) (b : Fin 2) (h : Fin 8) (r : Fin 8192) (d : Fin 128) :
    refO v E L (ix3 b r ⟨128 * h.val + d.val, by omega⟩)
      = ∑ t : Fin 8448, v (ix3 b t ⟨128 * h.val + d.val, by omega⟩) * Ideal.div (E (ix4 b h r t)) (L (ix3 b h r)) := by
  unfold refO
  pointwise
  simp only [refRow_apply, Nat.mul_comm 128]

/-- The reference's attention, of its queries, keys and values. -/
def attnRef (q k : Vec Ideal S2x8448x2048 .bf16) (v : Vec Ideal S2x8448x1024 .bf16) : FVec Ideal S2x8192x1024 .bf16 :=
  refO v (refE (refS q k) (refMax 0xFF800000#32 (refS q k))) (refSum (refE (refS q k) (refMax 0xFF800000#32 (refS q k))))

/-- The reference's attention of equal arrays. -/
theorem attn_congr {q k q' k' : Vec Ideal S2x8448x2048 .bf16} {v v' : Vec Ideal S2x8448x1024 .bf16} (hq : q' = q) (hk : k' = k) (hv : v' = v) :
    attnRef q' k' v' = attnRef q k v := by
  rw [hq, hk, hv]

/-- The cast weights: the first layer's slice, reshaped. -/
def refW (w : Vec Ideal S2x8x1024x7168 .f32) : FVec Ideal S128x64x7168 .bf16 :=
  shapeCast _ (truncf .bf16 (shapeCast _ (extractStridedSlice S1x8x1024x7168 ![0, 0, 0, 0] w slices_S2x8x1024x7168_S1x8x1024x7168_0_0_0_0) shapeCasts_S1x8x1024x7168_S8x1024x7168) bitsLt_bf16_f32) shapeCasts_S8x1024x7168_S128x64x7168

/-- The cast weights, read at an index. -/
theorem refW_apply (w : Vec Ideal S2x8x1024x7168 .f32) (n : Fin 128) (a : Fin 64) (k : Fin 7168) :
    refW w (ix3 n a k) = w (ix4 0 ⟨n.val / 16, by omega⟩ ⟨64 * (n.val % 16) + a.val, by omega⟩ k) := by
  unfold refW
  pointwise
  simp only [Nat.mul_comm 64]

end Cert.ReferenceIdeal.Value

end
-- ==== Proof.Flash.Equal.lean ====
/-
  The arrays the kernel leaves are the reference's results.
-/
module

public import proofs.«01_k».proof.Defs
public import proofs.«01_k».proof.Proof.Flash.Array
public import proofs.«01_k».proof.Proof.Flash.Ref
public import proofs.«01_k».proof.Proof.Gen.Pre_finite_qk
public import Idealize.ShloMosaic.Lib.ReduceAll

@[expose] public section

set_option maxRecDepth 16384

noncomputable section

namespace Cert.Flash

open Cert.KernelIdeal Cert.KernelIdeal.Gen Cert.KernelIdeal.Value Idealize.ShloMosaic Idealize.ShloMosaic.TcCoe Idealize.SL.Sem
open Cert.ReferenceIdeal.Value (attnRef refS refMax refE refSum refO refW refS_apply refMax_apply refE_apply refSum_apply refO_apply refW_apply)

/-- An absolute value below `+∞` is that of a real. -/
theorem real_of_abs_lt (x : EReal) (h : max x (-x) < ⊤) : ∃ r : ℝ, x = (r : EReal) := by
  induction x using EReal.rec with
  | bot => simp at h
  | coe r => exact ⟨r, rfl⟩
  | top => simp at h

/-- The pattern of `+∞`. -/
theorem ofBits_inf : Ideal.ofBits .f32 0x7F800000#32 = ⊤ := by
  simp [Ideal.ofBits, Ideal.ieee]

/-- The comparison word of an absolute value with `+∞` is 1 at reals only. -/
theorem real_of_word (x : EReal) (h : Ideal.cmp .olt (max x (-x)) (Ideal.ofBits .f32 0x7F800000#32) = 1#1) : ∃ r : ℝ, x = (r : EReal) := by
  rw [ofBits_inf] at h
  refine real_of_abs_lt x ?_
  by_contra hn
  simp [Ideal.cmp, hn] at h

/-- Both words of a conjunction that is 1 are 1. -/
theorem and_one : ∀ a b : BitVec 1, IntOp.andi a b = 1#1 → a = 1#1 ∧ b = 1#1 := by decide

/-- What the precondition says: every query and key entry is a real. -/
theorem pre_real (q k : Vec Ideal S2x8448x2048 .bf16) (v : Vec Ideal S2x8448x1024 .bf16) (w : Vec Ideal S2x8x1024x7168 .f32)
    (h : @Cert.Pre_finite_qk.fn Cert.Pre_finite_qk.Gen.facts Ideal _ q k v w = fun _ => 1#1) :
    (∀ i, ∃ x : ℝ, q i = (x : EReal)) ∧ ∀ i, ∃ x : ℝ, k i = (x : EReal) := by
  have h0 := congrFun h ix0
  dsimp only [Cert.Pre_finite_qk.fn] at h0
  obtain ⟨e1, e2⟩ := and_one _ _ h0
  exact ⟨fun i => real_of_word _ (Host.reduce_andi_all _ _ _ _ ix0 e1 i), fun i => real_of_word _ (Host.reduce_andi_all _ _ _ _ ix0 e2 i)⟩

/-- A block's row of attention is the reference's, the block holding the arrays' rows and lanes. -/
theorem row_eq (q k : Vec Ideal S2x8448x2048 .bf16) (v : Vec Ideal S2x8448x1024 .bf16)
    (hq : ∀ i, ∃ x : ℝ, q i = (x : EReal)) (hk : ∀ i, ∃ x : ℝ, k i = (x : EReal))
    (b : Fin 2) (h i : Fin 8) (r : Fin 1024) (d : Fin 128)
    (x0 : Vec Ideal S1x1024x256 .bf16) (x1 : Vec Ideal S1x8448x256 .bf16) (x2 : Vec Ideal S1x8448x128 .bf16)
    (hx0 : ∀ e : Fin 256, x0 (ix3 0 r e) = q (ix3 b ⟨1024 * i.val + r.val, by omega⟩ ⟨256 * h.val + e.val, by omega⟩))
    (hx1 : ∀ (t : Fin 8448) (e : Fin 256), x1 (ix3 0 t e) = k (ix3 b t ⟨256 * h.val + e.val, by omega⟩))
    (hx2 : ∀ t : Fin 8448, x2 (ix3 0 t d) = v (ix3 b t ⟨128 * h.val + d.val, by omega⟩)) :
    k0_pay1 (acc3 x0 x1 x2) (l3 x0 x1) (ix3 0 r d)
      = attnRef q k v
          (ix3 b (⟨1024 * i.val + r.val, by omega⟩ : Fin 8192) ⟨128 * h.val + d.val, by omega⟩) := by
  unfold attnRef
  choose qr hqr using hq
  choose kr hkr using hk
  obtain ⟨s, hs⟩ : ∃ s : Fin 8448 → ℝ, ∀ t, ∑ e : Fin 256, x0 (ix3 0 r e) * x1 (ix3 0 t e) = (s t : EReal) := by
    refine ⟨fun t => ∑ e : Fin 256, qr (ix3 b ⟨1024 * i.val + r.val, by omega⟩ ⟨256 * h.val + e.val, by omega⟩) * kr (ix3 b t ⟨256 * h.val + e.val, by omega⟩), fun t => ?_⟩
    rw [coe_sum]
    exact Finset.sum_congr rfl fun e _ => by rw [hx0, hx1, hqr, hkr, EReal.coe_mul]
  have hS : ∀ t, refS q k (ix4 b h ⟨1024 * i.val + r.val, by omega⟩ t) = ((s t * Real.log 2 : ℝ) : EReal) := by
    intro t
    rw [refS_apply, EReal.coe_mul, ← hs t]
    exact congrArg (· * _) (Finset.sum_congr rfl fun e _ => by rw [hx0, hx1])
  generalize refS q k = S at hS ⊢
  obtain ⟨R, hR⟩ : ∃ R : ℝ, refMax 0xFF800000#32 S (ix3 b h ⟨1024 * i.val + r.val, by omega⟩) = (R : EReal) := by
    obtain ⟨R, hR⟩ := fold_max_real (n := 8448) (by omega) fun t => s t * Real.log 2
    refine ⟨R, ?_⟩
    rw [refMax_apply, ofBits_neg_inf, ← hR, max_eq_right bot_le]
    exact Finset.fold_congr fun t _ => hS t
  generalize refMax 0xFF800000#32 S = M at hR ⊢
  rw [refO_apply, refSum_apply]
  simp only [refE_apply, hS, hR]
  rw [row_softmax x0 x1 x2 r s hs R d]
  exact Finset.sum_congr rfl fun t _ => by rw [hx2]

/-- The attention array is the reference's. -/
theorem attn_eq (m : (ℓ : Loc nD τ sig) → Buf (Elt Ideal) ℓ) (c : Dev nD)
    (hq : ∀ i, ∃ x : ℝ, m ((c : Thread nD τ).loc main_arg0) i = (x : EReal)) (hk : ∀ i, ∃ x : ℝ, m ((c : Thread nD τ).loc main_arg1) i = (x : EReal)) :
    (dats m 0 c).arrAt 4 cfg0.N
      = attnRef (m ((c : Thread nD τ).loc main_arg0)) (m ((c : Thread nD τ).loc main_arg1)) (m ((c : Thread nD τ).loc main_arg2)) := by
  funext j
  have h0 : (j 0).val < 2 := (j 0).isLt
  have h1 : (j 1).val < 8192 := (j 1).isLt
  have h2 : (j 2).val < 1024 := (j 2).isLt
  obtain ⟨b, hb⟩ : ∃ b : Fin 2, b.val = (j 0).val := ⟨⟨_, h0⟩, rfl⟩
  obtain ⟨i, hi⟩ : ∃ i : Fin 8, i.val = (j 1).val / 1024 := ⟨⟨(j 1).val / 1024, by omega⟩, rfl⟩
  obtain ⟨r, hr⟩ : ∃ r : Fin 1024, r.val = (j 1).val % 1024 := ⟨⟨(j 1).val % 1024, by omega⟩, rfl⟩
  obtain ⟨h, hh⟩ : ∃ h : Fin 8, h.val = (j 2).val / 128 := ⟨⟨(j 2).val / 128, by omega⟩, rfl⟩
  obtain ⟨d, hd⟩ : ∃ d : Fin 128, d.val = (j 2).val % 128 := ⟨⟨(j 2).val % 128, by omega⟩, rfl⟩
  have hj : j = ix3 b (⟨1024 * i.val + r.val, by omega⟩ : Fin 8192) (⟨128 * h.val + d.val, by omega⟩ : Fin 1024) := by
    funext a
    apply Fin.ext
    match a with
    | ⟨0, _⟩ => exact hb.symm
    | ⟨1, _⟩ => show (j 1).val = 1024 * i.val + r.val; omega
    | ⟨2, _⟩ => show (j 2).val = 128 * h.val + d.val; omega
  rw [hj]
  exact (arr4_apply m c b h i r d).trans (row_eq _ _ _ hq hk b h i r d _ _ _
    (fun e => X0_apply m c b h i r e) (fun t e => X1_apply m c b h i t e) (fun t => X2_apply m c b h i t d))

/-- The expert weights of both layers as 256 groups of 64 rows, read at a group of the first layer. -/
theorem flat_apply (w : Vec Ideal S2x8x1024x7168 .f32) (n : Fin 128) (a : Fin 64) (k : Fin 7168) :
    shapeCast S256x64x7168 w shapeCasts_S2x8x1024x7168_S256x64x7168 (ix3 ⟨n.val, by omega⟩ a k)
      = w (ix4 0 ⟨n.val / 16, by omega⟩ ⟨64 * (n.val % 16) + a.val, by omega⟩ k) := by
  pointwise
  congr 2
  · exact Fin.ext (by show n.val / 128 = 0; omega)
  · exact Fin.ext (by show n.val / 16 % 8 = n.val / 16; omega)
  · exact Fin.ext (by show n.val % 16 * 64 + a.val = 64 * (n.val % 16) + a.val; omega)

/-- The cast weights are the reference's. -/
theorem weights_eq (m : (ℓ : Loc nD τ sig) → Buf (Elt Ideal) ℓ) (c : Dev nD) :
    (dats m 0 c).arrAt 5 cfg0.N = refW (m ((c : Thread nD τ).loc main_arg3)) := by
  funext j
  have hj : j = ix3 (j 0) (j 1) (j 2) := by
    funext a
    match a with
    | ⟨0, _⟩ => rfl
    | ⟨1, _⟩ => rfl
    | ⟨2, _⟩ => rfl
  rw [hj]
  refine (arr5_apply m c (j 0) (j 1) (j 2)).trans (Eq.trans ?_ (refW_apply _ (j 0) (j 1) (j 2)).symm)
  exact flat_apply _ (j 0) (j 1) (j 2)

end Cert.Flash

end
-- ==== Proof.Gqa.Block.lean ====
/-
  The attention block one grid point of the grouped-head call writes: the two heads of a group stand as the upper and the
  lower half of 1024 rows, which go through three key chunks as the other attention's rows do.
-/
module

public import proofs.«01_k».proof.Proof.Gen.GqaIdeal.Value
public import proofs.«01_k».proof.Proof.Flash.Row
public import Idealize.ShloMosaic.Lib.Tactic
public import Idealize.ShloMosaic.Lib.Pipeline.ValueKit.Acc

@[expose] public section

set_option maxRecDepth 16384

noncomputable section

namespace Cert.GqaIdeal.Value

open Cert.GqaIdeal Cert.GqaIdeal.Gen Idealize.ShloMosaic Idealize.ShloMosaic.TcCoe Idealize.SL.Sem
open Cert.KernelIdeal.Value (hz2 zero2 hz3 m0 z0 vCh accStep lStep accAll lAll mAll1 mAll2 accStep_list foldl_lanes)

variable {F : FTy → Type} [FloatOps F]

/-- The running maximum after a chunk, as in the other attention call. -/
abbrev mNew (S : FVec F S1024x2816 .f32) (m : FVec F S1024x128 .f32) : FVec F S1024x128 .f32 := Cert.KernelIdeal.Gen.k0_pay9 S m

/-- One head's queries: 128 lanes of the block, from lane `o` on. -/
abbrev qHalf (x0 : Vec F S1x512x256 .bf16) (o : ℕ) (h : ∀ a, ![0, 0, o] a + S1x512x128.size a ≤ S1x512x256.size a) : Vec F S1x512x128 .bf16 :=
  View.ld x0 (Rect.unit ![0, 0, o] S1x512x128.size h)

section
variable (x0 : Vec F S1x512x256 .bf16) (x1 x2 : Vec F S1x8448x128 .bf16)

/-- The scores of the two heads' queries and a chunk of keys. -/
def scores (k : Vec F S1x2816x128 .bf16) : FVec F S1024x2816 .f32 :=
  k0_pay9 (qHalf x0 0 inb_S1x512x256_S1x512x128_0_0_0) (qHalf x0 128 inb_S1x512x256_S1x512x128_0_0_128) k

/-- The first chunk's scores. -/
def sc0 : FVec F S1024x2816 .f32 := scores x0 (vCh x1 0 inb_S1x8448x128_S1x2816x128_0_0_0)
/-- The second chunk's scores. -/
def sc1 : FVec F S1024x2816 .f32 := scores x0 (vCh x1 2816 inb_S1x8448x128_S1x2816x128_0_2816_0)
/-- The third chunk's scores. -/
def sc2 : FVec F S1024x2816 .f32 := scores x0 (vCh x1 5632 inb_S1x8448x128_S1x2816x128_0_5632_0)

/-- The weighted values after the three chunks. -/
def acc : FVec F S1024x128 .f32 := accAll (sc0 x0 x1) (sc1 x0 x1) (sc2 x0 x1)
  (vCh x2 0 inb_S1x8448x128_S1x2816x128_0_0_0) (vCh x2 2816 inb_S1x8448x128_S1x2816x128_0_2816_0) (vCh x2 5632 inb_S1x8448x128_S1x2816x128_0_5632_0)
/-- The lanes' sums after the three chunks. -/
def lan : FVec F S1024x128 .f32 := lAll (sc0 x0 x1) (sc1 x0 x1) (sc2 x0 x1)

/-- The first chunk's scores, named. -/
theorem sc0_eq : k0_pay9 (View.ld x0 (Rect.unit ![0, 0, 0] S1x512x128.size inb_S1x512x256_S1x512x128_0_0_0)) (View.ld x0 (Rect.unit ![0, 0, 128] S1x512x128.size inb_S1x512x256_S1x512x128_0_0_128)) (View.ld x1 (Rect.unit ![0, 0, 0] S1x2816x128.size inb_S1x8448x128_S1x2816x128_0_0_0)) = sc0 x0 x1 := rfl
/-- The second chunk's scores, named. -/
theorem sc1_eq : k0_pay9 (View.ld x0 (Rect.unit ![0, 0, 0] S1x512x128.size inb_S1x512x256_S1x512x128_0_0_0)) (View.ld x0 (Rect.unit ![0, 0, 128] S1x512x128.size inb_S1x512x256_S1x512x128_0_0_128)) (View.ld x1 (Rect.unit ![0, 2816, 0] S1x2816x128.size inb_S1x8448x128_S1x2816x128_0_2816_0)) = sc1 x0 x1 := rfl
/-- The third chunk's scores, named. -/
theorem sc2_eq : k0_pay9 (View.ld x0 (Rect.unit ![0, 0, 0] S1x512x128.size inb_S1x512x256_S1x512x128_0_0_0)) (View.ld x0 (Rect.unit ![0, 0, 128] S1x512x128.size inb_S1x512x256_S1x512x128_0_0_128)) (View.ld x1 (Rect.unit ![0, 5632, 0] S1x2816x128.size inb_S1x8448x128_S1x2816x128_0_5632_0)) = sc2 x0 x1 := rfl
end

/-- The running maximum's own cast. -/
theorem pay52_eq (x : FVec F S1024x128 .f32) : k0_pay52 x = x := shapeCast_self _ _
/-- The same later in the body. -/
theorem pay84_eq (x : FVec F S1024x128 .f32) : k0_pay84 x = x := shapeCast_self _ _
/-- The running maximum starts at `-∞`. -/
theorem pay6_eq : k0_pay6 (F := F) = m0 := shapeCast_self _ _
/-- The lane sums start at zero. -/
theorem pay7_eq : k0_pay7 (F := F) = z0 := shapeCast_self _ _
/-- The weighted values start at zero. -/
theorem pay8_eq : k0_pay8 (F := F) = z0 := shapeCast_self _ _
/-- The first chunk's running maximum. -/
theorem pay10_eq (S : FVec F S1024x2816 .f32) (m : FVec F S1024x128 .f32) : k0_pay10 S m = mNew S m := rfl
/-- The second chunk's scores are the first's product. -/
theorem pay53_eq (a b : Vec F S1x512x128 .bf16) (k : Vec F S1x2816x128 .bf16) : k0_pay53 (k0_pay5 a b) k = k0_pay9 a b k := rfl
/-- So are the third's. -/
theorem pay85_eq (a b : Vec F S1x512x128 .bf16) (k : Vec F S1x2816x128 .bf16) : k0_pay85 (k0_pay5 a b) k = k0_pay9 a b k := rfl
/-- The second chunk's running maximum. -/
theorem pay54_eq (a b : Vec F S1x512x128 .bf16) (k : Vec F S1x2816x128 .bf16) (m : FVec F S1024x128 .f32) :
    k0_pay54 (k0_pay5 a b) k m = mNew (k0_pay9 a b k) m := rfl
/-- The third chunk's running maximum. -/
theorem pay86_eq (a b : Vec F S1x512x128 .bf16) (k : Vec F S1x2816x128 .bf16) (m : FVec F S1024x128 .f32) :
    k0_pay86 (k0_pay5 a b) k m = mNew (k0_pay9 a b k) m := rfl
/-- The first running maximum, named. -/
theorem m1_eq (S0 : FVec F S1024x2816 .f32) : mNew S0 m0 = mAll1 S0 := rfl
/-- The second running maximum, named. -/
theorem m2_eq (S0 S1 : FVec F S1024x2816 .f32) : mNew S1 (mAll1 S0) = mAll2 S0 S1 := rfl

/-- The two pieces of an output block, the last written first: the second head's lanes, then the first's. -/
def pieces (A L : FVec F S1024x128 .f32) : List (View.Piece (Elt F) S1x512x256 .bf16) :=
  [⟨Rect.unit (s := S1x512x256) ![0, 0, 128] S1x512x128.size inb_S1x512x256_S1x512x128_0_0_128, k0_pay3 A L⟩,
    ⟨Rect.unit (s := S1x512x256) ![0, 0, 0] S1x512x128.size inb_S1x512x256_S1x512x128_0_0_0, k0_pay2 A L⟩]

set_option maxHeartbeats 2000000 in
/-- What a point leaves in the attention window: two pieces of the quotient, side by side. -/
theorem out4_eq (c : Dev nD) (i : grid0.Coords) (a3 : Memref sig .tc .vmem S1x512x256 .bf16) (h3 : a3.IsWhole) (a4 : Memref sig .tc .vmem S1x8448x128 .bf16) (h4 : a4.IsWhole) (a5 : Memref sig .tc .vmem S1x8448x128 .bf16) (h5 : a5.IsWhole) (a6 : Memref sig .tc .vmem S1x448x1024 .f32) (h6 : a6.IsWhole) (a7 : Memref sig .tc .vmem S1x512x256 .bf16) (h7 : a7.IsWhole) (a8 : Memref sig .tc .vmem S1x448x1024 .bf16) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole)
    (x0 : Vec F S1x512x256 .bf16) (x1 : Vec F S1x8448x128 .bf16) (x2 : Vec F S1x8448x128 .bf16) (x3 : Vec F S1x448x1024 .f32) :
    out0_A_4 c i a3 h3 a4 h4 a5 h5 a6 h6 a7 h7 a8 h8 a9 h9 a10 h10 a11 h11 x0 x1 x2 x3 = View.canon (pieces (acc x0 x1 x2) (lan x0 x1)) := by
  unfold out0_A_4
  rw [View.read_writes_eq_canon _ _ _ (cover0_A_4 c i a3 h3 a4 h4 a5 h5 a6 h6 a7 h7 a8 h8 a9 h9 a10 h10 a11 h11 x0 x1 x2 x3)]
  unfold kernelRun0_A
  dsimp only
  sl_unfold_words
  simp only [View.readCov_cons_unit_lit' (S := S1024x128) _ _ _ _ _ zero2 zero2, View.readAt_eq_ld, h3.read_unread, h4.read_unread, h5.read_unread]
  simp only [pay52_eq, pay84_eq, pay6_eq, pay7_eq, pay8_eq, pay53_eq, pay54_eq, pay85_eq, pay86_eq, pay10_eq]
  simp only [sc0_eq, sc1_eq, sc2_eq, m1_eq, m2_eq]
  refine congrArg₂ (fun A L => View.canon (pieces A L)) ?_ ?_
  · rw [acc, accAll, accStep_list]
    unfold k0_pay113
    dsimp only
    rw [shapeCast_self]
    refine congrArg₂ addf (congrArg₂ mulf rfl ?_) rfl
    rw [accStep_list]
    unfold k0_pay83
    dsimp only
    rw [shapeCast_self]
    refine congrArg₂ addf (congrArg₂ mulf rfl ?_) rfl
    rw [accStep_list]
    unfold k0_pay51
    dsimp only
    rw [shapeCast_self]
    exact congrArg₂ addf rfl rfl
  · rw [lan, lAll, lStep, foldl_lanes]
    unfold k0_pay112
    dsimp only
    rw [shapeCast_self]
    refine congrArg₂ addf (congrArg₂ mulf rfl ?_) rfl
    rw [lStep, foldl_lanes]
    unfold k0_pay80
    dsimp only
    rw [shapeCast_self]
    refine congrArg₂ addf (congrArg₂ mulf rfl ?_) rfl
    rw [lStep, foldl_lanes]
    unfold k0_pay34
    dsimp only
    rw [shapeCast_self]
    exact congrArg₂ addf rfl rfl

/-- What a point leaves in the cast window: the block of weights, cast. -/
theorem out5_eq (c : Dev nD) (i : grid0.Coords) (a3 : Memref sig .tc .vmem S1x512x256 .bf16) (h3 : a3.IsWhole) (a4 : Memref sig .tc .vmem S1x8448x128 .bf16) (h4 : a4.IsWhole) (a5 : Memref sig .tc .vmem S1x8448x128 .bf16) (h5 : a5.IsWhole) (a6 : Memref sig .tc .vmem S1x448x1024 .f32) (h6 : a6.IsWhole) (a7 : Memref sig .tc .vmem S1x512x256 .bf16) (h7 : a7.IsWhole) (a8 : Memref sig .tc .vmem S1x448x1024 .bf16) (h8 : a8.IsWhole) (a9 : Memref sig .tc .vmem S1024x128 .f32) (h9 : a9.IsWhole) (a10 : Memref sig .tc .vmem S1024x128 .f32) (h10 : a10.IsWhole) (a11 : Memref sig .tc .vmem S1024x128 .f32) (h11 : a11.IsWhole)
    (x0 : Vec F S1x512x256 .bf16) (x1 : Vec F S1x8448x128 .bf16) (x2 : Vec F S1x8448x128 .bf16) (x3 : Vec F S1x448x1024 .f32) :
    out0_A_5 c i a3 h3 a4 h4 a5 h5 a6 h6 a7 h7 a8 h8 a9 h9 a10 h10 a11 h11 x0 x1 x2 x3 = k0_pay4 x3 := by
  unfold out0_A_5
  rw [View.read_writes_eq_canon _ _ _ (cover0_A_5 c i a3 h3 a4 h4 a5 h5 a6 h6 a7 h7 a8 h8 a9 h9 a10 h10 a11 h11 x0 x1 x2 x3)]
  unfold kernelRun0_A
  dsimp only
  rw [View.canon_unit_zero hz3]
  sl_unfold_words
  simp only [View.readAt_eq_ld, h6.read_unread, View.ld_unit_zero (S := S1x448x1024) hz3]

end Cert.GqaIdeal.Value

end
-- ==== Proof.Gqa.Step.lean ====
/-
  The grouped-head block read at an index: row `512 g + r` of the 1024 is query `r` of the group's head `g`.
-/
module

public import proofs.«01_k».proof.Proof.Gqa.Block

@[expose] public section

set_option maxRecDepth 16384

noncomputable section

namespace Cert.GqaIdeal.Value

open Cert.GqaIdeal Cert.GqaIdeal.Gen Idealize.ShloMosaic Idealize.ShloMosaic.TcCoe Idealize.SL.Sem
open Cert.KernelIdeal.Value (vCh vCh_apply chunks_softmax accAll lAll)

/-- The row of the 1024 that holds query `r` of head `g`. -/
abbrev row (g : Fin 2) (r : Fin 512) : Fin 1024 := ⟨512 * g.val + r.val, by omega⟩
/-- The lane of the 256 that holds lane `d` of head `g`. -/
abbrev lane (g : Fin 2) (d : Fin 128) : Fin 256 := ⟨128 * g.val + d.val, by omega⟩

/-- One head's queries, read at an index. -/
theorem qHalf_apply (x0 : Vec Ideal S1x512x256 .bf16) (o : ℕ) (h : ∀ a, (![0, 0, o] : Fin 3 → ℕ) a + S1x512x128.size a ≤ S1x512x256.size a)
    (r : Fin 512) (d : Fin 128) (hd : o + d.val < 256) :
    qHalf x0 o h (ix3 0 r d) = x0 (ix3 0 r ⟨o + d.val, hd⟩) := by
  show x0 _ = x0 _
  congr 1
  funext a
  fin_cases a <;> exact Fin.ext (by simp [Rect.unit])

/-- The two heads' queries stacked: the upper rows are the first head's. -/
theorem stack_fst (a b : Vec Ideal S1x512x128 .bf16) (r : Fin 512) (d : Fin 128) : k0_pay5 (F := Ideal) a b (ix2 (row 0 r) d) = a (ix3 0 r d) := by
  unfold k0_pay5
  pointwise
/-- The lower rows are the second head's. -/
theorem stack_snd (a b : Vec Ideal S1x512x128 .bf16) (r : Fin 512) (d : Fin 128) : k0_pay5 (F := Ideal) a b (ix2 (row 1 r) d) = b (ix3 0 r d) := by
  unfold k0_pay5
  pointwise

/-- The scores as a product with the stacked queries. -/
theorem product_apply (a b : Vec Ideal S1x512x128 .bf16) (k : Vec Ideal S1x2816x128 .bf16) (r : Fin 1024) (t : Fin 2816) :
    k0_pay9 (F := Ideal) a b k (ix2 r t) = ∑ d : Fin 128, k0_pay5 (F := Ideal) a b (ix2 r d) * k (ix3 0 t d) := by
  unfold k0_pay9
  generalize k0_pay5 (F := Ideal) a b = q
  pointwise

/-- A score of query `r` of head `g`. -/
theorem scores_apply (x0 : Vec Ideal S1x512x256 .bf16) (k : Vec Ideal S1x2816x128 .bf16) (g : Fin 2) (r : Fin 512) (t : Fin 2816) :
    scores x0 k (ix2 (row g r) t) = ∑ d : Fin 128, x0 (ix3 0 r (lane g d)) * k (ix3 0 t d) := by
  unfold scores
  rw [product_apply]
  refine Finset.sum_congr rfl fun d _ => congrArg (· * k (ix3 0 t d)) ?_
  match g with
  | 0 => exact (stack_fst _ _ r d).trans (qHalf_apply x0 0 _ r d (by omega))
  | 1 => exact (stack_snd _ _ r d).trans (qHalf_apply x0 128 _ r d (by omega))

/-- The first head's piece: the quotient of the upper rows. -/
theorem pay2_apply (A L : FVec Ideal S1024x128 .f32) (r : Fin 512) (d : Fin 128) :
    k0_pay2 (F := Ideal) A L (ix3 0 r d) = A (ix2 (row 0 r) d) * Ideal.div 1 (∑ b : Fin 128, L (ix2 (row 0 r) b)) := by
  rw [show row 0 r = ⟨r.val, by omega⟩ from Fin.ext (by simp)]
  unfold k0_pay2 k0_pay1
  pointwise

/-- The second head's piece: the quotient of the lower rows. -/
theorem pay3_apply (A L : FVec Ideal S1024x128 .f32) (r : Fin 512) (d : Fin 128) :
    k0_pay3 (F := Ideal) A L (ix3 0 r d) = A (ix2 (row 1 r) d) * Ideal.div 1 (∑ b : Fin 128, L (ix2 (row 1 r) b)) := by
  rw [show row 1 r = ⟨512 + r.val, by omega⟩ from Fin.ext (by simp)]
  unfold k0_pay3 k0_pay1
  pointwise

/-- The second head's part of the output block. -/
abbrev rect1 : Rect S1x512x256 := Rect.unit (s := S1x512x256) ![0, 0, 128] S1x512x128.size inb_S1x512x256_S1x512x128_0_0_128
/-- The first head's part of the output block. -/
abbrev rect0 : Rect S1x512x256 := Rect.unit (s := S1x512x256) ![0, 0, 0] S1x512x128.size inb_S1x512x256_S1x512x128_0_0_0

/-- Where the second head's part puts its lane `d`. -/
theorem rect1_emb (r : Fin 512) (d : Fin 128) : rect1.emb (ix3 0 r d : S1x512x128.Idx) = (ix3 0 r (lane 1 d) : S1x512x256.Idx) := by
  funext a
  apply Fin.ext
  match a with
  | ⟨0, _⟩ => rfl
  | ⟨1, _⟩ => show 0 + 1 * r.val = r.val; omega
  | ⟨2, _⟩ => show 128 + 1 * d.val = 128 * 1 + d.val; omega

/-- Where the first head's part puts its lane `d`. -/
theorem rect0_emb (r : Fin 512) (d : Fin 128) : rect0.emb (ix3 0 r d : S1x512x128.Idx) = (ix3 0 r (lane 0 d) : S1x512x256.Idx) := by
  funext a
  apply Fin.ext
  match a with
  | ⟨0, _⟩ => rfl
  | ⟨1, _⟩ => show 0 + 1 * r.val = r.val; omega
  | ⟨2, _⟩ => show 0 + 1 * d.val = 128 * 0 + d.val; omega

/-- The first head's lanes lie outside the second head's part. -/
theorem not_mem_rect1 (r : Fin 512) (d : Fin 128) : (ix3 0 r (lane 0 d) : S1x512x256.Idx) ∉ rect1.set := by
  intro h
  obtain ⟨x, hx⟩ := rect1.exists_idx_of_mem h
  have h2 : 128 + 1 * (x 2).val = 128 * 0 + d.val := congrArg (fun y : S1x512x256.Idx => (y 2).val) hx
  omega

/-- Two pieces side by side, read at the second head's lanes. -/
theorem canon_snd (w1 w0 : S1x512x128.Idx → Elt Ideal .bf16) (r : Fin 512) (d : Fin 128) :
    View.canon (Val := Elt Ideal) (e := .bf16) [⟨rect1, w1⟩, ⟨rect0, w0⟩] (ix3 0 r (lane 1 d)) = w1 (ix3 0 r d) := by
  rw [← rect1_emb]
  exact View.canon_cons_emb (Val := Elt Ideal) (e := .bf16) rect1 w1 _ (ix3 0 r d)

/-- Two pieces side by side, read at the first head's lanes. -/
theorem canon_fst (w1 w0 : S1x512x128.Idx → Elt Ideal .bf16) (r : Fin 512) (d : Fin 128) :
    View.canon (Val := Elt Ideal) (e := .bf16) [⟨rect1, w1⟩, ⟨rect0, w0⟩] (ix3 0 r (lane 0 d)) = w0 (ix3 0 r d) := by
  refine (View.canon_cons_of_not_mem (Val := Elt Ideal) (e := .bf16) ⟨rect1, w1⟩ [⟨rect0, w0⟩] (not_mem_rect1 r d)).trans ?_
  rw [← rect0_emb]
  exact View.canon_cons_emb (Val := Elt Ideal) (e := .bf16) rect0 w0 [] (ix3 0 r d)

/-- The output block, read at lane `d` of head `g`. -/
theorem pieces_apply (A L : FVec Ideal S1024x128 .f32) (g : Fin 2) (r : Fin 512) (d : Fin 128) :
    View.canon (pieces A L) (ix3 0 r (lane g d)) = A (ix2 (row g r) d) * Ideal.div 1 (∑ b : Fin 128, L (ix2 (row g r) b)) := by
  match g with
  | 0 => exact (canon_fst (k0_pay3 (F := Ideal) A L) (k0_pay2 (F := Ideal) A L) r d).trans (pay2_apply A L r d)
  | 1 => exact (canon_snd (k0_pay3 (F := Ideal) A L) (k0_pay2 (F := Ideal) A L) r d).trans (pay3_apply A L r d)

/-- A block's row is the softmax-weighted mean of the values, when the row's scores are real numbers `s`; the exponentials may
    be taken relative to any real `R`. -/
theorem row_softmax (x0 : Vec Ideal S1x512x256 .bf16) (x1 x2 : Vec Ideal S1x8448x128 .bf16) (g : Fin 2) (r : Fin 512) (s : Fin 8448 → ℝ)
    (hs : ∀ t, ∑ d : Fin 128, x0 (ix3 0 r (lane g d)) * x1 (ix3 0 t d) = (s t : EReal)) (R : ℝ) (d : Fin 128) :
    View.canon (pieces (acc x0 x1 x2) (lan x0 x1)) (ix3 0 r (lane g d))
      = ∑ t : Fin 8448, x2 (ix3 0 t d) * Ideal.div (Ideal.exp (((s t * Real.log 2 : ℝ) : EReal) - (R : EReal)))
          (∑ t' : Fin 8448, Ideal.exp (((s t' * Real.log 2 : ℝ) : EReal) - (R : EReal))) := by
  have hsc : ∀ (o : ℕ) (h : ∀ a, (![0, o, 0] : Fin 3 → ℕ) a + S1x2816x128.size a ≤ S1x8448x128.size a) (k : Fin 2816) (hk : o + k.val < 8448),
      scores x0 (vCh x1 o h) (ix2 (row g r) k) = ((s ⟨o + k.val, hk⟩ : ℝ) : EReal) := by
    intro o h k hk
    rw [scores_apply, ← hs]
    exact Finset.sum_congr rfl fun d _ => congrArg (x0 (ix3 0 r (lane g d)) * ·) (vCh_apply x1 o h k d hk)
  rw [pieces_apply]
  exact chunks_softmax (sc0 x0 x1) (sc1 x0 x1) (sc2 x0 x1) _ _ _ (row g r) s (hsc 0 _) (hsc 2816 _) (hsc 5632 _) R d
    (fun t => x2 (ix3 0 t d)) (fun k hk => vCh_apply x2 _ _ k d hk) (fun k hk => vCh_apply x2 _ _ k d hk) (fun k hk => vCh_apply x2 _ _ k d hk)

end Cert.GqaIdeal.Value

end
-- ==== Proof.Gqa.Array.lean ====
/-
  The two arrays the grouped-head call leaves, read at an index: every grid point writes one block of each.
-/
module

public import proofs.«01_k».proof.Proof.Gqa.Step

@[expose] public section

set_option maxRecDepth 16384

noncomputable section

namespace Cert.GqaIdeal.Value

open Cert.GqaIdeal Cert.GqaIdeal.Gen Idealize.ShloMosaic Idealize.ShloMosaic.TcCoe Idealize.SL.Sem
open Idealize.ShloMosaic.Pipeline (Dat)

/-- The block each window takes at point `t = 32 batch + 16 group + tile`. -/
theorem index_pt : ∀ t : Fin cfg0.N,
    (win0_0.index t 0 = t.val / 32 ∧ win0_0.index t 1 = t.val % 16 ∧ win0_0.index t 2 = t.val / 16 % 2)
    ∧ (win0_1.index t 0 = t.val / 32 ∧ win0_1.index t 1 = 0 ∧ win0_1.index t 2 = t.val / 16 % 2)
    ∧ (win0_2.index t 0 = t.val / 32 ∧ win0_2.index t 1 = 0 ∧ win0_2.index t 2 = t.val / 16 % 2)
    ∧ (win0_3.index t 0 = t.val ∧ win0_3.index t 1 = 0 ∧ win0_3.index t 2 = 0)
    ∧ (win0_4.index t 0 = t.val / 32 ∧ win0_4.index t 1 = t.val % 16 ∧ win0_4.index t 2 = t.val / 16 % 2)
    ∧ (win0_5.index t 0 = t.val ∧ win0_5.index t 1 = 0 ∧ win0_5.index t 2 = 0) :=
  (by decide +kernel : ∀ t : Fin grid0.N, _)

/-- The cast of a weight block changes no value. -/
theorem pay4_apply (x : Vec Ideal S1x448x1024 .f32) (j : S1x448x1024.Idx) : k0_pay4 (F := Ideal) x j = x j := by
  unfold k0_pay4
  pointwise

variable (m : (ℓ : Loc nD τ sig) → Buf (Elt Ideal) ℓ)

/-- The point of a batch, a group of heads and a tile of queries. -/
def pt (b h : Fin 2) (i : Fin 16) : Fin cfg0.N := ⟨32 * b.val + 16 * h.val + i.val, by rw [show cfg0.N = 64 from N_0]; omega⟩

/-- Lane `d` of head `g` of group `h`. -/
abbrev qLane (h g : Fin 2) (d : Fin 128) : Fin 512 := ⟨256 * h.val + (128 * g.val + d.val), by omega⟩

/-- The queries' block at a point. -/
theorem X0_apply (c : Dev nD) (b h : Fin 2) (i : Fin 16) (g : Fin 2) (r : Fin 512) (d : Fin 128) :
    X0_0 m c (pt b h i) (ix3 0 r (lane g d)) = m ((c : Thread nD τ).loc main_arg0) (ix3 b ⟨512 * i.val + r.val, by omega⟩ (qLane h g d)) := by
  have e := (index_pt (pt b h i)).1
  have ht : (pt b h i).val = 32 * b.val + 16 * h.val + i.val := rfl
  unfold X0_0 Pipeline.Window.fill
  rw [dif_pos (moved0_0 _ _)]
  unfold iblk
  rw [View.read_apply]
  show V m c main_arg0 _ = _
  rw [V_main_arg0]
  congr 1
  funext a
  apply Fin.ext
  match a with
  | ⟨0, _⟩ => show win0_0.index (pt b h i) 0 * 1 + 1 * 0 = b.val; rw [e.1]; omega
  | ⟨1, _⟩ => show win0_0.index (pt b h i) 1 * 512 + 1 * r.val = 512 * i.val + r.val; rw [e.2.1]; omega
  | ⟨2, _⟩ => show win0_0.index (pt b h i) 2 * 256 + 1 * (128 * g.val + d.val) = 256 * h.val + (128 * g.val + d.val); rw [e.2.2]; omega

/-- The keys' block at a point. -/
theorem X1_apply (c : Dev nD) (b h : Fin 2) (i : Fin 16) (k : Fin 8448) (d : Fin 128) :
    iblk m c 1 (pt b h i) (ix3 0 k d) = m ((c : Thread nD τ).loc main_arg1) (ix3 b k (lane h d)) := by
  have e := (index_pt (pt b h i)).2.1
  have ht : (pt b h i).val = 32 * b.val + 16 * h.val + i.val := rfl
  unfold iblk
  rw [View.read_apply]
  show V m c main_arg1 _ = _
  rw [V_main_arg1]
  congr 1
  funext a
  apply Fin.ext
  match a with
  | ⟨0, _⟩ => show win0_1.index (pt b h i) 0 * 1 + 1 * 0 = b.val; rw [e.1]; omega
  | ⟨1, _⟩ => show win0_1.index (pt b h i) 1 * 8448 + 1 * k.val = k.val; rw [e.2.1]; omega
  | ⟨2, _⟩ => show win0_1.index (pt b h i) 2 * 128 + 1 * d.val = 128 * h.val + d.val; rw [e.2.2]; omega

/-- The values' block at a point. -/
theorem X2_apply (c : Dev nD) (b h : Fin 2) (i : Fin 16) (k : Fin 8448) (d : Fin 128) :
    iblk m c 2 (pt b h i) (ix3 0 k d) = m ((c : Thread nD τ).loc main_arg2) (ix3 b k (lane h d)) := by
  have e := (index_pt (pt b h i)).2.2.1
  have ht : (pt b h i).val = 32 * b.val + 16 * h.val + i.val := rfl
  unfold iblk
  rw [View.read_apply]
  show V m c main_arg2 _ = _
  rw [V_main_arg2]
  congr 1
  funext a
  apply Fin.ext
  match a with
  | ⟨0, _⟩ => show win0_2.index (pt b h i) 0 * 1 + 1 * 0 = b.val; rw [e.1]; omega
  | ⟨1, _⟩ => show win0_2.index (pt b h i) 1 * 8448 + 1 * k.val = k.val; rw [e.2.1]; omega
  | ⟨2, _⟩ => show win0_2.index (pt b h i) 2 * 128 + 1 * d.val = 128 * h.val + d.val; rw [e.2.2]; omega

/-- The attention array at row `512 i + r` of batch `b`, lane `d` of head `g` of group `h`. -/
theorem arr4_apply (c : Dev nD) (b h : Fin 2) (i : Fin 16) (g : Fin 2) (r : Fin 512) (d : Fin 128) :
    (dats m 0 c).arrAt 4 cfg0.N (ix3 b ⟨512 * i.val + r.val, by omega⟩ (qLane h g d))
      = View.canon (pieces (acc (X0_0 m c (pt b h i)) (iblk m c 1 (pt b h i)) (iblk m c 2 (pt b h i))) (lan (X0_0 m c (pt b h i)) (iblk m c 1 (pt b h i)))) (ix3 0 r (lane g d)) := by
  have e := (index_pt (pt b h i)).2.2.2.2.1
  have ht : (pt b h i).val = 32 * b.val + 16 * h.val + i.val := rfl
  have hb := congrFun (blocks4 m c (pt b h i) (flush0_4 _)) (ix3 0 r (lane g d))
  rw [flushed4_A, out4_eq, View.read_apply] at hb
  refine Eq.trans ?_ (hb.trans ?_)
  · congr 1
    funext a
    apply Fin.ext
    match a with
    | ⟨0, _⟩ => show b.val = win0_4.index (pt b h i) 0 * 1 + 1 * 0; rw [e.1]; omega
    | ⟨1, _⟩ => show 512 * i.val + r.val = win0_4.index (pt b h i) 1 * 512 + 1 * r.val; rw [e.2.1]; omega
    | ⟨2, _⟩ => show 256 * h.val + (128 * g.val + d.val) = win0_4.index (pt b h i) 2 * 256 + 1 * (128 * g.val + d.val); rw [e.2.2]; omega
  · rfl

/-- The reshaped expert weights the launch hands to window 3. -/
theorem V_v0 (c : Dev nD) : V m c main_v0 = shapeCast S128x448x1024 (m ((c : Thread nD τ).loc main_arg3)) shapeCasts_S2x8x3584x1024_S128x448x1024 := by
  unfold V hostOps0
  after_results_simp
  rfl

/-- The cast weights at group `n`, row `a`, lane `k`. -/
theorem arr5_apply (c : Dev nD) (n : Fin 64) (a : Fin 448) (k : Fin 1024) :
    (dats m 0 c).arrAt 5 cfg0.N (ix3 n a k)
      = shapeCast S128x448x1024 (m ((c : Thread nD τ).loc main_arg3)) shapeCasts_S2x8x3584x1024_S128x448x1024 (ix3 ⟨n.val, by omega⟩ a k) := by
  obtain ⟨t, ht⟩ : ∃ t : Fin cfg0.N, t.val = n.val := ⟨⟨n.val, by rw [show cfg0.N = 64 from N_0]; omega⟩, rfl⟩
  have e3 := (index_pt t).2.2.2.1
  have e := (index_pt t).2.2.2.2.2
  have hb := congrFun (blocks5 m c t (flush0_5 _)) (ix3 0 a k)
  rw [flushed5_A, out5_eq, View.read_apply] at hb
  refine Eq.trans ?_ (hb.trans ?_)
  · congr 1
    funext x
    apply Fin.ext
    match x with
    | ⟨0, _⟩ => show n.val = win0_5.index t 0 * 1 + 1 * 0; rw [e.1]; omega
    | ⟨1, _⟩ => show a.val = win0_5.index t 1 * 448 + 1 * a.val; rw [e.2.1]; omega
    | ⟨2, _⟩ => show k.val = win0_5.index t 2 * 1024 + 1 * k.val; rw [e.2.2]; omega
  · show k0_pay4 (iblk m c 3 t) (ix3 0 a k) = _
    rw [pay4_apply]
    unfold iblk
    rw [View.read_apply]
    show V m c main_v0 _ = _
    rw [V_v0]
    congr 1
    funext x
    apply Fin.ext
    match x with
    | ⟨0, _⟩ => show win0_3.index t 0 * 1 + 1 * 0 = n.val; rw [e3.1]; omega
    | ⟨1, _⟩ => show win0_3.index t 1 * 448 + 1 * a.val = a.val; rw [e3.2.1]; omega
    | ⟨2, _⟩ => show win0_3.index t 2 * 1024 + 1 * k.val = k.val; rw [e3.2.2]; omega

end Cert.GqaIdeal.Value

end
-- ==== Proof.Gqa.Ref.lean ====
/-
  The grouped-head call's reference, read at an index.
-/
module

public import proofs.«01_k».proof.Proof.Flash.Ref
public import proofs.«01_k».proof.Proof.Gen.GqaRefIdeal.Run
public import Idealize.ShloMosaic.Lib.ValueIdx
public import Idealize.ShloMosaic.Lib.Pointwise
public import Idealize.ShloMosaic.Lib.Tactic

@[expose] public section

set_option maxRecDepth 16384

noncomputable section

namespace Cert.GqaRefIdeal.Value

open Cert.GqaRefIdeal Cert.GqaRefIdeal.Gen Idealize.ShloMosaic Idealize.ShloMosaic.TcCoe Idealize.SL.Sem

/-- The scaled scores. -/
def refS (q : Vec Ideal S2x8448x512 .bf16) (k : Vec Ideal S2x8448x256 .bf16) : FVec Ideal S2x2x2x8192x8448 .f32 :=
  mulf (transpose S2x2x2x8192x8448 [0, 1, 4, 3, 2]
      (Host.dotGeneral dot_S2x8448x2x128_S2x8192x2x2x128_S2x2x8448x8192x2_3_4_1_13_02_02 none
        (shapeCast _ (extf .f32 k bitsLt_bf16_f32) shapeCasts_S2x8448x256_S2x8448x2x128)
        (shapeCast _ (extractStridedSlice S2x8192x512 ![0, 0, 0] (extf .f32 q bitsLt_bf16_f32) slices_S2x8448x512_S2x8192x512_0_0_0) shapeCasts_S2x8192x512_S2x8192x2x2x128))
      transposes_S2x2x8448x8192x2_S2x2x2x8192x8448_0_1_4_3_2)
    (broadcastInDim S2x2x2x8192x8448 ![] bcast_S_S2x2x2x8192x8448 (Host.log (constant S_ .f32 0x40000000#32)))

/-- A row's maximum, the word `w` its start. -/
def refMax (w : BitVec 32) (S : FVec Ideal S2x2x2x8192x8448 .f32) : FVec Ideal S2x2x2x8192 .f32 :=
  maximumf (broadcastInDim S2x2x2x8192 ![] bcast_S_S2x2x2x8192 (constant S_ .f32 w))
    (Host.reduce FloatOps.maximumf S (constant S_ .f32 w) reducesTo_S2x2x2x8192x8448_S2x2x2x8192_d4 h_S_)

/-- A number per row, repeated along the row. -/
def refRow (M : FVec Ideal S2x2x2x8192 .f32) : FVec Ideal S2x2x2x8192x8448 .f32 :=
  broadcastInDim S2x2x2x8192x8448 ![0, 1, 2, 3, 4] bcast_S2x2x2x8192x1_S2x2x2x8192x8448_0_1_2_3_4 (broadcastInDim S2x2x2x8192x1 ![0, 1, 2, 3] bcast_S2x2x2x8192_S2x2x2x8192x1_0_1_2_3 M)

/-- A row's sum. -/
def refSum (E : FVec Ideal S2x2x2x8192x8448 .f32) : FVec Ideal S2x2x2x8192 .f32 :=
  Host.reduceAdd E (constant S_ .f32 0x00000000#32) reducesTo_S2x2x2x8192x8448_S2x2x2x8192_d4 h_S_

/-- The exponentials, given the scores and each row's maximum. -/
def refE (S : FVec Ideal S2x2x2x8192x8448 .f32) (M : FVec Ideal S2x2x2x8192 .f32) : FVec Ideal S2x2x2x8192x8448 .f32 :=
  Host.exp (subf S (refRow M))

/-- The weighted values, given the exponentials and their sums. -/
def refO (v : Vec Ideal S2x8448x256 .bf16) (E : FVec Ideal S2x2x2x8192x8448 .f32) (L : FVec Ideal S2x2x2x8192 .f32) : FVec Ideal S2x8192x512 .bf16 :=
  shapeCast _ (truncf .bf16 (transpose S2x8192x2x2x128 [0, 4, 1, 3, 2]
    (Host.dotGeneral dot_S2x8448x2x128_S2x2x2x8192x8448_S2x2x128x2x8192_1_4_3_23_02_01 none
      (shapeCast _ (extf .f32 v bitsLt_bf16_f32) shapeCasts_S2x8448x256_S2x8448x2x128)
      (extf .f32 (truncf .bf16 (Host.divf E (refRow L)) bitsLt_bf16_f32) bitsLt_bf16_f32))
    transposes_S2x2x128x2x8192_S2x8192x2x2x128_0_4_1_3_2) bitsLt_bf16_f32) shapeCasts_S2x8192x2x2x128_S2x8192x512

/-- A scaled score, read at an index. -/
theorem refS_apply (q : Vec Ideal S2x8448x512 .bf16) (k : Vec Ideal S2x8448x256 .bf16) (b h g : Fin 2) (r : Fin 8192) (t : Fin 8448) :
    refS q k (ix5 b h g r t) = (∑ d : Fin 128, k (ix3 b t ⟨128 * h.val + d.val, by omega⟩) * q (ix3 b ⟨r.val, by omega⟩ ⟨256 * h.val + (128 * g.val + d.val), by omega⟩)) * ((Real.log 2 : ℝ) : EReal) := by
  rw [← Cert.ReferenceIdeal.Value.log_two]
  unfold refS
  pointwise
  congr 1
  refine Finset.sum_congr rfl fun d _ => ?_
  congr 2 <;> congr 1 <;> exact Fin.ext (by simp <;> omega)

/-- A row's maximum from any start. -/
theorem rowMax_apply (z : FVec Ideal S_ .f32) (S : FVec Ideal S2x2x2x8192x8448 .f32) (b h g : Fin 2) (r : Fin 8192) :
    Host.reduce FloatOps.maximumf S z reducesTo_S2x2x2x8192x8448_S2x2x2x8192_d4 h_S_ (ix4 b h g r)
      = Finset.univ.fold max (z (Shape.Idx.first h_S_)) fun t : Fin 8448 => S (ix5 b h g r t) := by
  pointwise

/-- A row's maximum, read at an index. -/
theorem refMax_apply (w : BitVec 32) (S : FVec Ideal S2x2x2x8192x8448 .f32) (b h g : Fin 2) (r : Fin 8192) :
    refMax w S (ix4 b h g r) = max (Ideal.ofBits .f32 w) (Finset.univ.fold max (Ideal.ofBits .f32 w) fun t : Fin 8448 => S (ix5 b h g r t)) :=
  congrArg (max (Ideal.ofBits .f32 w)) (rowMax_apply (constant S_ .f32 w) S b h g r)

/-- A number per row, read along the row. -/
theorem refRow_apply (M : FVec Ideal S2x2x2x8192 .f32) (b h g : Fin 2) (r : Fin 8192) (t : Fin 8448) :
    refRow M (ix5 b h g r t) = M (ix4 b h g r) := by
  unfold refRow
  pointwise

/-- A row's sum, read at an index. -/
theorem refSum_apply (E : FVec Ideal S2x2x2x8192x8448 .f32) (b h g : Fin 2) (r : Fin 8192) :
    refSum E (ix4 b h g r) = ∑ t : Fin 8448, E (ix5 b h g r t) := by
  unfold refSum
  pointwise

/-- An exponential, read at an index. -/
theorem refE_apply (S : FVec Ideal S2x2x2x8192x8448 .f32) (M : FVec Ideal S2x2x2x8192 .f32) (b h g : Fin 2) (r : Fin 8192) (t : Fin 8448) :
    refE S M (ix5 b h g r t) = Ideal.exp (S (ix5 b h g r t) - M (ix4 b h g r)) := by
  rw [← refRow_apply M b h g r t]
  rfl

/-- The weighted values, read at an index. -/
theorem refO_apply (v : Vec Ideal S2x8448x256 .bf16) (E : FVec Ideal S2x2x2x8192x8448 .f32) (L : FVec Ideal S2x2x2x8192 .f32) (b h g : Fin 2) (r : Fin 8192) (d : Fin 128) :
    refO v E L (ix3 b r ⟨256 * h.val + (128 * g.val + d.val), by omega⟩)
      = ∑ t : Fin 8448, v (ix3 b t ⟨128 * h.val + d.val, by omega⟩) * Ideal.div (E (ix5 b h g r t)) (L (ix4 b h g r)) := by
  unfold refO
  pointwise
  refine Finset.sum_congr rfl fun t _ => ?_
  rw [refRow_apply]
  congr 3
  exact Fin.ext (by show h.val * 128 + d.val = 128 * h.val + d.val; omega)

/-- The reference's attention. -/
def attnRef (q : Vec Ideal S2x8448x512 .bf16) (k v : Vec Ideal S2x8448x256 .bf16) : FVec Ideal S2x8192x512 .bf16 :=
  refO v (refE (refS q k) (refMax 0xFF800000#32 (refS q k))) (refSum (refE (refS q k) (refMax 0xFF800000#32 (refS q k))))

/-- The run's first result is that attention. -/
theorem res_eq (m : (ℓ : Loc nD τ sig) → Buf (Elt Ideal) ℓ) (c : Dev nD) :
    res_main_v31 m c = attnRef (m ((c : Thread nD τ).loc main_arg0)) (m ((c : Thread nD τ).loc main_arg1)) (m ((c : Thread nD τ).loc main_arg2)) := by
  unfold res_main_v31
  rfl

/-- The reference's attention of equal arrays. -/
theorem attn_congr {q q' : Vec Ideal S2x8448x512 .bf16} {k v k' v' : Vec Ideal S2x8448x256 .bf16} (hq : q' = q) (hk : k' = k) (hv : v' = v) :
    attnRef q' k' v' = attnRef q k v := by
  rw [hq, hk, hv]

/-- The cast weights: the first layer's slice, reshaped. -/
def refW (w : Vec Ideal S2x8x3584x1024 .f32) : FVec Ideal S64x448x1024 .bf16 :=
  shapeCast _ (truncf .bf16 (shapeCast _ (extractStridedSlice S1x8x3584x1024 ![0, 0, 0, 0] w slices_S2x8x3584x1024_S1x8x3584x1024_0_0_0_0) shapeCasts_S1x8x3584x1024_S8x3584x1024) bitsLt_bf16_f32) shapeCasts_S8x3584x1024_S64x448x1024

/-- The cast weights, read at an index. -/
theorem refW_apply (w : Vec Ideal S2x8x3584x1024 .f32) (n : Fin 64) (a : Fin 448) (k : Fin 1024) :
    refW w (ix3 n a k) = w (ix4 0 ⟨n.val / 8, by omega⟩ ⟨448 * (n.val % 8) + a.val, by omega⟩ k) := by
  unfold refW
  pointwise
  simp only [Nat.mul_comm 448]

end Cert.GqaRefIdeal.Value

end
-- ==== Proof.Gqa.Equal.lean ====
/-
  The arrays the grouped-head call leaves are its reference's results.
-/
module

public import proofs.«01_k».proof.Defs
public import proofs.«01_k».proof.Proof.Gqa.Array
public import proofs.«01_k».proof.Proof.Gqa.Ref
public import proofs.«01_k».proof.Proof.Flash.Equal
public import proofs.«01_k».proof.Proof.Gen.Pre_gqa_finite
public import Idealize.ShloMosaic.Lib.ReduceAll

@[expose] public section

set_option maxRecDepth 16384

noncomputable section

namespace Cert.Grouped

open Cert.GqaIdeal Cert.GqaIdeal.Gen Cert.GqaIdeal.Value Idealize.ShloMosaic Idealize.ShloMosaic.TcCoe Idealize.SL.Sem
open Cert.GqaRefIdeal.Value (attnRef refS refMax refE refSum refO refW refS_apply refMax_apply refE_apply refSum_apply refO_apply refW_apply)
open Cert.Flash (real_of_word and_one coe_sum fold_max_real)
open Cert.KernelIdeal.Value (ofBits_neg_inf)

/-- What the precondition says: every query and key entry is a real. -/
theorem pre_real (q : Vec Ideal S2x8448x512 .bf16) (k v : Vec Ideal S2x8448x256 .bf16) (w : Vec Ideal S2x8x3584x1024 .f32)
    (h : @Cert.Pre_gqa_finite.fn Cert.Pre_gqa_finite.Gen.facts Ideal _ q k v w = fun _ => 1#1) :
    (∀ i, ∃ x : ℝ, q i = (x : EReal)) ∧ ∀ i, ∃ x : ℝ, k i = (x : EReal) := by
  have h0 := congrFun h ix0
  dsimp only [Cert.Pre_gqa_finite.fn] at h0
  obtain ⟨e1, e2⟩ := and_one _ _ h0
  exact ⟨fun i => real_of_word _ (Host.reduce_andi_all _ _ _ _ ix0 e1 i), fun i => real_of_word _ (Host.reduce_andi_all _ _ _ _ ix0 e2 i)⟩

/-- A block's row of attention is the reference's, the block holding the arrays' rows and lanes. -/
theorem row_eq (q : Vec Ideal S2x8448x512 .bf16) (k v : Vec Ideal S2x8448x256 .bf16)
    (hq : ∀ i, ∃ x : ℝ, q i = (x : EReal)) (hk : ∀ i, ∃ x : ℝ, k i = (x : EReal))
    (b h g : Fin 2) (i : Fin 16) (r : Fin 512) (d : Fin 128)
    (x0 : Vec Ideal S1x512x256 .bf16) (x1 x2 : Vec Ideal S1x8448x128 .bf16)
    (hx0 : ∀ e : Fin 128, x0 (ix3 0 r (lane g e)) = q (ix3 b ⟨512 * i.val + r.val, by omega⟩ (qLane h g e)))
    (hx1 : ∀ (t : Fin 8448) (e : Fin 128), x1 (ix3 0 t e) = k (ix3 b t (lane h e)))
    (hx2 : ∀ t : Fin 8448, x2 (ix3 0 t d) = v (ix3 b t (lane h d))) :
    View.canon (pieces (acc x0 x1 x2) (lan x0 x1)) (ix3 0 r (lane g d))
      = attnRef q k v (ix3 b (⟨512 * i.val + r.val, by omega⟩ : Fin 8192) (qLane h g d)) := by
  unfold attnRef
  choose qr hqr using hq
  choose kr hkr using hk
  obtain ⟨s, hs⟩ : ∃ s : Fin 8448 → ℝ, ∀ t, ∑ e : Fin 128, x0 (ix3 0 r (lane g e)) * x1 (ix3 0 t e) = (s t : EReal) := by
    refine ⟨fun t => ∑ e : Fin 128, qr (ix3 b ⟨512 * i.val + r.val, by omega⟩ (qLane h g e)) * kr (ix3 b t (lane h e)), fun t => ?_⟩
    rw [coe_sum]
    exact Finset.sum_congr rfl fun e _ => by rw [hx0, hx1, hqr, hkr, EReal.coe_mul]
  have hS : ∀ t, refS q k (ix5 b h g ⟨512 * i.val + r.val, by omega⟩ t) = ((s t * Real.log 2 : ℝ) : EReal) := by
    intro t
    rw [refS_apply, EReal.coe_mul, ← hs t]
    exact congrArg (· * _) (Finset.sum_congr rfl fun e _ => by rw [hx0, hx1, mul_comm])
  generalize refS q k = S at hS ⊢
  obtain ⟨R, hR⟩ : ∃ R : ℝ, refMax 0xFF800000#32 S (ix4 b h g ⟨512 * i.val + r.val, by omega⟩) = (R : EReal) := by
    obtain ⟨R, hR⟩ := fold_max_real (n := 8448) (by omega) fun t => s t * Real.log 2
    refine ⟨R, ?_⟩
    rw [refMax_apply, ofBits_neg_inf, ← hR, max_eq_right bot_le]
    exact Finset.fold_congr fun t _ => hS t
  generalize refMax 0xFF800000#32 S = M at hR ⊢
  rw [refO_apply, refSum_apply]
  simp only [refE_apply, hS, hR]
  rw [row_softmax x0 x1 x2 g r s hs R d]
  exact Finset.sum_congr rfl fun t _ => by rw [hx2]

/-- The attention array is the reference's. -/
theorem attn_eq (m : (ℓ : Loc nD τ sig) → Buf (Elt Ideal) ℓ) (c : Dev nD)
    (hq : ∀ i, ∃ x : ℝ, m ((c : Thread nD τ).loc main_arg0) i = (x : EReal)) (hk : ∀ i, ∃ x : ℝ, m ((c : Thread nD τ).loc main_arg1) i = (x : EReal)) :
    (dats m 0 c).arrAt 4 cfg0.N
      = attnRef (m ((c : Thread nD τ).loc main_arg0)) (m ((c : Thread nD τ).loc main_arg1)) (m ((c : Thread nD τ).loc main_arg2)) := by
  funext j
  have h0 : (j 0).val < 2 := (j 0).isLt
  have h1 : (j 1).val < 8192 := (j 1).isLt
  have h2 : (j 2).val < 512 := (j 2).isLt
  obtain ⟨b, hb⟩ : ∃ b : Fin 2, b.val = (j 0).val := ⟨⟨_, h0⟩, rfl⟩
  obtain ⟨i, hi⟩ : ∃ i : Fin 16, i.val = (j 1).val / 512 := ⟨⟨(j 1).val / 512, by omega⟩, rfl⟩
  obtain ⟨r, hr⟩ : ∃ r : Fin 512, r.val = (j 1).val % 512 := ⟨⟨(j 1).val % 512, by omega⟩, rfl⟩
  obtain ⟨h, hh⟩ : ∃ h : Fin 2, h.val = (j 2).val / 256 := ⟨⟨(j 2).val / 256, by omega⟩, rfl⟩
  obtain ⟨g, hg⟩ : ∃ g : Fin 2, g.val = (j 2).val / 128 % 2 := ⟨⟨(j 2).val / 128 % 2, by omega⟩, rfl⟩
  obtain ⟨d, hd⟩ : ∃ d : Fin 128, d.val = (j 2).val % 128 := ⟨⟨(j 2).val % 128, by omega⟩, rfl⟩
  have hj : j = ix3 b (⟨512 * i.val + r.val, by omega⟩ : Fin 8192) (qLane h g d) := by
    funext a
    apply Fin.ext
    match a with
    | ⟨0, _⟩ => exact hb.symm
    | ⟨1, _⟩ => show (j 1).val = 512 * i.val + r.val; omega
    | ⟨2, _⟩ => show (j 2).val = 256 * h.val + (128 * g.val + d.val); omega
  rw [hj]
  exact (arr4_apply m c b h i g r d).trans (row_eq _ _ _ hq hk b h g i r d _ _ _
    (fun e => X0_apply m c b h i g r e) (fun t e => X1_apply m c b h i t e) (fun t => X2_apply m c b h i t d))

/-- The expert weights of both layers as 128 groups of 448 rows, read at a group of the first layer. -/
theorem flat_apply (w : Vec Ideal S2x8x3584x1024 .f32) (n : Fin 64) (a : Fin 448) (k : Fin 1024) :
    shapeCast S128x448x1024 w shapeCasts_S2x8x3584x1024_S128x448x1024 (ix3 ⟨n.val, by omega⟩ a k)
      = w (ix4 0 ⟨n.val / 8, by omega⟩ ⟨448 * (n.val % 8) + a.val, by omega⟩ k) := by
  pointwise
  congr 2
  · exact Fin.ext (by show n.val / 64 = 0; omega)
  · exact Fin.ext (by show n.val / 8 % 8 = n.val / 8; omega)
  · exact Fin.ext (by show n.val % 8 * 448 + a.val = 448 * (n.val % 8) + a.val; omega)

/-- The cast weights are the reference's. -/
theorem weights_eq (m : (ℓ : Loc nD τ sig) → Buf (Elt Ideal) ℓ) (c : Dev nD) :
    (dats m 0 c).arrAt 5 cfg0.N = refW (m ((c : Thread nD τ).loc main_arg3)) := by
  funext j
  have hj : j = ix3 (j 0) (j 1) (j 2) := by
    funext a
    match a with
    | ⟨0, _⟩ => rfl
    | ⟨1, _⟩ => rfl
    | ⟨2, _⟩ => rfl
  rw [hj]
  refine (arr5_apply m c (j 0) (j 1) (j 2)).trans (Eq.trans ?_ (refW_apply _ (j 0) (j 1) (j 2)).symm)
  exact flat_apply _ (j 0) (j 1) (j 2)

end Cert.Grouped

end
-- ==== Proof.Dense.Run.lean ====
/-
  The body of the feed-forward call on any staging buffers: one block of the result is stored, a function of the six
  blocks it reads.
-/
module

public import proofs.«01_k».proof.Proof.Gen.FfnIdeal.Frame

@[expose] public section

set_option maxRecDepth 16384

noncomputable section

namespace Cert.FfnIdeal.Rows

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run, with the pieces it leaves in the output block. -/
noncomputable def run (c : Dev nD) (i : grid0.Coords) (arg2 : Memref sig .tc .vmem S1x512x1024 .bf16) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x512x1024 .f32) (harg8 : arg8.IsWhole)
    (x0 : Vec F S1x512x1024 .bf16) (x1 : Vec F S1024x5632 .bf16) (x2 : Vec F S2816x1024 .bf16) (x3 : Vec F S1x512x1024 .f32) (x4 : Vec F S1x6x1024 .f32) (x5 : Vec F S1x1024 .f32) :
    { L : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0_ffn i arg2 harg2 arg3 harg3 arg4 harg4 arg5 harg5 arg6 harg6 arg7 harg7 arg8 harg8) K } := by
  refine ⟨?_, fun E K => ?run⟩
  case run =>
    unfold cc0_ffn k0_part1 k0_part2 k0_part3 k0_part4 k0_part5 k0_part6
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.FfnIdeal.Rows

end
-- ==== Proof.Dense.Block.lean ====
/-
  What the body of the feed-forward call stores, as a function of the six blocks it reads: eleven chunks of 256 hidden
  columns are summed, the sum is normed, gated and added to the residual.
-/
module

public import proofs.«01_k».proof.Proof.Dense.Run
public import Idealize.ShloMosaic.Lib.Pipeline.ValueKit.Acc

@[expose] public section

set_option maxRecDepth 16384

noncomputable section

namespace Cert.FfnIdeal.Rows

open Cert.FfnIdeal Cert.FfnIdeal.Gen Idealize.ShloMosaic Idealize.ShloMosaic.TcCoe Idealize.ShloMosaic.Tactic Idealize.SL.Sem

variable {F : FTy → Type} [FloatOps F]

/-- The zero offsets of rank 2. -/
theorem hz2 : (![0, 0] : Fin 2 → Nat) = fun _ => 0 := funext fun a => by fin_cases a <;> rfl
/-- The zero offsets of rank 3. -/
theorem hz3 : (![0, 0, 0] : Fin 3 → Nat) = fun _ => 0 := funext fun a => by fin_cases a <;> rfl

/-- The 256 gate columns of chunk `n` lie in the input matrix, -/
theorem gate_inb (n : Fin 11) : ∀ a, (![0, 256 * n.val] : Fin 2 → Nat) a + S1024x256.size a ≤ S1024x5632.size a := by
  revert n; decide
/-- so do its 256 up columns, -/
theorem up_inb (n : Fin 11) : ∀ a, (![0, 2816 + 256 * n.val] : Fin 2 → Nat) a + S1024x256.size a ≤ S1024x5632.size a := by
  revert n; decide
/-- and its 256 rows lie in the output matrix. -/
theorem rows_inb (n : Fin 11) : ∀ a, (![256 * n.val, 0] : Fin 2 → Nat) a + S256x1024.size a ≤ S2816x1024.size a := by
  revert n; decide

/-- Chunk `n` of the gate columns. -/
def gateCols (x : Vec F S1024x5632 .bf16) (n : Fin 11) : Vec F S1024x256 .bf16 := View.ld x (Rect.unit ![0, 256 * n.val] S1024x256.size (gate_inb n))
/-- Chunk `n` of the up columns. -/
def upCols (x : Vec F S1024x5632 .bf16) (n : Fin 11) : Vec F S1024x256 .bf16 := View.ld x (Rect.unit ![0, 2816 + 256 * n.val] S1024x256.size (up_inb n))
/-- Chunk `n` of the output matrix's rows. -/
def outRows (x : Vec F S2816x1024 .bf16) (n : Fin 11) : Vec F S256x1024 .bf16 := View.ld x (Rect.unit ![256 * n.val, 0] S256x1024.size (rows_inb n))

/-- The rows' product with 256 columns. -/
def proj (f : FVec F S512x1024 .bf16) (w : Vec F S1024x256 .bf16) : FVec F S512x256 .f32 :=
  matmul dot_S512x1024_S1024x256_S512x256_1_0_0_1_n_n none f w (constant S512x256 .f32 0x00000000#32)

/-- The hidden values of a chunk: the gated product, rounded. -/
def hidden (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32)) (exp (subf (broadcast S512x256 (Scalar.ofBits .f32 0x00000000#32)) g))))) u) bitsLt_bf16_f32

/-- What chunk `n` adds. -/
def chunk (f : FVec F S512x1024 .bf16) (wi : Vec F S1024x5632 .bf16) (wo : Vec F S2816x1024 .bf16) (n : Fin 11) : FVec F S512x1024 .f32 :=
  matmul dot_S512x256_S256x1024_S512x1024_1_0_0_1_n_n none (hidden (proj f (gateCols wi n)) (proj f (upCols wi n))) (outRows wo n) (constant S512x1024 .f32 0x00000000#32)

/-- The eleven chunks' sum. -/
def total (f : FVec F S512x1024 .bf16) (wi : Vec F S1024x5632 .bf16) (wo : Vec F S2816x1024 .bf16) : FVec F S512x1024 .f32 :=
  addf (addf (addf (addf (addf (addf (addf (addf (addf (addf (chunk f wi wo 0) (chunk f wi wo 1)) (chunk f wi wo 2)) (chunk f wi wo 3)) (chunk f wi wo 4)) (chunk f wi wo 5)) (chunk f wi wo 6)) (chunk f wi wo 7)) (chunk f wi wo 8)) (chunk f wi wo 9)) (chunk f wi wo 10)

/-- The sum's norm. -/
def normed (y : FVec F S512x1024 .f32) (g : Vec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The residual with the gated norm added. -/
def gated (x : Vec F S1x512x1024 .f32) (mo : Vec F S1x6x1024 .f32) (y : FVec F S512x1024 .f32) : FVec F S1x512x1024 .f32 :=
  shapeCast S1x512x1024 (addf (shapeCast S512x1024 x shapeCasts_S1x512x1024_S512x1024)
    (mulf (broadcastTo S512x1024 (extractStridedSlice S1x1024 ![5, 0] (shapeCast S6x1024 mo shapeCasts_S1x6x1024_S6x1024) slices_S6x1024_o5_0_S1x1024) broadcasts_S1x1024_S512x1024) y)) shapeCasts_S512x1024_S1x512x1024

/-- The stored block. -/
def blockOut (x0 : Vec F S1x512x1024 .bf16) (x1 : Vec F S1024x5632 .bf16) (x2 : Vec F S2816x1024 .bf16) (x3 : Vec F S1x512x1024 .f32) (x4 : Vec F S1x6x1024 .f32) (x5 : Vec F S1x1024 .f32) : Vec F S1x512x1024 .f32 :=
  gated x3 x4 (normed (total (shapeCast S512x1024 x0 shapeCasts_S1x512x1024_S512x1024) x1 x2) x5)

section
variable (c : Dev nD) (i : grid0.Coords) (a2 : Memref sig .tc .vmem S1x512x1024 .bf16) (h2 : a2.IsWhole) (a3 : Memref sig .tc .vmem S1024x5632 .bf16) (h3 : a3.IsWhole) (a4 : Memref sig .tc .vmem S2816x1024 .bf16) (h4 : a4.IsWhole) (a5 : Memref sig .tc .vmem S1x512x1024 .f32) (h5 : a5.IsWhole) (a6 : Memref sig .tc .vmem S1x6x1024 .f32) (h6 : a6.IsWhole) (a7 : Memref sig .tc .vmem S1x1024 .f32) (h7 : a7.IsWhole) (a8 : Memref sig .tc .vmem S1x512x1024 .f32) (h8 : a8.IsWhole)
  (x0 : Vec F S1x512x1024 .bf16) (x1 : Vec F S1024x5632 .bf16) (x2 : Vec F S2816x1024 .bf16) (x3 : Vec F S1x512x1024 .f32) (x4 : Vec F S1x6x1024 .f32) (x5 : Vec F S1x1024 .f32)

/-- The run's pieces cover the block. -/
theorem run_cover (y : S1x512x1024.Idx) : ∃ pc ∈ (run c i a2 h2 a3 h3 a4 h4 a5 h5 a6 h6 a7 h7 a8 h8 x0 x1 x2 x3 x4 x5).1, y ∈ pc.1.set :=
  View.cover_of_tiledL (run c i a2 h2 a3 h3 a4 h4 a5 h5 a6 h6 a7 h7 a8 h8 x0 x1 x2 x3 x4 x5).1 S1x512x1024.size (by sl_kernel_rfl) y

set_option maxHeartbeats 4000000 in
/-- The run's pieces hold `blockOut`. -/
theorem run_val : View.canon (run c i a2 h2 a3 h3 a4 h4 a5 h5 a6 h6 a7 h7 a8 h8 x0 x1 x2 x3 x4 x5).1 = blockOut x0 x1 x2 x3 x4 x5 := by
  unfold run
  dsimp only
  sl_unfold_words
  rw [View.canon_unit_zero hz3]
  simp only [View.readAt_eq_ld, h2.read_unread, h3.read_unread, h4.read_unread, h5.read_unread, h6.read_unread, h7.read_unread, View.ld_unit_zero (S := S1x512x1024) hz3, View.ld_unit_zero (S := S1x6x1024) hz3, View.ld_unit_zero (S := S1x1024) hz2]
  rfl

end

end Cert.FfnIdeal.Rows

end
-- ==== Proof.Dense.Frame.lean ====
/-
  The feed-forward call's pipeline. The last block of rows of each batch reaches past the arrays' end; what its staging
  buffers hold there is not known, and the body is described on the rows inside only.
-/
module

public import proofs.«01_k».proof.Proof.Dense.Block

@[expose] public section

set_option maxRecDepth 16384

noncomputable section

namespace Cert.FfnIdeal.Rows

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows' block at a point, past the array's end whatever `d` holds, -/
def rowsIn (c : Dev nD) (t : Fin cfg0.N) (d : Vec F S1x512x1024 .bf16) : Vec F S1x512x1024 .bf16 := win0_0.fill (grid0.coords t) d (iblk m c 0 t)
/-- and the residual's. -/
def resIn (c : Dev nD) (t : Fin cfg0.N) (d : Vec F S1x512x1024 .f32) : Vec F S1x512x1024 .f32 := win0_3.fill (grid0.coords t) d (iblk m c 3 t)

/-- The block stored at a point, from buffers holding `d` and `e` past the arrays' end. -/
def outAt (c : Dev nD) (t : Fin cfg0.N) (d : Vec F S1x512x1024 .bf16) (e : Vec F S1x512x1024 .f32) : Vec F S1x512x1024 .f32 :=
  blockOut (rowsIn m c t d) (iblk m c 1 t) (iblk m c 2 t) (resIn m c t e) (iblk m c 4 t) (iblk m c 5 t)

/-- Zeros past the end of the rows, -/
def zR : Vec F S1x512x1024 .bf16 := fun _ => Scalar.ofBits .bf16 0#16
/-- and of the residual. -/
def zX : Vec F S1x512x1024 .f32 := fun _ => Scalar.ofBits .f32 0#32

/-- The pipeline's data: the inputs keep their blocks and the output holds the block stored. -/
def dats (_ : Fin 1) (c : Dev nD) : Dat τ (Elt F) Unit ℕ (UR sig nD τ) ℕ cfg0 c where
  A w := V m c (Pipeline.arrRef spec0 w)
  after w t := match w with
    | ⟨0, _⟩ => rowsIn m c t zR
    | ⟨1, _⟩ => iblk m c 1 t
    | ⟨2, _⟩ => iblk m c 2 t
    | ⟨3, _⟩ => resIn m c t zX
    | ⟨4, _⟩ => iblk m c 4 t
    | ⟨5, _⟩ => iblk m c 5 t
    | ⟨6, _⟩ => outAt m c t zR zX
  Φ _ := Pipeline.ΦA spec0 c
  q _ := fullShare
  owed _ := 0

/-- The arrays are as the pipeline finds them. -/
theorem A_eq (c : Dev nD) (w : Fin cfg0.W) : (dats m 0 c).A w = V m c (Pipeline.arrRef spec0 w) := by
  dsimp only [dats]

/-- The input matrix stays in its buffer, -/
theorem after1 (c : Dev nD) (t : Fin cfg0.N) : (dats m 0 c).after 1 t = iblk m c 1 t := by dsimp only [dats]
/-- so does the output matrix, -/
theorem after2 (c : Dev nD) (t : Fin cfg0.N) : (dats m 0 c).after 2 t = iblk m c 2 t := by dsimp only [dats]
/-- the gates' block, -/
theorem after4 (c : Dev nD) (t : Fin cfg0.N) : (dats m 0 c).after 4 t = iblk m c 4 t := by dsimp only [dats]
/-- and the norm's weights. -/
theorem after5 (c : Dev nD) (t : Fin cfg0.N) : (dats m 0 c).after 5 t = iblk m c 5 t := by dsimp only [dats]

/-- The rows' buffer holds the block just fetched, -/
theorem before0 (c : Dev nD) (t : Fin cfg0.N) (d) : (dats m 0 c).before 0 t d = rowsIn m c t d := by
  unfold Dat.before
  rw [if_pos (fetch0_0 t)]
  rfl
/-- and so does the residual's. -/
theorem before3 (c : Dev nD) (t : Fin cfg0.N) (d) : (dats m 0 c).before 3 t d = resIn m c t d := by
  unfold Dat.before
  rw [if_pos (fetch0_3 t)]
  rfl
/-- The input matrix's buffer holds it at every point, -/
theorem before1 (c : Dev nD) (t : Fin cfg0.N) (d) : (dats m 0 c).before 1 t d = iblk m c 1 t :=
  before0_1_of m (dats m 0 c) (A_eq m c 1) (after1 m c) t d
/-- the output matrix's too, -/
theorem before2 (c : Dev nD) (t : Fin cfg0.N) (d) : (dats m 0 c).before 2 t d = iblk m c 2 t :=
  before0_2_of m (dats m 0 c) (A_eq m c 2) (after2 m c) t d
/-- the gates' buffer their block, -/
theorem before4 (c : Dev nD) (t : Fin cfg0.N) (d) : (dats m 0 c).before 4 t d = iblk m c 4 t :=
  before0_4_of m (dats m 0 c) (A_eq m c 4) (after4 m c) t d
/-- and the norm's weights' theirs. -/
theorem before5 (c : Dev nD) (t : Fin cfg0.N) (d) : (dats m 0 c).before 5 t d = iblk m c 5 t :=
  before0_5_of m (dats m 0 c) (A_eq m c 5) (after5 m c) t d

/-- Of the rows' buffer only the block is kept, -/
theorem cut0 (c : Dev nD) (t : Fin cfg0.N) : (cfg0.win 0).cut (cfg0.grid.coords t) ((dats m 0 c).after 0 t) = iblk m c 0 t :=
  win0_0.cut_fill _ _ _
/-- of the residual's too, -/
theorem cut3 (c : Dev nD) (t : Fin cfg0.N) : (cfg0.win 3).cut (cfg0.grid.coords t) ((dats m 0 c).after 3 t) = iblk m c 3 t :=
  win0_3.cut_fill _ _ _
/-- and of the output's the rows inside, -/
theorem cut6 (c : Dev nD) (t : Fin cfg0.N) {X} (h : win0_6.cut (grid0.coords t) X = win0_6.cut (grid0.coords t) (outAt m c t zR zX)) :
    (cfg0.win 6).cut (cfg0.grid.coords t) ((dats m 0 c).after 6 t) = win0_6.cut (grid0.coords t) X := h.symm
/-- put back where they were. -/
theorem fill6 (t : Fin cfg0.N) (X : Vec F S1x512x1024 .f32) : (cfg0.win 6).fill (cfg0.grid.coords t) X (win0_6.cut (grid0.coords t) X) = X :=
  win0_6.fill_cut _ _

/-- The body at a point: the inputs stay and the output's buffer ends at the block stored. -/
theorem body_at (c : Dev nD) (t : Fin cfg0.N) (d : Vec F S1x512x1024 .bf16) (e : Vec F S1x512x1024 .f32) (K : PUnit → sProp 𝕄) :
    iprop(owns (c : Thread nD τ) (st0_0 t) fullShare (rowsIn m c t d) ∗ owns (c : Thread nD τ) (st0_1 t) fullShare (iblk m c 1 t) ∗ owns (c : Thread nD τ) (st0_2 t) fullShare (iblk m c 2 t)
        ∗ owns (c : Thread nD τ) (st0_3 t) fullShare (resIn m c t e) ∗ owns (c : Thread nD τ) (st0_4 t) fullShare (iblk m c 4 t) ∗ owns (c : Thread nD τ) (st0_5 t) fullShare (iblk m c 5 t) ∗ (∃ x, owns (c : Thread nD τ) (st0_6 t) fullShare x)
        ∗ (iprop(owns (c : Thread nD τ) (st0_0 t) fullShare (rowsIn m c t d) ∗ owns (c : Thread nD τ) (st0_1 t) fullShare (iblk m c 1 t) ∗ owns (c : Thread nD τ) (st0_2 t) fullShare (iblk m c 2 t)
          ∗ owns (c : Thread nD τ) (st0_3 t) fullShare (resIn m c t e) ∗ owns (c : Thread nD τ) (st0_4 t) fullShare (iblk m c 4 t) ∗ owns (c : Thread nD τ) (st0_5 t) fullShare (iblk m c 5 t) ∗ owns (c : Thread nD τ) (st0_6 t) fullShare (outAt m c t d e)) -∗ K ⟨⟩))
      ⊢ wp frame (wpE (defs₀ (F := F)) Variants.none c none) Set.univ (bodyAt0 t) K := by
  unfold bodyAt0
  iintro ⟨H0, H1, H2, H3, H4, H5, H6, Hk⟩
  iapply ((run c (grid0.coords t) _ _ _ _ _ _ _ _ _ _ _ _ _ _ (rowsIn m c t d) (iblk m c 1 t) (iblk m c 2 t) (resIn m c t e) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%f, H6⟩⟩
  iapply Hk
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [View.read_writes_eq_canon _ _ _ (run_cover c _ _ _ _ _ _ _ _ _ _ _ _ _ _ _ _ _ _ _ _ _), run_val]
  rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The window whose contents the frame says nothing of: the output's. -/
def fgt : Fin cfg0.W → Bool := fun w => w.val == 6
/-- Of the rows' block all is said, -/
theorem fgt0 : fgt 0 = false := rfl
/-- of the input matrix, -/
theorem fgt1 : fgt 1 = false := rfl
/-- the output matrix, -/
theorem fgt2 : fgt 2 = false := rfl
/-- the residual, -/
theorem fgt3 : fgt 3 = false := rfl
/-- the gates -/
theorem fgt4 : fgt 4 = false := rfl
/-- and the weights too, -/
theorem fgt5 : fgt 5 = false := rfl
/-- of the output nothing. -/
theorem fgt6 : fgt 6 = true := rfl

/-- The body at a point, the inputs handed back as found; `P` is what is asked of the output's buffer and `Q` what is
    said of it after. -/
theorem body_kept (c : Dev nD) (t : Fin cfg0.N) (P Q : sProp 𝕄) (hP : P ⊢ iprop(∃ x, owns (c : Thread nD τ) (st0_6 t) fullShare x))
    (hQ : ∀ d e, owns (c : Thread nD τ) (st0_6 t) fullShare (outAt m c t d e) ⊢ Q) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d))
        ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ P)
      ⊢ wp frame (wpE (defs₀ (F := F)) Variants.none c none) Set.univ (bodyAt0 t) (fun _ => iprop((dats m 0 c).Φ t.castSucc ∗ (dats m 0 c).owesAt () t.castSucc
        ∗ (∃ d, owns (c : Thread nD τ) (st0_0 t) fullShare ((cfg0.win 0).fill (cfg0.grid.coords t) d ((cfg0.win 0).cut (cfg0.grid.coords t) ((dats m 0 c).after 0 t)))) ∗ owns (c : Thread nD τ) (st0_1 t) fullShare ((dats m 0 c).after 1 t) ∗ owns (c : Thread nD τ) (st0_2 t) fullShare ((dats m 0 c).after 2 t)
        ∗ (∃ d, owns (c : Thread nD τ) (st0_3 t) fullShare ((cfg0.win 3).fill (cfg0.grid.coords t) d ((cfg0.win 3).cut (cfg0.grid.coords t) ((dats m 0 c).after 3 t)))) ∗ owns (c : Thread nD τ) (st0_4 t) fullShare ((dats m 0 c).after 4 t) ∗ owns (c : Thread nD τ) (st0_5 t) fullShare ((dats m 0 c).after 5 t) ∗ Q)) := by
  iintro ⟨HΦ, Ho, ⟨%d0, H0⟩, ⟨%d1, H1⟩, ⟨%d2, H2⟩, ⟨%d3, H3⟩, ⟨%d4, H4⟩, ⟨%d5, H5⟩, H6⟩
  rw [before0 m c t d0, before1 m c t d1, before2 m c t d2, before3 m c t d3, before4 m c t d4, before5 m c t d5]
  iapply (body_at m c t d0 d3 _)
  isplitl [H0]; · iexact H0
  isplitl [H1]; · iexact H1
  isplitl [H2]; · iexact H2
  isplitl [H3]; · iexact H3
  isplitl [H4]; · iexact H4
  isplitl [H5]; · iexact H5
  isplitl [H6]; · iapply hP; iexact H6
  iintro ⟨H0, H1, H2, H3, H4, H5, H6⟩
  isplitl [HΦ]; · iexact HΦ
  isplitl [Ho]; · iexact Ho
  isplitl [H0]
  · iexists d0
    rw [cut0]
    iexact H0
  isplitl [H1]; · rw [after1]; iexact H1
  isplitl [H2]; · rw [after2]; iexact H2
  isplitl [H3]
  · iexists d3
    rw [cut3]
    iexact H3
  isplitl [H4]; · rw [after4]; iexact H4
  isplitl [H5]; · rw [after5]; iexact H5
  iapply (hQ d0 d3)
  iexact H6

/-- Every point's body, nothing said of the output. -/
theorem body_forget (c : Dev nD) : BodyObligationLoose (dats (F := F) m 0 c) (defs₀ (F := F)) Variants.none () Set.univ fgt := fun t => by
  rw [bigSep_W0, bigSep_W0, defs₀_row]
  simp only [fgt0, fgt1, fgt2, fgt3, fgt4, fgt5, fgt6]
  refine body_kept m c t _ _ (by iintro H; iexact H) fun d e => ?_
  iintro H
  iexists _; iexact H

/-- Every point's body, the rows inside the array of what it stores being the same whatever lies past the arrays' end. -/
theorem body_rows (c : Dev nD) (hl : ∀ t d e, win0_6.cut (grid0.coords t) (outAt m c t d e) = win0_6.cut (grid0.coords t) (outAt m c t zR zX)) :
    BodyObligationLoose (dats (F := F) m 0 c) (defs₀ (F := F)) Variants.none () Set.univ := fun t => by
  rw [bigSep_W0, bigSep_W0, defs₀_row]
  simp only
  refine body_kept m c t _ _ ?_ fun d e => ?_
  · iintro ⟨%x, H⟩
    iexists _; iexact H
  · iintro H
    iexists (outAt m c t d e)
    rw [cut6 m c t (hl t d e), fill6]
    iexact H

-- `θ_run_frame_forget`'s implicit arguments are found by unifying its conclusion with this one, which takes unfolding
-- plain definitions in a metavariable's type
set_option backward.isDefEq.respectTransparency.types false in
/-- The run, nothing said of the output. -/
theorem run_forget : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_forget m c) (hshare := fun c => (dats m 0 c).share_full fun _ => rfl)
    (howed := fun _ _ => rfl) (V := V m) (hmain := hmain m Variants.none) (hA := A_eq m) (hΦ := fun _ _ => rfl)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_forget m ρ)

set_option backward.isDefEq.respectTransparency.types false in
/-- The run with the output's contents, where the rows inside do not depend on what lies past the arrays' end. -/
theorem run_main (hl : ∀ c t d e, win0_6.cut (grid0.coords t) (outAt m c t d e) = win0_6.cut (grid0.coords t) (outAt m c t zR zX)) :
    θ_run defs (onTc (τ := τ) (main (F := F))) (s₀ m ρ) (Pipeline.FramePost cfgs (dats m) 0 (V m)) :=
  Pipeline.θ_run_frame (Q' := _) cfgs (dats m) (0 : Fin 1) launch0 defs₀ Variants.none m ρ main
    (hbody := fun c => body_rows m c (hl c)) (hshare := fun c => (dats m 0 c).share_full fun _ => rfl)
    (howed := fun _ _ => rfl) (V := V m) (hmain := hmain m Variants.none) (hA := A_eq m) (hΦ := fun _ _ => rfl)

end Cert.FfnIdeal.Rows

end
-- ==== Proof.Dense.Row.lean ====
/-
  The stored block read at an index: a row's values depend on that row of the two row blocks only.
-/
module

public import proofs.«01_k».proof.Proof.Dense.Block
public import proofs.«01_k».proof.Proof.Experts.Sum

@[expose] public section

set_option maxRecDepth 16384

noncomputable section

namespace Cert.FfnIdeal.Rows

open Cert.FfnIdeal Cert.FfnIdeal.Gen Idealize.ShloMosaic Idealize.ShloMosaic.TcCoe Idealize.SL.Sem
open Cert.ExpertsIdeal.Tile (act sum_blocks)

/-- Hidden entry `h` of a row. -/
def hid (x : Fin 1024 → EReal) (w : Fin 1024 → Fin 5632 → EReal) (h : Fin 2816) : EReal :=
  act (∑ d : Fin 1024, x d * w d ⟨h.val, by omega⟩) (∑ d : Fin 1024, x d * w d ⟨2816 + h.val, by omega⟩)

/-- A row through the two matrices. -/
def through (x : Fin 1024 → EReal) (w : Fin 1024 → Fin 5632 → EReal) (o : Fin 2816 → Fin 1024 → EReal) (k : Fin 1024) : EReal :=
  ∑ h : Fin 2816, hid x w h * o h k

/-- A row of the result: the row's norm, gated, added to the residual. -/
def rowOut (x : Fin 1024 → EReal) (w : Fin 1024 → Fin 5632 → EReal) (o : Fin 2816 → Fin 1024 → EReal) (res gate g : Fin 1024 → EReal) (k : Fin 1024) : EReal :=
  res k + gate k * (through x w o k * Ideal.rsqrt (Ideal.div (∑ e : Fin 1024, through x w o e * through x w o e) (Ideal.ofBits .f32 0x44800000#32) + Ideal.ofBits .f32 0x358637BD#32) * g k)

/-- A chunk of the gate columns, at an index. -/
theorem gateCols_apply (x : Vec Ideal S1024x5632 .bf16) (n : Fin 11) (d : Fin 1024) (j : Fin 256) :
    gateCols x n (ix2 d j) = x (ix2 d ⟨256 * n.val + j.val, by omega⟩) := by
  unfold gateCols View.ld
  congr 1
  funext a
  apply Fin.ext
  match a with
  | ⟨0, _⟩ => show 0 + 1 * d.val = d.val; omega
  | ⟨1, _⟩ => show 256 * n.val + 1 * j.val = 256 * n.val + j.val; omega

/-- A chunk of the up columns, at an index. -/
theorem upCols_apply (x : Vec Ideal S1024x5632 .bf16) (n : Fin 11) (d : Fin 1024) (j : Fin 256) :
    upCols x n (ix2 d j) = x (ix2 d ⟨2816 + (256 * n.val + j.val), by omega⟩) := by
  unfold upCols View.ld
  congr 1
  funext a
  apply Fin.ext
  match a with
  | ⟨0, _⟩ => show 0 + 1 * d.val = d.val; omega
  | ⟨1, _⟩ => show 2816 + 256 * n.val + 1 * j.val = 2816 + (256 * n.val + j.val); omega

/-- A chunk of the output matrix's rows, at an index. -/
theorem outRows_apply (x : Vec Ideal S2816x1024 .bf16) (n : Fin 11) (j : Fin 256) (k : Fin 1024) :
    outRows x n (ix2 j k) = x (ix2 ⟨256 * n.val + j.val, by omega⟩ k) := by
  unfold outRows View.ld
  congr 1
  funext a
  apply Fin.ext
  match a with
  | ⟨0, _⟩ => show 256 * n.val + 1 * j.val = 256 * n.val + j.val; omega
  | ⟨1, _⟩ => show 0 + 1 * k.val = k.val; omega

/-- A product with 256 columns, at an index. -/
theorem proj_apply (f : FVec Ideal S512x1024 .bf16) (w : Vec Ideal S1024x256 .bf16) (r : Fin 512) (j : Fin 256) :
    proj f w (ix2 r j) = ∑ d : Fin 1024, f (ix2 r d) * w (ix2 d j) := by
  unfold proj
  pointwise

/-- A hidden value, at an index. -/
theorem hidden_apply (g u : FVec Ideal S512x256 .f32) (r : Fin 512) (j : Fin 256) :
    hidden g u (ix2 r j) = act (g (ix2 r j)) (u (ix2 r j)) := by
  unfold hidden act
  pointwise
  rw [sub_eq_add_neg, zero_add]

/-- The hidden values' product with 256 rows, at an index. -/
theorem back_apply (h : FVec Ideal S512x256 .bf16) (w : FVec Ideal S256x1024 .bf16) (r : Fin 512) (k : Fin 1024) :
    matmul (F := Ideal) dot_S512x256_S256x1024_S512x1024_1_0_0_1_n_n none h w (constant S512x1024 .f32 0x00000000#32) (ix2 r k)
      = ∑ j : Fin 256, h (ix2 r j) * w (ix2 j k) := by
  pointwise

/-- What a chunk adds, at an index. -/
theorem chunk_apply (f : FVec Ideal S512x1024 .bf16) (wi : Vec Ideal S1024x5632 .bf16) (wo : Vec Ideal S2816x1024 .bf16) (n : Fin 11) (r : Fin 512) (k : Fin 1024) :
    chunk f wi wo n (ix2 r k)
      = ∑ j : Fin 256, hid (fun d => f (ix2 r d)) (fun d h => wi (ix2 d h)) ⟨256 * n.val + j.val, by omega⟩ * wo (ix2 ⟨256 * n.val + j.val, by omega⟩ k) := by
  unfold chunk
  rw [back_apply]
  refine Finset.sum_congr rfl fun j _ => ?_
  rw [hidden_apply, proj_apply, proj_apply, outRows_apply]
  simp only [gateCols_apply, upCols_apply]
  rfl

/-- The chunks' sum, at an index. -/
theorem total_apply (f : FVec Ideal S512x1024 .bf16) (wi : Vec Ideal S1024x5632 .bf16) (wo : Vec Ideal S2816x1024 .bf16) (r : Fin 512) (k : Fin 1024) :
    total f wi wo (ix2 r k) = through (fun d => f (ix2 r d)) (fun d h => wi (ix2 d h)) (fun h e => wo (ix2 h e)) k := by
  unfold through
  rw [sum_blocks 11 256 2816 rfl, Finset.sum_congr rfl fun n _ => (chunk_apply f wi wo n r k).symm]
  unfold total
  generalize chunk f wi wo = C
  simp only [Fin.sum_univ_castSucc, Finset.univ_eq_empty, Finset.sum_empty, zero_add]
  rfl

/-- The norm, at an index. -/
theorem normed_apply (y : FVec Ideal S512x1024 .f32) (g : Vec Ideal S1x1024 .f32) (r : Fin 512) (k : Fin 1024) :
    normed y g (ix2 r k) = y (ix2 r k) * Ideal.rsqrt (Ideal.div (∑ e : Fin 1024, y (ix2 r e) * y (ix2 r e)) (Ideal.ofBits .f32 0x44800000#32) + Ideal.ofBits .f32 0x358637BD#32) * g (ix2 0 k) := by
  unfold normed
  pointwise

/-- The gated sum, at an index. -/
theorem gated_apply (x : Vec Ideal S1x512x1024 .f32) (mo : Vec Ideal S1x6x1024 .f32) (y : FVec Ideal S512x1024 .f32) (r : Fin 512) (k : Fin 1024) :
    gated x mo y (ix3 0 r k) = x (ix3 0 r k) + mo (ix3 0 5 k) * y (ix2 r k) := by
  unfold gated
  pointwise

/-- A block of rows without its leading axis. -/
theorem flat_apply (x : Vec Ideal S1x512x1024 .bf16) (r : Fin 512) (d : Fin 1024) :
    (shapeCast S512x1024 x shapeCasts_S1x512x1024_S512x1024 : FVec Ideal S512x1024 .bf16) (ix2 r d) = x (ix3 0 r d) := by
  pointwise

/-- The stored block, at an index. -/
theorem blockOut_apply (x0 : Vec Ideal S1x512x1024 .bf16) (x1 : Vec Ideal S1024x5632 .bf16) (x2 : Vec Ideal S2816x1024 .bf16) (x3 : Vec Ideal S1x512x1024 .f32) (x4 : Vec Ideal S1x6x1024 .f32) (x5 : Vec Ideal S1x1024 .f32) (r : Fin 512) (k : Fin 1024) :
    blockOut x0 x1 x2 x3 x4 x5 (ix3 0 r k)
      = rowOut (fun d => x0 (ix3 0 r d)) (fun d h => x1 (ix2 d h)) (fun h e => x2 (ix2 h e)) (fun e => x3 (ix3 0 r e)) (fun e => x4 (ix3 0 5 e)) (fun e => x5 (ix2 0 e)) k := by
  unfold blockOut rowOut
  rw [gated_apply, normed_apply]
  simp only [total_apply, flat_apply]

end Cert.FfnIdeal.Rows

end
-- ==== Proof.Dense.Ref.lean ====
/-
  The feed-forward call's reference, read at an index.
-/
module

public import proofs.«01_k».proof.Proof.Dense.Row
public import proofs.«01_k».proof.Proof.Gen.FfnRefIdeal.Run

@[expose] public section

set_option maxRecDepth 16384

noncomputable section

namespace Cert.FfnRefIdeal.Value

open Cert.FfnRefIdeal Cert.FfnRefIdeal.Gen Idealize.ShloMosaic Idealize.ShloMosaic.TcCoe Idealize.SL.Sem
open Cert.ExpertsIdeal.Tile (act)
open Cert.FfnIdeal.Rows (hid through rowOut)

/-- All rows times the 2816 columns from `off` on. -/
def refIn (f : Vec Ideal S2x8448x1024 .bf16) (w : Vec Ideal S1024x5632 .bf16) (off : Fin 2 → ℕ) (hs : S1024x5632.Slices off S1024x2816) : FVec Ideal S2x8448x2816 .f32 :=
  Host.dotGeneral dot_S2x8448x1024_S1024x2816_S2x8448x2816_2_0_01_1_n_n none (extf .f32 f bitsLt_bf16_f32) (extf .f32 (extractStridedSlice S1024x2816 off w hs) bitsLt_bf16_f32)

/-- The hidden entries, rounded. -/
def refAct (g u : FVec Ideal S2x8448x2816 .f32) : FVec Ideal S2x8448x2816 .bf16 :=
  truncf .bf16 (mulf (mulf g (Host.divf (broadcastInDim S2x8448x2816 ![] bcast_S_S2x8448x2816 (constant S_ .f32 0x3F800000#32))
    (addf (broadcastInDim S2x8448x2816 ![] bcast_S_S2x8448x2816 (constant S_ .f32 0x3F800000#32)) (Host.exp (Host.negf g))))) u) bitsLt_bf16_f32

/-- The hidden entries times the output matrix. -/
def refBack (a : FVec Ideal S2x8448x2816 .bf16) (w : Vec Ideal S2816x1024 .bf16) : FVec Ideal S2x8448x1024 .f32 :=
  Host.dotGeneral dot_S2x8448x2816_S2816x1024_S2x8448x1024_2_0_01_1_n_n none (extf .f32 a bitsLt_bf16_f32) (extf .f32 w bitsLt_bf16_f32)

/-- The rows' norm. -/
def refNorm (y : FVec Ideal S2x8448x1024 .f32) (g : Vec Ideal S1024 .f32) : FVec Ideal S2x8448x1024 .f32 :=
  mulf (mulf y (broadcastInDim S2x8448x1024 ![0, 1, 2] bcast_S2x8448x1_S2x8448x1024_0_1_2 (Host.rsqrt (addf (Host.divf (broadcastInDim S2x8448x1 ![0, 1] bcast_S2x8448_S2x8448x1_0_1
      (Host.reduceAdd (mulf y y) (constant S_ .f32 0x00000000#32) reducesTo_S2x8448x1024_S2x8448_d2 h_S_)) (broadcastInDim S2x8448x1 ![] bcast_S_S2x8448x1 (constant S_ .f32 0x44800000#32)))
      (broadcastInDim S2x8448x1 ![] bcast_S_S2x8448x1 (constant S_ .f32 0x358637BD#32))))))
    (broadcastInDim S2x8448x1024 ![0, 1, 2] bcast_S1x1x1024_S2x8448x1024_0_1_2 (broadcastInDim S1x1x1024 ![2] bcast_S1024_S1x1x1024_2 g))

/-- The image rows' gates, -/
def refLat (mo : Vec Ideal S8x6x1024 .f32) : FVec Ideal S2x8192x1024 .f32 :=
  broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1024 ![0, 5, 0] mo slices_S8x6x1024_S2x1x1024_0_5_0) shapeCasts_S2x1x1024_S2x1024))
/-- the context rows', -/
def refCtx (mo : Vec Ideal S8x6x1024 .f32) : FVec Ideal S2x256x1024 .f32 :=
  broadcastInDim S2x256x1024 ![2] bcast_S1024_S2x256x1024_2 (shapeCast S1024 (extractStridedSlice S1x1x1024 ![2, 5, 0] mo slices_S8x6x1024_S1x1x1024_2_5_0) shapeCasts_S1x1x1024_S1024)
/-- and the ones after the others. -/
def refGate (mo : Vec Ideal S8x6x1024 .f32) : FVec Ideal S2x8448x1024 .f32 :=
  concatenate S2x8448x1024 1 [⟨S2x8192x1024, refLat mo⟩, ⟨S2x256x1024, refCtx mo⟩] concatenates_S2x8192x1024_S2x256x1024_S2x8448x1024_d1

/-- The reference's result. -/
def refFfn (f : Vec Ideal S2x8448x1024 .bf16) (wi : Vec Ideal S1024x5632 .bf16) (wo : Vec Ideal S2816x1024 .bf16) (x : Vec Ideal S2x8448x1024 .f32) (mo : Vec Ideal S8x6x1024 .f32) (g : Vec Ideal S1024 .f32) : FVec Ideal S2x8448x1024 .f32 :=
  addf x (mulf (refGate mo) (refNorm (refBack (refAct (refIn f wi ![0, 0] slices_S1024x5632_S1024x2816_0_0) (refIn f wi ![0, 2816] slices_S1024x5632_S1024x2816_0_2816)) wo) g))

/-- The reference's run leaves it. -/
theorem res_eq (m : (ℓ : Loc nD τ sig) → Buf (Elt Ideal) ℓ) (c : Dev nD) :
    res_main_v35 m c = refFfn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold res_main_v35
  rfl

/-- The reference's result of equal arrays. -/
theorem ffn_congr {f f' : Vec Ideal S2x8448x1024 .bf16} {wi wi' : Vec Ideal S1024x5632 .bf16} {wo wo' : Vec Ideal S2816x1024 .bf16} {x x' : Vec Ideal S2x8448x1024 .f32} {mo mo' : Vec Ideal S8x6x1024 .f32} {g g' : Vec Ideal S1024 .f32}
    (h0 : f' = f) (h1 : wi' = wi) (h2 : wo' = wo) (h3 : x' = x) (h4 : mo' = mo) (h5 : g' = g) : refFfn f' wi' wo' x' mo' g' = refFfn f wi wo x mo g := by
  rw [h0, h1, h2, h3, h4, h5]

/-- A product with the columns from `o` on, at an index. -/
theorem refIn_apply (f : Vec Ideal S2x8448x1024 .bf16) (w : Vec Ideal S1024x5632 .bf16) (o : ℕ) (ho : o + 2816 ≤ 5632)
    (hs : S1024x5632.Slices ![0, o] S1024x2816) (b : Fin 2) (R : Fin 8448) (h : Fin 2816) :
    refIn f w ![0, o] hs (ix3 b R h) = ∑ d : Fin 1024, f (ix3 b R d) * w (ix2 d ⟨o + h.val, by omega⟩) := by
  unfold refIn
  pointwise

/-- A hidden entry. -/
theorem refAct_apply (g u : FVec Ideal S2x8448x2816 .f32) (i : S2x8448x2816.Idx) : refAct g u i = act (g i) (u i) := by
  unfold refAct act
  pointwise

/-- A product with the output matrix, at an index. -/
theorem refBack_apply (a : FVec Ideal S2x8448x2816 .bf16) (w : Vec Ideal S2816x1024 .bf16) (b : Fin 2) (R : Fin 8448) (k : Fin 1024) :
    refBack a w (ix3 b R k) = ∑ h : Fin 2816, a (ix3 b R h) * w (ix2 h k) := by
  unfold refBack
  pointwise

/-- The norm, at an index. -/
theorem refNorm_apply (y : FVec Ideal S2x8448x1024 .f32) (g : Vec Ideal S1024 .f32) (b : Fin 2) (R : Fin 8448) (k : Fin 1024) :
    refNorm y g (ix3 b R k) = y (ix3 b R k) * Ideal.rsqrt (Ideal.div (∑ e : Fin 1024, y (ix3 b R e) * y (ix3 b R e)) (Ideal.ofBits .f32 0x44800000#32) + Ideal.ofBits .f32 0x358637BD#32) * g (ix1 k) := by
  unfold refNorm
  pointwise

/-- An image row's gate, at an index, -/
theorem refLat_apply (mo : Vec Ideal S8x6x1024 .f32) (b : Fin 2) (R : Fin 8192) (k : Fin 1024) : refLat mo (ix3 b R k) = mo (ix3 ⟨b.val, by omega⟩ 5 k) := by
  unfold refLat
  pointwise

/-- and a context row's. -/
theorem refCtx_apply (mo : Vec Ideal S8x6x1024 .f32) (b : Fin 2) (R : Fin 256) (k : Fin 1024) : refCtx mo (ix3 b R k) = mo (ix3 2 5 k) := by
  unfold refCtx
  pointwise

/-- A row's gate, at an index. -/
theorem refGate_apply (mo : Vec Ideal S8x6x1024 .f32) (b : Fin 2) (R : Fin 8448) (k : Fin 1024) (e : Fin 8) (he : e.val = if R.val < 8192 then b.val else 2) :
    refGate mo (ix3 b R k) = mo (ix3 e 5 k) := by
  have hl := refLat_apply mo b
  have hc := refCtx_apply mo b
  unfold refGate
  generalize refLat mo = L at hl ⊢
  generalize refCtx mo = C at hc ⊢
  pointwise
  by_cases h : R.val < 8192
  · rw [if_pos h] at he
    simp only [h, dif_pos]
    rw [hl]
    congr 2
    exact Fin.ext he.symm
  · rw [if_neg h] at he
    simp only [h, dif_neg, not_false_eq_true]
    rw [hc]
    congr 2
    exact Fin.ext he.symm

/-- The reference's result, at an index. -/
theorem refFfn_apply (f : Vec Ideal S2x8448x1024 .bf16) (wi : Vec Ideal S1024x5632 .bf16) (wo : Vec Ideal S2816x1024 .bf16) (x : Vec Ideal S2x8448x1024 .f32) (mo : Vec Ideal S8x6x1024 .f32) (g : Vec Ideal S1024 .f32)
    (b : Fin 2) (R : Fin 8448) (k : Fin 1024) (e : Fin 8) (he : e.val = if R.val < 8192 then b.val else 2) :
    refFfn f wi wo x mo g (ix3 b R k)
      = rowOut (fun d => f (ix3 b R d)) (fun d h => wi (ix2 d h)) (fun h d => wo (ix2 h d)) (fun d => x (ix3 b R d)) (fun d => mo (ix3 e 5 d)) (fun d => g (ix1 d)) k := by
  have hy : ∀ d, refBack (refAct (refIn f wi ![0, 0] slices_S1024x5632_S1024x2816_0_0) (refIn f wi ![0, 2816] slices_S1024x5632_S1024x2816_0_2816)) wo (ix3 b R d)
      = through (fun d => f (ix3 b R d)) (fun d h => wi (ix2 d h)) (fun h d => wo (ix2 h d)) d := by
    intro d
    rw [refBack_apply]
    unfold through hid
    refine Finset.sum_congr rfl fun h _ => congrArg (· * _) ?_
    rw [refAct_apply, refIn_apply f wi 0 (by decide), refIn_apply f wi 2816 (by decide)]
    simp only [zero_add]
  unfold refFfn rowOut
  generalize refBack _ wo = y at hy ⊢
  simp only [← hy, ← refGate_apply mo b R k e he]
  show x (ix3 b R k) + refGate mo (ix3 b R k) * refNorm y g (ix3 b R k) = _
  rw [refNorm_apply]

end Cert.FfnRefIdeal.Value

end
-- ==== Proof.Dense.Array.lean ====
/-
  The array the feed-forward call leaves, read at an index: every row lies in exactly one point's block, inside it.
-/
module

public import proofs.«01_k».proof.Proof.Dense.Frame
public import proofs.«01_k».proof.Proof.Dense.Ref
public import Idealize.ShloMosaic.Lib.Pipeline.Value

@[expose] public section

set_option maxRecDepth 16384

noncomputable section

namespace Cert.FfnIdeal.Rows

open Cert.FfnIdeal Cert.FfnIdeal.Gen Idealize.ShloMosaic Idealize.ShloMosaic.TcCoe Idealize.SL.Sem
open Cert.FfnRefIdeal.Value (refFfn refFfn_apply)

/-- The blocks a point's windows name: tile `t % 17` of batch `t / 17`, the whole matrices, and the gates of the batch
    or, at the last tile, of the context. -/
theorem index_pt : ∀ t : Fin cfg0.N, (win0_0.index t 0 = t.val / 17 ∧ win0_0.index t 1 = t.val % 17 ∧ win0_0.index t 2 = 0)
    ∧ (win0_1.index t 0 = 0 ∧ win0_1.index t 1 = 0) ∧ (win0_2.index t 0 = 0 ∧ win0_2.index t 1 = 0)
    ∧ (win0_3.index t 0 = t.val / 17 ∧ win0_3.index t 1 = t.val % 17 ∧ win0_3.index t 2 = 0)
    ∧ (win0_4.index t 0 = (if t.val % 17 < 16 then t.val / 17 else 2) ∧ win0_4.index t 1 = 0 ∧ win0_4.index t 2 = 0)
    ∧ (win0_5.index t 0 = 0 ∧ win0_5.index t 1 = 0)
    ∧ (win0_6.index t 0 = t.val / 17 ∧ win0_6.index t 1 = t.val % 17 ∧ win0_6.index t 2 = 0) :=
  (by decide +kernel : ∀ t : Fin grid0.N, _)

/-- The rows of a point's block that lie inside the array. -/
def inside (t : Fin cfg0.N) : ℕ := if t.val % 17 < 16 then 512 else 256

/-- The windows of rows move those rows and no others. -/
theorem xsize_pt : ∀ t : Fin cfg0.N, (win0_0.xsize (grid0.coords t) 0 = 1 ∧ win0_0.xsize (grid0.coords t) 1 = inside t ∧ win0_0.xsize (grid0.coords t) 2 = 1024)
    ∧ (win0_3.xsize (grid0.coords t) 0 = 1 ∧ win0_3.xsize (grid0.coords t) 1 = inside t ∧ win0_3.xsize (grid0.coords t) 2 = 1024)
    ∧ (win0_6.xsize (grid0.coords t) 0 = 1 ∧ win0_6.xsize (grid0.coords t) 1 = inside t ∧ win0_6.xsize (grid0.coords t) 2 = 1024) :=
  (by decide +kernel : ∀ t : Fin grid0.N, _)

variable (m : (ℓ : Loc nD τ sig) → Buf (Elt Ideal) ℓ)

section
variable (c : Dev nD) (t : Fin cfg0.N) (b : Fin 2) (hb : b.val = t.val / 17) (r : Fin 512) (hr : r.val < inside t) (R : Fin 8448) (hR : R.val = 512 * (t.val % 17) + r.val)
include hb hr hR

/-- A row inside, of the rows' block: the array's row. -/
theorem rowsIn_apply (d : Vec Ideal S1x512x1024 .bf16) (k : Fin 1024) : rowsIn m c t d (ix3 0 r k) = m ((c : Thread nD τ).loc main_arg0) (ix3 b R k) := by
  have e := (index_pt t).1
  have x := (xsize_pt t).1
  unfold rowsIn Pipeline.Window.fill
  rw [dif_pos ((win0_0.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg0 _ = _
  rw [V_main_arg0]
  congr 1
  funext a
  apply Fin.ext
  match a with
  | ⟨0, _⟩ => show win0_0.index t 0 * 1 + 1 * 0 = b.val; rw [e.1]; omega
  | ⟨1, _⟩ => show win0_0.index t 1 * 512 + 1 * r.val = R.val; rw [e.2.1]; omega
  | ⟨2, _⟩ => show win0_0.index t 2 * 1024 + 1 * k.val = k.val; rw [e.2.2]; omega

/-- A row inside, of the residual's block: the array's row. -/
theorem resIn_apply (d : Vec Ideal S1x512x1024 .f32) (k : Fin 1024) : resIn m c t d (ix3 0 r k) = m ((c : Thread nD τ).loc main_arg3) (ix3 b R k) := by
  have e := (index_pt t).2.2.2.1
  have x := (xsize_pt t).2.1
  unfold resIn Pipeline.Window.fill
  rw [dif_pos ((win0_3.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg3 _ = _
  rw [V_main_arg3]
  congr 1
  funext a
  apply Fin.ext
  match a with
  | ⟨0, _⟩ => show win0_3.index t 0 * 1 + 1 * 0 = b.val; rw [e.1]; omega
  | ⟨1, _⟩ => show win0_3.index t 1 * 512 + 1 * r.val = R.val; rw [e.2.1]; omega
  | ⟨2, _⟩ => show win0_3.index t 2 * 1024 + 1 * k.val = k.val; rw [e.2.2]; omega

end

/-- The input matrix's block is the matrix. -/
theorem win_apply (c : Dev nD) (t : Fin cfg0.N) (d : Fin 1024) (h : Fin 5632) : iblk m c 1 t (ix2 d h) = m ((c : Thread nD τ).loc main_arg1) (ix2 d h) := by
  have e := (index_pt t).2.1
  unfold iblk
  rw [View.read_apply]
  show V m c main_arg1 _ = _
  rw [V_main_arg1]
  congr 1
  funext a
  apply Fin.ext
  match a with
  | ⟨0, _⟩ => show win0_1.index t 0 * 1024 + 1 * d.val = d.val; rw [e.1]; omega
  | ⟨1, _⟩ => show win0_1.index t 1 * 5632 + 1 * h.val = h.val; rw [e.2]; omega

/-- The output matrix's block is the matrix. -/
theorem wout_apply (c : Dev nD) (t : Fin cfg0.N) (h : Fin 2816) (k : Fin 1024) : iblk m c 2 t (ix2 h k) = m ((c : Thread nD τ).loc main_arg2) (ix2 h k) := by
  have e := (index_pt t).2.2.1
  unfold iblk
  rw [View.read_apply]
  show V m c main_arg2 _ = _
  rw [V_main_arg2]
  congr 1
  funext a
  apply Fin.ext
  match a with
  | ⟨0, _⟩ => show win0_2.index t 0 * 2816 + 1 * h.val = h.val; rw [e.1]; omega
  | ⟨1, _⟩ => show win0_2.index t 1 * 1024 + 1 * k.val = k.val; rw [e.2]; omega

/-- The gates' block, at a row. -/
theorem mod_apply (c : Dev nD) (t : Fin cfg0.N) (e : Fin 8) (he : e.val = if t.val % 17 < 16 then t.val / 17 else 2) (n : Fin 6) (k : Fin 1024) :
    iblk m c 4 t (ix3 0 n k) = m ((c : Thread nD τ).loc main_arg4) (ix3 e n k) := by
  have x := (index_pt t).2.2.2.2.1
  unfold iblk
  rw [View.read_apply]
  show V m c main_arg4 _ = _
  rw [V_main_arg4]
  congr 1
  funext a
  apply Fin.ext
  match a with
  | ⟨0, _⟩ => show win0_4.index t 0 * 1 + 1 * 0 = e.val; rw [x.1]; omega
  | ⟨1, _⟩ => show win0_4.index t 1 * 6 + 1 * n.val = n.val; rw [x.2.1]; omega
  | ⟨2, _⟩ => show win0_4.index t 2 * 1024 + 1 * k.val = k.val; rw [x.2.2]; omega

/-- The norm's weights as the launch passes them. -/
theorem V_v0 (c : Dev nD) : V m c main_v0 = shapeCast S1x1024 (m ((c : Thread nD τ).loc main_arg5)) shapeCasts_S1024_S1x1024 := by
  unfold V hostOps0
  after_results_simp
  rfl

/-- A vector as one row. -/
theorem asRow_apply (x : Vec Ideal S1024 .f32) (k : Fin 1024) : (shapeCast S1x1024 x shapeCasts_S1024_S1x1024 : FVec Ideal S1x1024 .f32) (ix2 0 k) = x (ix1 k) := by
  pointwise

/-- The norm's weights' block. -/
theorem gpost_apply (c : Dev nD) (t : Fin cfg0.N) (k : Fin 1024) : iblk m c 5 t (ix2 0 k) = m ((c : Thread nD τ).loc main_arg5) (ix1 k) := by
  have x := (index_pt t).2.2.2.2.2.1
  unfold iblk
  rw [View.read_apply]
  show V m c main_v0 _ = _
  rw [V_v0]
  refine Eq.trans ?_ (asRow_apply _ k)
  congr 1
  funext a
  apply Fin.ext
  match a with
  | ⟨0, _⟩ => show win0_5.index t 0 * 1 + 1 * 0 = 0; rw [x.1]
  | ⟨1, _⟩ => show win0_5.index t 1 * 1024 + 1 * k.val = k.val; rw [x.2]; omega

/-- A row inside the stored block is the reference's row, whatever lies past the arrays' end. -/
theorem outAt_apply (c : Dev nD) (t : Fin cfg0.N) (b : Fin 2) (hb : b.val = t.val / 17) (r : Fin 512) (hr : r.val < inside t) (R : Fin 8448) (hR : R.val = 512 * (t.val % 17) + r.val)
    (d : Vec Ideal S1x512x1024 .bf16) (e : Vec Ideal S1x512x1024 .f32) (k : Fin 1024) :
    outAt m c t d e (ix3 0 r k)
      = refFfn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix3 b R k) := by
  have hg : (if R.val < 8192 then b.val else 2) = if t.val % 17 < 16 then t.val / 17 else 2 := by
    unfold inside at hr
    split_ifs at hr ⊢ <;> omega
  have hl : (if R.val < 8192 then b.val else 2) < 8 := by split_ifs <;> omega
  rw [refFfn_apply _ _ _ _ _ _ b R k ⟨_, hl⟩ rfl]
  unfold outAt
  rw [blockOut_apply]
  simp only [rowsIn_apply m c t b hb r hr R hR, resIn_apply m c t b hb r hr R hR, win_apply, wout_apply, gpost_apply, mod_apply m c t ⟨_, hl⟩ hg]

/-- An index of the rows inside is a row and a column. -/
theorem inside_idx (t : Fin cfg0.N) (j : (win0_6.xblock (grid0.coords t)).Idx) :
    ∃ (r : Fin 512) (k : Fin 1024), r.val < inside t ∧ win0_6.xinj (grid0.coords t) j = ix3 0 r k := by
  have x := (xsize_pt t).2.2
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 1).val, by omega⟩, ⟨(j 2).val, h2⟩, h1, ?_⟩
  funext a
  apply Fin.ext
  match a with
  | ⟨0, _⟩ => exact Nat.lt_one_iff.1 h0
  | ⟨1, _⟩ => rfl
  | ⟨2, _⟩ => rfl

/-- The rows inside a stored block do not depend on what lies past the arrays' end. -/
theorem rows_local (c : Dev nD) (t : Fin cfg0.N) (d : Vec Ideal S1x512x1024 .bf16) (e : Vec Ideal S1x512x1024 .f32) :
    win0_6.cut (grid0.coords t) (outAt m c t d e) = win0_6.cut (grid0.coords t) (outAt m c t zR zX) := by
  have hN : cfg0.N = 34 := N_0
  funext j
  obtain ⟨r, k, hr, hj⟩ := inside_idx t j
  show outAt m c t d e (win0_6.xinj (grid0.coords t) j) = outAt m c t zR zX (win0_6.xinj (grid0.coords t) j)
  have hi : r.val < 512 ∧ (t.val % 17 = 16 → r.val < 256) := by unfold inside at hr; split_ifs at hr <;> omega
  have ht := t.isLt
  rw [hj, outAt_apply m c t ⟨t.val / 17, by omega⟩ rfl r hr ⟨512 * (t.val % 17) + r.val, by omega⟩ rfl, outAt_apply m c t ⟨t.val / 17, by omega⟩ rfl r hr ⟨512 * (t.val % 17) + r.val, by omega⟩ rfl]

/-- Two points' output blocks are not the same block. -/
theorem index_inj : ∀ t t' : Fin cfg0.N, win0_6.index t = win0_6.index t' → t = t' :=
  (by decide +kernel : ∀ t t' : Fin grid0.N, win0_6.index t = win0_6.index t' → t = t')

/-- A point's block of the array left is what the point stored. -/
theorem block_left (c : Dev nD) (t : Fin cfg0.N) :
    ((cfg0.win 6).blk t).view.read (Elt Ideal) ((dats m 0 c).arrAt 6 cfg0.N) = win0_6.cut (grid0.coords t) (outAt m c t zR zX) :=
  (dats m 0 c).read_blk_arrAt_eq_flushed 6 (fun t t' _ _ hne => (cfg0.win 6).disjoint_blk fun h => hne (index_inj t t' h)) cfg0.N t t.isLt (flush0_6 t)

/-- The array left is the reference's result. -/
theorem ffn_eq (c : Dev nD) :
    (dats m 0 c).arrAt 6 cfg0.N
      = refFfn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine funext fun j : S2x8448x1024.Idx => ?_
  obtain ⟨b, R, k, rfl⟩ : ∃ (b : Fin 2) (R : Fin 8448) (k : Fin 1024), j = ix3 b R k := ⟨j 0, j 1, j 2, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2
  have e := (index_pt t).2.2.2.2.2.2
  let i : (win0_6.xblock (grid0.coords t)).Idx := fun a => ⟨(ix3 (0 : Fin 1) r k a).val, by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm⟩
  have h := congrFun (block_left m c t) i
  rw [View.read_apply] at h
  refine Eq.trans ?_ (h.trans ?_)
  · congr 1
    funext a
    apply Fin.ext
    match a with
    | ⟨0, _⟩ => show b.val = win0_6.index t 0 * 1 + 1 * 0; rw [e.1]; omega
    | ⟨1, _⟩ => show R.val = win0_6.index t 1 * 512 + 1 * r.val; rw [e.2.1]; omega
    | ⟨2, _⟩ => show k.val = win0_6.index t 2 * 1024 + 1 * k.val; rw [e.2.2]; omega
  · exact outAt_apply m c t b (by omega) r hr R (by omega) zR zX k

variable (ρ : Dev nD → PrngReg)

/-- The run's result is the reference's, the arguments unchanged. -/
theorem run_out : θ_run defs (onTc (τ := τ) (main (F := Ideal))) ⟨m, fun _ => 0, ρ⟩ fun r => ∀ c : Dev nD,
    r.2.mem ((c : Thread nD τ).loc main_v1) = (dats m 0 c).arrAt 6 cfg0.N :=
  (θ_run defs _ _).mono (fun _ h c => (h c).1 6) (run_main m ρ fun c => rows_local m c)

end Cert.FfnIdeal.Rows

end
-- ==== Proof.Dense.Same.lean ====
/-
  The feed-forward program and its ideal are the same text, read over any values; so what is proved of the ideal's run at
  any values holds of the program's.
-/
module

public import proofs.«01_k».proof.Proof.Dense.Frame
public import proofs.«01_k».proof.Proof.Gen.Ffn
public import proofs.«01_k».proof.Proof.Gen.Ffn.Launch

@[expose] public section

set_option maxRecDepth 16384
set_option maxHeartbeats 0

noncomputable section

namespace Cert.Ffn.Rows

open Cert.Ffn Cert.Ffn.Gen Idealize.ShloMosaic Idealize.ShloMosaic.TcCoe Idealize.SL.Sem

variable {F : FTy → Type} [FloatOps F]

/-- The kernel bodies are equal. -/
theorem bodies_eq : @Cert.Ffn.defs₀ F _ Cert.Ffn.Gen.facts = @Cert.FfnIdeal.defs₀ F _ Cert.FfnIdeal.Gen.facts := by
  unfold Cert.Ffn.defs₀ Cert.FfnIdeal.defs₀
  congr 1
  funext l a
  match l, a with
  | 0, (t, s) => rfl

/-- The programs' functions are equal. -/
theorem defs_eq : @Cert.Ffn.defs F _ Cert.Ffn.Gen.facts = @Cert.FfnIdeal.defs F _ Cert.FfnIdeal.Gen.facts :=
  congrArg (Pipeline.defs (@Cert.Ffn.pcfgs F _)) bodies_eq

/-- The program runs, its arguments unchanged, every counter zero again. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (congrArg (fun D => θ_run D (onTc (τ := τ) (main (F := F))) ⟨m, fun _ => 0, ρ⟩ _) defs_eq).mpr (Cert.FfnIdeal.Rows.frame m ρ)

end Cert.Ffn.Rows

end
-- ==== Proof.Blend.Run.lean ====
/-
  The body of the mixing call on any staging buffers: two blocks are stored, functions of the ten blocks it reads.
-/
module

public import proofs.«01_k».proof.Proof.Gen.MixIdeal.Frame

@[expose] public section

set_option maxRecDepth 16384

noncomputable section

namespace Cert.MixIdeal.Rows

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run, with the pieces it leaves in the two output blocks. -/
noncomputable def run (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S4x128x128 .bf16) (harg5 : arg5.IsWhole) (arg6 : Memref sig .tc .vmem S128x512 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S1x6x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .bf16) (harg13 : arg13.IsWhole)
    (x0 : Vec F S1x512x512 .bf16) (x1 : Vec F S1x512x512 .bf16) (x2 : Vec F S1x512x512 .bf16) (x3 : Vec F S4x128x128 .bf16) (x4 : Vec F S128x512 .f32) (x5 : Vec F S1024x1024 .bf16) (x6 : Vec F S1x512x1024 .f32) (x7 : Vec F S1x6x1024 .f32) (x8 : Vec F S1x1024 .f32) (x9 : Vec F S1x1024 .f32) :
    Σ' (L0 : List (View.Piece (Elt F) S1x512x1024 .f32)), { L1 : List (View.Piece (Elt F) S1x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
              ∗ (∃ f, arg12.view.loc (c : Thread nD τ) ↦[arg12.view.set]{fullShare} arg12.view.writes (Elt F) f L0) ∗ (∃ f, arg13.view.loc (c : Thread nD τ) ↦[arg13.view.set]{fullShare} arg13.view.writes (Elt F) f L1)) -∗ K ⟨⟩))
          ⊢ wp frame (wpE (defs₀ (F := F)) Variants.none c none) E (cc0_ab_out i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    unfold cc0_ab_out k0_part1 k0_part2 k0_part3 k0_part4 k0_part5
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact H11

end Cert.MixIdeal.Rows

end
-- ==== Proof.Blend.Block.lean ====
/-
  What the body of the mixing call stores, as functions of the ten blocks it reads: four chunks of 128 rows are mixed and
  gated, the gated rows and the heads' outputs go through one matrix, the sum is normed, gated and added to the residual, and
  that is normed and modulated for the next part of the layer.
-/
module

public import proofs.«01_k».proof.Proof.Blend.Run
public import Idealize.ShloMosaic.Lib.Pipeline.ValueKit.Acc

@[expose] public section

set_option maxRecDepth 16384

noncomputable section

namespace Cert.MixIdeal.Rows

open Cert.MixIdeal Cert.MixIdeal.Gen Idealize.ShloMosaic Idealize.ShloMosaic.TcCoe Idealize.ShloMosaic.Tactic Idealize.SL.Sem

variable {F : FTy → Type} [FloatOps F]

/-- The zero offsets of rank 2. -/
theorem hz2 : (![0, 0] : Fin 2 → Nat) = fun _ => 0 := funext fun a => by fin_cases a <;> rfl
/-- The zero offsets of rank 3. -/
theorem hz3 : (![0, 0, 0] : Fin 3 → Nat) = fun _ => 0 := funext fun a => by fin_cases a <;> rfl

/-- The mixing matrix of group `n` lies in the matrices' block, -/
theorem matrix_inb (n : Fin 4) : ∀ a, (![n.val, 0, 0] : Fin 3 → Nat) a + S1x128x128.size a ≤ S4x128x128.size a := by
  revert n; decide
/-- the columns of group `n` in the rows of chunk `p` lie in the rows' block, -/
theorem patch_inb (p n : Fin 4) : ∀ a, (![0, 128 * p.val, 128 * n.val] : Fin 3 → Nat) a + S1x128x128.size a ≤ S1x512x512.size a := by
  revert p n; decide
/-- so do the rows of chunk `p`, -/
theorem chunk_inb (p : Fin 4) : ∀ a, (![0, 128 * p.val, 0] : Fin 3 → Nat) a + S1x128x512.size a ≤ S1x512x512.size a := by
  revert p; decide
/-- and each half of the output matrix's rows in the matrix. -/
theorem half_inb (h : Fin 2) : ∀ a, (![512 * h.val, 0] : Fin 2 → Nat) a + S512x1024.size a ≤ S1024x1024.size a := by
  revert h; decide

/-- The mixing matrix of group `n`. -/
def matrix (x : Vec F S4x128x128 .bf16) (n : Fin 4) : Vec F S1x128x128 .bf16 := View.ld x (Rect.unit ![n.val, 0, 0] S1x128x128.size (matrix_inb n))
/-- The columns of group `n` in the rows of chunk `p`. -/
def patch (x : Vec F S1x512x512 .bf16) (p n : Fin 4) : Vec F S1x128x128 .bf16 := View.ld x (Rect.unit ![0, 128 * p.val, 128 * n.val] S1x128x128.size (patch_inb p n))
/-- The rows of chunk `p`. -/
def rowsOf (x : Vec F S1x512x512 .bf16) (p : Fin 4) : Vec F S1x128x512 .bf16 := View.ld x (Rect.unit ![0, 128 * p.val, 0] S1x128x512.size (chunk_inb p))
/-- A half of the output matrix's rows. -/
def halfOf (x : Vec F S1024x1024 .bf16) (h : Fin 2) : FVec F S512x1024 .bf16 := View.ld x (Rect.unit ![512 * h.val, 0] S512x1024.size (half_inb h))

/-- A group's columns mixed among the rows of a chunk. -/
def mixOne (v : Vec F S1x512x512 .bf16) (ws : Vec F S4x128x128 .bf16) (p n : Fin 4) : FVec F S128x128 .f32 :=
  matmul dot_S128x128_S128x128_S128x128_1_0_0_1_n_n none (shapeCast S128x128 (matrix ws n) shapeCasts_S1x128x128_S128x128) (shapeCast S128x128 (patch v p n) shapeCasts_S1x128x128_S128x128) (constant S128x128 .f32 0x00000000#32)

/-- The four groups side by side. -/
def beside (y : Fin 4 → FVec F S128x128 .f32) : FVec F S128x512 .f32 :=
  concatenate S128x512 1 [⟨S128x128, y 0⟩, ⟨S128x128, y 1⟩, ⟨S128x128, y 2⟩, ⟨S128x128, y 3⟩] concatenates_S128x128_S128x128_S128x128_S128x128_S128x512_d1

/-- The rows of a chunk gated by its mixed rows, rounded. -/
def gatedRows (u : Vec F S1x512x512 .bf16) (b : Vec F S128x512 .f32) (p : Fin 4) (y : FVec F S128x512 .f32) : FVec F S128x512 .bf16 :=
  truncf .bf16 (mulf (extf .f32 (shapeCast S128x512 (rowsOf u p) shapeCasts_S1x128x512_S128x512) bitsLt_bf16_f32) (addf y b)) bitsLt_bf16_f32

/-- The four chunks one after another. -/
def stacked (y : Fin 4 → FVec F S128x512 .bf16) : FVec F S512x512 .bf16 :=
  concatenate S512x512 0 [⟨S128x512, y 0⟩, ⟨S128x512, y 1⟩, ⟨S128x512, y 2⟩, ⟨S128x512, y 3⟩] concatenates_S128x512_S128x512_S128x512_S128x512_S512x512_d0

/-- The heads' outputs and the gated rows through the output matrix. -/
def projected (o a : FVec F S512x512 .bf16) (w : Vec F S1024x1024 .bf16) : FVec F S512x1024 .f32 :=
  addf (matmul dot_S512x512_S512x1024_S512x1024_1_0_0_1_n_n none o (halfOf w 1) (constant S512x1024 .f32 0x00000000#32))
    (matmul dot_S512x512_S512x1024_S512x1024_1_0_0_1_n_n none a (halfOf w 0) (constant S512x1024 .f32 0x00000000#32))

/-- A block's norm. -/
def normed (y : FVec F S512x1024 .f32) (g : Vec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The residual with the gated norm added. -/
def residual (x : Vec F S1x512x1024 .f32) (mo : Vec F S1x6x1024 .f32) (y : FVec F S512x1024 .f32) : FVec F S512x1024 .f32 :=
  addf (shapeCast S512x1024 x shapeCasts_S1x512x1024_S512x1024)
    (mulf (broadcastTo S512x1024 (extractStridedSlice S1x1024 ![2, 0] (shapeCast S6x1024 mo shapeCasts_S1x6x1024_S6x1024) slices_S6x1024_o2_0_S1x1024) broadcasts_S1x1024_S512x1024) y)

/-- A norm scaled and shifted. -/
def modulated (mo : Vec F S1x6x1024 .f32) (y : FVec F S512x1024 .f32) : FVec F S512x1024 .f32 :=
  addf (mulf y (broadcastTo S512x1024 (addf (broadcast S1x1024 (Scalar.ofBits .f32 0x3F800000#32)) (extractStridedSlice S1x1024 ![4, 0] (shapeCast S6x1024 mo shapeCasts_S1x6x1024_S6x1024) slices_S6x1024_o4_0_S1x1024)) broadcasts_S1x1024_S512x1024))
    (broadcastTo S512x1024 (extractStridedSlice S1x1024 ![3, 0] (shapeCast S6x1024 mo shapeCasts_S1x6x1024_S6x1024) slices_S6x1024_o3_0_S1x1024) broadcasts_S1x1024_S512x1024)

/-- The rows before their norm. -/
def total (x0 x1 x2 : Vec F S1x512x512 .bf16) (x3 : Vec F S4x128x128 .bf16) (x4 : Vec F S128x512 .f32) (x5 : Vec F S1024x1024 .bf16) : FVec F S512x1024 .f32 :=
  projected (shapeCast S512x512 x2 shapeCasts_S1x512x512_S512x512) (stacked fun p => gatedRows x0 x4 p (beside fun n => mixOne x1 x3 p n)) x5

/-- The new residual. -/
def newRes (x0 x1 x2 : Vec F S1x512x512 .bf16) (x3 : Vec F S4x128x128 .bf16) (x4 : Vec F S128x512 .f32) (x5 : Vec F S1024x1024 .bf16) (x6 : Vec F S1x512x1024 .f32) (x7 : Vec F S1x6x1024 .f32) (x8 : Vec F S1x1024 .f32) : FVec F S512x1024 .f32 :=
  residual x6 x7 (normed (total x0 x1 x2 x3 x4 x5) x8)

/-- The block stored of the residual, -/
def blockX (x0 x1 x2 : Vec F S1x512x512 .bf16) (x3 : Vec F S4x128x128 .bf16) (x4 : Vec F S128x512 .f32) (x5 : Vec F S1024x1024 .bf16) (x6 : Vec F S1x512x1024 .f32) (x7 : Vec F S1x6x1024 .f32) (x8 : Vec F S1x1024 .f32) : Vec F S1x512x1024 .f32 :=
  shapeCast S1x512x1024 (newRes x0 x1 x2 x3 x4 x5 x6 x7 x8) shapeCasts_S512x1024_S1x512x1024
/-- and the one stored of the next input. -/
def blockF (x0 x1 x2 : Vec F S1x512x512 .bf16) (x3 : Vec F S4x128x128 .bf16) (x4 : Vec F S128x512 .f32) (x5 : Vec F S1024x1024 .bf16) (x6 : Vec F S1x512x1024 .f32) (x7 : Vec F S1x6x1024 .f32) (x8 x9 : Vec F S1x1024 .f32) : Vec F S1x512x1024 .bf16 :=
  shapeCast S1x512x1024 (truncf .bf16 (modulated x7 (normed (newRes x0 x1 x2 x3 x4 x5 x6 x7 x8) x9)) bitsLt_bf16_f32) shapeCasts_S512x1024_S1x512x1024

section
variable (c : Dev nD) (i : grid0.Coords) (a2 : Memref sig .tc .vmem S1x512x512 .bf16) (h2 : a2.IsWhole) (a3 : Memref sig .tc .vmem S1x512x512 .bf16) (h3 : a3.IsWhole) (a4 : Memref sig .tc .vmem S1x512x512 .bf16) (h4 : a4.IsWhole) (a5 : Memref sig .tc .vmem S4x128x128 .bf16) (h5 : a5.IsWhole) (a6 : Memref sig .tc .vmem S128x512 .f32) (h6 : a6.IsWhole) (a7 : Memref sig .tc .vmem S1024x1024 .bf16) (h7 : a7.IsWhole) (a8 : Memref sig .tc .vmem S1x512x1024 .f32) (h8 : a8.IsWhole) (a9 : Memref sig .tc .vmem S1x6x1024 .f32) (h9 : a9.IsWhole) (a10 : Memref sig .tc .vmem S1x1024 .f32) (h10 : a10.IsWhole) (a11 : Memref sig .tc .vmem S1x1024 .f32) (h11 : a11.IsWhole) (a12 : Memref sig .tc .vmem S1x512x1024 .f32) (h12 : a12.IsWhole) (a13 : Memref sig .tc .vmem S1x512x1024 .bf16) (h13 : a13.IsWhole)
  (x0 : Vec F S1x512x512 .bf16) (x1 : Vec F S1x512x512 .bf16) (x2 : Vec F S1x512x512 .bf16) (x3 : Vec F S4x128x128 .bf16) (x4 : Vec F S128x512 .f32) (x5 : Vec F S1024x1024 .bf16) (x6 : Vec F S1x512x1024 .f32) (x7 : Vec F S1x6x1024 .f32) (x8 : Vec F S1x1024 .f32) (x9 : Vec F S1x1024 .f32)

/-- The run's pieces cover the residual's block, -/
theorem run_coverX (y : S1x512x1024.Idx) : ∃ pc ∈ (run c i a2 h2 a3 h3 a4 h4 a5 h5 a6 h6 a7 h7 a8 h8 a9 h9 a10 h10 a11 h11 a12 h12 a13 h13 x0 x1 x2 x3 x4 x5 x6 x7 x8 x9).1, y ∈ pc.1.set :=
  View.cover_of_tiledL (run c i a2 h2 a3 h3 a4 h4 a5 h5 a6 h6 a7 h7 a8 h8 a9 h9 a10 h10 a11 h11 a12 h12 a13 h13 x0 x1 x2 x3 x4 x5 x6 x7 x8 x9).1 S1x512x1024.size (by sl_kernel_rfl) y
/-- and the next input's. -/
theorem run_coverF (y : S1x512x1024.Idx) : ∃ pc ∈ (run c i a2 h2 a3 h3 a4 h4 a5 h5 a6 h6 a7 h7 a8 h8 a9 h9 a10 h10 a11 h11 a12 h12 a13 h13 x0 x1 x2 x3 x4 x5 x6 x7 x8 x9).2.1, y ∈ pc.1.set :=
  View.cover_of_tiledL (run c i a2 h2 a3 h3 a4 h4 a5 h5 a6 h6 a7 h7 a8 h8 a9 h9 a10 h10 a11 h11 a12 h12 a13 h13 x0 x1 x2 x3 x4 x5 x6 x7 x8 x9).2.1 S1x512x1024.size (by sl_kernel_rfl) y

set_option maxHeartbeats 4000000 in
/-- The residual's pieces hold `blockX`. -/
theorem run_valX : View.canon (run c i a2 h2 a3 h3 a4 h4 a5 h5 a6 h6 a7 h7 a8 h8 a9 h9 a10 h10 a11 h11 a12 h12 a13 h13 x0 x1 x2 x3 x4 x5 x6 x7 x8 x9).1 = blockX x0 x1 x2 x3 x4 x5 x6 x7 x8 := by
  unfold run
  dsimp only
  sl_unfold_words
  rw [View.canon_unit_zero hz3]
  simp only [View.readAt_eq_ld]
  rw [h2.read_unread, h3.read_unread, h4.read_unread, h5.read_unread, h6.read_unread, h7.read_unread, h8.read_unread, h9.read_unread, h10.read_unread, View.ld_unit_zero (S := S1x512x512) hz3, View.ld_unit_zero (S := S128x512) hz2, View.ld_unit_zero (S := S1x512x1024) hz3, View.ld_unit_zero (S := S1x6x1024) hz3, View.ld_unit_zero (S := S1x1024) hz2]
  rfl

set_option maxHeartbeats 4000000 in
/-- The next input's pieces hold `blockF`. -/
theorem run_valF : View.canon (run c i a2 h2 a3 h3 a4 h4 a5 h5 a6 h6 a7 h7 a8 h8 a9 h9 a10 h10 a11 h11 a12 h12 a13 h13 x0 x1 x2 x3 x4 x5 x6 x7 x8 x9).2.1 = blockF x0 x1 x2 x3 x4 x5 x6 x7 x8 x9 := by
  unfold run
  dsimp only
  sl_unfold_words
  rw [View.canon_unit_zero hz3]
  simp only [View.readAt_eq_ld]
  rw [h2.read_unread, h3.read_unread, h4.read_unread, h5.read_unread, h6.read_unread, h7.read_unread, h8.read_unread, h9.read_unread, h10.read_unread, h11.read_unread, View.ld_unit_zero (S := S1x512x512) hz3, View.ld_unit_zero (S := S128x512) hz2, View.ld_unit_zero (S := S1x512x1024) hz3, View.ld_unit_zero (S := S1x6x1024) hz3, View.ld_unit_zero (S := S1x1024) hz2, View.ld_unit_zero (S := S1x1024) hz2]
  rfl

end

end Cert.MixIdeal.Rows

end
-- ==== Proof.Blend.Frame.lean ====
/-
  The mixing call's pipeline. The last block of rows of each batch reaches past the arrays' end; what its staging buffers
  hold there is not known, and the body is described on the rows inside only.
-/
module

public import proofs.«01_k».proof.Proof.Blend.Block

@[expose] public section

set_option maxRecDepth 16384

noncomputable section

namespace Cert.MixIdeal.Rows

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the rows to be gated at a point, past the array's end whatever `d` holds. -/
def uIn (c : Dev nD) (t : Fin cfg0.N) (d : Vec F S1x512x512 .bf16) : Vec F S1x512x512 .bf16 := win0_0.fill (grid0.coords t) d (iblk m c 0 t)
/-- The block of the rows to be mixed at a point, past the array's end whatever `d` holds. -/
def vIn (c : Dev nD) (t : Fin cfg0.N) (d : Vec F S1x512x512 .bf16) : Vec F S1x512x512 .bf16 := win0_1.fill (grid0.coords t) d (iblk m c 1 t)
/-- The block of the heads' rows at a point, past the array's end whatever `d` holds. -/
def oIn (c : Dev nD) (t : Fin cfg0.N) (d : Vec F S1x512x512 .bf16) : Vec F S1x512x512 .bf16 := win0_2.fill (grid0.coords t) d (iblk m c 2 t)
/-- The block of the residual at a point, past the array's end whatever `d` holds. -/
def xIn (c : Dev nD) (t : Fin cfg0.N) (d : Vec F S1x512x1024 .f32) : Vec F S1x512x1024 .f32 := win0_6.fill (grid0.coords t) d (iblk m c 6 t)

/-- The residual's block stored at a point, from buffers holding `d0` to `d6` past the arrays' end, -/
def outX (c : Dev nD) (t : Fin cfg0.N) (d0 d1 d2 : Vec F S1x512x512 .bf16) (d6 : Vec F S1x512x1024 .f32) : Vec F S1x512x1024 .f32 :=
  blockX (uIn m c t d0) (vIn m c t d1) (oIn m c t d2) (iblk m c 3 t) (iblk m c 4 t) (iblk m c 5 t) (xIn m c t d6) (iblk m c 7 t) (iblk m c 8 t)
/-- and the next input's. -/
def outF (c : Dev nD) (t : Fin cfg0.N) (d0 d1 d2 : Vec F S1x512x512 .bf16) (d6 : Vec F S1x512x1024 .f32) : Vec F S1x512x1024 .bf16 :=
  blockF (uIn m c t d0) (vIn m c t d1) (oIn m c t d2) (iblk m c 3 t) (iblk m c 4 t) (iblk m c 5 t) (xIn m c t d6) (iblk m c 7 t) (iblk m c 8 t) (iblk m c 9 t)

/-- Zeros past the end of the narrow rows, -/
def zB : Vec F S1x512x512 .bf16 := fun _ => Scalar.ofBits .bf16 0#16
/-- and of the residual. -/
def zX : Vec F S1x512x1024 .f32 := fun _ => Scalar.ofBits .f32 0#32

/-- The pipeline's data: the inputs keep their blocks and the outputs hold the blocks stored. -/
def dats (_ : Fin 1) (c : Dev nD) : Dat τ (Elt F) Unit ℕ (UR sig nD τ) ℕ cfg0 c where
  A w := V m c (Pipeline.arrRef spec0 w)
  after w t := match w with
    | ⟨0, _⟩ => uIn m c t zB
    | ⟨1, _⟩ => vIn m c t zB
    | ⟨2, _⟩ => oIn m c t zB
    | ⟨3, _⟩ => iblk m c 3 t
    | ⟨4, _⟩ => iblk m c 4 t
    | ⟨5, _⟩ => iblk m c 5 t
    | ⟨6, _⟩ => xIn m c t zX
    | ⟨7, _⟩ => iblk m c 7 t
    | ⟨8, _⟩ => iblk m c 8 t
    | ⟨9, _⟩ => iblk m c 9 t
    | ⟨10, _⟩ => outX m c t zB zB zB zX
    | ⟨11, _⟩ => outF m c t zB zB zB zX
  Φ _ := Pipeline.ΦA spec0 c
  q _ := fullShare
  owed _ := 0

/-- The arrays are as the pipeline finds them. -/
theorem A_eq (c : Dev nD) (w : Fin cfg0.W) : (dats m 0 c).A w = V m c (Pipeline.arrRef spec0 w) := by
  dsimp only [dats]

/-- Window 3's block stays in its buffer. -/
theorem after3 (c : Dev nD) (t : Fin cfg0.N) : (dats m 0 c).after 3 t = iblk m c 3 t := by dsimp only [dats]
/-- Window 4's block stays in its buffer. -/
theorem after4 (c : Dev nD) (t : Fin cfg0.N) : (dats m 0 c).after 4 t = iblk m c 4 t := by dsimp only [dats]
/-- Window 5's block stays in its buffer. -/
theorem after5 (c : Dev nD) (t : Fin cfg0.N) : (dats m 0 c).after 5 t = iblk m c 5 t := by dsimp only [dats]
/-- Window 7's block stays in its buffer. -/
theorem after7 (c : Dev nD) (t : Fin cfg0.N) : (dats m 0 c).after 7 t = iblk m c 7 t := by dsimp only [dats]
/-- Window 8's block stays in its buffer. -/
theorem after8 (c : Dev nD) (t : Fin cfg0.N) : (dats m 0 c).after 8 t = iblk m c 8 t := by dsimp only [dats]
/-- Window 9's block stays in its buffer. -/
theorem after9 (c : Dev nD) (t : Fin cfg0.N) : (dats m 0 c).after 9 t = iblk m c 9 t := by dsimp only [dats]

/-- Window 0's buffer holds the block just fetched. -/
theorem before0 (c : Dev nD) (t : Fin cfg0.N) (d) : (dats m 0 c).before 0 t d = uIn m c t d := by
  unfold Dat.before
  rw [if_pos (fetch0_0 t)]
  rfl
/-- Window 1's buffer holds the block just fetched. -/
theorem before1 (c : Dev nD) (t : Fin cfg0.N) (d) : (dats m 0 c).before 1 t d = vIn m c t d := by
  unfold Dat.before
  rw [if_pos (fetch0_1 t)]
  rfl
/-- Window 2's buffer holds the block just fetched. -/
theorem before2 (c : Dev nD) (t : Fin cfg0.N) (d) : (dats m 0 c).before 2 t d = oIn m c t d := by
  unfold Dat.before
  rw [if_pos (fetch0_2 t)]
  rfl
/-- Window 3's buffer holds its block at every point. -/
theorem before3 (c : Dev nD) (t : Fin cfg0.N) (d) : (dats m 0 c).before 3 t d = iblk m c 3 t :=
  before0_3_of m (dats m 0 c) (A_eq m c 3) (after3 m c) t d
/-- Window 4's buffer holds its block at every point. -/
theorem before4 (c : Dev nD) (t : Fin cfg0.N) (d) : (dats m 0 c).before 4 t d = iblk m c 4 t :=
  before0_4_of m (dats m 0 c) (A_eq m c 4) (after4 m c) t d
/-- Window 5's buffer holds its block at every point. -/
theorem before5 (c : Dev nD) (t : Fin cfg0.N) (d) : (dats m 0 c).before 5 t d = iblk m c 5 t :=
  before0_5_of m (dats m 0 c) (A_eq m c 5) (after5 m c) t d
/-- Window 6's buffer holds the block just fetched. -/
theorem before6 (c : Dev nD) (t : Fin cfg0.N) (d) : (dats m 0 c).before 6 t d = xIn m c t d := by
  unfold Dat.before
  rw [if_pos (fetch0_6 t)]
  rfl
/-- Window 7's buffer holds its block at every point. -/
theorem before7 (c : Dev nD) (t : Fin cfg0.N) (d) : (dats m 0 c).before 7 t d = iblk m c 7 t :=
  before0_7_of m (dats m 0 c) (A_eq m c 7) (after7 m c) t d
/-- Window 8's buffer holds its block at every point. -/
theorem before8 (c : Dev nD) (t : Fin cfg0.N) (d) : (dats m 0 c).before 8 t d = iblk m c 8 t :=
  before0_8_of m (dats m 0 c) (A_eq m c 8) (after8 m c) t d
/-- Window 9's buffer holds its block at every point. -/
theorem before9 (c : Dev nD) (t : Fin cfg0.N) (d) : (dats m 0 c).before 9 t d = iblk m c 9 t :=
  before0_9_of m (dats m 0 c) (A_eq m c 9) (after9 m c) t d

/-- Of window 0's buffer only the block is kept. -/
theorem cut0 (c : Dev nD) (t : Fin cfg0.N) : (cfg0.win 0).cut (cfg0.grid.coords t) ((dats m 0 c).after 0 t) = iblk m c 0 t :=
  win0_0.cut_fill _ _ _
/-- Of window 1's buffer only the block is kept. -/
theorem cut1 (c : Dev nD) (t : Fin cfg0.N) : (cfg0.win 1).cut (cfg0.grid.coords t) ((dats m 0 c).after 1 t) = iblk m c 1 t :=
  win0_1.cut_fill _ _ _
/-- Of window 2's buffer only the block is kept. -/
theorem cut2 (c : Dev nD) (t : Fin cfg0.N) : (cfg0.win 2).cut (cfg0.grid.coords t) ((dats m 0 c).after 2 t) = iblk m c 2 t :=
  win0_2.cut_fill _ _ _
/-- Of window 6's buffer only the block is kept. -/
theorem cut6 (c : Dev nD) (t : Fin cfg0.N) : (cfg0.win 6).cut (cfg0.grid.coords t) ((dats m 0 c).after 6 t) = iblk m c 6 t :=
  win0_6.cut_fill _ _ _
/-- Of window 10's the rows inside are kept, -/
theorem cut10 (c : Dev nD) (t : Fin cfg0.N) {X} (h : win0_10.cut (grid0.coords t) X = win0_10.cut (grid0.coords t) (outX m c t zB zB zB zX)) :
    (cfg0.win 10).cut (cfg0.grid.coords t) ((dats m 0 c).after 10 t) = win0_10.cut (grid0.coords t) X := h.symm
/-- put back where they were. -/
theorem fill10 (t : Fin cfg0.N) (X : Vec F S1x512x1024 .f32) : (cfg0.win 10).fill (cfg0.grid.coords t) X (win0_10.cut (grid0.coords t) X) = X :=
  win0_10.fill_cut _ _
/-- Of window 11's the rows inside are kept, -/
theorem cut11 (c : Dev nD) (t : Fin cfg0.N) {X} (h : win0_11.cut (grid0.coords t) X = win0_11.cut (grid0.coords t) (outF m c t zB zB zB zX)) :
    (cfg0.win 11).cut (cfg0.grid.coords t) ((dats m 0 c).after 11 t) = win0_11.cut (grid0.coords t) X := h.symm
/-- put back where they were. -/
theorem fill11 (t : Fin cfg0.N) (X : Vec F S1x512x1024 .bf16) : (cfg0.win 11).fill (cfg0.grid.coords t) X (win0_11.cut (grid0.coords t) X) = X :=
  win0_11.fill_cut _ _

/-- The body at a point: the inputs stay and the outputs' buffers end at the blocks stored. -/
theorem body_at (c : Dev nD) (t : Fin cfg0.N) (d0 d1 d2 : Vec F S1x512x512 .bf16) (d6 : Vec F S1x512x1024 .f32) (K : PUnit → sProp 𝕄) :
    iprop(owns (c : Thread nD τ) (st0_0 t) fullShare (uIn m c t d0) ∗ owns (c : Thread nD τ) (st0_1 t) fullShare (vIn m c t d1) ∗ owns (c : Thread nD τ) (st0_2 t) fullShare (oIn m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (xIn m c t d6) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ (∃ x, owns (c : Thread nD τ) (st0_10 t) fullShare x) ∗ (∃ x, owns (c : Thread nD τ) (st0_11 t) fullShare x)
        ∗ (iprop(owns (c : Thread nD τ) (st0_0 t) fullShare (uIn m c t d0) ∗ owns (c : Thread nD τ) (st0_1 t) fullShare (vIn m c t d1) ∗ owns (c : Thread nD τ) (st0_2 t) fullShare (oIn m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (xIn m c t d6) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (outX m c t d0 d1 d2 d6) ∗ owns (c : Thread nD τ) (st0_11 t) fullShare (outF m c t d0 d1 d2 d6)) -∗ K ⟨⟩))
      ⊢ wp frame (wpE (defs₀ (F := F)) Variants.none c none) Set.univ (bodyAt0 t) K := by
  unfold bodyAt0
  iintro ⟨H0, H1, H2, H3, H4, H5, H6, H7, H8, H9, H10, H11, Hk⟩
  iapply ((run c (grid0.coords t) _ _ _ _ _ _ _ _ _ _ _ _ _ _ _ _ _ _ _ _ _ _ _ _ (uIn m c t d0) (vIn m c t d1) (oIn m c t d2) (iblk m c 3 t) (iblk m c 4 t) (iblk m c 5 t) (xIn m c t d6) (iblk m c 7 t) (iblk m c 8 t) (iblk m c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%f, H10⟩, ⟨%g, H11⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro
    rw [View.read_writes_eq_canon _ _ _ (run_coverX c _ _ _ _ _ _ _ _ _ _ _ _ _ _ _ _ _ _ _ _ _ _ _ _ _ _ _ _ _ _ _ _ _ _ _), run_valX]
    rfl
  unfold owns; iexists _; isplitr
  swap; · iexact H11
  ipureintro
  rw [View.read_writes_eq_canon _ _ _ (run_coverF c _ _ _ _ _ _ _ _ _ _ _ _ _ _ _ _ _ _ _ _ _ _ _ _ _ _ _ _ _ _ _ _ _ _ _), run_valF]
  rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The windows whose contents the frame says nothing of: the outputs'. -/
def fgt : Fin cfg0.W → Bool := fun w => 10 ≤ w.val
/-- Of window 0 all is said. -/
theorem fgt0 : fgt 0 = false := rfl
/-- Of window 1 all is said. -/
theorem fgt1 : fgt 1 = false := rfl
/-- Of window 2 all is said. -/
theorem fgt2 : fgt 2 = false := rfl
/-- Of window 3 all is said. -/
theorem fgt3 : fgt 3 = false := rfl
/-- Of window 4 all is said. -/
theorem fgt4 : fgt 4 = false := rfl
/-- Of window 5 all is said. -/
theorem fgt5 : fgt 5 = false := rfl
/-- Of window 6 all is said. -/
theorem fgt6 : fgt 6 = false := rfl
/-- Of window 7 all is said. -/
theorem fgt7 : fgt 7 = false := rfl
/-- Of window 8 all is said. -/
theorem fgt8 : fgt 8 = false := rfl
/-- Of window 9 all is said. -/
theorem fgt9 : fgt 9 = false := rfl
/-- Of window 10 nothing is said. -/
theorem fgt10 : fgt 10 = true := rfl
/-- Of window 11 nothing is said. -/
theorem fgt11 : fgt 11 = true := rfl

/-- The body at a point, the inputs handed back as found; `P` and `P'` are what is asked of the outputs' buffers and `Q`
    and `Q'` what is said of them after. -/
theorem body_kept (c : Dev nD) (t : Fin cfg0.N) (P P' Q Q' : sProp 𝕄) (hP : P ⊢ iprop(∃ x, owns (c : Thread nD τ) (st0_10 t) fullShare x)) (hP' : P' ⊢ iprop(∃ x, owns (c : Thread nD τ) (st0_11 t) fullShare x))
    (hQ : ∀ d0 d1 d2 d6, owns (c : Thread nD τ) (st0_10 t) fullShare (outX m c t d0 d1 d2 d6) ⊢ Q) (hQ' : ∀ d0 d1 d2 d6, owns (c : Thread nD τ) (st0_11 t) fullShare (outF m c t d0 d1 d2 d6) ⊢ Q') :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ P ∗ P')
      ⊢ wp frame (wpE (defs₀ (F := F)) Variants.none c none) Set.univ (bodyAt0 t) (fun _ => iprop((dats m 0 c).Φ t.castSucc ∗ (dats m 0 c).owesAt () t.castSucc
        ∗ (∃ d, owns (c : Thread nD τ) (st0_0 t) fullShare ((cfg0.win 0).fill (cfg0.grid.coords t) d ((cfg0.win 0).cut (cfg0.grid.coords t) ((dats m 0 c).after 0 t)))) ∗ (∃ d, owns (c : Thread nD τ) (st0_1 t) fullShare ((cfg0.win 1).fill (cfg0.grid.coords t) d ((cfg0.win 1).cut (cfg0.grid.coords t) ((dats m 0 c).after 1 t)))) ∗ (∃ d, owns (c : Thread nD τ) (st0_2 t) fullShare ((cfg0.win 2).fill (cfg0.grid.coords t) d ((cfg0.win 2).cut (cfg0.grid.coords t) ((dats m 0 c).after 2 t)))) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare ((cfg0.win 6).fill (cfg0.grid.coords t) d ((cfg0.win 6).cut (cfg0.grid.coords t) ((dats m 0 c).after 6 t)))) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ Q ∗ Q')) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  rw [before0 m c t d0, before1 m c t d1, before2 m c t d2, before3 m c t d3, before4 m c t d4, before5 m c t d5, before6 m c t d6, before7 m c t d7, before8 m c t d8, before9 m c t d9]
  iapply (body_at m c t d0 d1 d2 d6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply hP; iexact H10
  isplitl [H11]; · iapply hP'; iexact H11
  iintro ⟨H0, H1, H2, H3, H4, H5, H6, H7, H8, H9, H10, H11⟩
  isplitl [HΦ]; · iexact HΦ
  isplitl [Ho]; · iexact Ho
  isplitl [H0]
  · iexists d0
    rw [cut0]
    iexact H0
  isplitl [H1]
  · iexists d1
    rw [cut1]
    iexact H1
  isplitl [H2]
  · iexists d2
    rw [cut2]
    iexact H2
  isplitl [H3]; · rw [after3]; iexact H3
  isplitl [H4]; · rw [after4]; iexact H4
  isplitl [H5]; · rw [after5]; iexact H5
  isplitl [H6]
  · iexists d6
    rw [cut6]
    iexact H6
  isplitl [H7]; · rw [after7]; iexact H7
  isplitl [H8]; · rw [after8]; iexact H8
  isplitl [H9]; · rw [after9]; iexact H9
  isplitl [H10]
  · iapply (hQ d0 d1 d2 d6)
    iexact H10
  iapply (hQ' d0 d1 d2 d6)
  iexact H11

/-- Every point's body, nothing said of the outputs. -/
theorem body_forget (c : Dev nD) : BodyObligationLoose (dats (F := F) m 0 c) (defs₀ (F := F)) Variants.none () Set.univ fgt := fun t => by
  rw [bigSep_W0, bigSep_W0, defs₀_row]
  simp only [fgt0, fgt1, fgt2, fgt3, fgt4, fgt5, fgt6, fgt7, fgt8, fgt9, fgt10, fgt11]
  refine body_kept m c t _ _ _ _ (by iintro H; iexact H) (by iintro H; iexact H) (fun d0 d1 d2 d6 => ?_) fun d0 d1 d2 d6 => ?_
  · iintro H
    iexists _; iexact H
  · iintro H
    iexists _; iexact H

/-- Every point's body, the rows inside the arrays of what it stores being the same whatever lies past the arrays' end. -/
theorem body_rows (c : Dev nD) (hx : ∀ t d0 d1 d2 d6, win0_10.cut (grid0.coords t) (outX m c t d0 d1 d2 d6) = win0_10.cut (grid0.coords t) (outX m c t zB zB zB zX))
    (hf : ∀ t d0 d1 d2 d6, win0_11.cut (grid0.coords t) (outF m c t d0 d1 d2 d6) = win0_11.cut (grid0.coords t) (outF m c t zB zB zB zX)) :
    BodyObligationLoose (dats (F := F) m 0 c) (defs₀ (F := F)) Variants.none () Set.univ := fun t => by
  rw [bigSep_W0, bigSep_W0, defs₀_row]
  simp only
  refine body_kept m c t _ _ _ _ ?_ ?_ (fun d0 d1 d2 d6 => ?_) fun d0 d1 d2 d6 => ?_
  · iintro ⟨%x, H⟩
    iexists _; iexact H
  · iintro ⟨%x, H⟩
    iexists _; iexact H
  · iintro H
    iexists (outX m c t d0 d1 d2 d6)
    rw [cut10 m c t (hx t d0 d1 d2 d6), fill10]
    iexact H
  · iintro H
    iexists (outF m c t d0 d1 d2 d6)
    rw [cut11 m c t (hf t d0 d1 d2 d6), fill11]
    iexact H

-- `θ_run_frame_forget`'s implicit arguments are found by unifying its conclusion with this one, which takes unfolding
-- plain definitions in a metavariable's type
set_option backward.isDefEq.respectTransparency.types false in
/-- The run, nothing said of the outputs. -/
theorem run_forget : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_forget m c) (hshare := fun c => (dats m 0 c).share_full fun _ => rfl)
    (howed := fun _ _ => rfl) (V := V m) (hmain := hmain m Variants.none) (hA := A_eq m) (hΦ := fun _ _ => rfl)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_forget m ρ)

set_option backward.isDefEq.respectTransparency.types false in
/-- The run with the outputs' contents, where the rows inside do not depend on what lies past the arrays' end. -/
theorem run_main (hx : ∀ c t d0 d1 d2 d6, win0_10.cut (grid0.coords t) (outX m c t d0 d1 d2 d6) = win0_10.cut (grid0.coords t) (outX m c t zB zB zB zX))
    (hf : ∀ c t d0 d1 d2 d6, win0_11.cut (grid0.coords t) (outF m c t d0 d1 d2 d6) = win0_11.cut (grid0.coords t) (outF m c t zB zB zB zX)) :
    θ_run defs (onTc (τ := τ) (main (F := F))) (s₀ m ρ) (Pipeline.FramePost cfgs (dats m) 0 (V m)) :=
  Pipeline.θ_run_frame (Q' := _) cfgs (dats m) (0 : Fin 1) launch0 defs₀ Variants.none m ρ main
    (hbody := fun c => body_rows m c (hx c) (hf c)) (hshare := fun c => (dats m 0 c).share_full fun _ => rfl)
    (howed := fun _ _ => rfl) (V := V m) (hmain := hmain m Variants.none) (hA := A_eq m) (hΦ := fun _ _ => rfl)

end Cert.MixIdeal.Rows

end
-- ==== Proof.Blend.Row.lean ====
/-
  The two stored blocks read at an index: a row's values depend on that row of the row blocks and, through the mixing, on
  the rows of its chunk.
-/
module

public import proofs.«01_k».proof.Proof.Blend.Block
public import Idealize.ShloMosaic.Lib.ValueIdx
public import Idealize.ShloMosaic.Lib.Pointwise
public import Idealize.ShloMosaic.Lib.Tactic

@[expose] public section

set_option maxRecDepth 16384

noncomputable section

namespace Cert.MixIdeal.Rows

open Cert.MixIdeal Cert.MixIdeal.Gen Idealize.ShloMosaic Idealize.ShloMosaic.TcCoe Idealize.SL.Sem

/-- An entry of a gated row: the row's own entry times the mix of its chunk's entries in the same column. -/
def gatedEnt (u b : Fin 512 → EReal) (v : Fin 128 → Fin 512 → EReal) (s : Fin 4 → Fin 128 → EReal) (k : Fin 512) : EReal :=
  u k * ((∑ j : Fin 128, s ⟨k.val / 128, by omega⟩ j * v j k) + b k)

/-- The heads' row and the gated row through the output matrix. -/
def through (o a : Fin 512 → EReal) (w : Fin 1024 → Fin 1024 → EReal) (k : Fin 1024) : EReal :=
  (∑ e : Fin 512, o e * w ⟨512 + e.val, by omega⟩ k) + ∑ e : Fin 512, a e * w ⟨e.val, by omega⟩ k

/-- A row's norm. -/
def normRow (y g : Fin 1024 → EReal) (k : Fin 1024) : EReal :=
  y k * Ideal.rsqrt (Ideal.div (∑ e : Fin 1024, y e * y e) (Ideal.ofBits .f32 0x44800000#32) + Ideal.ofBits .f32 0x358637BD#32) * g k

/-- A row of the new residual. -/
def newRow (y x gate g : Fin 1024 → EReal) (k : Fin 1024) : EReal := x k + gate k * normRow y g k

/-- A row of the next input. -/
def nextRow (x scale shift g : Fin 1024 → EReal) (k : Fin 1024) : EReal := normRow x g k * (Ideal.ofBits .f32 0x3F800000#32 + scale k) + shift k

/-- A group's mixing matrix, at an index. -/
theorem matrix_apply (x : Vec Ideal S4x128x128 .bf16) (n : Fin 4) (i j : Fin 128) : matrix x n (ix3 0 i j) = x (ix3 n i j) := by
  unfold matrix View.ld
  congr 1
  funext a
  apply Fin.ext
  match a with
  | ⟨0, _⟩ => show n.val + 1 * 0 = n.val; omega
  | ⟨1, _⟩ => show 0 + 1 * i.val = i.val; omega
  | ⟨2, _⟩ => show 0 + 1 * j.val = j.val; omega

/-- A group's columns in a chunk's rows, at an index. -/
theorem patch_apply (x : Vec Ideal S1x512x512 .bf16) (p n : Fin 4) (j d : Fin 128) :
    patch x p n (ix3 0 j d) = x (ix3 0 ⟨128 * p.val + j.val, by omega⟩ ⟨128 * n.val + d.val, by omega⟩) := by
  unfold patch View.ld
  congr 1
  funext a
  apply Fin.ext
  match a with
  | ⟨0, _⟩ => rfl
  | ⟨1, _⟩ => show 128 * p.val + 1 * j.val = 128 * p.val + j.val; omega
  | ⟨2, _⟩ => show 128 * n.val + 1 * d.val = 128 * n.val + d.val; omega

/-- A chunk's rows, at an index. -/
theorem rowsOf_apply (x : Vec Ideal S1x512x512 .bf16) (p : Fin 4) (j : Fin 128) (k : Fin 512) :
    rowsOf x p (ix3 0 j k) = x (ix3 0 ⟨128 * p.val + j.val, by omega⟩ k) := by
  unfold rowsOf View.ld
  congr 1
  funext a
  apply Fin.ext
  match a with
  | ⟨0, _⟩ => rfl
  | ⟨1, _⟩ => show 128 * p.val + 1 * j.val = 128 * p.val + j.val; omega
  | ⟨2, _⟩ => show 0 + 1 * k.val = k.val; omega

/-- A half of the output matrix, at an index. -/
theorem halfOf_apply (x : Vec Ideal S1024x1024 .bf16) (h : Fin 2) (e : Fin 512) (k : Fin 1024) :
    halfOf x h (ix2 e k) = x (ix2 ⟨512 * h.val + e.val, by omega⟩ k) := by
  unfold halfOf View.ld
  congr 1
  funext a
  apply Fin.ext
  match a with
  | ⟨0, _⟩ => show 512 * h.val + 1 * e.val = 512 * h.val + e.val; omega
  | ⟨1, _⟩ => show 0 + 1 * k.val = k.val; omega

/-- A product of two squares, at an index. -/
theorem square_apply (s v : FVec Ideal S1x128x128 .bf16) (i d : Fin 128) :
    matmul (F := Ideal) dot_S128x128_S128x128_S128x128_1_0_0_1_n_n none (shapeCast S128x128 s shapeCasts_S1x128x128_S128x128 : FVec Ideal S128x128 .bf16) (shapeCast S128x128 v shapeCasts_S1x128x128_S128x128 : FVec Ideal S128x128 .bf16) (constant S128x128 .f32 0x00000000#32) (ix2 i d)
      = ∑ j : Fin 128, s (ix3 0 i j) * v (ix3 0 j d) := by
  pointwise

/-- A mixed entry. -/
theorem mixOne_apply (v : Vec Ideal S1x512x512 .bf16) (ws : Vec Ideal S4x128x128 .bf16) (p n : Fin 4) (i d : Fin 128) :
    mixOne v ws p n (ix2 i d) = ∑ j : Fin 128, ws (ix3 n i j) * v (ix3 0 ⟨128 * p.val + j.val, by omega⟩ ⟨128 * n.val + d.val, by omega⟩) := by
  unfold mixOne
  rw [square_apply]
  simp only [matrix_apply, patch_apply]

/-- Groups side by side, at an index. -/
theorem beside_apply (y : Fin 4 → FVec Ideal S128x128 .f32) (i : Fin 128) (k : Fin 512) (n : Fin 4) (d : Fin 128) (h : k.val = 128 * n.val + d.val) :
    beside y (ix2 i k) = y n (ix2 i d) := by
  obtain ⟨k, hk⟩ := k
  obtain rfl : k = 128 * n.val + d.val := h
  unfold beside
  match n with
  | ⟨0, _⟩ => pointwise
  | ⟨1, _⟩ => pointwise
  | ⟨2, _⟩ =>
    pointwise
    rw [dif_neg (by omega), dif_neg (by omega), dif_pos (by omega)]
    exact congrArg (fun j => y 2 (ix2 i j)) (Fin.ext (by show 256 + d.val - 128 - 128 = d.val; omega))
  | ⟨3, _⟩ =>
    pointwise
    rw [dif_neg (by omega), dif_neg (by omega), dif_neg (by omega)]
    exact congrArg (fun j => y 3 (ix2 i j)) (Fin.ext (by show 384 + d.val - 128 - 128 - 128 = d.val; omega))

/-- Chunks one after another, at an index. -/
theorem stacked_apply (y : Fin 4 → FVec Ideal S128x512 .bf16) (r : Fin 512) (k : Fin 512) (p : Fin 4) (i : Fin 128) (h : r.val = 128 * p.val + i.val) :
    stacked y (ix2 r k) = y p (ix2 i k) := by
  obtain ⟨r, hr⟩ := r
  obtain rfl : r = 128 * p.val + i.val := h
  unfold stacked
  match p with
  | ⟨0, _⟩ => pointwise
  | ⟨1, _⟩ => pointwise
  | ⟨2, _⟩ =>
    pointwise
    rw [dif_neg (by omega), dif_neg (by omega), dif_pos (by omega)]
    exact congrArg (fun j => y 2 (ix2 j k)) (Fin.ext (by show 256 + i.val - 128 - 128 = i.val; omega))
  | ⟨3, _⟩ =>
    pointwise
    rw [dif_neg (by omega), dif_neg (by omega), dif_neg (by omega)]
    exact congrArg (fun j => y 3 (ix2 j k)) (Fin.ext (by show 384 + i.val - 128 - 128 - 128 = i.val; omega))

/-- A gated entry of a chunk. -/
theorem gatedRows_apply (u : Vec Ideal S1x512x512 .bf16) (b : Vec Ideal S128x512 .f32) (p : Fin 4) (y : FVec Ideal S128x512 .f32) (i : Fin 128) (k : Fin 512) :
    gatedRows u b p y (ix2 i k) = u (ix3 0 ⟨128 * p.val + i.val, by omega⟩ k) * (y (ix2 i k) + b (ix2 i k)) := by
  rw [← rowsOf_apply u p i k]
  unfold gatedRows
  generalize rowsOf u p = U
  pointwise

/-- A product with a half of the output matrix, at an index. -/
theorem half_apply (a : FVec Ideal S512x512 .bf16) (w : FVec Ideal S512x1024 .bf16) (r : Fin 512) (k : Fin 1024) :
    matmul (F := Ideal) dot_S512x512_S512x1024_S512x1024_1_0_0_1_n_n none a w (constant S512x1024 .f32 0x00000000#32) (ix2 r k) = ∑ e : Fin 512, a (ix2 r e) * w (ix2 e k) := by
  pointwise

/-- The projected rows, at an index. -/
theorem projected_apply (o a : FVec Ideal S512x512 .bf16) (w : Vec Ideal S1024x1024 .bf16) (r : Fin 512) (k : Fin 1024) :
    projected o a w (ix2 r k) = through (fun e => o (ix2 r e)) (fun e => a (ix2 r e)) (fun d e => w (ix2 d e)) k := by
  unfold projected through
  show matmul (F := Ideal) dot_S512x512_S512x1024_S512x1024_1_0_0_1_n_n none o (halfOf w 1) (constant S512x1024 .f32 0x00000000#32) (ix2 r k)
    + matmul (F := Ideal) dot_S512x512_S512x1024_S512x1024_1_0_0_1_n_n none a (halfOf w 0) (constant S512x1024 .f32 0x00000000#32) (ix2 r k) = _
  rw [half_apply, half_apply]
  simp only [halfOf_apply]
  refine congrArg₂ (· + ·) rfl (Finset.sum_congr rfl fun e _ => congrArg (_ * w ·) ?_)
  refine congrArg (ix2 · k) (Fin.ext ?_)
  show 512 * 0 + e.val = e.val
  omega

/-- The norm, at an index. -/
theorem normed_apply (y : FVec Ideal S512x1024 .f32) (g : Vec Ideal S1x1024 .f32) (r : Fin 512) (k : Fin 1024) :
    normed y g (ix2 r k) = normRow (fun e => y (ix2 r e)) (fun e => g (ix2 0 e)) k := by
  unfold normed normRow
  pointwise

/-- The residual's sum, at an index. -/
theorem residual_apply (x : Vec Ideal S1x512x1024 .f32) (mo : Vec Ideal S1x6x1024 .f32) (y : FVec Ideal S512x1024 .f32) (r : Fin 512) (k : Fin 1024) :
    residual x mo y (ix2 r k) = x (ix3 0 r k) + mo (ix3 0 2 k) * y (ix2 r k) := by
  unfold residual
  pointwise

/-- The modulated norm, at an index. -/
theorem modulated_apply (mo : Vec Ideal S1x6x1024 .f32) (y : FVec Ideal S512x1024 .f32) (r : Fin 512) (k : Fin 1024) :
    modulated mo y (ix2 r k) = y (ix2 r k) * (Ideal.ofBits .f32 0x3F800000#32 + mo (ix3 0 4 k)) + mo (ix3 0 3 k) := by
  unfold modulated
  pointwise

/-- A block of rows without its leading axis. -/
theorem flat_apply (x : Vec Ideal S1x512x512 .bf16) (r d : Fin 512) :
    (shapeCast S512x512 x shapeCasts_S1x512x512_S512x512 : FVec Ideal S512x512 .bf16) (ix2 r d) = x (ix3 0 r d) := by
  pointwise

/-- The residual's block with its leading axis, -/
theorem blockedX_apply (y : FVec Ideal S512x1024 .f32) (r : Fin 512) (k : Fin 1024) :
    (shapeCast S1x512x1024 y shapeCasts_S512x1024_S1x512x1024 : FVec Ideal S1x512x1024 .f32) (ix3 0 r k) = y (ix2 r k) := by
  pointwise

/-- and the next input's, rounded. -/
theorem blockedF_apply (y : FVec Ideal S512x1024 .f32) (r : Fin 512) (k : Fin 1024) :
    (shapeCast S1x512x1024 (truncf .bf16 y bitsLt_bf16_f32) shapeCasts_S512x1024_S1x512x1024 : FVec Ideal S1x512x1024 .bf16) (ix3 0 r k) = y (ix2 r k) := by
  pointwise

/-- A row before its norm: row `i` of chunk `p`. -/
theorem total_apply (x0 x1 x2 : Vec Ideal S1x512x512 .bf16) (x3 : Vec Ideal S4x128x128 .bf16) (x4 : Vec Ideal S128x512 .f32) (x5 : Vec Ideal S1024x1024 .bf16) (r : Fin 512) (p : Fin 4) (i : Fin 128) (h : r.val = 128 * p.val + i.val) (k : Fin 1024) :
    total x0 x1 x2 x3 x4 x5 (ix2 r k)
      = through (fun e => x2 (ix3 0 r e)) (gatedEnt (fun e => x0 (ix3 0 r e)) (fun e => x4 (ix2 i e)) (fun j e => x1 (ix3 0 ⟨128 * p.val + j.val, by omega⟩ e)) (fun n j => x3 (ix3 n i j))) (fun d e => x5 (ix2 d e)) k := by
  obtain ⟨r, hr⟩ := r
  obtain rfl : r = 128 * p.val + i.val := h
  unfold total
  rw [projected_apply]
  simp only [flat_apply]
  refine congrArg (fun a => through _ a _ k) (funext fun e => ?_)
  rw [stacked_apply _ _ e p i rfl, gatedRows_apply, beside_apply _ i e ⟨e.val / 128, by omega⟩ ⟨e.val % 128, by omega⟩ (by show e.val = 128 * (e.val / 128) + e.val % 128; omega), mixOne_apply]
  unfold gatedEnt
  refine congrArg (fun s => _ * (s + _)) (Finset.sum_congr rfl fun j _ => congrArg (_ * x1 ·) (congrArg (ix3 0 _) (Fin.ext ?_)))
  show 128 * (e.val / 128) + e.val % 128 = e.val
  omega

/-- The new residual's block, at an index. -/
theorem newRes_apply (x0 x1 x2 : Vec Ideal S1x512x512 .bf16) (x3 : Vec Ideal S4x128x128 .bf16) (x4 : Vec Ideal S128x512 .f32) (x5 : Vec Ideal S1024x1024 .bf16) (x6 : Vec Ideal S1x512x1024 .f32) (x7 : Vec Ideal S1x6x1024 .f32) (x8 : Vec Ideal S1x1024 .f32) (r : Fin 512) (k : Fin 1024) :
    newRes x0 x1 x2 x3 x4 x5 x6 x7 x8 (ix2 r k)
      = newRow (fun e => total x0 x1 x2 x3 x4 x5 (ix2 r e)) (fun e => x6 (ix3 0 r e)) (fun e => x7 (ix3 0 2 e)) (fun e => x8 (ix2 0 e)) k := by
  unfold newRes newRow
  rw [residual_apply, normed_apply]

/-- The block stored of the residual, at an index, -/
theorem blockX_apply (x0 x1 x2 : Vec Ideal S1x512x512 .bf16) (x3 : Vec Ideal S4x128x128 .bf16) (x4 : Vec Ideal S128x512 .f32) (x5 : Vec Ideal S1024x1024 .bf16) (x6 : Vec Ideal S1x512x1024 .f32) (x7 : Vec Ideal S1x6x1024 .f32) (x8 : Vec Ideal S1x1024 .f32) (r : Fin 512) (k : Fin 1024) :
    blockX x0 x1 x2 x3 x4 x5 x6 x7 x8 (ix3 0 r k)
      = newRow (fun e => total x0 x1 x2 x3 x4 x5 (ix2 r e)) (fun e => x6 (ix3 0 r e)) (fun e => x7 (ix3 0 2 e)) (fun e => x8 (ix2 0 e)) k := by
  unfold blockX
  rw [blockedX_apply, newRes_apply]

/-- and the one stored of the next input. -/
theorem blockF_apply (x0 x1 x2 : Vec Ideal S1x512x512 .bf16) (x3 : Vec Ideal S4x128x128 .bf16) (x4 : Vec Ideal S128x512 .f32) (x5 : Vec Ideal S1024x1024 .bf16) (x6 : Vec Ideal S1x512x1024 .f32) (x7 : Vec Ideal S1x6x1024 .f32) (x8 x9 : Vec Ideal S1x1024 .f32) (r : Fin 512) (k : Fin 1024) :
    blockF x0 x1 x2 x3 x4 x5 x6 x7 x8 x9 (ix3 0 r k)
      = nextRow (newRow (fun e => total x0 x1 x2 x3 x4 x5 (ix2 r e)) (fun e => x6 (ix3 0 r e)) (fun e => x7 (ix3 0 2 e)) (fun e => x8 (ix2 0 e))) (fun e => x7 (ix3 0 4 e)) (fun e => x7 (ix3 0 3 e)) (fun e => x9 (ix2 0 e)) k := by
  unfold blockF nextRow
  rw [blockedF_apply, modulated_apply, normed_apply]
  simp only [newRes_apply]

end Cert.MixIdeal.Rows

end
-- ==== Proof.Blend.Ref.lean ====
/-
  The mixing call's reference, read at an index.
-/
module

public import proofs.«01_k».proof.Proof.Blend.Row
public import proofs.«01_k».proof.Proof.Gen.MixRefIdeal

@[expose] public section

set_option maxRecDepth 16384

noncomputable section

namespace Cert.MixRefIdeal.Value

open Cert.MixRefIdeal Cert.MixRefIdeal.Gen Idealize.ShloMosaic Idealize.ShloMosaic.TcCoe Idealize.SL.Sem
open Cert.MixIdeal.Rows (gatedEnt through normRow newRow nextRow)

/-- The rows of all chunks mixed, group by group, -/
def refMixed (v : Vec Ideal S2x8448x512 .bf16) (ws : Vec Ideal S4x128x128 .bf16) : FVec Ideal S2x66x128x4x128 .f32 :=
  transpose S2x66x128x4x128 [1, 2, 4, 0, 3] (Host.dotGeneral dot_S2x66x128x4x128_S4x128x128_S4x2x66x128x128_2_2_014_1_3_0 none
    (shapeCast S2x66x128x4x128 (extf .f32 v bitsLt_bf16_f32) shapeCasts_S2x8448x512_S2x66x128x4x128) (extf .f32 ws bitsLt_bf16_f32)) transposes_S4x2x66x128x128_S2x66x128x4x128_1_2_4_0_3
/-- the rows' additive terms, -/
def refBias (b : Vec Ideal S128x512 .f32) : FVec Ideal S2x66x128x4x128 .f32 :=
  broadcastInDim S2x66x128x4x128 ![0, 1, 2, 3, 4] bcast_S1x1x128x4x128_S2x66x128x4x128_0_1_2_3_4 (broadcastInDim S1x1x128x4x128 ![2, 3, 4] bcast_S128x4x128_S1x1x128x4x128_2_3_4 (shapeCast S128x4x128 b shapeCasts_S128x512_S128x4x128))
/-- and the rows gated by their sum, rounded. -/
def refGated (u v : Vec Ideal S2x8448x512 .bf16) (ws : Vec Ideal S4x128x128 .bf16) (b : Vec Ideal S128x512 .f32) : FVec Ideal S2x8448x512 .bf16 :=
  truncf .bf16 (mulf (extf .f32 u bitsLt_bf16_f32) (shapeCast S2x8448x512 (addf (refMixed v ws) (refBias b)) shapeCasts_S2x66x128x4x128_S2x8448x512)) bitsLt_bf16_f32

/-- The gated rows beside the heads', -/
def refPair (a : FVec Ideal S2x8448x512 .bf16) (o : Vec Ideal S2x8448x512 .bf16) : FVec Ideal S2x8448x1024 .f32 :=
  concatenate S2x8448x1024 2 [⟨S2x8448x512, (extf .f32 a bitsLt_bf16_f32 : FVec Ideal S2x8448x512 .f32)⟩, ⟨S2x8448x512, (extf .f32 o bitsLt_bf16_f32 : FVec Ideal S2x8448x512 .f32)⟩] concatenates_S2x8448x512_S2x8448x512_S2x8448x1024_d2
/-- through the output matrix. -/
def refProj (z : FVec Ideal S2x8448x1024 .f32) (w : Vec Ideal S1024x1024 .bf16) : FVec Ideal S2x8448x1024 .f32 :=
  Host.dotGeneral dot_S2x8448x1024_S1024x1024_S2x8448x1024_2_0_01_1_n_n none z (extf .f32 w bitsLt_bf16_f32)

/-- The rows' norm. -/
def refNorm (y : FVec Ideal S2x8448x1024 .f32) (g : Vec Ideal S1024 .f32) : FVec Ideal S2x8448x1024 .f32 :=
  mulf (mulf y (broadcastInDim S2x8448x1024 ![0, 1, 2] bcast_S2x8448x1_S2x8448x1024_0_1_2 (Host.rsqrt (addf (Host.divf (broadcastInDim S2x8448x1 ![0, 1] bcast_S2x8448_S2x8448x1_0_1
      (Host.reduceAdd (mulf y y) (constant S_ .f32 0x00000000#32) reducesTo_S2x8448x1024_S2x8448_d2 h_S_)) (broadcastInDim S2x8448x1 ![] bcast_S_S2x8448x1 (constant S_ .f32 0x44800000#32)))
      (broadcastInDim S2x8448x1 ![] bcast_S_S2x8448x1 (constant S_ .f32 0x358637BD#32))))))
    (broadcastInDim S2x8448x1024 ![0, 1, 2] bcast_S1x1x1024_S2x8448x1024_0_1_2 (broadcastInDim S1x1x1024 ![2] bcast_S1024_S1x1x1024_2 g))

/-- The image rows' gate, shift and scale, -/
def refLat (mo : Vec Ideal S8x6x1024 .f32) : FVec Ideal S2x3x8192x1024 .f32 :=
  broadcastInDim S2x3x8192x1024 ![0, 1, 2, 3] bcast_S2x3x1x1024_S2x3x8192x1024_0_1_2_3 (broadcastInDim S2x3x1x1024 ![0, 1, 3] bcast_S2x3x1024_S2x3x1x1024_0_1_3 (extractStridedSlice S2x3x1024 ![0, 2, 0] mo slices_S8x6x1024_S2x3x1024_0_2_0))
/-- the context rows', -/
def refCtx (mo : Vec Ideal S8x6x1024 .f32) : FVec Ideal S2x3x256x1024 .f32 :=
  broadcastInDim S2x3x256x1024 ![1, 2, 3] bcast_S3x1x1024_S2x3x256x1024_1_2_3 (broadcastInDim S3x1x1024 ![0, 2] bcast_S3x1024_S3x1x1024_0_2 (shapeCast S3x1024 (extractStridedSlice S1x3x1024 ![2, 2, 0] mo slices_S8x6x1024_S1x3x1024_2_2_0) shapeCasts_S1x3x1024_S3x1024))
/-- the ones after the others, -/
def refMod (mo : Vec Ideal S8x6x1024 .f32) : FVec Ideal S2x3x8448x1024 .f32 :=
  concatenate S2x3x8448x1024 2 [⟨S2x3x8192x1024, refLat mo⟩, ⟨S2x3x256x1024, refCtx mo⟩] concatenates_S2x3x8192x1024_S2x3x256x1024_S2x3x8448x1024_d2
/-- and one of the three. -/
def refPick (mo : FVec Ideal S2x3x8448x1024 .f32) (off : Fin 4 → ℕ) (hs : S2x3x8448x1024.Slices off S2x1x8448x1024) : FVec Ideal S2x8448x1024 .f32 :=
  shapeCast S2x8448x1024 (extractStridedSlice S2x1x8448x1024 off mo hs) shapeCasts_S2x1x8448x1024_S2x8448x1024

/-- The rows before their norm. -/
def refTotal (u v o : Vec Ideal S2x8448x512 .bf16) (ws : Vec Ideal S4x128x128 .bf16) (b : Vec Ideal S128x512 .f32) (w : Vec Ideal S1024x1024 .bf16) : FVec Ideal S2x8448x1024 .f32 :=
  refProj (refPair (refGated u v ws b) o) w

/-- The new residual, -/
def refRes (y : FVec Ideal S2x8448x1024 .f32) (x : Vec Ideal S2x8448x1024 .f32) (mo : Vec Ideal S8x6x1024 .f32) (gp : Vec Ideal S1024 .f32) : FVec Ideal S2x8448x1024 .f32 :=
  addf x (mulf (refPick (refMod mo) ![0, 0, 0, 0] slices_S2x3x8448x1024_S2x1x8448x1024_0_0_0_0) (refNorm y gp))
/-- and the next input, rounded. -/
def refNext (x1 : FVec Ideal S2x8448x1024 .f32) (mo : Vec Ideal S8x6x1024 .f32) (gn : Vec Ideal S1024 .f32) : FVec Ideal S2x8448x1024 .bf16 :=
  truncf .bf16 (addf (mulf (refNorm x1 gn) (addf (broadcastInDim S2x8448x1024 ![] bcast_S_S2x8448x1024 (constant S_ .f32 0x3F800000#32)) (refPick (refMod mo) ![0, 2, 0, 0] slices_S2x3x8448x1024_S2x1x8448x1024_0_2_0_0)))
    (refPick (refMod mo) ![0, 1, 0, 0] slices_S2x3x8448x1024_S2x1x8448x1024_0_1_0_0)) bitsLt_bf16_f32

/-- A mixed entry: entry `d` of group `n` in row `i` of chunk `q`. -/
theorem refMixed_apply (v : Vec Ideal S2x8448x512 .bf16) (ws : Vec Ideal S4x128x128 .bf16) (b : Fin 2) (q : Fin 66) (i : Fin 128) (n : Fin 4) (d : Fin 128) :
    refMixed v ws (ix5 b q i n d) = ∑ j : Fin 128, v (ix3 b ⟨128 * q.val + j.val, by omega⟩ ⟨128 * n.val + d.val, by omega⟩) * ws (ix3 n i j) := by
  have hq : 128 * q.val = q.val * 128 := mul_comm _ _
  have hn : 128 * n.val = n.val * 128 := mul_comm _ _
  unfold refMixed
  pointwise
  simp only [hq, hn]

/-- An additive term, at an index. -/
theorem refBias_apply (x : Vec Ideal S128x512 .f32) (b : Fin 2) (q : Fin 66) (i : Fin 128) (n : Fin 4) (d : Fin 128) :
    refBias x (ix5 b q i n d) = x (ix2 i ⟨128 * n.val + d.val, by omega⟩) := by
  have hn : 128 * n.val = n.val * 128 := mul_comm _ _
  unfold refBias
  pointwise
  simp only [hn]

/-- The chunks and groups joined again, at an index. -/
theorem joined_apply (x : FVec Ideal S2x66x128x4x128 .f32) (b : Fin 2) (R : Fin 8448) (k : Fin 512) (q : Fin 66) (i : Fin 128) (n : Fin 4) (d : Fin 128) (h : R.val = 128 * q.val + i.val) (h' : k.val = 128 * n.val + d.val) :
    (shapeCast S2x8448x512 x shapeCasts_S2x66x128x4x128_S2x8448x512 : FVec Ideal S2x8448x512 .f32) (ix3 b R k) = x (ix5 b q i n d) := by
  have hq : (⟨R.val / 128, by omega⟩ : Fin 66) = q := Fin.ext (by show R.val / 128 = q.val; omega)
  have hi : (⟨R.val % 128, by omega⟩ : Fin 128) = i := Fin.ext (by show R.val % 128 = i.val; omega)
  have hn : (⟨k.val / 128, by omega⟩ : Fin 4) = n := Fin.ext (by show k.val / 128 = n.val; omega)
  have hd : (⟨k.val % 128, by omega⟩ : Fin 128) = d := Fin.ext (by show k.val % 128 = d.val; omega)
  pointwise
  rw [hq, hi, hn, hd]

/-- A gated entry. -/
theorem refGated_apply (u v : Vec Ideal S2x8448x512 .bf16) (ws : Vec Ideal S4x128x128 .bf16) (x : Vec Ideal S128x512 .f32) (b : Fin 2) (R : Fin 8448) (q : Fin 66) (i : Fin 128) (h : R.val = 128 * q.val + i.val) (k : Fin 512) :
    refGated u v ws x (ix3 b R k)
      = gatedEnt (fun e => u (ix3 b R e)) (fun e => x (ix2 i e)) (fun j e => v (ix3 b ⟨128 * q.val + j.val, by omega⟩ e)) (fun n j => ws (ix3 n i j)) k := by
  have hk : k.val = 128 * (k.val / 128) + k.val % 128 := by omega
  unfold refGated gatedEnt
  show u (ix3 b R k) * (shapeCast S2x8448x512 (addf (refMixed v ws) (refBias x)) shapeCasts_S2x66x128x4x128_S2x8448x512 : FVec Ideal S2x8448x512 .f32) (ix3 b R k) = _
  rw [joined_apply _ b R k q i ⟨k.val / 128, by omega⟩ ⟨k.val % 128, by omega⟩ h hk]
  show u (ix3 b R k) * (refMixed v ws (ix5 b q i ⟨k.val / 128, _⟩ ⟨k.val % 128, _⟩) + refBias x (ix5 b q i ⟨k.val / 128, _⟩ ⟨k.val % 128, _⟩)) = _
  rw [refMixed_apply, refBias_apply]
  have hf : (⟨128 * (k.val / 128) + k.val % 128, by omega⟩ : Fin 512) = k := Fin.ext hk.symm
  simp only [hf]
  exact congrArg (fun s => _ * (s + _)) (Finset.sum_congr rfl fun j _ => mul_comm _ _)

/-- The pair's first half is the gated rows, -/
theorem refPair_left (a : FVec Ideal S2x8448x512 .bf16) (o : Vec Ideal S2x8448x512 .bf16) (b : Fin 2) (R : Fin 8448) (e : Fin 512) : refPair a o (ix3 b R ⟨e.val, by omega⟩) = a (ix3 b R e) := by
  unfold refPair
  pointwise
/-- and the second the heads'. -/
theorem refPair_right (a : FVec Ideal S2x8448x512 .bf16) (o : Vec Ideal S2x8448x512 .bf16) (b : Fin 2) (R : Fin 8448) (e : Fin 512) : refPair a o (ix3 b R ⟨512 + e.val, by omega⟩) = o (ix3 b R e) := by
  unfold refPair
  pointwise

/-- A product with the output matrix, at an index. -/
theorem refProj_apply (z : FVec Ideal S2x8448x1024 .f32) (w : Vec Ideal S1024x1024 .bf16) (b : Fin 2) (R : Fin 8448) (k : Fin 1024) :
    refProj z w (ix3 b R k) = ∑ e : Fin 1024, z (ix3 b R e) * w (ix2 e k) := by
  unfold refProj
  pointwise

/-- A sum of 1024 terms is the sum of its halves. -/
theorem sum_halves (f : Fin 1024 → EReal) : (∑ e : Fin 1024, f e) = (∑ e : Fin 512, f ⟨512 + e.val, by omega⟩) + ∑ e : Fin 512, f ⟨e.val, by omega⟩ :=
  (Fin.sum_univ_add (a := 512) (b := 512) f).trans (add_comm _ _)

/-- A row before its norm. -/
theorem refTotal_apply (u v o : Vec Ideal S2x8448x512 .bf16) (ws : Vec Ideal S4x128x128 .bf16) (x : Vec Ideal S128x512 .f32) (w : Vec Ideal S1024x1024 .bf16) (b : Fin 2) (R : Fin 8448) (q : Fin 66) (i : Fin 128) (h : R.val = 128 * q.val + i.val) (k : Fin 1024) :
    refTotal u v o ws x w (ix3 b R k)
      = through (fun e => o (ix3 b R e)) (gatedEnt (fun e => u (ix3 b R e)) (fun e => x (ix2 i e)) (fun j e => v (ix3 b ⟨128 * q.val + j.val, by omega⟩ e)) (fun n j => ws (ix3 n i j))) (fun d e => w (ix2 d e)) k := by
  unfold refTotal through
  rw [refProj_apply, sum_halves]
  simp only [refPair_left, refPair_right, refGated_apply u v ws x b R q i h]

/-- The norm, at an index. -/
theorem refNorm_apply (y : FVec Ideal S2x8448x1024 .f32) (g : Vec Ideal S1024 .f32) (b : Fin 2) (R : Fin 8448) (k : Fin 1024) :
    refNorm y g (ix3 b R k) = normRow (fun e => y (ix3 b R e)) (fun e => g (ix1 e)) k := by
  unfold refNorm normRow
  pointwise

/-- An image row's three vectors, at an index, -/
theorem refLat_apply (mo : Vec Ideal S8x6x1024 .f32) (b : Fin 2) (n : Fin 3) (R : Fin 8192) (k : Fin 1024) : refLat mo (ix4 b n R k) = mo (ix3 ⟨b.val, by omega⟩ ⟨2 + n.val, by omega⟩ k) := by
  unfold refLat
  pointwise

/-- and a context row's. -/
theorem refCtx_apply (mo : Vec Ideal S8x6x1024 .f32) (b : Fin 2) (n : Fin 3) (R : Fin 256) (k : Fin 1024) : refCtx mo (ix4 b n R k) = mo (ix3 2 ⟨2 + n.val, by omega⟩ k) := by
  unfold refCtx
  pointwise

/-- A row's three vectors, at an index. -/
theorem refMod_apply (mo : Vec Ideal S8x6x1024 .f32) (b : Fin 2) (n : Fin 3) (R : Fin 8448) (k : Fin 1024) (e : Fin 8) (he : e.val = if R.val < 8192 then b.val else 2) (f : Fin 6) (hf : 2 + n.val = f.val) :
    refMod mo (ix4 b n R k) = mo (ix3 e f k) := by
  obtain ⟨f, hl6⟩ := f
  obtain rfl : 2 + n.val = f := hf
  have hl := refLat_apply mo b n
  have hc := refCtx_apply mo b n
  unfold refMod
  generalize refLat mo = L at hl ⊢
  generalize refCtx mo = C at hc ⊢
  pointwise
  by_cases h : R.val < 8192
  · rw [if_pos h] at he
    simp only [h, dif_pos]
    rw [hl]
    congr 2
    exact Fin.ext he.symm
  · rw [if_neg h] at he
    simp only [h, dif_neg, not_false_eq_true]
    rw [hc]
    congr 2
    exact Fin.ext he.symm

/-- One of the three, at an index. -/
theorem refPick_apply (y : FVec Ideal S2x3x8448x1024 .f32) (o : ℕ) (ho : o < 3) (hs : S2x3x8448x1024.Slices ![0, o, 0, 0] S2x1x8448x1024) (b : Fin 2) (R : Fin 8448) (k : Fin 1024) :
    refPick y ![0, o, 0, 0] hs (ix3 b R k) = y (ix4 b ⟨o, ho⟩ R k) := by
  unfold refPick
  pointwise

/-- One of the three vectors of a row, at an index. -/
theorem refVec_apply (mo : Vec Ideal S8x6x1024 .f32) (o : ℕ) (ho : o < 3) (hs : S2x3x8448x1024.Slices ![0, o, 0, 0] S2x1x8448x1024) (b : Fin 2) (R : Fin 8448) (k : Fin 1024) (e : Fin 8) (he : e.val = if R.val < 8192 then b.val else 2) (f : Fin 6) (hf : 2 + o = f.val) :
    refPick (refMod mo) ![0, o, 0, 0] hs (ix3 b R k) = mo (ix3 e f k) :=
  (refPick_apply (refMod mo) o ho hs b R k).trans (refMod_apply mo b ⟨o, ho⟩ R k e he f hf)

/-- A sum with a gated norm, at an index. -/
theorem gatedSum_apply (x p y : FVec Ideal S2x8448x1024 .f32) (i : S2x8448x1024.Idx) : addf x (mulf p y) i = x i + p i * y i := by
  pointwise

/-- A norm scaled and shifted, at an index. -/
theorem scaled_apply (y s h : FVec Ideal S2x8448x1024 .f32) (i : S2x8448x1024.Idx) :
    (truncf .bf16 (addf (mulf y (addf (broadcastInDim S2x8448x1024 ![] bcast_S_S2x8448x1024 (constant S_ .f32 0x3F800000#32)) s)) h) bitsLt_bf16_f32 : FVec Ideal S2x8448x1024 .bf16) i
      = y i * (Ideal.ofBits .f32 0x3F800000#32 + s i) + h i := by
  pointwise

/-- The new residual, at an index, -/
theorem refRes_apply (y : FVec Ideal S2x8448x1024 .f32) (x : Vec Ideal S2x8448x1024 .f32) (mo : Vec Ideal S8x6x1024 .f32) (gp : Vec Ideal S1024 .f32) (b : Fin 2) (R : Fin 8448) (k : Fin 1024) (e : Fin 8) (he : e.val = if R.val < 8192 then b.val else 2) :
    refRes y x mo gp (ix3 b R k) = newRow (fun d => y (ix3 b R d)) (fun d => x (ix3 b R d)) (fun d => mo (ix3 e 2 d)) (fun d => gp (ix1 d)) k := by
  unfold refRes newRow
  rw [gatedSum_apply, refNorm_apply, refVec_apply mo 0 (by decide) _ b R k e he 2 rfl]

/-- and the next input. -/
theorem refNext_apply (x1 : FVec Ideal S2x8448x1024 .f32) (mo : Vec Ideal S8x6x1024 .f32) (gn : Vec Ideal S1024 .f32) (b : Fin 2) (R : Fin 8448) (k : Fin 1024) (e : Fin 8) (he : e.val = if R.val < 8192 then b.val else 2) :
    refNext x1 mo gn (ix3 b R k) = nextRow (fun d => x1 (ix3 b R d)) (fun d => mo (ix3 e 4 d)) (fun d => mo (ix3 e 3 d)) (fun d => gn (ix1 d)) k := by
  unfold refNext nextRow
  rw [scaled_apply, refNorm_apply, refVec_apply mo 2 (by decide) _ b R k e he 4 rfl, refVec_apply mo 1 (by decide) _ b R k e he 3 rfl]

end Cert.MixRefIdeal.Value

end
-- ==== Proof.Blend.Array.lean ====
/-
  The arrays the mixing call leaves, read at an index: every row lies in exactly one point's block, inside it, and so does
  the chunk it is mixed in.
-/
module

public import proofs.«01_k».proof.Proof.Blend.Frame
public import proofs.«01_k».proof.Proof.Blend.Ref
public import Idealize.ShloMosaic.Lib.Pipeline.Value

@[expose] public section

set_option maxRecDepth 16384

noncomputable section

namespace Cert.MixIdeal.Rows

open Cert.MixIdeal Cert.MixIdeal.Gen Idealize.ShloMosaic Idealize.ShloMosaic.TcCoe Idealize.SL.Sem
open Cert.MixRefIdeal.Value (refTotal refTotal_apply refRes refRes_apply refNext refNext_apply)

/-- The windows of rows name tile `t % 17` of batch `t / 17`. -/
theorem index_rows : ∀ t : Fin cfg0.N, (win0_0.index t 0 = t.val / 17 ∧ win0_0.index t 1 = t.val % 17 ∧ win0_0.index t 2 = 0)
    ∧ (win0_1.index t 0 = t.val / 17 ∧ win0_1.index t 1 = t.val % 17 ∧ win0_1.index t 2 = 0)
    ∧ (win0_2.index t 0 = t.val / 17 ∧ win0_2.index t 1 = t.val % 17 ∧ win0_2.index t 2 = 0)
    ∧ (win0_6.index t 0 = t.val / 17 ∧ win0_6.index t 1 = t.val % 17 ∧ win0_6.index t 2 = 0)
    ∧ (win0_10.index t 0 = t.val / 17 ∧ win0_10.index t 1 = t.val % 17 ∧ win0_10.index t 2 = 0)
    ∧ (win0_11.index t 0 = t.val / 17 ∧ win0_11.index t 1 = t.val % 17 ∧ win0_11.index t 2 = 0) :=
  (by decide +kernel : ∀ t : Fin grid0.N, _)

/-- The other windows name whole arrays, and the vectors of the batch or, at the last tile, of the context. -/
theorem index_whole : ∀ t : Fin cfg0.N, (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_7.index t 0 = (if t.val % 17 < 16 then t.val / 17 else 2) ∧ win0_7.index t 1 = 0 ∧ win0_7.index t 2 = 0)
    ∧ (win0_8.index t 0 = 0 ∧ win0_8.index t 1 = 0) ∧ (win0_9.index t 0 = 0 ∧ win0_9.index t 1 = 0) :=
  (by decide +kernel : ∀ t : Fin grid0.N, _)

/-- The rows of a point's block that lie inside the array: all four chunks or, at the last tile, two. -/
def inside (t : Fin cfg0.N) : ℕ := if t.val % 17 < 16 then 512 else 256

/-- The windows of rows move those rows and no others. -/
theorem xsize_pt : ∀ t : Fin cfg0.N, (win0_0.xsize (grid0.coords t) 0 = 1 ∧ win0_0.xsize (grid0.coords t) 1 = inside t ∧ win0_0.xsize (grid0.coords t) 2 = 512)
    ∧ (win0_1.xsize (grid0.coords t) 0 = 1 ∧ win0_1.xsize (grid0.coords t) 1 = inside t ∧ win0_1.xsize (grid0.coords t) 2 = 512)
    ∧ (win0_2.xsize (grid0.coords t) 0 = 1 ∧ win0_2.xsize (grid0.coords t) 1 = inside t ∧ win0_2.xsize (grid0.coords t) 2 = 512)
    ∧ (win0_6.xsize (grid0.coords t) 0 = 1 ∧ win0_6.xsize (grid0.coords t) 1 = inside t ∧ win0_6.xsize (grid0.coords t) 2 = 1024)
    ∧ (win0_10.xsize (grid0.coords t) 0 = 1 ∧ win0_10.xsize (grid0.coords t) 1 = inside t ∧ win0_10.xsize (grid0.coords t) 2 = 1024)
    ∧ (win0_11.xsize (grid0.coords t) 0 = 1 ∧ win0_11.xsize (grid0.coords t) 1 = inside t ∧ win0_11.xsize (grid0.coords t) 2 = 1024) :=
  (by decide +kernel : ∀ t : Fin grid0.N, _)

/-- A chunk lies inside or outside as a whole. -/
theorem inside_chunk (t : Fin cfg0.N) (p : Fin 4) (i j : Fin 128) (h : 128 * p.val + i.val < inside t) : 128 * p.val + j.val < inside t := by
  unfold inside at h ⊢
  split_ifs at h ⊢ <;> omega

variable (m : (ℓ : Loc nD τ sig) → Buf (Elt Ideal) ℓ)

section
variable (c : Dev nD) (t : Fin cfg0.N) (b : Fin 2) (hb : b.val = t.val / 17) (r : Fin 512) (hr : r.val < inside t) (R : Fin 8448) (hR : R.val = 512 * (t.val % 17) + r.val)
include hb hr hR

/-- A row inside, of the rows to be gated: the array's row. -/
theorem uIn_apply (d : Vec Ideal S1x512x512 .bf16) (k : Fin 512) : uIn m c t d (ix3 0 r k) = m ((c : Thread nD τ).loc main_arg0) (ix3 b R k) := by
  have e := (index_rows t).1
  have x := (xsize_pt t).1
  unfold uIn Pipeline.Window.fill
  rw [dif_pos ((win0_0.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg0 _ = _
  rw [V_main_arg0]
  congr 1
  funext a
  apply Fin.ext
  match a with
  | ⟨0, _⟩ => show win0_0.index t 0 * 1 + 1 * 0 = b.val; rw [e.1]; omega
  | ⟨1, _⟩ => show win0_0.index t 1 * 512 + 1 * r.val = R.val; rw [e.2.1]; omega
  | ⟨2, _⟩ => show win0_0.index t 2 * 512 + 1 * k.val = k.val; rw [e.2.2]; omega

/-- A row inside, of the rows to be mixed: the array's row. -/
theorem vIn_apply (d : Vec Ideal S1x512x512 .bf16) (k : Fin 512) : vIn m c t d (ix3 0 r k) = m ((c : Thread nD τ).loc main_arg1) (ix3 b R k) := by
  have e := (index_rows t).2.1
  have x := (xsize_pt t).2.1
  unfold vIn Pipeline.Window.fill
  rw [dif_pos ((win0_1.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg1 _ = _
  rw [V_main_arg1]
  congr 1
  funext a
  apply Fin.ext
  match a with
  | ⟨0, _⟩ => show win0_1.index t 0 * 1 + 1 * 0 = b.val; rw [e.1]; omega
  | ⟨1, _⟩ => show win0_1.index t 1 * 512 + 1 * r.val = R.val; rw [e.2.1]; omega
  | ⟨2, _⟩ => show win0_1.index t 2 * 512 + 1 * k.val = k.val; rw [e.2.2]; omega

/-- A row inside, of the heads' rows: the array's row. -/
theorem oIn_apply (d : Vec Ideal S1x512x512 .bf16) (k : Fin 512) : oIn m c t d (ix3 0 r k) = m ((c : Thread nD τ).loc main_arg2) (ix3 b R k) := by
  have e := (index_rows t).2.2.1
  have x := (xsize_pt t).2.2.1
  unfold oIn Pipeline.Window.fill
  rw [dif_pos ((win0_2.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg2 _ = _
  rw [V_main_arg2]
  congr 1
  funext a
  apply Fin.ext
  match a with
  | ⟨0, _⟩ => show win0_2.index t 0 * 1 + 1 * 0 = b.val; rw [e.1]; omega
  | ⟨1, _⟩ => show win0_2.index t 1 * 512 + 1 * r.val = R.val; rw [e.2.1]; omega
  | ⟨2, _⟩ => show win0_2.index t 2 * 512 + 1 * k.val = k.val; rw [e.2.2]; omega

/-- A row inside, of the residual: the array's row. -/
theorem xIn_apply (d : Vec Ideal S1x512x1024 .f32) (k : Fin 1024) : xIn m c t d (ix3 0 r k) = m ((c : Thread nD τ).loc main_arg6) (ix3 b R k) := by
  have e := (index_rows t).2.2.2.1
  have x := (xsize_pt t).2.2.2.1
  unfold xIn Pipeline.Window.fill
  rw [dif_pos ((win0_6.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg6 _ = _
  rw [V_main_arg6]
  congr 1
  funext a
  apply Fin.ext
  match a with
  | ⟨0, _⟩ => show win0_6.index t 0 * 1 + 1 * 0 = b.val; rw [e.1]; omega
  | ⟨1, _⟩ => show win0_6.index t 1 * 512 + 1 * r.val = R.val; rw [e.2.1]; omega
  | ⟨2, _⟩ => show win0_6.index t 2 * 1024 + 1 * k.val = k.val; rw [e.2.2]; omega

end

/-- The mixing matrices' block is the matrices. -/
theorem ws_apply (c : Dev nD) (t : Fin cfg0.N) (i : Fin 4) (j : Fin 128) (k : Fin 128) : iblk m c 3 t (ix3 i j k) = m ((c : Thread nD τ).loc main_arg3) (ix3 i j k) := by
  have x := (index_whole t).1
  unfold iblk
  rw [View.read_apply]
  show V m c main_arg3 _ = _
  rw [V_main_arg3]
  congr 1
  funext a
  apply Fin.ext
  match a with
  | ⟨0, _⟩ => show win0_3.index t 0 * 4 + 1 * i.val = i.val; rw [x.1]; omega
  | ⟨1, _⟩ => show win0_3.index t 1 * 128 + 1 * j.val = j.val; rw [x.2.1]; omega
  | ⟨2, _⟩ => show win0_3.index t 2 * 128 + 1 * k.val = k.val; rw [x.2.2]; omega

/-- The additive terms' block is the terms. -/
theorem bias_apply (c : Dev nD) (t : Fin cfg0.N) (i : Fin 128) (j : Fin 512) : iblk m c 4 t (ix2 i j) = m ((c : Thread nD τ).loc main_arg4) (ix2 i j) := by
  have x := (index_whole t).2.1
  unfold iblk
  rw [View.read_apply]
  show V m c main_arg4 _ = _
  rw [V_main_arg4]
  congr 1
  funext a
  apply Fin.ext
  match a with
  | ⟨0, _⟩ => show win0_4.index t 0 * 128 + 1 * i.val = i.val; rw [x.1]; omega
  | ⟨1, _⟩ => show win0_4.index t 1 * 512 + 1 * j.val = j.val; rw [x.2]; omega

/-- The output matrix's block is the matrix. -/
theorem wout_apply (c : Dev nD) (t : Fin cfg0.N) (i : Fin 1024) (j : Fin 1024) : iblk m c 5 t (ix2 i j) = m ((c : Thread nD τ).loc main_arg5) (ix2 i j) := by
  have x := (index_whole t).2.2.1
  unfold iblk
  rw [View.read_apply]
  show V m c main_arg5 _ = _
  rw [V_main_arg5]
  congr 1
  funext a
  apply Fin.ext
  match a with
  | ⟨0, _⟩ => show win0_5.index t 0 * 1024 + 1 * i.val = i.val; rw [x.1]; omega
  | ⟨1, _⟩ => show win0_5.index t 1 * 1024 + 1 * j.val = j.val; rw [x.2]; omega

/-- The block of a batch's vectors, at an index. -/
theorem mod_apply (c : Dev nD) (t : Fin cfg0.N) (e : Fin 8) (he : e.val = if t.val % 17 < 16 then t.val / 17 else 2) (n : Fin 6) (k : Fin 1024) :
    iblk m c 7 t (ix3 0 n k) = m ((c : Thread nD τ).loc main_arg7) (ix3 e n k) := by
  have x := (index_whole t).2.2.2.1
  unfold iblk
  rw [View.read_apply]
  show V m c main_arg7 _ = _
  rw [V_main_arg7]
  congr 1
  funext a
  apply Fin.ext
  match a with
  | ⟨0, _⟩ => show win0_7.index t 0 * 1 + 1 * 0 = e.val; rw [x.1]; omega
  | ⟨1, _⟩ => show win0_7.index t 1 * 6 + 1 * n.val = n.val; rw [x.2.1]; omega
  | ⟨2, _⟩ => show win0_7.index t 2 * 1024 + 1 * k.val = k.val; rw [x.2.2]; omega

/-- A vector as one row. -/
theorem asRow_apply (x : Vec Ideal S1024 .f32) (k : Fin 1024) : (shapeCast S1x1024 x shapeCasts_S1024_S1x1024 : FVec Ideal S1x1024 .f32) (ix2 0 k) = x (ix1 k) := by
  pointwise

/-- The first norm's weights as the launch passes them. -/
theorem V_v0 (c : Dev nD) : V m c main_v0 = shapeCast S1x1024 (m ((c : Thread nD τ).loc main_arg8)) shapeCasts_S1024_S1x1024 := by
  unfold V hostOps0
  after_results_simp
  rfl

/-- The first norm's weights' block. -/
theorem gpost_apply (c : Dev nD) (t : Fin cfg0.N) (k : Fin 1024) : iblk m c 8 t (ix2 0 k) = m ((c : Thread nD τ).loc main_arg8) (ix1 k) := by
  have x := (index_whole t).2.2.2.2.1
  unfold iblk
  rw [View.read_apply]
  show V m c main_v0 _ = _
  rw [V_v0]
  refine Eq.trans ?_ (asRow_apply _ k)
  congr 1
  funext a
  apply Fin.ext
  match a with
  | ⟨0, _⟩ => show win0_8.index t 0 * 1 + 1 * 0 = 0; rw [x.1]
  | ⟨1, _⟩ => show win0_8.index t 1 * 1024 + 1 * k.val = k.val; rw [x.2]; omega

/-- The second norm's weights as the launch passes them. -/
theorem V_v1 (c : Dev nD) : V m c main_v1 = shapeCast S1x1024 (m ((c : Thread nD τ).loc main_arg9)) shapeCasts_S1024_S1x1024 := by
  unfold V hostOps0
  after_results_simp
  rfl

/-- The second norm's weights' block. -/
theorem gpre_apply (c : Dev nD) (t : Fin cfg0.N) (k : Fin 1024) : iblk m c 9 t (ix2 0 k) = m ((c : Thread nD τ).loc main_arg9) (ix1 k) := by
  have x := (index_whole t).2.2.2.2.2
  unfold iblk
  rw [View.read_apply]
  show V m c main_v1 _ = _
  rw [V_v1]
  refine Eq.trans ?_ (asRow_apply _ k)
  congr 1
  funext a
  apply Fin.ext
  match a with
  | ⟨0, _⟩ => show win0_9.index t 0 * 1 + 1 * 0 = 0; rw [x.1]
  | ⟨1, _⟩ => show win0_9.index t 1 * 1024 + 1 * k.val = k.val; rw [x.2]; omega

/-- The reference's rows before their norm, of the call's arguments, -/
def wantT (c : Dev nD) : FVec Ideal S2x8448x1024 .f32 :=
  refTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- its new residual, -/
def wantX (c : Dev nD) : FVec Ideal S2x8448x1024 .f32 :=
  refRes (wantT m c) (m ((c : Thread nD τ).loc main_arg6)) (m ((c : Thread nD τ).loc main_arg7)) (m ((c : Thread nD τ).loc main_arg8))
/-- and its next input. -/
def wantF (c : Dev nD) : FVec Ideal S2x8448x1024 .bf16 :=
  refNext (wantX m c) (m ((c : Thread nD τ).loc main_arg7)) (m ((c : Thread nD τ).loc main_arg9))

section
variable (c : Dev nD) (t : Fin cfg0.N) (b : Fin 2) (hb : b.val = t.val / 17) (r : Fin 512) (hr : r.val < inside t) (R : Fin 8448) (hR : R.val = 512 * (t.val % 17) + r.val)
  (d0 d1 d2 : Vec Ideal S1x512x512 .bf16) (d6 : Vec Ideal S1x512x1024 .f32)
include hb hr hR

/-- A row inside is the reference's before the norm, whatever lies past the arrays' end, -/
theorem total_eq (k : Fin 1024) :
    total (uIn m c t d0) (vIn m c t d1) (oIn m c t d2) (iblk m c 3 t) (iblk m c 4 t) (iblk m c 5 t) (ix2 r k) = wantT m c (ix3 b R k) := by
  have hi : inside t ≤ 512 := by unfold inside; split_ifs <;> omega
  obtain ⟨p, i, hp⟩ : ∃ (p : Fin 4) (i : Fin 128), r.val = 128 * p.val + i.val :=
    ⟨⟨r.val / 128, by omega⟩, ⟨r.val % 128, by omega⟩, by show r.val = 128 * (r.val / 128) + r.val % 128; omega⟩
  obtain ⟨q, hq⟩ : ∃ q : Fin 66, q.val = 4 * (t.val % 17) + p.val := ⟨⟨4 * (t.val % 17) + p.val, by omega⟩, rfl⟩
  have hv : ∀ (j : Fin 128) (e : Fin 512), vIn m c t d1 (ix3 0 ⟨128 * p.val + j.val, by omega⟩ e) = m ((c : Thread nD τ).loc main_arg1) (ix3 b ⟨128 * q.val + j.val, by omega⟩ e) := fun j e =>
    vIn_apply m c t b hb ⟨128 * p.val + j.val, by omega⟩ (inside_chunk t p i j (hp ▸ hr)) ⟨128 * q.val + j.val, by omega⟩ (by show 128 * q.val + j.val = 512 * (t.val % 17) + (128 * p.val + j.val); omega) d1 e
  unfold wantT
  rw [total_apply _ _ _ _ _ _ r p i hp, refTotal_apply _ _ _ _ _ _ b R q i (by omega)]
  simp only [uIn_apply m c t b hb r hr R hR, oIn_apply m c t b hb r hr R hR, hv, ws_apply, bias_apply, wout_apply]

/-- after it, -/
theorem outX_apply (k : Fin 1024) : outX m c t d0 d1 d2 d6 (ix3 0 r k) = wantX m c (ix3 b R k) := by
  have hg : (if R.val < 8192 then b.val else 2) = if t.val % 17 < 16 then t.val / 17 else 2 := by
    unfold inside at hr
    split_ifs at hr ⊢ <;> omega
  have hl : (if R.val < 8192 then b.val else 2) < 8 := by split_ifs <;> omega
  unfold outX wantX
  rw [blockX_apply, refRes_apply _ _ _ _ b R k ⟨_, hl⟩ rfl]
  simp only [total_eq m c t b hb r hr R hR, xIn_apply m c t b hb r hr R hR, gpost_apply, mod_apply m c t ⟨_, hl⟩ hg]

/-- and modulated for what follows. -/
theorem outF_apply (k : Fin 1024) : outF m c t d0 d1 d2 d6 (ix3 0 r k) = wantF m c (ix3 b R k) := by
  have hg : (if R.val < 8192 then b.val else 2) = if t.val % 17 < 16 then t.val / 17 else 2 := by
    unfold inside at hr
    split_ifs at hr ⊢ <;> omega
  have hl : (if R.val < 8192 then b.val else 2) < 8 := by split_ifs <;> omega
  have hx : ∀ e, newRow (fun e => total (uIn m c t d0) (vIn m c t d1) (oIn m c t d2) (iblk m c 3 t) (iblk m c 4 t) (iblk m c 5 t) (ix2 r e)) (fun e => xIn m c t d6 (ix3 0 r e)) (fun e => iblk m c 7 t (ix3 0 2 e)) (fun e => iblk m c 8 t (ix2 0 e)) e
      = wantX m c (ix3 b R e) := fun e => (blockX_apply _ _ _ _ _ _ _ _ _ r e).symm.trans (outX_apply m c t b hb r hr R hR d0 d1 d2 d6 e)
  unfold outF wantF
  rw [blockF_apply, refNext_apply _ _ _ b R k ⟨_, hl⟩ rfl, funext hx]
  simp only [gpre_apply, mod_apply m c t ⟨_, hl⟩ hg]

end

/-- An index of the rows inside the residual's block is a row and a column. -/
theorem inside_idx10 (t : Fin cfg0.N) (j : (win0_10.xblock (grid0.coords t)).Idx) :
    ∃ (r : Fin 512) (k : Fin 1024), r.val < inside t ∧ win0_10.xinj (grid0.coords t) j = ix3 0 r k := by
  have x := (xsize_pt t).2.2.2.2.1
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 1).val, by omega⟩, ⟨(j 2).val, h2⟩, h1, ?_⟩
  funext a
  apply Fin.ext
  match a with
  | ⟨0, _⟩ => exact Nat.lt_one_iff.1 h0
  | ⟨1, _⟩ => rfl
  | ⟨2, _⟩ => rfl

/-- The rows inside it do not depend on what lies past the arrays' end. -/
theorem rows_local10 (c : Dev nD) (t : Fin cfg0.N) (d0 d1 d2 : Vec Ideal S1x512x512 .bf16) (d6 : Vec Ideal S1x512x1024 .f32) :
    win0_10.cut (grid0.coords t) (outX m c t d0 d1 d2 d6) = win0_10.cut (grid0.coords t) (outX m c t zB zB zB zX) := by
  have hN : cfg0.N = 34 := N_0
  funext j
  obtain ⟨r, k, hr, hj⟩ := inside_idx10 t j
  show outX m c t d0 d1 d2 d6 (win0_10.xinj (grid0.coords t) j) = outX m c t zB zB zB zX (win0_10.xinj (grid0.coords t) j)
  have hi : r.val < 512 ∧ (t.val % 17 = 16 → r.val < 256) := by unfold inside at hr; split_ifs at hr <;> omega
  have ht := t.isLt
  rw [hj, outX_apply m c t ⟨t.val / 17, by omega⟩ rfl r hr ⟨512 * (t.val % 17) + r.val, by omega⟩ rfl, outX_apply m c t ⟨t.val / 17, by omega⟩ rfl r hr ⟨512 * (t.val % 17) + r.val, by omega⟩ rfl]

/-- Two points' blocks of it are not the same block. -/
theorem index_inj10 : ∀ t t' : Fin cfg0.N, win0_10.index t = win0_10.index t' → t = t' :=
  (by decide +kernel : ∀ t t' : Fin grid0.N, win0_10.index t = win0_10.index t' → t = t')

/-- A point's block of the residual left is what the point stored. -/
theorem block_left10 (c : Dev nD) (t : Fin cfg0.N) :
    ((cfg0.win 10).blk t).view.read (Elt Ideal) ((dats m 0 c).arrAt 10 cfg0.N) = win0_10.cut (grid0.coords t) (outX m c t zB zB zB zX) :=
  (dats m 0 c).read_blk_arrAt_eq_flushed 10 (fun t t' _ _ hne => (cfg0.win 10).disjoint_blk fun h => hne (index_inj10 t t' h)) cfg0.N t t.isLt (flush0_10 t)

/-- The residual left is the reference's. -/
theorem left10 (c : Dev nD) : (dats m 0 c).arrAt 10 cfg0.N = wantX m c := by
  refine funext fun j : S2x8448x1024.Idx => ?_
  obtain ⟨b, R, k, rfl⟩ : ∃ (b : Fin 2) (R : Fin 8448) (k : Fin 1024), j = ix3 b R k := ⟨j 0, j 1, j 2, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2.2.2.1
  have e := (index_rows t).2.2.2.2.1
  let i : (win0_10.xblock (grid0.coords t)).Idx := fun a => ⟨(ix3 (0 : Fin 1) r k a).val, by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm⟩
  have h := congrFun (block_left10 m c t) i
  rw [View.read_apply] at h
  refine Eq.trans ?_ (h.trans ?_)
  · congr 1
    funext a
    apply Fin.ext
    match a with
    | ⟨0, _⟩ => show b.val = win0_10.index t 0 * 1 + 1 * 0; rw [e.1]; omega
    | ⟨1, _⟩ => show R.val = win0_10.index t 1 * 512 + 1 * r.val; rw [e.2.1]; omega
    | ⟨2, _⟩ => show k.val = win0_10.index t 2 * 1024 + 1 * k.val; rw [e.2.2]; omega
  · exact outX_apply m c t b (by omega) r hr R (by omega) zB zB zB zX k

/-- An index of the rows inside the next input's block is a row and a column. -/
theorem inside_idx11 (t : Fin cfg0.N) (j : (win0_11.xblock (grid0.coords t)).Idx) :
    ∃ (r : Fin 512) (k : Fin 1024), r.val < inside t ∧ win0_11.xinj (grid0.coords t) j = ix3 0 r k := by
  have x := (xsize_pt t).2.2.2.2.2
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 1).val, by omega⟩, ⟨(j 2).val, h2⟩, h1, ?_⟩
  funext a
  apply Fin.ext
  match a with
  | ⟨0, _⟩ => exact Nat.lt_one_iff.1 h0
  | ⟨1, _⟩ => rfl
  | ⟨2, _⟩ => rfl

/-- The rows inside it do not depend on what lies past the arrays' end. -/
theorem rows_local11 (c : Dev nD) (t : Fin cfg0.N) (d0 d1 d2 : Vec Ideal S1x512x512 .bf16) (d6 : Vec Ideal S1x512x1024 .f32) :
    win0_11.cut (grid0.coords t) (outF m c t d0 d1 d2 d6) = win0_11.cut (grid0.coords t) (outF m c t zB zB zB zX) := by
  have hN : cfg0.N = 34 := N_0
  funext j
  obtain ⟨r, k, hr, hj⟩ := inside_idx11 t j
  show outF m c t d0 d1 d2 d6 (win0_11.xinj (grid0.coords t) j) = outF m c t zB zB zB zX (win0_11.xinj (grid0.coords t) j)
  have hi : r.val < 512 ∧ (t.val % 17 = 16 → r.val < 256) := by unfold inside at hr; split_ifs at hr <;> omega
  have ht := t.isLt
  rw [hj, outF_apply m c t ⟨t.val / 17, by omega⟩ rfl r hr ⟨512 * (t.val % 17) + r.val, by omega⟩ rfl, outF_apply m c t ⟨t.val / 17, by omega⟩ rfl r hr ⟨512 * (t.val % 17) + r.val, by omega⟩ rfl]

/-- Two points' blocks of it are not the same block. -/
theorem index_inj11 : ∀ t t' : Fin cfg0.N, win0_11.index t = win0_11.index t' → t = t' :=
  (by decide +kernel : ∀ t t' : Fin grid0.N, win0_11.index t = win0_11.index t' → t = t')

/-- A point's block of the next input left is what the point stored. -/
theorem block_left11 (c : Dev nD) (t : Fin cfg0.N) :
    ((cfg0.win 11).blk t).view.read (Elt Ideal) ((dats m 0 c).arrAt 11 cfg0.N) = win0_11.cut (grid0.coords t) (outF m c t zB zB zB zX) :=
  (dats m 0 c).read_blk_arrAt_eq_flushed 11 (fun t t' _ _ hne => (cfg0.win 11).disjoint_blk fun h => hne (index_inj11 t t' h)) cfg0.N t t.isLt (flush0_11 t)

/-- The next input left is the reference's. -/
theorem left11 (c : Dev nD) : (dats m 0 c).arrAt 11 cfg0.N = wantF m c := by
  refine funext fun j : S2x8448x1024.Idx => ?_
  obtain ⟨b, R, k, rfl⟩ : ∃ (b : Fin 2) (R : Fin 8448) (k : Fin 1024), j = ix3 b R k := ⟨j 0, j 1, j 2, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2.2.2.2
  have e := (index_rows t).2.2.2.2.2
  let i : (win0_11.xblock (grid0.coords t)).Idx := fun a => ⟨(ix3 (0 : Fin 1) r k a).val, by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm⟩
  have h := congrFun (block_left11 m c t) i
  rw [View.read_apply] at h
  refine Eq.trans ?_ (h.trans ?_)
  · congr 1
    funext a
    apply Fin.ext
    match a with
    | ⟨0, _⟩ => show b.val = win0_11.index t 0 * 1 + 1 * 0; rw [e.1]; omega
    | ⟨1, _⟩ => show R.val = win0_11.index t 1 * 512 + 1 * r.val; rw [e.2.1]; omega
    | ⟨2, _⟩ => show k.val = win0_11.index t 2 * 1024 + 1 * k.val; rw [e.2.2]; omega
  · exact outF_apply m c t b (by omega) r hr R (by omega) zB zB zB zX k

variable (ρ : Dev nD → PrngReg)

/-- The run leaves the reference's two results. -/
theorem run_out : θ_run defs (onTc (τ := τ) (main (F := Ideal))) ⟨m, fun _ => 0, ρ⟩ fun r => ∀ c : Dev nD,
    r.2.mem ((c : Thread nD τ).loc main_v2_0) = (dats m 0 c).arrAt 10 cfg0.N ∧ r.2.mem ((c : Thread nD τ).loc main_v2_1) = (dats m 0 c).arrAt 11 cfg0.N :=
  (θ_run defs _ _).mono (fun _ h c => ⟨(h c).1 10, (h c).1 11⟩) (run_main m ρ (fun c => rows_local10 m c) fun c => rows_local11 m c)

end Cert.MixIdeal.Rows

end
-- ==== Proof.Blend.RefRun.lean ====
/-
  What the mixing call's reference leaves, as functions of its arguments.
-/
module

public import proofs.«01_k».proof.Proof.Blend.Ref
public import proofs.«01_k».proof.Proof.Gen.MixRefIdeal.Run

@[expose] public section

set_option maxRecDepth 16384

noncomputable section

namespace Cert.MixRefIdeal.Value

open Cert.MixRefIdeal Cert.MixRefIdeal.Gen Idealize.ShloMosaic Idealize.ShloMosaic.TcCoe Idealize.SL.Sem

/-- The reference's first result, of the arguments, -/
def firstOf (m : (ℓ : Loc nD τ sig) → Buf (Elt Ideal) ℓ) (c : Dev nD) : FVec Ideal S2x8448x1024 .f32 :=
  refRes (refTotal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8))

/-- The reference's run leaves it, -/
theorem res_first (m : (ℓ : Loc nD τ sig) → Buf (Elt Ideal) ℓ) (c : Dev nD) : res_main_v42 m c = firstOf m c := by
  unfold res_main_v42
  rfl

/-- and the second. -/
theorem res_second (m : (ℓ : Loc nD τ sig) → Buf (Elt Ideal) ℓ) (c : Dev nD) :
    res_main_v64 m c = refNext (firstOf m c) (m ((c : Thread nD τ).loc main_arg7)) (m ((c : Thread nD τ).loc main_arg9)) := by
  unfold res_main_v64
  rfl

/-- The first result of equal arrays, -/
theorem first_congr {u u' v v' o o' : Vec Ideal S2x8448x512 .bf16} {ws ws' : Vec Ideal S4x128x128 .bf16} {b b' : Vec Ideal S128x512 .f32} {w w' : Vec Ideal S1024x1024 .bf16} {x x' : Vec Ideal S2x8448x1024 .f32} {mo mo' : Vec Ideal S8x6x1024 .f32} {g g' : Vec Ideal S1024 .f32}
    (h0 : u' = u) (h1 : v' = v) (h2 : o' = o) (h3 : ws' = ws) (h4 : b' = b) (h5 : w' = w) (h6 : x' = x) (h7 : mo' = mo) (h8 : g' = g) :
    refRes (refTotal u' v' o' ws' b' w') x' mo' g' = refRes (refTotal u v o ws b w) x mo g := by
  rw [h0, h1, h2, h3, h4, h5, h6, h7, h8]

/-- and the second. -/
theorem second_congr {x x' : FVec Ideal S2x8448x1024 .f32} {mo mo' : Vec Ideal S8x6x1024 .f32} {g g' : Vec Ideal S1024 .f32} (h : x' = x) (h7 : mo' = mo) (h9 : g' = g) : refNext x' mo' g' = refNext x mo g := by
  rw [h, h7, h9]

end Cert.MixRefIdeal.Value

end
-- ==== Proof.Blend.Same.lean ====
/-
  The mixing program and its ideal are the same text, read over any values; so what is proved of the ideal's run at any
  values holds of the program's.
-/
module

public import proofs.«01_k».proof.Proof.Blend.Frame
public import proofs.«01_k».proof.Proof.Gen.Mix
public import proofs.«01_k».proof.Proof.Gen.Mix.Launch

@[expose] public section

set_option maxRecDepth 16384
set_option maxHeartbeats 0

noncomputable section

namespace Cert.Mix.Rows

open Cert.Mix Cert.Mix.Gen Idealize.ShloMosaic Idealize.ShloMosaic.TcCoe Idealize.SL.Sem

variable {F : FTy → Type} [FloatOps F]

/-- The kernel bodies are equal. -/
theorem bodies_eq : @Cert.Mix.defs₀ F _ Cert.Mix.Gen.facts = @Cert.MixIdeal.defs₀ F _ Cert.MixIdeal.Gen.facts := by
  unfold Cert.Mix.defs₀ Cert.MixIdeal.defs₀
  congr 1
  funext l a
  match l, a with
  | 0, (t, s) => rfl

/-- The programs' functions are equal. -/
theorem defs_eq : @Cert.Mix.defs F _ Cert.Mix.Gen.facts = @Cert.MixIdeal.defs F _ Cert.MixIdeal.Gen.facts :=
  congrArg (Pipeline.defs (@Cert.Mix.pcfgs F _)) bodies_eq

/-- The program runs, its arguments unchanged, every counter zero again. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (congrArg (fun D => θ_run D (onTc (τ := τ) (main (F := F))) ⟨m, fun _ => 0, ρ⟩ _) defs_eq).mpr (Cert.MixIdeal.Rows.frame m ρ)

end Cert.Mix.Rows

end
-- ==== Proof.Proj.Run.lean ====
/-
  The body of the output projection's call on any staging buffers: three blocks are stored, functions of the seven it reads.
-/
module

public import proofs.«01_k».proof.Proof.Gen.ProjIdeal.Frame

@[expose] public section

set_option maxRecDepth 16384

noncomputable section

namespace Cert.ProjIdeal.Rows

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run, with the pieces it leaves in the three output blocks. -/
noncomputable def run (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1x512x1024 .f32) (harg9 : arg9.IsWhole) (arg10 : Memref sig .tc .vmem S1x512x1024 .f32) (harg10 : arg10.IsWhole) (arg11 : Memref sig .tc .vmem S1x8x512 .f32) (harg11 : arg11.IsWhole)
    (x0 : Vec F S1x512x1024 .bf16) (x1 : Vec F S1024x1024 .bf16) (x2 : Vec F S1x512x1024 .f32) (x3 : Vec F S1x6x1024 .f32) (x4 : Vec F S1x1024 .f32) (x5 : Vec F S1x1024 .f32) (x6 : Vec F S8x1024 .f32) :
    Σ' (L0 : List (View.Piece (Elt F) S1x512x1024 .f32)) (L1 : List (View.Piece (Elt F) S1x512x1024 .f32)), { L2 : List (View.Piece (Elt F) S1x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2)) -∗ K ⟨⟩))
          ⊢ wp frame (wpE (defs₀ (F := F)) Variants.none c none) E (cc0_mla_out i arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold cc0_mla_out k0_part1 k0_part2
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    iexists _; iexact H9

end Cert.ProjIdeal.Rows

end
-- ==== Proof.Proj.Block.lean ====
/-
  What the body of the output projection's call stores, as functions of the seven blocks it reads: the heads' outputs go
  through the output matrix, the rows are normed, gated and added to the residual, that is normed and modulated, and the
  router's logits of it are taken of two halves of each value, a rounded one and the rest.
-/
module

public import proofs.«01_k».proof.Proof.Proj.Run
public import Idealize.ShloMosaic.Lib.Pipeline.ValueKit.Acc

@[expose] public section

set_option maxRecDepth 16384

noncomputable section

namespace Cert.ProjIdeal.Rows

open Cert.ProjIdeal Cert.ProjIdeal.Gen Idealize.ShloMosaic Idealize.ShloMosaic.TcCoe Idealize.ShloMosaic.Tactic Idealize.SL.Sem

variable {F : FTy → Type} [FloatOps F]

/-- The zero offsets of rank 2. -/
theorem hz2 : (![0, 0] : Fin 2 → Nat) = fun _ => 0 := funext fun a => by fin_cases a <;> rfl
/-- The zero offsets of rank 3. -/
theorem hz3 : (![0, 0, 0] : Fin 3 → Nat) = fun _ => 0 := funext fun a => by fin_cases a <;> rfl

/-- The heads' outputs through the output matrix. -/
def total (x0 : Vec F S1x512x1024 .bf16) (x1 : Vec F S1024x1024 .bf16) : FVec F S512x1024 .f32 :=
  matmul dot_S512x1024_S1024x1024_S512x1024_1_0_0_1_n_n none (shapeCast S512x1024 x0 shapeCasts_S1x512x1024_S512x1024 : FVec F S512x1024 .bf16) x1 (constant S512x1024 .f32 0x00000000#32)

/-- A block's norm. -/
def normed (y : FVec F S512x1024 .f32) (g : Vec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The residual with the gated norm added. -/
def residual (x : Vec F S1x512x1024 .f32) (mo : Vec F S1x6x1024 .f32) (y : FVec F S512x1024 .f32) : FVec F S512x1024 .f32 :=
  addf (shapeCast S512x1024 x shapeCasts_S1x512x1024_S512x1024)
    (mulf (broadcastTo S512x1024 (extractStridedSlice S1x1024 ![2, 0] (shapeCast S6x1024 mo shapeCasts_S1x6x1024_S6x1024) slices_S6x1024_o2_0_S1x1024) broadcasts_S1x1024_S512x1024) y)

/-- A norm scaled and shifted. -/
def modulated (mo : Vec F S1x6x1024 .f32) (y : FVec F S512x1024 .f32) : FVec F S512x1024 .f32 :=
  addf (mulf y (broadcastTo S512x1024 (addf (broadcast S1x1024 (Scalar.ofBits .f32 0x3F800000#32)) (extractStridedSlice S1x1024 ![4, 0] (shapeCast S6x1024 mo shapeCasts_S1x6x1024_S6x1024) slices_S6x1024_o4_0_S1x1024)) broadcasts_S1x1024_S512x1024))
    (broadcastTo S512x1024 (extractStridedSlice S1x1024 ![3, 0] (shapeCast S6x1024 mo shapeCasts_S1x6x1024_S6x1024) slices_S6x1024_o3_0_S1x1024) broadcasts_S1x1024_S512x1024)

/-- The new residual. -/
def newRes (x0 : Vec F S1x512x1024 .bf16) (x1 : Vec F S1024x1024 .bf16) (x2 : Vec F S1x512x1024 .f32) (x3 : Vec F S1x6x1024 .f32) (x4 : Vec F S1x1024 .f32) : FVec F S512x1024 .f32 := residual x2 x3 (normed (total x0 x1) x4)

/-- The next input. -/
def nextIn (x0 : Vec F S1x512x1024 .bf16) (x1 : Vec F S1024x1024 .bf16) (x2 : Vec F S1x512x1024 .f32) (x3 : Vec F S1x6x1024 .f32) (x4 : Vec F S1x1024 .f32) (x5 : Vec F S1x1024 .f32) : FVec F S512x1024 .f32 := modulated x3 (normed (newRes x0 x1 x2 x3 x4) x5)

/-- The rest of a row's values after rounding, rounded, -/
def restF (f : FVec F S512x1024 .f32) : FVec F S512x1024 .bf16 := truncf .bf16 (subf f (extf .f32 (truncf .bf16 f bitsLt_bf16_f32) bitsLt_bf16_f32)) bitsLt_bf16_f32
/-- and of the router's. -/
def restR (r : Vec F S8x1024 .f32) : FVec F S8x1024 .bf16 := truncf .bf16 (subf r (extf .f32 (truncf .bf16 r bitsLt_bf16_f32) bitsLt_bf16_f32)) bitsLt_bf16_f32

/-- The router's rounded rows and their rests below them, then zeros, -/
def both (h l : FVec F S8x1024 .bf16) : FVec F S128x1024 .bf16 :=
  concatenate S128x1024 0 [⟨S8x1024, h⟩, ⟨S8x1024, l⟩, ⟨S112x1024, (broadcast S112x1024 (Scalar.ofBits .bf16 0x0000#16) : FVec F S112x1024 .bf16)⟩] concatenates_S8x1024_S8x1024_S112x1024_S128x1024_d0
/-- and the rounded rows alone. -/
def alone (h : FVec F S8x1024 .bf16) : FVec F S128x1024 .bf16 :=
  concatenate S128x1024 0 [⟨S8x1024, h⟩, ⟨S120x1024, (broadcast S120x1024 (Scalar.ofBits .bf16 0x0000#16) : FVec F S120x1024 .bf16)⟩] concatenates_S8x1024_S120x1024_S128x1024_d0

/-- Rows against the rows of a matrix. -/
def against (f : FVec F S512x1024 .bf16) (r : FVec F S128x1024 .bf16) : FVec F S512x128 .f32 :=
  matmul dot_S512x1024_S128x1024_S512x128_1_1_0_0_n_n none f r (constant S512x128 .f32 0x00000000#32)

/-- The first product, the lanes of its second half moved under the first's, and the second product, added. -/
def joined (a b : FVec F S512x128 .f32) : FVec F S512x128 .f32 := addf a (addf (dynamicRotate 1 120#32 none a rotates_S512x128_d1) b)

/-- The first eight lanes as rows. -/
def firstLanes (l : FVec F S512x128 .f32) : Vec F S1x8x512 .f32 :=
  shapeCast S1x8x512 (extractStridedSlice S8x512 ![0, 0] (transpose S128x512 [1, 0] l transposes_S512x128_p1_0_S128x512) slices_S128x512_o0_0_S8x512) shapeCasts_S8x512_S1x8x512

/-- The block stored of the residual, -/
def blockX (x0 : Vec F S1x512x1024 .bf16) (x1 : Vec F S1024x1024 .bf16) (x2 : Vec F S1x512x1024 .f32) (x3 : Vec F S1x6x1024 .f32) (x4 : Vec F S1x1024 .f32) : Vec F S1x512x1024 .f32 :=
  shapeCast S1x512x1024 (newRes x0 x1 x2 x3 x4) shapeCasts_S512x1024_S1x512x1024
/-- the one stored of the next input, -/
def blockF (x0 : Vec F S1x512x1024 .bf16) (x1 : Vec F S1024x1024 .bf16) (x2 : Vec F S1x512x1024 .f32) (x3 : Vec F S1x6x1024 .f32) (x4 : Vec F S1x1024 .f32) (x5 : Vec F S1x1024 .f32) : Vec F S1x512x1024 .f32 :=
  shapeCast S1x512x1024 (nextIn x0 x1 x2 x3 x4 x5) shapeCasts_S512x1024_S1x512x1024
/-- and the one stored of the logits. -/
def blockL (x0 : Vec F S1x512x1024 .bf16) (x1 : Vec F S1024x1024 .bf16) (x2 : Vec F S1x512x1024 .f32) (x3 : Vec F S1x6x1024 .f32) (x4 : Vec F S1x1024 .f32) (x5 : Vec F S1x1024 .f32) (x6 : Vec F S8x1024 .f32) : Vec F S1x8x512 .f32 :=
  firstLanes (joined (against (truncf .bf16 (nextIn x0 x1 x2 x3 x4 x5) bitsLt_bf16_f32) (both (truncf .bf16 x6 bitsLt_bf16_f32) (restR x6)))
    (against (restF (nextIn x0 x1 x2 x3 x4 x5)) (alone (truncf .bf16 x6 bitsLt_bf16_f32))))

section
variable (c : Dev nD) (i : grid0.Coords) (a2 : Memref sig .tc .vmem S1x512x1024 .bf16) (h2 : a2.IsWhole) (a3 : Memref sig .tc .vmem S1024x1024 .bf16) (h3 : a3.IsWhole) (a4 : Memref sig .tc .vmem S1x512x1024 .f32) (h4 : a4.IsWhole) (a5 : Memref sig .tc .vmem S1x6x1024 .f32) (h5 : a5.IsWhole) (a6 : Memref sig .tc .vmem S1x1024 .f32) (h6 : a6.IsWhole) (a7 : Memref sig .tc .vmem S1x1024 .f32) (h7 : a7.IsWhole) (a8 : Memref sig .tc .vmem S8x1024 .f32) (h8 : a8.IsWhole) (a9 : Memref sig .tc .vmem S1x512x1024 .f32) (h9 : a9.IsWhole) (a10 : Memref sig .tc .vmem S1x512x1024 .f32) (h10 : a10.IsWhole) (a11 : Memref sig .tc .vmem S1x8x512 .f32) (h11 : a11.IsWhole)
  (x0 : Vec F S1x512x1024 .bf16) (x1 : Vec F S1024x1024 .bf16) (x2 : Vec F S1x512x1024 .f32) (x3 : Vec F S1x6x1024 .f32) (x4 : Vec F S1x1024 .f32) (x5 : Vec F S1x1024 .f32) (x6 : Vec F S8x1024 .f32)

/-- The run's pieces cover the residual's block. -/
theorem run_coverX (y : S1x512x1024.Idx) : ∃ pc ∈ (run c i a2 h2 a3 h3 a4 h4 a5 h5 a6 h6 a7 h7 a8 h8 a9 h9 a10 h10 a11 h11 x0 x1 x2 x3 x4 x5 x6).1, y ∈ pc.1.set :=
  View.cover_of_tiledL (run c i a2 h2 a3 h3 a4 h4 a5 h5 a6 h6 a7 h7 a8 h8 a9 h9 a10 h10 a11 h11 x0 x1 x2 x3 x4 x5 x6).1 S1x512x1024.size (by sl_kernel_rfl) y
/-- The run's pieces cover the next input's. -/
theorem run_coverF (y : S1x512x1024.Idx) : ∃ pc ∈ (run c i a2 h2 a3 h3 a4 h4 a5 h5 a6 h6 a7 h7 a8 h8 a9 h9 a10 h10 a11 h11 x0 x1 x2 x3 x4 x5 x6).2.1, y ∈ pc.1.set :=
  View.cover_of_tiledL (run c i a2 h2 a3 h3 a4 h4 a5 h5 a6 h6 a7 h7 a8 h8 a9 h9 a10 h10 a11 h11 x0 x1 x2 x3 x4 x5 x6).2.1 S1x512x1024.size (by sl_kernel_rfl) y
/-- The run's pieces cover the logits'. -/
theorem run_coverL (y : S1x8x512.Idx) : ∃ pc ∈ (run c i a2 h2 a3 h3 a4 h4 a5 h5 a6 h6 a7 h7 a8 h8 a9 h9 a10 h10 a11 h11 x0 x1 x2 x3 x4 x5 x6).2.2.1, y ∈ pc.1.set :=
  View.cover_of_tiledL (run c i a2 h2 a3 h3 a4 h4 a5 h5 a6 h6 a7 h7 a8 h8 a9 h9 a10 h10 a11 h11 x0 x1 x2 x3 x4 x5 x6).2.2.1 S1x8x512.size (by sl_kernel_rfl) y

set_option maxHeartbeats 4000000 in
/-- Its pieces hold `blockX`. -/
theorem run_valX : View.canon (run c i a2 h2 a3 h3 a4 h4 a5 h5 a6 h6 a7 h7 a8 h8 a9 h9 a10 h10 a11 h11 x0 x1 x2 x3 x4 x5 x6).1 = blockX x0 x1 x2 x3 x4 := by
  unfold run
  dsimp only
  sl_unfold_words
  rw [View.canon_unit_zero hz3]
  simp only [View.readAt_eq_ld]
  rw [h2.read_unread, h3.read_unread, h4.read_unread, h5.read_unread, h6.read_unread, View.ld_unit_zero (S := S1x512x1024) hz3, View.ld_unit_zero (S := S1024x1024) hz2, View.ld_unit_zero (S := S1x512x1024) hz3, View.ld_unit_zero (S := S1x6x1024) hz3, View.ld_unit_zero (S := S1x1024) hz2]
  rfl

set_option maxHeartbeats 4000000 in
/-- Its pieces hold `blockF`. -/
theorem run_valF : View.canon (run c i a2 h2 a3 h3 a4 h4 a5 h5 a6 h6 a7 h7 a8 h8 a9 h9 a10 h10 a11 h11 x0 x1 x2 x3 x4 x5 x6).2.1 = blockF x0 x1 x2 x3 x4 x5 := by
  unfold run
  dsimp only
  sl_unfold_words
  rw [View.canon_unit_zero hz3]
  simp only [View.readAt_eq_ld]
  rw [h2.read_unread, h3.read_unread, h4.read_unread, h5.read_unread, h6.read_unread, h7.read_unread, View.ld_unit_zero (S := S1x512x1024) hz3, View.ld_unit_zero (S := S1024x1024) hz2, View.ld_unit_zero (S := S1x512x1024) hz3, View.ld_unit_zero (S := S1x6x1024) hz3, View.ld_unit_zero (S := S1x1024) hz2, View.ld_unit_zero (S := S1x1024) hz2]
  rfl

set_option maxHeartbeats 4000000 in
/-- Its pieces hold `blockL`. -/
theorem run_valL : View.canon (run c i a2 h2 a3 h3 a4 h4 a5 h5 a6 h6 a7 h7 a8 h8 a9 h9 a10 h10 a11 h11 x0 x1 x2 x3 x4 x5 x6).2.2.1 = blockL x0 x1 x2 x3 x4 x5 x6 := by
  unfold run
  dsimp only
  sl_unfold_words
  rw [View.canon_unit_zero hz3]
  simp only [View.readAt_eq_ld]
  rw [h2.read_unread, h3.read_unread, h4.read_unread, h5.read_unread, h6.read_unread, h7.read_unread, h8.read_unread, View.ld_unit_zero (S := S1x512x1024) hz3, View.ld_unit_zero (S := S1024x1024) hz2, View.ld_unit_zero (S := S1x512x1024) hz3, View.ld_unit_zero (S := S1x6x1024) hz3, View.ld_unit_zero (S := S1x1024) hz2, View.ld_unit_zero (S := S1x1024) hz2, View.ld_unit_zero (S := S8x1024) hz2]
  rfl

end

end Cert.ProjIdeal.Rows

end
-- ==== Proof.Proj.Frame.lean ====
/-
  The output projection's pipeline. The last block of rows of each batch reaches past the arrays' end; what its staging
  buffers hold there is not known, and the body is described on the rows inside only.
-/
module

public import proofs.«01_k».proof.Proof.Proj.Block

@[expose] public section

set_option maxRecDepth 16384

noncomputable section

namespace Cert.ProjIdeal.Rows

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the heads' rows at a point, past the array's end whatever `d` holds. -/
def oIn (c : Dev nD) (t : Fin cfg0.N) (d : Vec F S1x512x1024 .bf16) : Vec F S1x512x1024 .bf16 := win0_0.fill (grid0.coords t) d (iblk m c 0 t)
/-- The block of the residual at a point, past the array's end whatever `d` holds. -/
def xIn (c : Dev nD) (t : Fin cfg0.N) (d : Vec F S1x512x1024 .f32) : Vec F S1x512x1024 .f32 := win0_2.fill (grid0.coords t) d (iblk m c 2 t)

/-- The residual's block stored at a point, from buffers holding `d0` and `d2` past the arrays' end, -/
def outX (c : Dev nD) (t : Fin cfg0.N) (d0 : Vec F S1x512x1024 .bf16) (d2 : Vec F S1x512x1024 .f32) : Vec F S1x512x1024 .f32 :=
  blockX (oIn m c t d0) (iblk m c 1 t) (xIn m c t d2) (iblk m c 3 t) (iblk m c 4 t)
/-- the next input's, -/
def outF (c : Dev nD) (t : Fin cfg0.N) (d0 : Vec F S1x512x1024 .bf16) (d2 : Vec F S1x512x1024 .f32) : Vec F S1x512x1024 .f32 :=
  blockF (oIn m c t d0) (iblk m c 1 t) (xIn m c t d2) (iblk m c 3 t) (iblk m c 4 t) (iblk m c 5 t)
/-- and the logits'. -/
def outL (c : Dev nD) (t : Fin cfg0.N) (d0 : Vec F S1x512x1024 .bf16) (d2 : Vec F S1x512x1024 .f32) : Vec F S1x8x512 .f32 :=
  blockL (oIn m c t d0) (iblk m c 1 t) (xIn m c t d2) (iblk m c 3 t) (iblk m c 4 t) (iblk m c 5 t) (iblk m c 6 t)

/-- Zeros past the end of the heads' rows, -/
def zO : Vec F S1x512x1024 .bf16 := fun _ => Scalar.ofBits .bf16 0#16
/-- and of the residual. -/
def zX : Vec F S1x512x1024 .f32 := fun _ => Scalar.ofBits .f32 0#32

/-- The pipeline's data: the inputs keep their blocks and the outputs hold the blocks stored. -/
def dats (_ : Fin 1) (c : Dev nD) : Dat τ (Elt F) Unit ℕ (UR sig nD τ) ℕ cfg0 c where
  A w := V m c (Pipeline.arrRef spec0 w)
  after w t := match w with
    | ⟨0, _⟩ => oIn m c t zO
    | ⟨1, _⟩ => iblk m c 1 t
    | ⟨2, _⟩ => xIn m c t zX
    | ⟨3, _⟩ => iblk m c 3 t
    | ⟨4, _⟩ => iblk m c 4 t
    | ⟨5, _⟩ => iblk m c 5 t
    | ⟨6, _⟩ => iblk m c 6 t
    | ⟨7, _⟩ => outX m c t zO zX
    | ⟨8, _⟩ => outF m c t zO zX
    | ⟨9, _⟩ => outL m c t zO zX
  Φ _ := Pipeline.ΦA spec0 c
  q _ := fullShare
  owed _ := 0

/-- The arrays are as the pipeline finds them. -/
theorem A_eq (c : Dev nD) (w : Fin cfg0.W) : (dats m 0 c).A w = V m c (Pipeline.arrRef spec0 w) := by
  dsimp only [dats]

/-- Window 1's block stays in its buffer. -/
theorem after1 (c : Dev nD) (t : Fin cfg0.N) : (dats m 0 c).after 1 t = iblk m c 1 t := by dsimp only [dats]
/-- Window 3's block stays in its buffer. -/
theorem after3 (c : Dev nD) (t : Fin cfg0.N) : (dats m 0 c).after 3 t = iblk m c 3 t := by dsimp only [dats]
/-- Window 4's block stays in its buffer. -/
theorem after4 (c : Dev nD) (t : Fin cfg0.N) : (dats m 0 c).after 4 t = iblk m c 4 t := by dsimp only [dats]
/-- Window 5's block stays in its buffer. -/
theorem after5 (c : Dev nD) (t : Fin cfg0.N) : (dats m 0 c).after 5 t = iblk m c 5 t := by dsimp only [dats]
/-- Window 6's block stays in its buffer. -/
theorem after6 (c : Dev nD) (t : Fin cfg0.N) : (dats m 0 c).after 6 t = iblk m c 6 t := by dsimp only [dats]

/-- Window 0's buffer holds the block just fetched. -/
theorem before0 (c : Dev nD) (t : Fin cfg0.N) (d) : (dats m 0 c).before 0 t d = oIn m c t d := by
  unfold Dat.before
  rw [if_pos (fetch0_0 t)]
  rfl
/-- Window 1's buffer holds its block at every point. -/
theorem before1 (c : Dev nD) (t : Fin cfg0.N) (d) : (dats m 0 c).before 1 t d = iblk m c 1 t :=
  before0_1_of m (dats m 0 c) (A_eq m c 1) (after1 m c) t d
/-- Window 2's buffer holds the block just fetched. -/
theorem before2 (c : Dev nD) (t : Fin cfg0.N) (d) : (dats m 0 c).before 2 t d = xIn m c t d := by
  unfold Dat.before
  rw [if_pos (fetch0_2 t)]
  rfl
/-- Window 3's buffer holds its block at every point. -/
theorem before3 (c : Dev nD) (t : Fin cfg0.N) (d) : (dats m 0 c).before 3 t d = iblk m c 3 t :=
  before0_3_of m (dats m 0 c) (A_eq m c 3) (after3 m c) t d
/-- Window 4's buffer holds its block at every point. -/
theorem before4 (c : Dev nD) (t : Fin cfg0.N) (d) : (dats m 0 c).before 4 t d = iblk m c 4 t :=
  before0_4_of m (dats m 0 c) (A_eq m c 4) (after4 m c) t d
/-- Window 5's buffer holds its block at every point. -/
theorem before5 (c : Dev nD) (t : Fin cfg0.N) (d) : (dats m 0 c).before 5 t d = iblk m c 5 t :=
  before0_5_of m (dats m 0 c) (A_eq m c 5) (after5 m c) t d
/-- Window 6's buffer holds its block at every point. -/
theorem before6 (c : Dev nD) (t : Fin cfg0.N) (d) : (dats m 0 c).before 6 t d = iblk m c 6 t :=
  before0_6_of m (dats m 0 c) (A_eq m c 6) (after6 m c) t d

/-- Of window 0's buffer only the block is kept. -/
theorem cut0 (c : Dev nD) (t : Fin cfg0.N) : (cfg0.win 0).cut (cfg0.grid.coords t) ((dats m 0 c).after 0 t) = iblk m c 0 t :=
  win0_0.cut_fill _ _ _
/-- Of window 2's buffer only the block is kept. -/
theorem cut2 (c : Dev nD) (t : Fin cfg0.N) : (cfg0.win 2).cut (cfg0.grid.coords t) ((dats m 0 c).after 2 t) = iblk m c 2 t :=
  win0_2.cut_fill _ _ _
/-- Of window 7's the rows inside are kept, -/
theorem cut7 (c : Dev nD) (t : Fin cfg0.N) {X} (h : win0_7.cut (grid0.coords t) X = win0_7.cut (grid0.coords t) (outX m c t zO zX)) :
    (cfg0.win 7).cut (cfg0.grid.coords t) ((dats m 0 c).after 7 t) = win0_7.cut (grid0.coords t) X := h.symm
/-- put back where they were. -/
theorem fill7 (t : Fin cfg0.N) (X : Vec F S1x512x1024 .f32) : (cfg0.win 7).fill (cfg0.grid.coords t) X (win0_7.cut (grid0.coords t) X) = X :=
  win0_7.fill_cut _ _
/-- Of window 8's the rows inside are kept, -/
theorem cut8 (c : Dev nD) (t : Fin cfg0.N) {X} (h : win0_8.cut (grid0.coords t) X = win0_8.cut (grid0.coords t) (outF m c t zO zX)) :
    (cfg0.win 8).cut (cfg0.grid.coords t) ((dats m 0 c).after 8 t) = win0_8.cut (grid0.coords t) X := h.symm
/-- put back where they were. -/
theorem fill8 (t : Fin cfg0.N) (X : Vec F S1x512x1024 .f32) : (cfg0.win 8).fill (cfg0.grid.coords t) X (win0_8.cut (grid0.coords t) X) = X :=
  win0_8.fill_cut _ _
/-- Of window 9's the rows inside are kept, -/
theorem cut9 (c : Dev nD) (t : Fin cfg0.N) {X} (h : win0_9.cut (grid0.coords t) X = win0_9.cut (grid0.coords t) (outL m c t zO zX)) :
    (cfg0.win 9).cut (cfg0.grid.coords t) ((dats m 0 c).after 9 t) = win0_9.cut (grid0.coords t) X := h.symm
/-- put back where they were. -/
theorem fill9 (t : Fin cfg0.N) (X : Vec F S1x8x512 .f32) : (cfg0.win 9).fill (cfg0.grid.coords t) X (win0_9.cut (grid0.coords t) X) = X :=
  win0_9.fill_cut _ _

/-- The body at a point: the inputs stay and the outputs' buffers end at the blocks stored. -/
theorem body_at (c : Dev nD) (t : Fin cfg0.N) (d0 : Vec F S1x512x1024 .bf16) (d2 : Vec F S1x512x1024 .f32) (K : PUnit → sProp 𝕄) :
    iprop(owns (c : Thread nD τ) (st0_0 t) fullShare (oIn m c t d0) ∗ owns (c : Thread nD τ) (st0_1 t) fullShare (iblk m c 1 t) ∗ owns (c : Thread nD τ) (st0_2 t) fullShare (xIn m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ (∃ x, owns (c : Thread nD τ) (st0_7 t) fullShare x) ∗ (∃ x, owns (c : Thread nD τ) (st0_8 t) fullShare x) ∗ (∃ x, owns (c : Thread nD τ) (st0_9 t) fullShare x)
        ∗ (iprop(owns (c : Thread nD τ) (st0_0 t) fullShare (oIn m c t d0) ∗ owns (c : Thread nD τ) (st0_1 t) fullShare (iblk m c 1 t) ∗ owns (c : Thread nD τ) (st0_2 t) fullShare (xIn m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (outX m c t d0 d2) ∗ owns (c : Thread nD τ) (st0_8 t) fullShare (outF m c t d0 d2) ∗ owns (c : Thread nD τ) (st0_9 t) fullShare (outL m c t d0 d2)) -∗ K ⟨⟩))
      ⊢ wp frame (wpE (defs₀ (F := F)) Variants.none c none) Set.univ (bodyAt0 t) K := by
  unfold bodyAt0
  iintro ⟨H0, H1, H2, H3, H4, H5, H6, H7, H8, H9, Hk⟩
  iapply ((run c (grid0.coords t) _ _ _ _ _ _ _ _ _ _ _ _ _ _ _ _ _ _ _ _ (oIn m c t d0) (iblk m c 1 t) (xIn m c t d2) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, ⟨%f, H7⟩, ⟨%g, H8⟩, ⟨%h, H9⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    rw [View.read_writes_eq_canon _ _ _ (run_coverX c _ _ _ _ _ _ _ _ _ _ _ _ _ _ _ _ _ _ _ _ _ _ _ _ _ _ _ _), run_valX]
    rfl
  isplitl [H8]
  · unfold owns; iexists _; isplitr
    swap; · iexact H8
    ipureintro
    rw [View.read_writes_eq_canon _ _ _ (run_coverF c _ _ _ _ _ _ _ _ _ _ _ _ _ _ _ _ _ _ _ _ _ _ _ _ _ _ _ _), run_valF]
    rfl
  unfold owns; iexists _; isplitr
  swap; · iexact H9
  ipureintro
  rw [View.read_writes_eq_canon _ _ _ (run_coverL c _ _ _ _ _ _ _ _ _ _ _ _ _ _ _ _ _ _ _ _ _ _ _ _ _ _ _ _), run_valL]
  rfl

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The windows whose contents the frame says nothing of: the outputs'. -/
def fgt : Fin cfg0.W → Bool := fun w => 7 ≤ w.val
/-- Of window 0 all is said. -/
theorem fgt0 : fgt 0 = false := rfl
/-- Of window 1 all is said. -/
theorem fgt1 : fgt 1 = false := rfl
/-- Of window 2 all is said. -/
theorem fgt2 : fgt 2 = false := rfl
/-- Of window 3 all is said. -/
theorem fgt3 : fgt 3 = false := rfl
/-- Of window 4 all is said. -/
theorem fgt4 : fgt 4 = false := rfl
/-- Of window 5 all is said. -/
theorem fgt5 : fgt 5 = false := rfl
/-- Of window 6 all is said. -/
theorem fgt6 : fgt 6 = false := rfl
/-- Of window 7 nothing is said. -/
theorem fgt7 : fgt 7 = true := rfl
/-- Of window 8 nothing is said. -/
theorem fgt8 : fgt 8 = true := rfl
/-- Of window 9 nothing is said. -/
theorem fgt9 : fgt 9 = true := rfl

/-- The body at a point, the inputs handed back as found; `P`, `P'` and `P''` are what is asked of the outputs' buffers and
    `Q`, `Q'` and `Q''` what is said of them after. -/
theorem body_kept (c : Dev nD) (t : Fin cfg0.N) (P P' P'' Q Q' Q'' : sProp 𝕄) (hP : P ⊢ iprop(∃ x, owns (c : Thread nD τ) (st0_7 t) fullShare x)) (hP' : P' ⊢ iprop(∃ x, owns (c : Thread nD τ) (st0_8 t) fullShare x)) (hP'' : P'' ⊢ iprop(∃ x, owns (c : Thread nD τ) (st0_9 t) fullShare x))
    (hQ : ∀ d0 d2, owns (c : Thread nD τ) (st0_7 t) fullShare (outX m c t d0 d2) ⊢ Q) (hQ' : ∀ d0 d2, owns (c : Thread nD τ) (st0_8 t) fullShare (outF m c t d0 d2) ⊢ Q') (hQ'' : ∀ d0 d2, owns (c : Thread nD τ) (st0_9 t) fullShare (outL m c t d0 d2) ⊢ Q'') :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ P ∗ P' ∗ P'')
      ⊢ wp frame (wpE (defs₀ (F := F)) Variants.none c none) Set.univ (bodyAt0 t) (fun _ => iprop((dats m 0 c).Φ t.castSucc ∗ (dats m 0 c).owesAt () t.castSucc
        ∗ (∃ d, owns (c : Thread nD τ) (st0_0 t) fullShare ((cfg0.win 0).fill (cfg0.grid.coords t) d ((cfg0.win 0).cut (cfg0.grid.coords t) ((dats m 0 c).after 0 t)))) ∗ owns (c : Thread nD τ) (st0_1 t) fullShare ((dats m 0 c).after 1 t) ∗ (∃ d, owns (c : Thread nD τ) (st0_2 t) fullShare ((cfg0.win 2).fill (cfg0.grid.coords t) d ((cfg0.win 2).cut (cfg0.grid.coords t) ((dats m 0 c).after 2 t)))) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ Q ∗ Q' ∗ Q'')) := by
  iintro ⟨HΦ, Ho, ⟨%d0, H0⟩, ⟨%d1, H1⟩, ⟨%d2, H2⟩, ⟨%d3, H3⟩, ⟨%d4, H4⟩, ⟨%d5, H5⟩, ⟨%d6, H6⟩, H7, H8, H9⟩
  rw [before0 m c t d0, before1 m c t d1, before2 m c t d2, before3 m c t d3, before4 m c t d4, before5 m c t d5, before6 m c t d6]
  iapply (body_at m c t d0 d2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply hP; iexact H7
  isplitl [H8]; · iapply hP'; iexact H8
  isplitl [H9]; · iapply hP''; iexact H9
  iintro ⟨H0, H1, H2, H3, H4, H5, H6, H7, H8, H9⟩
  isplitl [HΦ]; · iexact HΦ
  isplitl [Ho]; · iexact Ho
  isplitl [H0]
  · iexists d0
    rw [cut0]
    iexact H0
  isplitl [H1]; · rw [after1]; iexact H1
  isplitl [H2]
  · iexists d2
    rw [cut2]
    iexact H2
  isplitl [H3]; · rw [after3]; iexact H3
  isplitl [H4]; · rw [after4]; iexact H4
  isplitl [H5]; · rw [after5]; iexact H5
  isplitl [H6]; · rw [after6]; iexact H6
  isplitl [H7]
  · iapply (hQ d0 d2)
    iexact H7
  isplitl [H8]
  · iapply (hQ' d0 d2)
    iexact H8
  iapply (hQ'' d0 d2)
  iexact H9

/-- Every point's body, nothing said of the outputs. -/
theorem body_forget (c : Dev nD) : BodyObligationLoose (dats (F := F) m 0 c) (defs₀ (F := F)) Variants.none () Set.univ fgt := fun t => by
  rw [bigSep_W0, bigSep_W0, defs₀_row]
  simp only [fgt0, fgt1, fgt2, fgt3, fgt4, fgt5, fgt6, fgt7, fgt8, fgt9]
  refine body_kept m c t _ _ _ _ _ _ (by iintro H; iexact H) (by iintro H; iexact H) (by iintro H; iexact H) (fun d0 d2 => ?_) (fun d0 d2 => ?_) fun d0 d2 => ?_
  · iintro H
    iexists _; iexact H
  · iintro H
    iexists _; iexact H
  · iintro H
    iexists _; iexact H

/-- Every point's body, the rows inside the arrays of what it stores being the same whatever lies past the arrays' end. -/
theorem body_rows (c : Dev nD) (h7 : ∀ t d0 d2, win0_7.cut (grid0.coords t) (outX m c t d0 d2) = win0_7.cut (grid0.coords t) (outX m c t zO zX))
    (h8 : ∀ t d0 d2, win0_8.cut (grid0.coords t) (outF m c t d0 d2) = win0_8.cut (grid0.coords t) (outF m c t zO zX))
    (h9 : ∀ t d0 d2, win0_9.cut (grid0.coords t) (outL m c t d0 d2) = win0_9.cut (grid0.coords t) (outL m c t zO zX)) :
    BodyObligationLoose (dats (F := F) m 0 c) (defs₀ (F := F)) Variants.none () Set.univ := fun t => by
  rw [bigSep_W0, bigSep_W0, defs₀_row]
  simp only
  refine body_kept m c t _ _ _ _ _ _ ?_ ?_ ?_ (fun d0 d2 => ?_) (fun d0 d2 => ?_) fun d0 d2 => ?_
  · iintro ⟨%x, H⟩
    iexists _; iexact H
  · iintro ⟨%x, H⟩
    iexists _; iexact H
  · iintro ⟨%x, H⟩
    iexists _; iexact H
  · iintro H
    iexists (outX m c t d0 d2)
    rw [cut7 m c t (h7 t d0 d2), fill7]
    iexact H
  · iintro H
    iexists (outF m c t d0 d2)
    rw [cut8 m c t (h8 t d0 d2), fill8]
    iexact H
  · iintro H
    iexists (outL m c t d0 d2)
    rw [cut9 m c t (h9 t d0 d2), fill9]
    iexact H

-- `θ_run_frame_forget`'s implicit arguments are found by unifying its conclusion with this one, which takes unfolding
-- plain definitions in a metavariable's type
set_option backward.isDefEq.respectTransparency.types false in
/-- The run, nothing said of the outputs. -/
theorem run_forget : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_forget m c) (hshare := fun c => (dats m 0 c).share_full fun _ => rfl)
    (howed := fun _ _ => rfl) (V := V m) (hmain := hmain m Variants.none) (hA := A_eq m) (hΦ := fun _ _ => rfl)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 6 rfl).trans ((A_eq m c 6).trans (V_main_arg6 m c))⟩, h.2⟩) (run_forget m ρ)

set_option backward.isDefEq.respectTransparency.types false in
/-- The run with the outputs' contents, where the rows inside do not depend on what lies past the arrays' end. -/
theorem run_main (h7 : ∀ c t d0 d2, win0_7.cut (grid0.coords t) (outX m c t d0 d2) = win0_7.cut (grid0.coords t) (outX m c t zO zX))
    (h8 : ∀ c t d0 d2, win0_8.cut (grid0.coords t) (outF m c t d0 d2) = win0_8.cut (grid0.coords t) (outF m c t zO zX))
    (h9 : ∀ c t d0 d2, win0_9.cut (grid0.coords t) (outL m c t d0 d2) = win0_9.cut (grid0.coords t) (outL m c t zO zX)) :
    θ_run defs (onTc (τ := τ) (main (F := F))) (s₀ m ρ) (Pipeline.FramePost cfgs (dats m) 0 (V m)) :=
  Pipeline.θ_run_frame (Q' := _) cfgs (dats m) (0 : Fin 1) launch0 defs₀ Variants.none m ρ main
    (hbody := fun c => body_rows m c (h7 c) (h8 c) (h9 c)) (hshare := fun c => (dats m 0 c).share_full fun _ => rfl)
    (howed := fun _ _ => rfl) (V := V m) (hmain := hmain m Variants.none) (hA := A_eq m) (hΦ := fun _ _ => rfl)

end Cert.ProjIdeal.Rows

end
-- ==== Proof.Proj.Row.lean ====
/-
  The three stored blocks read at an index: each entry depends on one row of the row blocks. The logits of a row are taken of
  two halves of each value, and where the values are reals the second half is zero.
-/
module

public import proofs.«01_k».proof.Proof.Proj.Block
public import proofs.«01_k».proof.Proof.Blend.Row
public import Idealize.ShloMosaic.Lib.ValueIdx
public import Idealize.ShloMosaic.Lib.Pointwise
public import Idealize.ShloMosaic.Lib.Tactic

@[expose] public section

set_option maxRecDepth 16384

noncomputable section

namespace Cert.ProjIdeal.Rows

open Cert.ProjIdeal Cert.ProjIdeal.Gen Idealize.ShloMosaic Idealize.ShloMosaic.TcCoe Idealize.SL.Sem
open Cert.MixIdeal.Rows (normRow newRow nextRow)

/-- A row through a matrix. -/
def proj (o : Fin 1024 → EReal) (w : Fin 1024 → Fin 1024 → EReal) (k : Fin 1024) : EReal := ∑ e : Fin 1024, o e * w e k

/-- A logit of a row, its values and the router's cut in two. -/
def cutLogit (f r : Fin 1024 → EReal) : EReal := (∑ e : Fin 1024, f e * r e) + ((∑ e : Fin 1024, f e * (r e - r e)) + ∑ e : Fin 1024, (f e - f e) * r e)

/-- The rows before their norm, at an index. -/
theorem total_apply (x0 : Vec Ideal S1x512x1024 .bf16) (x1 : Vec Ideal S1024x1024 .bf16) (r : Fin 512) (k : Fin 1024) :
    total x0 x1 (ix2 r k) = proj (fun d => x0 (ix3 0 r d)) (fun d e => x1 (ix2 d e)) k := by
  unfold total proj
  pointwise

/-- The norm, at an index. -/
theorem normed_apply (y : FVec Ideal S512x1024 .f32) (g : Vec Ideal S1x1024 .f32) (r : Fin 512) (k : Fin 1024) :
    normed y g (ix2 r k) = normRow (fun e => y (ix2 r e)) (fun e => g (ix2 0 e)) k := by
  unfold normed normRow
  pointwise

/-- The residual's sum, at an index. -/
theorem residual_apply (x : Vec Ideal S1x512x1024 .f32) (mo : Vec Ideal S1x6x1024 .f32) (y : FVec Ideal S512x1024 .f32) (r : Fin 512) (k : Fin 1024) :
    residual x mo y (ix2 r k) = x (ix3 0 r k) + mo (ix3 0 2 k) * y (ix2 r k) := by
  unfold residual
  pointwise

/-- The modulated norm, at an index. -/
theorem modulated_apply (mo : Vec Ideal S1x6x1024 .f32) (y : FVec Ideal S512x1024 .f32) (r : Fin 512) (k : Fin 1024) :
    modulated mo y (ix2 r k) = y (ix2 r k) * (Ideal.ofBits .f32 0x3F800000#32 + mo (ix3 0 4 k)) + mo (ix3 0 3 k) := by
  unfold modulated
  pointwise

/-- The residual's block with its leading axis. -/
theorem blockedX_apply (y : FVec Ideal S512x1024 .f32) (r : Fin 512) (k : Fin 1024) :
    (shapeCast S1x512x1024 y shapeCasts_S512x1024_S1x512x1024 : FVec Ideal S1x512x1024 .f32) (ix3 0 r k) = y (ix2 r k) := by
  pointwise

/-- The new residual's rows, at an index. -/
theorem newRes_apply (x0 : Vec Ideal S1x512x1024 .bf16) (x1 : Vec Ideal S1024x1024 .bf16) (x2 : Vec Ideal S1x512x1024 .f32) (x3 : Vec Ideal S1x6x1024 .f32) (x4 : Vec Ideal S1x1024 .f32) (r : Fin 512) (k : Fin 1024) :
    newRes x0 x1 x2 x3 x4 (ix2 r k) = newRow (proj (fun d => x0 (ix3 0 r d)) (fun d e => x1 (ix2 d e))) (fun e => x2 (ix3 0 r e)) (fun e => x3 (ix3 0 2 e)) (fun e => x4 (ix2 0 e)) k := by
  unfold newRes newRow
  rw [residual_apply, normed_apply]
  simp only [total_apply]

/-- The next input's rows, at an index. -/
theorem nextIn_apply (x0 : Vec Ideal S1x512x1024 .bf16) (x1 : Vec Ideal S1024x1024 .bf16) (x2 : Vec Ideal S1x512x1024 .f32) (x3 : Vec Ideal S1x6x1024 .f32) (x4 : Vec Ideal S1x1024 .f32) (x5 : Vec Ideal S1x1024 .f32) (r : Fin 512) (k : Fin 1024) :
    nextIn x0 x1 x2 x3 x4 x5 (ix2 r k) = nextRow (newRow (proj (fun d => x0 (ix3 0 r d)) (fun d e => x1 (ix2 d e))) (fun e => x2 (ix3 0 r e)) (fun e => x3 (ix3 0 2 e)) (fun e => x4 (ix2 0 e))) (fun e => x3 (ix3 0 4 e)) (fun e => x3 (ix3 0 3 e)) (fun e => x5 (ix2 0 e)) k := by
  unfold nextIn nextRow
  rw [modulated_apply, normed_apply]
  simp only [newRes_apply]

/-- A product of rows against a matrix's rows, at an index. -/
theorem against_apply (f : FVec Ideal S512x1024 .bf16) (q : FVec Ideal S128x1024 .bf16) (r : Fin 512) (e : Fin 128) :
    against f q (ix2 r e) = ∑ d : Fin 1024, f (ix2 r d) * q (ix2 e d) := by
  unfold against
  pointwise

/-- The first rows of the router's matrix, -/
theorem both_first (h l : FVec Ideal S8x1024 .bf16) (e : Fin 8) (d : Fin 1024) : both h l (ix2 ⟨e.val, by omega⟩ d) = h (ix2 e d) := by
  unfold both
  pointwise
/-- the rows below them, -/
theorem both_second (h l : FVec Ideal S8x1024 .bf16) (e : Fin 8) (d : Fin 1024) : both h l (ix2 ⟨8 + e.val, by omega⟩ d) = l (ix2 e d) := by
  unfold both
  pointwise
/-- and the first rows where the rounded ones are alone. -/
theorem alone_first (h : FVec Ideal S8x1024 .bf16) (e : Fin 8) (d : Fin 1024) : alone h (ix2 ⟨e.val, by omega⟩ d) = h (ix2 e d) := by
  unfold alone
  pointwise

/-- A value's rest, -/
theorem restF_apply (f : FVec Ideal S512x1024 .f32) (r : Fin 512) (d : Fin 1024) : restF f (ix2 r d) = f (ix2 r d) - f (ix2 r d) := by
  unfold restF
  pointwise
/-- a router's value's, -/
theorem restR_apply (q : Vec Ideal S8x1024 .f32) (e : Fin 8) (d : Fin 1024) : restR q (ix2 e d) = q (ix2 e d) - q (ix2 e d) := by
  unfold restR
  pointwise
/-- and the rounded values. -/
theorem roundF_apply (f : FVec Ideal S512x1024 .f32) (i : S512x1024.Idx) : (truncf .bf16 f bitsLt_bf16_f32 : FVec Ideal S512x1024 .bf16) i = f i := rfl
/-- The router's rounded values. -/
theorem roundR_apply (q : Vec Ideal S8x1024 .f32) (i : S8x1024.Idx) : (truncf .bf16 q bitsLt_bf16_f32 : FVec Ideal S8x1024 .bf16) i = q i := rfl

/-- A lane moved by 120 of 128 lanes comes from eight lanes on. -/
theorem moved_apply (a : FVec Ideal S512x128 .f32) (r : Fin 512) (e : Fin 8) :
    dynamicRotate 1 120#32 none a rotates_S512x128_d1 (ix2 r ⟨e.val, by omega⟩) = a (ix2 r ⟨8 + e.val, by omega⟩) := by
  refine congrArg a (funext fun k => ?_)
  match k with
  | ⟨0, _⟩ => rfl
  | ⟨1, _⟩ => exact Fin.ext (by show (e.val + 128 - (120 + 0) % 128) % 128 = 8 + e.val; omega)

/-- The sum of the two products, at a lane. -/
theorem joined_apply (a b : FVec Ideal S512x128 .f32) (r : Fin 512) (e : Fin 8) :
    joined a b (ix2 r ⟨e.val, by omega⟩) = a (ix2 r ⟨e.val, by omega⟩) + (a (ix2 r ⟨8 + e.val, by omega⟩) + b (ix2 r ⟨e.val, by omega⟩)) := by
  rw [← moved_apply a r e]
  rfl

/-- The first lanes as rows, at an index. -/
theorem firstLanes_apply (l : FVec Ideal S512x128 .f32) (e : Fin 8) (r : Fin 512) : firstLanes l (ix3 0 e r) = l (ix2 r ⟨e.val, by omega⟩) := by
  unfold firstLanes
  pointwise

/-- The block stored of the residual, at an index, -/
theorem blockX_apply (x0 : Vec Ideal S1x512x1024 .bf16) (x1 : Vec Ideal S1024x1024 .bf16) (x2 : Vec Ideal S1x512x1024 .f32) (x3 : Vec Ideal S1x6x1024 .f32) (x4 : Vec Ideal S1x1024 .f32) (r : Fin 512) (k : Fin 1024) :
    blockX x0 x1 x2 x3 x4 (ix3 0 r k) = newRow (proj (fun d => x0 (ix3 0 r d)) (fun d e => x1 (ix2 d e))) (fun e => x2 (ix3 0 r e)) (fun e => x3 (ix3 0 2 e)) (fun e => x4 (ix2 0 e)) k := by
  unfold blockX
  rw [blockedX_apply, newRes_apply]

/-- the one stored of the next input, -/
theorem blockF_apply (x0 : Vec Ideal S1x512x1024 .bf16) (x1 : Vec Ideal S1024x1024 .bf16) (x2 : Vec Ideal S1x512x1024 .f32) (x3 : Vec Ideal S1x6x1024 .f32) (x4 : Vec Ideal S1x1024 .f32) (x5 : Vec Ideal S1x1024 .f32) (r : Fin 512) (k : Fin 1024) :
    blockF x0 x1 x2 x3 x4 x5 (ix3 0 r k) = nextRow (newRow (proj (fun d => x0 (ix3 0 r d)) (fun d e => x1 (ix2 d e))) (fun e => x2 (ix3 0 r e)) (fun e => x3 (ix3 0 2 e)) (fun e => x4 (ix2 0 e))) (fun e => x3 (ix3 0 4 e)) (fun e => x3 (ix3 0 3 e)) (fun e => x5 (ix2 0 e)) k := by
  unfold blockF
  rw [blockedX_apply, nextIn_apply]

/-- and the one stored of the logits. -/
theorem blockL_apply (x0 : Vec Ideal S1x512x1024 .bf16) (x1 : Vec Ideal S1024x1024 .bf16) (x2 : Vec Ideal S1x512x1024 .f32) (x3 : Vec Ideal S1x6x1024 .f32) (x4 : Vec Ideal S1x1024 .f32) (x5 : Vec Ideal S1x1024 .f32) (x6 : Vec Ideal S8x1024 .f32) (e : Fin 8) (r : Fin 512) :
    blockL x0 x1 x2 x3 x4 x5 x6 (ix3 0 e r) = cutLogit (nextRow (newRow (proj (fun d => x0 (ix3 0 r d)) (fun d e => x1 (ix2 d e))) (fun e => x2 (ix3 0 r e)) (fun e => x3 (ix3 0 2 e)) (fun e => x4 (ix2 0 e))) (fun e => x3 (ix3 0 4 e)) (fun e => x3 (ix3 0 3 e)) (fun e => x5 (ix2 0 e))) (fun d => x6 (ix2 e d)) := by
  unfold blockL cutLogit
  rw [firstLanes_apply, joined_apply, against_apply, against_apply, against_apply]
  simp only [both_first, both_second, alone_first, restF_apply, restR_apply, roundF_apply, roundR_apply, nextIn_apply]

end Cert.ProjIdeal.Rows

end
-- ==== Proof.Proj.Ref.lean ====
/-
  The output projection's reference, read at an index.
-/
module

public import proofs.«01_k».proof.Proof.Proj.Row
public import proofs.«01_k».proof.Proof.Gen.ProjRefIdeal

@[expose] public section

set_option maxRecDepth 16384

noncomputable section

namespace Cert.ProjRefIdeal.Value

open Cert.ProjRefIdeal Cert.ProjRefIdeal.Gen Idealize.ShloMosaic Idealize.ShloMosaic.TcCoe Idealize.SL.Sem
open Cert.MixIdeal.Rows (normRow newRow nextRow)
open Cert.ProjIdeal.Rows (proj)

/-- The rows before their norm. -/
def refTotal (o : Vec Ideal S2x8448x1024 .bf16) (w : Vec Ideal S1024x1024 .bf16) : FVec Ideal S2x8448x1024 .f32 :=
  Host.dotGeneral dot_S2x8448x1024_S1024x1024_S2x8448x1024_2_0_01_1_n_n none (extf .f32 o bitsLt_bf16_f32) (extf .f32 w bitsLt_bf16_f32)

/-- The rows' norm. -/
def refNorm (y : FVec Ideal S2x8448x1024 .f32) (g : Vec Ideal S1024 .f32) : FVec Ideal S2x8448x1024 .f32 :=
  mulf (mulf y (broadcastInDim S2x8448x1024 ![0, 1, 2] bcast_S2x8448x1_S2x8448x1024_0_1_2 (Host.rsqrt (addf (Host.divf (broadcastInDim S2x8448x1 ![0, 1] bcast_S2x8448_S2x8448x1_0_1
      (Host.reduceAdd (mulf y y) (constant S_ .f32 0x00000000#32) reducesTo_S2x8448x1024_S2x8448_d2 h_S_)) (broadcastInDim S2x8448x1 ![] bcast_S_S2x8448x1 (constant S_ .f32 0x44800000#32)))
      (broadcastInDim S2x8448x1 ![] bcast_S_S2x8448x1 (constant S_ .f32 0x358637BD#32))))))
    (broadcastInDim S2x8448x1024 ![0, 1, 2] bcast_S1x1x1024_S2x8448x1024_0_1_2 (broadcastInDim S1x1x1024 ![2] bcast_S1024_S1x1x1024_2 g))

/-- The image rows' gate, shift and scale, -/
def refLat (mo : Vec Ideal S8x6x1024 .f32) : FVec Ideal S2x3x8192x1024 .f32 :=
  broadcastInDim S2x3x8192x1024 ![0, 1, 2, 3] bcast_S2x3x1x1024_S2x3x8192x1024_0_1_2_3 (broadcastInDim S2x3x1x1024 ![0, 1, 3] bcast_S2x3x1024_S2x3x1x1024_0_1_3 (extractStridedSlice S2x3x1024 ![0, 2, 0] mo slices_S8x6x1024_S2x3x1024_0_2_0))
/-- the context rows', -/
def refCtx (mo : Vec Ideal S8x6x1024 .f32) : FVec Ideal S2x3x256x1024 .f32 :=
  broadcastInDim S2x3x256x1024 ![1, 2, 3] bcast_S3x1x1024_S2x3x256x1024_1_2_3 (broadcastInDim S3x1x1024 ![0, 2] bcast_S3x1024_S3x1x1024_0_2 (shapeCast S3x1024 (extractStridedSlice S1x3x1024 ![2, 2, 0] mo slices_S8x6x1024_S1x3x1024_2_2_0) shapeCasts_S1x3x1024_S3x1024))
/-- the ones after the others, -/
def refMod (mo : Vec Ideal S8x6x1024 .f32) : FVec Ideal S2x3x8448x1024 .f32 :=
  concatenate S2x3x8448x1024 2 [⟨S2x3x8192x1024, refLat mo⟩, ⟨S2x3x256x1024, refCtx mo⟩] concatenates_S2x3x8192x1024_S2x3x256x1024_S2x3x8448x1024_d2
/-- and one of the three. -/
def refPick (mo : FVec Ideal S2x3x8448x1024 .f32) (off : Fin 4 → ℕ) (hs : S2x3x8448x1024.Slices off S2x1x8448x1024) : FVec Ideal S2x8448x1024 .f32 :=
  shapeCast S2x8448x1024 (extractStridedSlice S2x1x8448x1024 off mo hs) shapeCasts_S2x1x8448x1024_S2x8448x1024

/-- The new residual, -/
def refRes (y : FVec Ideal S2x8448x1024 .f32) (x : Vec Ideal S2x8448x1024 .f32) (mo : Vec Ideal S8x6x1024 .f32) (gp : Vec Ideal S1024 .f32) : FVec Ideal S2x8448x1024 .f32 :=
  addf x (mulf (refPick (refMod mo) ![0, 0, 0, 0] slices_S2x3x8448x1024_S2x1x8448x1024_0_0_0_0) (refNorm y gp))
/-- the next input -/
def refNext (x1 : FVec Ideal S2x8448x1024 .f32) (mo : Vec Ideal S8x6x1024 .f32) (gn : Vec Ideal S1024 .f32) : FVec Ideal S2x8448x1024 .f32 :=
  addf (mulf (refNorm x1 gn) (addf (broadcastInDim S2x8448x1024 ![] bcast_S_S2x8448x1024 (constant S_ .f32 0x3F800000#32)) (refPick (refMod mo) ![0, 2, 0, 0] slices_S2x3x8448x1024_S2x1x8448x1024_0_2_0_0)))
    (refPick (refMod mo) ![0, 1, 0, 0] slices_S2x3x8448x1024_S2x1x8448x1024_0_1_0_0)
/-- and its logits. -/
def refLogits (f : FVec Ideal S2x8448x1024 .f32) (r : FVec Ideal S8x1024 .f32) : FVec Ideal S2x8x8448 .f32 :=
  transpose S2x8x8448 [1, 0, 2] (Host.dotGeneral dot_S8x1024_S2x8448x1024_S8x2x8448_1_2_0_01_n_n none r f) transposes_S8x2x8448_S2x8x8448_1_0_2

/-- A row before its norm. -/
theorem refTotal_apply (o : Vec Ideal S2x8448x1024 .bf16) (w : Vec Ideal S1024x1024 .bf16) (b : Fin 2) (R : Fin 8448) (k : Fin 1024) :
    refTotal o w (ix3 b R k) = proj (fun d => o (ix3 b R d)) (fun d e => w (ix2 d e)) k := by
  unfold refTotal proj
  pointwise

/-- The norm, at an index. -/
theorem refNorm_apply (y : FVec Ideal S2x8448x1024 .f32) (g : Vec Ideal S1024 .f32) (b : Fin 2) (R : Fin 8448) (k : Fin 1024) :
    refNorm y g (ix3 b R k) = normRow (fun e => y (ix3 b R e)) (fun e => g (ix1 e)) k := by
  unfold refNorm normRow
  pointwise

/-- An image row's three vectors, at an index, -/
theorem refLat_apply (mo : Vec Ideal S8x6x1024 .f32) (b : Fin 2) (n : Fin 3) (R : Fin 8192) (k : Fin 1024) : refLat mo (ix4 b n R k) = mo (ix3 ⟨b.val, by omega⟩ ⟨2 + n.val, by omega⟩ k) := by
  unfold refLat
  pointwise

/-- and a context row's. -/
theorem refCtx_apply (mo : Vec Ideal S8x6x1024 .f32) (b : Fin 2) (n : Fin 3) (R : Fin 256) (k : Fin 1024) : refCtx mo (ix4 b n R k) = mo (ix3 2 ⟨2 + n.val, by omega⟩ k) := by
  unfold refCtx
  pointwise

/-- A row's three vectors, at an index. -/
theorem refMod_apply (mo : Vec Ideal S8x6x1024 .f32) (b : Fin 2) (n : Fin 3) (R : Fin 8448) (k : Fin 1024) (e : Fin 8) (he : e.val = if R.val < 8192 then b.val else 2) (f : Fin 6) (hf : 2 + n.val = f.val) :
    refMod mo (ix4 b n R k) = mo (ix3 e f k) := by
  obtain ⟨f, hl6⟩ := f
  obtain rfl : 2 + n.val = f := hf
  have hl := refLat_apply mo b n
  have hc := refCtx_apply mo b n
  unfold refMod
  generalize refLat mo = L at hl ⊢
  generalize refCtx mo = C at hc ⊢
  pointwise
  by_cases h : R.val < 8192
  · rw [if_pos h] at he
    simp only [h, dif_pos]
    rw [hl]
    congr 2
    exact Fin.ext he.symm
  · rw [if_neg h] at he
    simp only [h, dif_neg, not_false_eq_true]
    rw [hc]
    congr 2
    exact Fin.ext he.symm

/-- One of the three, at an index. -/
theorem refPick_apply (y : FVec Ideal S2x3x8448x1024 .f32) (o : ℕ) (ho : o < 3) (hs : S2x3x8448x1024.Slices ![0, o, 0, 0] S2x1x8448x1024) (b : Fin 2) (R : Fin 8448) (k : Fin 1024) :
    refPick y ![0, o, 0, 0] hs (ix3 b R k) = y (ix4 b ⟨o, ho⟩ R k) := by
  unfold refPick
  pointwise

/-- One of the three vectors of a row, at an index. -/
theorem refVec_apply (mo : Vec Ideal S8x6x1024 .f32) (o : ℕ) (ho : o < 3) (hs : S2x3x8448x1024.Slices ![0, o, 0, 0] S2x1x8448x1024) (b : Fin 2) (R : Fin 8448) (k : Fin 1024) (e : Fin 8) (he : e.val = if R.val < 8192 then b.val else 2) (f : Fin 6) (hf : 2 + o = f.val) :
    refPick (refMod mo) ![0, o, 0, 0] hs (ix3 b R k) = mo (ix3 e f k) :=
  (refPick_apply (refMod mo) o ho hs b R k).trans (refMod_apply mo b ⟨o, ho⟩ R k e he f hf)

/-- A sum with a gated norm, at an index. -/
theorem gatedSum_apply (x p y : FVec Ideal S2x8448x1024 .f32) (i : S2x8448x1024.Idx) : addf x (mulf p y) i = x i + p i * y i := by
  pointwise

/-- A norm scaled and shifted, at an index. -/
theorem scaled_apply (y s h : FVec Ideal S2x8448x1024 .f32) (i : S2x8448x1024.Idx) :
    (addf (mulf y (addf (broadcastInDim S2x8448x1024 ![] bcast_S_S2x8448x1024 (constant S_ .f32 0x3F800000#32)) s)) h : FVec Ideal S2x8448x1024 .f32) i
      = y i * (Ideal.ofBits .f32 0x3F800000#32 + s i) + h i := by
  pointwise

/-- The new residual, at an index. -/
theorem refRes_apply (y : FVec Ideal S2x8448x1024 .f32) (x : Vec Ideal S2x8448x1024 .f32) (mo : Vec Ideal S8x6x1024 .f32) (gp : Vec Ideal S1024 .f32) (b : Fin 2) (R : Fin 8448) (k : Fin 1024) (e : Fin 8) (he : e.val = if R.val < 8192 then b.val else 2) :
    refRes y x mo gp (ix3 b R k) = newRow (fun d => y (ix3 b R d)) (fun d => x (ix3 b R d)) (fun d => mo (ix3 e 2 d)) (fun d => gp (ix1 d)) k := by
  unfold refRes newRow
  rw [gatedSum_apply, refNorm_apply, refVec_apply mo 0 (by decide) _ b R k e he 2 rfl]

/-- The next input, at an index. -/
theorem refNext_apply (x1 : FVec Ideal S2x8448x1024 .f32) (mo : Vec Ideal S8x6x1024 .f32) (gn : Vec Ideal S1024 .f32) (b : Fin 2) (R : Fin 8448) (k : Fin 1024) (e : Fin 8) (he : e.val = if R.val < 8192 then b.val else 2) :
    refNext x1 mo gn (ix3 b R k) = nextRow (fun d => x1 (ix3 b R d)) (fun d => mo (ix3 e 4 d)) (fun d => mo (ix3 e 3 d)) (fun d => gn (ix1 d)) k := by
  unfold refNext nextRow
  rw [scaled_apply, refNorm_apply, refVec_apply mo 2 (by decide) _ b R k e he 4 rfl, refVec_apply mo 1 (by decide) _ b R k e he 3 rfl]

/-- A logit, at an index. -/
theorem refLogits_apply (f : FVec Ideal S2x8448x1024 .f32) (r : FVec Ideal S8x1024 .f32) (b : Fin 2) (e : Fin 8) (R : Fin 8448) :
    refLogits f r (ix3 b e R) = ∑ d : Fin 1024, f (ix3 b R d) * r (ix2 e d) := by
  have h : refLogits f r (ix3 b e R) = ∑ d : Fin 1024, r (ix2 e d) * f (ix3 b R d) := by
    unfold refLogits
    pointwise
  exact h.trans (Finset.sum_congr rfl fun d _ => mul_comm _ _)

end Cert.ProjRefIdeal.Value

end
-- ==== Proof.Proj.Finite.lean ====
/-
  Where the norm's weights, the scale, the shift and the router are reals, so is the next input, whatever the rows before the
  norm are: a row with an entry that is not a real has an infinite mean square, and its norm is zero. On reals the rest of a
  value after rounding is zero, so the logits of the values cut in two are the logits.
-/
module

public import proofs.«01_k».proof.Proof.Proj.Row
public import proofs.«01_k».proof.Proof.Flash.Equal
public import proofs.«01_k».proof.Proof.Gen.Pre_finite_scales

@[expose] public section

set_option maxRecDepth 16384

noncomputable section

namespace Cert.ProjIdeal.Rows

open Cert.ProjIdeal Cert.ProjIdeal.Gen Idealize.ShloMosaic Idealize.ShloMosaic.TcCoe Idealize.SL.Sem
open Cert.MixIdeal.Rows (normRow newRow nextRow)
open Cert.Flash (real_of_word and_one)

/-- The shifts and scales of the batches and of the context, at an index. -/
theorem scales_apply (mo : Vec Ideal S8x6x1024 .f32) (h : S8x6x1024.Slices ![0, 3, 0] Cert.Pre_finite_scales.S3x2x1024) (e : Fin 3) (n : Fin 2) (k : Fin 1024) (E : Fin 8) (N : Fin 6) (hE : E.val = e.val) (hN : N.val = 3 + n.val) :
    extractStridedSlice Cert.Pre_finite_scales.S3x2x1024 ![0, 3, 0] mo h (ix3 e n k) = mo (ix3 E N k) := by
  refine congrArg mo (funext fun a => Fin.ext ?_)
  match a with
  | ⟨0, _⟩ => show 0 + e.val = E.val; omega
  | ⟨1, _⟩ => show 3 + n.val = N.val; omega
  | ⟨2, _⟩ => show 0 + k.val = k.val; omega

/-- What the precondition says: these shifts and scales, the second norm's weights and the router are reals. -/
theorem pre_real (o : Vec Ideal S2x8448x1024 .bf16) (w : Vec Ideal S1024x1024 .bf16) (x : Vec Ideal S2x8448x1024 .f32) (mo : Vec Ideal S8x6x1024 .f32) (g g' : Vec Ideal S1024 .f32) (q : Vec Ideal S8x1024 .f32)
    (h : @Cert.Pre_finite_scales.fn Cert.Pre_finite_scales.Gen.facts Ideal _ o w x mo g g' q = fun _ => 1#1) :
    (∀ (E : Fin 8) (N : Fin 6) (k : Fin 1024), E.val < 3 → (N.val = 3 ∨ N.val = 4) → ∃ z : ℝ, mo (ix3 E N k) = (z : EReal)) ∧ (∀ i, ∃ z : ℝ, g' i = (z : EReal)) ∧ ∀ i, ∃ z : ℝ, q i = (z : EReal) := by
  have h0 := congrFun h ix0
  dsimp only [Cert.Pre_finite_scales.fn] at h0
  obtain ⟨e12, e3⟩ := and_one _ _ h0
  obtain ⟨e1, e2⟩ := and_one _ _ e12
  refine ⟨fun E N k hE hN => ?_, fun i => real_of_word _ (Host.reduce_andi_all _ _ _ _ ix0 e2 i), fun i => real_of_word _ (Host.reduce_andi_all _ _ _ _ ix0 e3 i)⟩
  obtain ⟨z, hz⟩ := real_of_word _ (Host.reduce_andi_all _ _ _ _ ix0 e1 (ix3 (⟨E.val, hE⟩ : Fin 3) (⟨N.val - 3, by omega⟩ : Fin 2) k))
  exact ⟨z, (scales_apply mo _ _ _ k E N rfl (show N.val = 3 + (N.val - 3) by omega)).symm.trans hz⟩

/-- The pattern of 1024. -/
theorem ofBits_width : Ideal.ofBits .f32 0x44800000#32 = ((1024 : ℝ) : EReal) := by
  simp [Ideal.ofBits, Ideal.ieee, -EReal.coe_mul]; norm_num

/-- The pattern of the norm's small term is that of a positive real. -/
theorem ofBits_small : ∃ z : ℝ, 0 < z ∧ Ideal.ofBits .f32 0x358637BD#32 = (z : EReal) := by
  refine ⟨_, ?_, by simp [Ideal.ofBits, Ideal.ieee, -EReal.coe_mul]; rfl⟩
  positivity

/-- A square is at least 0, -/
theorem square_nonneg (x : EReal) : 0 ≤ x * x := by
  induction x using EReal.rec with
  | bot => simp
  | coe r => rw [← EReal.coe_mul]; exact EReal.coe_nonneg.2 (mul_self_nonneg r)
  | top => simp
/-- and infinite where the value is not a real. -/
theorem square_top (x : EReal) (h : ¬ ∃ r : ℝ, x = (r : EReal)) : x * x = ⊤ := by
  induction x using EReal.rec with
  | bot => simp
  | coe r => exact absurd ⟨r, rfl⟩ h
  | top => simp

/-- A norm's entries are reals where its weights are. -/
theorem normRow_real (y g : Fin 1024 → EReal) (hg : ∀ k, ∃ z : ℝ, g k = (z : EReal)) (k : Fin 1024) : ∃ z : ℝ, normRow y g k = (z : EReal) := by
  obtain ⟨s, hs, hs'⟩ := ofBits_small
  obtain ⟨w, hw⟩ := hg k
  unfold normRow
  rw [hs', ofBits_width, hw]
  by_cases h : ∀ e, ∃ z : ℝ, y e = (z : EReal)
  · choose z hz using h
    have hsum : (∑ e : Fin 1024, y e * y e) = ((∑ e : Fin 1024, z e * z e : ℝ) : EReal) := by
      rw [Cert.Flash.coe_sum]
      exact Finset.sum_congr rfl fun e _ => by rw [hz, EReal.coe_mul]
    have hp : 0 ≤ ∑ e : Fin 1024, z e * z e := Finset.sum_nonneg fun e _ => mul_self_nonneg _
    have hd : Ideal.div ((∑ e : Fin 1024, z e * z e : ℝ) : EReal) ((1024 : ℝ) : EReal) = (((∑ e : Fin 1024, z e * z e) * (1024 : ℝ)⁻¹ : ℝ) : EReal) := by
      unfold Ideal.div
      rw [if_neg (by exact_mod_cast (by norm_num : (1024 : ℝ) ≠ 0)), ← EReal.coe_inv, ← EReal.coe_mul]
    rw [hsum, hz, hd, ← EReal.coe_add]
    have hq : 0 < (∑ e : Fin 1024, z e * z e) * (1024 : ℝ)⁻¹ + s := by positivity
    show ∃ v : ℝ, (z k : EReal) * (if (∑ e : Fin 1024, z e * z e) * (1024 : ℝ)⁻¹ + s < 0 then ⊥ else if (∑ e : Fin 1024, z e * z e) * (1024 : ℝ)⁻¹ + s = 0 then ⊤ else (((Real.sqrt ((∑ e : Fin 1024, z e * z e) * (1024 : ℝ)⁻¹ + s))⁻¹ : ℝ) : EReal)) * (w : EReal) = (v : EReal)
    rw [if_neg (not_lt.2 hq.le), if_neg hq.ne', ← EReal.coe_mul, ← EReal.coe_mul]
    exact ⟨_, rfl⟩
  · obtain ⟨e, he⟩ := not_forall.1 h
    have hsum : (∑ e : Fin 1024, y e * y e) = ⊤ := top_le_iff.1 ((square_top _ he).ge.trans (Finset.single_le_sum (f := fun e => y e * y e) (fun i _ => square_nonneg (y i)) (Finset.mem_univ e)))
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [hsum, hd, EReal.top_add_coe]
    refine ⟨0, ?_⟩
    show y k * 0 * (w : EReal) = ((0 : ℝ) : EReal)
    rw [mul_zero, zero_mul, EReal.coe_zero]

/-- So are the next input's where the scale and the shift are too. -/
theorem nextRow_real (x scale shift g : Fin 1024 → EReal) (hc : ∀ k, ∃ z : ℝ, scale k = (z : EReal)) (hh : ∀ k, ∃ z : ℝ, shift k = (z : EReal)) (hg : ∀ k, ∃ z : ℝ, g k = (z : EReal)) (k : Fin 1024) :
    ∃ z : ℝ, nextRow x scale shift g k = (z : EReal) := by
  obtain ⟨n, hn⟩ := normRow_real x g hg k
  obtain ⟨a, ha⟩ := hc k
  obtain ⟨b, hb⟩ := hh k
  unfold nextRow
  rw [hn, ha, hb, Ideal.ofBits_one_f32, ← EReal.coe_one, ← EReal.coe_add, ← EReal.coe_mul, ← EReal.coe_add]
  exact ⟨_, rfl⟩

/-- A real's rest is zero. -/
theorem rest_zero (x : EReal) (h : ∃ z : ℝ, x = (z : EReal)) : x - x = 0 := by
  obtain ⟨z, rfl⟩ := h
  rw [← EReal.coe_sub, sub_self, EReal.coe_zero]

/-- The logit of reals cut in two is the logit. -/
theorem cutLogit_real (f r : Fin 1024 → EReal) (hf : ∀ k, ∃ z : ℝ, f k = (z : EReal)) (hr : ∀ k, ∃ z : ℝ, r k = (z : EReal)) : cutLogit f r = ∑ e : Fin 1024, f e * r e := by
  unfold cutLogit
  simp only [fun e => rest_zero (f e) (hf e), fun e => rest_zero (r e) (hr e), mul_zero, zero_mul, Finset.sum_const_zero, add_zero]

end Cert.ProjIdeal.Rows

end
-- ==== Proof.Proj.Array.lean ====
/-
  The arrays the output projection's call leaves, read at an index: every row lies in exactly one point's block, inside it.
-/
module

public import proofs.«01_k».proof.Proof.Proj.Frame
public import proofs.«01_k».proof.Proof.Proj.Ref
public import proofs.«01_k».proof.Proof.Proj.Finite
public import Idealize.ShloMosaic.Lib.Pipeline.Value

@[expose] public section

set_option maxRecDepth 16384

noncomputable section

namespace Cert.ProjIdeal.Rows

open Cert.ProjIdeal Cert.ProjIdeal.Gen Idealize.ShloMosaic Idealize.ShloMosaic.TcCoe Idealize.SL.Sem
open Cert.MixIdeal.Rows (normRow newRow nextRow)
open Cert.ProjRefIdeal.Value (refTotal refTotal_apply refRes refRes_apply refNext refNext_apply refLogits refLogits_apply)

/-- The windows of rows name tile `t % 17` of batch `t / 17`. -/
theorem index_rows : ∀ t : Fin cfg0.N, (win0_0.index t 0 = t.val / 17 ∧ win0_0.index t 1 = t.val % 17 ∧ win0_0.index t 2 = 0)
    ∧ (win0_2.index t 0 = t.val / 17 ∧ win0_2.index t 1 = t.val % 17 ∧ win0_2.index t 2 = 0)
    ∧ (win0_7.index t 0 = t.val / 17 ∧ win0_7.index t 1 = t.val % 17 ∧ win0_7.index t 2 = 0)
    ∧ (win0_8.index t 0 = t.val / 17 ∧ win0_8.index t 1 = t.val % 17 ∧ win0_8.index t 2 = 0)
    ∧ (win0_9.index t 0 = t.val / 17 ∧ win0_9.index t 1 = 0 ∧ win0_9.index t 2 = t.val % 17) :=
  (by decide +kernel : ∀ t : Fin grid0.N, _)

/-- The other windows name whole arrays, and the vectors of the batch or, at the last tile, of the context. -/
theorem index_whole : ∀ t : Fin cfg0.N, (win0_1.index t 0 = 0 ∧ win0_1.index t 1 = 0)
    ∧ (win0_3.index t 0 = (if t.val % 17 < 16 then t.val / 17 else 2) ∧ win0_3.index t 1 = 0 ∧ win0_3.index t 2 = 0)
    ∧ (win0_4.index t 0 = 0 ∧ win0_4.index t 1 = 0) ∧ (win0_5.index t 0 = 0 ∧ win0_5.index t 1 = 0) ∧ (win0_6.index t 0 = 0 ∧ win0_6.index t 1 = 0) :=
  (by decide +kernel : ∀ t : Fin grid0.N, _)

/-- The rows of a point's block that lie inside the array: all or, at the last tile, half. -/
def inside (t : Fin cfg0.N) : ℕ := if t.val % 17 < 16 then 512 else 256

/-- The windows of rows move those rows and no others. -/
theorem xsize_pt : ∀ t : Fin cfg0.N, (win0_0.xsize (grid0.coords t) 0 = 1 ∧ win0_0.xsize (grid0.coords t) 1 = inside t ∧ win0_0.xsize (grid0.coords t) 2 = 1024)
    ∧ (win0_2.xsize (grid0.coords t) 0 = 1 ∧ win0_2.xsize (grid0.coords t) 1 = inside t ∧ win0_2.xsize (grid0.coords t) 2 = 1024)
    ∧ (win0_7.xsize (grid0.coords t) 0 = 1 ∧ win0_7.xsize (grid0.coords t) 1 = inside t ∧ win0_7.xsize (grid0.coords t) 2 = 1024)
    ∧ (win0_8.xsize (grid0.coords t) 0 = 1 ∧ win0_8.xsize (grid0.coords t) 1 = inside t ∧ win0_8.xsize (grid0.coords t) 2 = 1024)
    ∧ (win0_9.xsize (grid0.coords t) 0 = 1 ∧ win0_9.xsize (grid0.coords t) 1 = 8 ∧ win0_9.xsize (grid0.coords t) 2 = inside t) :=
  (by decide +kernel : ∀ t : Fin grid0.N, _)

variable (m : (ℓ : Loc nD τ sig) → Buf (Elt Ideal) ℓ)

section
variable (c : Dev nD) (t : Fin cfg0.N) (b : Fin 2) (hb : b.val = t.val / 17) (r : Fin 512) (hr : r.val < inside t) (R : Fin 8448) (hR : R.val = 512 * (t.val % 17) + r.val)
include hb hr hR

/-- A row inside, of the heads' rows: the array's row. -/
theorem oIn_apply (d : Vec Ideal S1x512x1024 .bf16) (k : Fin 1024) : oIn m c t d (ix3 0 r k) = m ((c : Thread nD τ).loc main_arg0) (ix3 b R k) := by
  have e := (index_rows t).1
  have x := (xsize_pt t).1
  unfold oIn Pipeline.Window.fill
  rw [dif_pos ((win0_0.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg0 _ = _
  rw [V_main_arg0]
  congr 1
  funext a
  apply Fin.ext
  match a with
  | ⟨0, _⟩ => show win0_0.index t 0 * 1 + 1 * 0 = b.val; rw [e.1]; omega
  | ⟨1, _⟩ => show win0_0.index t 1 * 512 + 1 * r.val = R.val; rw [e.2.1]; omega
  | ⟨2, _⟩ => show win0_0.index t 2 * 1024 + 1 * k.val = k.val; rw [e.2.2]; omega

/-- A row inside, of the residual: the array's row. -/
theorem xIn_apply (d : Vec Ideal S1x512x1024 .f32) (k : Fin 1024) : xIn m c t d (ix3 0 r k) = m ((c : Thread nD τ).loc main_arg2) (ix3 b R k) := by
  have e := (index_rows t).2.1
  have x := (xsize_pt t).2.1
  unfold xIn Pipeline.Window.fill
  rw [dif_pos ((win0_2.moved_iff _ _).2 fun a => by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm)]
  unfold iblk
  rw [View.read_apply]
  show V m c main_arg2 _ = _
  rw [V_main_arg2]
  congr 1
  funext a
  apply Fin.ext
  match a with
  | ⟨0, _⟩ => show win0_2.index t 0 * 1 + 1 * 0 = b.val; rw [e.1]; omega
  | ⟨1, _⟩ => show win0_2.index t 1 * 512 + 1 * r.val = R.val; rw [e.2.1]; omega
  | ⟨2, _⟩ => show win0_2.index t 2 * 1024 + 1 * k.val = k.val; rw [e.2.2]; omega

end

/-- The output matrix's block is the matrix. -/
theorem wo_apply (c : Dev nD) (t : Fin cfg0.N) (i : Fin 1024) (j : Fin 1024) : iblk m c 1 t (ix2 i j) = m ((c : Thread nD τ).loc main_arg1) (ix2 i j) := by
  have x := (index_whole t).1
  unfold iblk
  rw [View.read_apply]
  show V m c main_arg1 _ = _
  rw [V_main_arg1]
  congr 1
  funext a
  apply Fin.ext
  match a with
  | ⟨0, _⟩ => show win0_1.index t 0 * 1024 + 1 * i.val = i.val; rw [x.1]; omega
  | ⟨1, _⟩ => show win0_1.index t 1 * 1024 + 1 * j.val = j.val; rw [x.2]; omega

/-- The router's block is the router. -/
theorem router_apply (c : Dev nD) (t : Fin cfg0.N) (i : Fin 8) (j : Fin 1024) : iblk m c 6 t (ix2 i j) = m ((c : Thread nD τ).loc main_arg6) (ix2 i j) := by
  have x := (index_whole t).2.2.2.2
  unfold iblk
  rw [View.read_apply]
  show V m c main_arg6 _ = _
  rw [V_main_arg6]
  congr 1
  funext a
  apply Fin.ext
  match a with
  | ⟨0, _⟩ => show win0_6.index t 0 * 8 + 1 * i.val = i.val; rw [x.1]; omega
  | ⟨1, _⟩ => show win0_6.index t 1 * 1024 + 1 * j.val = j.val; rw [x.2]; omega

/-- The block of a batch's vectors, at an index. -/
theorem mod_apply (c : Dev nD) (t : Fin cfg0.N) (e : Fin 8) (he : e.val = if t.val % 17 < 16 then t.val / 17 else 2) (n : Fin 6) (k : Fin 1024) :
    iblk m c 3 t (ix3 0 n k) = m ((c : Thread nD τ).loc main_arg3) (ix3 e n k) := by
  have x := (index_whole t).2.1
  unfold iblk
  rw [View.read_apply]
  show V m c main_arg3 _ = _
  rw [V_main_arg3]
  congr 1
  funext a
  apply Fin.ext
  match a with
  | ⟨0, _⟩ => show win0_3.index t 0 * 1 + 1 * 0 = e.val; rw [x.1]; omega
  | ⟨1, _⟩ => show win0_3.index t 1 * 6 + 1 * n.val = n.val; rw [x.2.1]; omega
  | ⟨2, _⟩ => show win0_3.index t 2 * 1024 + 1 * k.val = k.val; rw [x.2.2]; omega

/-- A vector as one row. -/
theorem asRow_apply (x : Vec Ideal S1024 .f32) (k : Fin 1024) : (shapeCast S1x1024 x shapeCasts_S1024_S1x1024 : FVec Ideal S1x1024 .f32) (ix2 0 k) = x (ix1 k) := by
  pointwise

/-- The first norm's weights as the launch passes them. -/
theorem V_v0 (c : Dev nD) : V m c main_v0 = shapeCast S1x1024 (m ((c : Thread nD τ).loc main_arg4)) shapeCasts_S1024_S1x1024 := by
  unfold V hostOps0
  after_results_simp
  rfl

/-- The first norm's weights' block. -/
theorem gpost_apply (c : Dev nD) (t : Fin cfg0.N) (k : Fin 1024) : iblk m c 4 t (ix2 0 k) = m ((c : Thread nD τ).loc main_arg4) (ix1 k) := by
  have x := (index_whole t).2.2.1
  unfold iblk
  rw [View.read_apply]
  show V m c main_v0 _ = _
  rw [V_v0]
  refine Eq.trans ?_ (asRow_apply _ k)
  congr 1
  funext a
  apply Fin.ext
  match a with
  | ⟨0, _⟩ => show win0_4.index t 0 * 1 + 1 * 0 = 0; rw [x.1]
  | ⟨1, _⟩ => show win0_4.index t 1 * 1024 + 1 * k.val = k.val; rw [x.2]; omega

/-- The second norm's weights as the launch passes them. -/
theorem V_v1 (c : Dev nD) : V m c main_v1 = shapeCast S1x1024 (m ((c : Thread nD τ).loc main_arg5)) shapeCasts_S1024_S1x1024 := by
  unfold V hostOps0
  after_results_simp
  rfl

/-- The second norm's weights' block. -/
theorem gpre_apply (c : Dev nD) (t : Fin cfg0.N) (k : Fin 1024) : iblk m c 5 t (ix2 0 k) = m ((c : Thread nD τ).loc main_arg5) (ix1 k) := by
  have x := (index_whole t).2.2.2.1
  unfold iblk
  rw [View.read_apply]
  show V m c main_v1 _ = _
  rw [V_v1]
  refine Eq.trans ?_ (asRow_apply _ k)
  congr 1
  funext a
  apply Fin.ext
  match a with
  | ⟨0, _⟩ => show win0_5.index t 0 * 1 + 1 * 0 = 0; rw [x.1]
  | ⟨1, _⟩ => show win0_5.index t 1 * 1024 + 1 * k.val = k.val; rw [x.2]; omega

/-- The reference's new residual, of the call's arguments, -/
def wantX (c : Dev nD) : FVec Ideal S2x8448x1024 .f32 := refRes (refTotal (m ((c : Thread nD τ).loc main_arg0)) (m ((c : Thread nD τ).loc main_arg1))) (m ((c : Thread nD τ).loc main_arg2)) (m ((c : Thread nD τ).loc main_arg3)) (m ((c : Thread nD τ).loc main_arg4))
/-- its next input -/
def wantF (c : Dev nD) : FVec Ideal S2x8448x1024 .f32 := refNext (wantX m c) (m ((c : Thread nD τ).loc main_arg3)) (m ((c : Thread nD τ).loc main_arg5))
/-- and the logits. -/
def wantL (c : Dev nD) : FVec Ideal S2x8x8448 .f32 := refLogits (wantF m c) (m ((c : Thread nD τ).loc main_arg6))

section
variable (c : Dev nD) (t : Fin cfg0.N) (b : Fin 2) (hb : b.val = t.val / 17) (r : Fin 512) (hr : r.val < inside t) (R : Fin 8448) (hR : R.val = 512 * (t.val % 17) + r.val)
  (d0 : Vec Ideal S1x512x1024 .bf16) (d2 : Vec Ideal S1x512x1024 .f32)
include hb hr hR

/-- A row inside of the residual's block is the reference's, whatever lies past the arrays' end, -/
theorem outX_apply (k : Fin 1024) : outX m c t d0 d2 (ix3 0 r k) = wantX m c (ix3 b R k) := by
  have hg : (if R.val < 8192 then b.val else 2) = if t.val % 17 < 16 then t.val / 17 else 2 := by
    unfold inside at hr
    split_ifs at hr ⊢ <;> omega
  have hl : (if R.val < 8192 then b.val else 2) < 8 := by split_ifs <;> omega
  unfold outX wantX
  rw [blockX_apply, refRes_apply _ _ _ _ b R k ⟨_, hl⟩ rfl]
  simp only [refTotal_apply, oIn_apply m c t b hb r hr R hR, xIn_apply m c t b hb r hr R hR, wo_apply, gpost_apply, mod_apply m c t ⟨_, hl⟩ hg]

/-- one of the next input's block too, -/
theorem outF_apply (k : Fin 1024) : outF m c t d0 d2 (ix3 0 r k) = wantF m c (ix3 b R k) := by
  have hg : (if R.val < 8192 then b.val else 2) = if t.val % 17 < 16 then t.val / 17 else 2 := by
    unfold inside at hr
    split_ifs at hr ⊢ <;> omega
  have hl : (if R.val < 8192 then b.val else 2) < 8 := by split_ifs <;> omega
  have hx : ∀ e, newRow (proj (fun d => oIn m c t d0 (ix3 0 r d)) (fun d e => iblk m c 1 t (ix2 d e))) (fun e => xIn m c t d2 (ix3 0 r e)) (fun e => iblk m c 3 t (ix3 0 2 e)) (fun e => iblk m c 4 t (ix2 0 e)) e = wantX m c (ix3 b R e) := fun e => (blockX_apply _ _ _ _ _ r e).symm.trans (outX_apply m c t b hb r hr R hR d0 d2 e)
  unfold outF wantF
  rw [blockF_apply, refNext_apply _ _ _ b R k ⟨_, hl⟩ rfl, funext hx]
  simp only [gpre_apply, mod_apply m c t ⟨_, hl⟩ hg]

/-- and the logits are those of its values cut in two. -/
theorem outL_apply (e : Fin 8) : outL m c t d0 d2 (ix3 0 e r) = cutLogit (fun d => wantF m c (ix3 b R d)) (fun d => (m ((c : Thread nD τ).loc main_arg6)) (ix2 e d)) := by
  have hx : ∀ k, nextRow (newRow (proj (fun d => oIn m c t d0 (ix3 0 r d)) (fun d e => iblk m c 1 t (ix2 d e))) (fun e => xIn m c t d2 (ix3 0 r e)) (fun e => iblk m c 3 t (ix3 0 2 e)) (fun e => iblk m c 4 t (ix2 0 e))) (fun e => iblk m c 3 t (ix3 0 4 e)) (fun e => iblk m c 3 t (ix3 0 3 e)) (fun e => iblk m c 5 t (ix2 0 e)) k = wantF m c (ix3 b R k) := fun k => (blockF_apply _ _ _ _ _ _ r k).symm.trans (outF_apply m c t b hb r hr R hR d0 d2 k)
  unfold outL
  rw [blockL_apply, funext hx]
  simp only [router_apply]

end

/-- Where the precondition holds these are the reference's logits. -/
theorem logit_eq (c : Dev nD) (hm : ∀ (E : Fin 8) (N : Fin 6) (k : Fin 1024), E.val < 3 → (N.val = 3 ∨ N.val = 4) → ∃ z : ℝ, (m ((c : Thread nD τ).loc main_arg3)) (ix3 E N k) = (z : EReal)) (hg : ∀ i, ∃ z : ℝ, (m ((c : Thread nD τ).loc main_arg5)) i = (z : EReal)) (hq : ∀ i, ∃ z : ℝ, (m ((c : Thread nD τ).loc main_arg6)) i = (z : EReal)) (b : Fin 2) (e : Fin 8) (R : Fin 8448) :
    cutLogit (fun d => wantF m c (ix3 b R d)) (fun d => (m ((c : Thread nD τ).loc main_arg6)) (ix2 e d)) = wantL m c (ix3 b e R) := by
  have hl : (if R.val < 8192 then b.val else 2) < 8 := by split_ifs <;> omega
  have h3 : (if R.val < 8192 then b.val else 2) < 3 := by split_ifs <;> omega
  unfold wantL
  rw [refLogits_apply, cutLogit_real _ _ (fun k => ?_) fun k => hq _]
  unfold wantF
  rw [refNext_apply _ _ _ b R k ⟨_, hl⟩ rfl]
  exact nextRow_real _ _ _ _ (fun k => hm _ 4 k h3 (Or.inr rfl)) (fun k => hm _ 3 k h3 (Or.inl rfl)) (fun k => hg _) k

/-- An index of the rows inside the residual's block is a row and a column. -/
theorem inside_idx7 (t : Fin cfg0.N) (j : (win0_7.xblock (grid0.coords t)).Idx) :
    ∃ (r : Fin 512) (k : Fin 1024), r.val < inside t ∧ win0_7.xinj (grid0.coords t) j = ix3 0 r k := by
  have x := (xsize_pt t).2.2.1
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 1).val, by omega⟩, ⟨(j 2).val, h2⟩, h1, ?_⟩
  funext a
  apply Fin.ext
  match a with
  | ⟨0, _⟩ => exact Nat.lt_one_iff.1 h0
  | ⟨1, _⟩ => rfl
  | ⟨2, _⟩ => rfl

/-- The rows inside it do not depend on what lies past the arrays' end. -/
theorem rows_local7 (c : Dev nD) (t : Fin cfg0.N) (d0 : Vec Ideal S1x512x1024 .bf16) (d2 : Vec Ideal S1x512x1024 .f32) :
    win0_7.cut (grid0.coords t) (outX m c t d0 d2) = win0_7.cut (grid0.coords t) (outX m c t zO zX) := by
  have hN : cfg0.N = 34 := N_0
  funext j
  obtain ⟨r, k, hr, hj⟩ := inside_idx7 t j
  show outX m c t d0 d2 (win0_7.xinj (grid0.coords t) j) = outX m c t zO zX (win0_7.xinj (grid0.coords t) j)
  have hi : r.val < 512 ∧ (t.val % 17 = 16 → r.val < 256) := by unfold inside at hr; split_ifs at hr <;> omega
  have ht := t.isLt
  rw [hj, outX_apply m c t ⟨t.val / 17, by omega⟩ rfl r hr ⟨512 * (t.val % 17) + r.val, by omega⟩ rfl, outX_apply m c t ⟨t.val / 17, by omega⟩ rfl r hr ⟨512 * (t.val % 17) + r.val, by omega⟩ rfl]

/-- Two points' blocks of it are not the same block. -/
theorem index_inj7 : ∀ t t' : Fin cfg0.N, win0_7.index t = win0_7.index t' → t = t' :=
  (by decide +kernel : ∀ t t' : Fin grid0.N, win0_7.index t = win0_7.index t' → t = t')

/-- A point's block of the residual left is what the point stored. -/
theorem block_left7 (c : Dev nD) (t : Fin cfg0.N) :
    ((cfg0.win 7).blk t).view.read (Elt Ideal) ((dats m 0 c).arrAt 7 cfg0.N) = win0_7.cut (grid0.coords t) (outX m c t zO zX) :=
  (dats m 0 c).read_blk_arrAt_eq_flushed 7 (fun t t' _ _ hne => (cfg0.win 7).disjoint_blk fun h => hne (index_inj7 t t' h)) cfg0.N t t.isLt (flush0_7 t)

/-- The residual left is the reference's. -/
theorem left7 (c : Dev nD) : (dats m 0 c).arrAt 7 cfg0.N = wantX m c := by
  refine funext fun j : S2x8448x1024.Idx => ?_
  obtain ⟨b, R, k, rfl⟩ : ∃ (b : Fin 2) (R : Fin 8448) (k : Fin 1024), j = ix3 b R k := ⟨j 0, j 1, j 2, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2.1
  have e := (index_rows t).2.2.1
  let i : (win0_7.xblock (grid0.coords t)).Idx := fun a => ⟨(ix3 (0 : Fin 1) r k a).val, by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm⟩
  have h := congrFun (block_left7 m c t) i
  rw [View.read_apply] at h
  refine Eq.trans ?_ (h.trans ?_)
  · congr 1
    funext a
    apply Fin.ext
    match a with
    | ⟨0, _⟩ => show b.val = win0_7.index t 0 * 1 + 1 * 0; rw [e.1]; omega
    | ⟨1, _⟩ => show R.val = win0_7.index t 1 * 512 + 1 * r.val; rw [e.2.1]; omega
    | ⟨2, _⟩ => show k.val = win0_7.index t 2 * 1024 + 1 * k.val; rw [e.2.2]; omega
  · exact outX_apply m c t b (by omega) r hr R (by omega) zO zX k

/-- An index of the rows inside the next input's block is a row and a column. -/
theorem inside_idx8 (t : Fin cfg0.N) (j : (win0_8.xblock (grid0.coords t)).Idx) :
    ∃ (r : Fin 512) (k : Fin 1024), r.val < inside t ∧ win0_8.xinj (grid0.coords t) j = ix3 0 r k := by
  have x := (xsize_pt t).2.2.2.1
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 1).val, by omega⟩, ⟨(j 2).val, h2⟩, h1, ?_⟩
  funext a
  apply Fin.ext
  match a with
  | ⟨0, _⟩ => exact Nat.lt_one_iff.1 h0
  | ⟨1, _⟩ => rfl
  | ⟨2, _⟩ => rfl

/-- The rows inside it do not depend on what lies past the arrays' end. -/
theorem rows_local8 (c : Dev nD) (t : Fin cfg0.N) (d0 : Vec Ideal S1x512x1024 .bf16) (d2 : Vec Ideal S1x512x1024 .f32) :
    win0_8.cut (grid0.coords t) (outF m c t d0 d2) = win0_8.cut (grid0.coords t) (outF m c t zO zX) := by
  have hN : cfg0.N = 34 := N_0
  funext j
  obtain ⟨r, k, hr, hj⟩ := inside_idx8 t j
  show outF m c t d0 d2 (win0_8.xinj (grid0.coords t) j) = outF m c t zO zX (win0_8.xinj (grid0.coords t) j)
  have hi : r.val < 512 ∧ (t.val % 17 = 16 → r.val < 256) := by unfold inside at hr; split_ifs at hr <;> omega
  have ht := t.isLt
  rw [hj, outF_apply m c t ⟨t.val / 17, by omega⟩ rfl r hr ⟨512 * (t.val % 17) + r.val, by omega⟩ rfl, outF_apply m c t ⟨t.val / 17, by omega⟩ rfl r hr ⟨512 * (t.val % 17) + r.val, by omega⟩ rfl]

/-- Two points' blocks of it are not the same block. -/
theorem index_inj8 : ∀ t t' : Fin cfg0.N, win0_8.index t = win0_8.index t' → t = t' :=
  (by decide +kernel : ∀ t t' : Fin grid0.N, win0_8.index t = win0_8.index t' → t = t')

/-- A point's block of the next input left is what the point stored. -/
theorem block_left8 (c : Dev nD) (t : Fin cfg0.N) :
    ((cfg0.win 8).blk t).view.read (Elt Ideal) ((dats m 0 c).arrAt 8 cfg0.N) = win0_8.cut (grid0.coords t) (outF m c t zO zX) :=
  (dats m 0 c).read_blk_arrAt_eq_flushed 8 (fun t t' _ _ hne => (cfg0.win 8).disjoint_blk fun h => hne (index_inj8 t t' h)) cfg0.N t t.isLt (flush0_8 t)

/-- The next input left is the reference's. -/
theorem left8 (c : Dev nD) : (dats m 0 c).arrAt 8 cfg0.N = wantF m c := by
  refine funext fun j : S2x8448x1024.Idx => ?_
  obtain ⟨b, R, k, rfl⟩ : ∃ (b : Fin 2) (R : Fin 8448) (k : Fin 1024), j = ix3 b R k := ⟨j 0, j 1, j 2, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2.2.1
  have e := (index_rows t).2.2.2.1
  let i : (win0_8.xblock (grid0.coords t)).Idx := fun a => ⟨(ix3 (0 : Fin 1) r k a).val, by
    match a with
    | ⟨0, _⟩ => exact Nat.lt_of_lt_of_eq Nat.zero_lt_one x.1.symm
    | ⟨1, _⟩ => exact Nat.lt_of_lt_of_eq hr x.2.1.symm
    | ⟨2, _⟩ => exact Nat.lt_of_lt_of_eq k.isLt x.2.2.symm⟩
  have h := congrFun (block_left8 m c t) i
  rw [View.read_apply] at h
  refine Eq.trans ?_ (h.trans ?_)
  · congr 1
    funext a
    apply Fin.ext
    match a with
    | ⟨0, _⟩ => show b.val = win0_8.index t 0 * 1 + 1 * 0; rw [e.1]; omega
    | ⟨1, _⟩ => show R.val = win0_8.index t 1 * 512 + 1 * r.val; rw [e.2.1]; omega
    | ⟨2, _⟩ => show k.val = win0_8.index t 2 * 1024 + 1 * k.val; rw [e.2.2]; omega
  · exact outF_apply m c t b (by omega) r hr R (by omega) zO zX k

/-- An index of the rows inside the logits' block is a row and a router. -/
theorem inside_idx9 (t : Fin cfg0.N) (j : (win0_9.xblock (grid0.coords t)).Idx) :
    ∃ (r : Fin 512) (k : Fin 8), r.val < inside t ∧ win0_9.xinj (grid0.coords t) j = ix3 0 k r := by
  have x := (xsize_pt t).2.2.2.2
  have h0 := Nat.lt_of_lt_of_eq (j 0).isLt x.1
  have h1 := Nat.lt_of_lt_of_eq (j 1).isLt x.2.1
  have h2 := Nat.lt_of_lt_of_eq (j 2).isLt x.2.2
  have hi : inside t ≤ 512 := by unfold inside; split_ifs <;> omega
  refine ⟨⟨(j 2).val, by omega⟩, ⟨(j 1).val, h1⟩, h2, ?_⟩
  funext a
  apply Fin.ext
  match a with
  | ⟨0, _⟩ => exact Nat.lt_one_iff.1 h0
  | ⟨1, _⟩ => rfl
  | ⟨2, _⟩ => rfl

/-- The rows inside it do not depend on what lies past the arrays' end. -/
theorem rows_local9 (c : Dev nD) (t : Fin cfg0.N) (d0 : Vec Ideal S1x512x1024 .bf16) (d2 : Vec Ideal S1x512x1024 .f32) :
    win0_9.cut (grid0.coords t) (outL m c t d0 d2) = win0_9.cut (grid0.coords t) (outL m c t zO zX) := by
  have hN : cfg0.N = 34 := N_0
  funext j
  obtain ⟨r, k, hr, hj⟩ := inside_idx9 t j
  show outL m c t d0 d2 (win0_9.xinj (grid0.coords t) j) = outL m c t zO zX (win0_9.xinj (grid0.coords t) j)
  have hi : r.val < 512 ∧ (t.val % 17 = 16 → r.val < 256) := by unfold inside at hr; split_ifs at hr <;> omega
  have ht := t.isLt
  rw [hj, outL_apply m c t ⟨t.val / 17, by omega⟩ rfl r hr ⟨512 * (t.val % 17) + r.val, by omega⟩ rfl, outL_apply m c t ⟨t.val / 17, by omega⟩ rfl r hr ⟨512 * (t.val % 17) + r.val, by omega⟩ rfl]

/-- Two points' blocks of it are not the same block. -/
theorem index_inj9 : ∀ t t' : Fin cfg0.N, win0_9.index t = win0_9.index t' → t = t' :=
  (by decide +kernel : ∀ t t' : Fin grid0.N, win0_9.index t = win0_9.index t' → t = t')

/-- A point's block of the logits left is what the point stored. -/
theorem block_left9 (c : Dev nD) (t : Fin cfg0.N) :
    ((cfg0.win 9).blk t).view.read (Elt Ideal) ((dats m 0 c).arrAt 9 cfg0.N) = win0_9.cut (grid0.coords t) (outL m c t zO zX) :=
  (dats m 0 c).read_blk_arrAt_eq_flushed 9 (fun t t' _ _ hne => (cfg0.win 9).disjoint_blk fun h => hne (index_inj9 t t' h)) cfg0.N t t.isLt (flush0_9 t)

/-- The logits left are the reference's, where the precondition holds. -/
theorem left9 (c : Dev nD) (hm : ∀ (E : Fin 8) (N : Fin 6) (k : Fin 1024), E.val < 3 → (N.val = 3 ∨ N.val = 4) → ∃ z : ℝ, (m ((c : Thread nD τ).loc main_arg3)) (ix3 E N k) = (z : EReal)) (hg : ∀ i, ∃ z : ℝ, (m ((c : Thread nD τ).loc main_arg5)) i = (z : EReal)) (hq : ∀ i, ∃ z : ℝ, (m ((c : Thread nD τ).loc main_arg6)) i = (z : EReal)) : (dats m 0 c).arrAt 9 cfg0.N = wantL m c := by
  refine funext fun j : S2x8x8448.Idx => ?_
  obtain ⟨b, R, k, rfl⟩ : ∃ (b : Fin 2) (R : Fin 8448) (k : Fin 8), j = ix3 b k R := ⟨j 0, j 2, j 1, funext fun a => by
    match a with
    | ⟨0, _⟩ => rfl
    | ⟨1, _⟩ => rfl
    | ⟨2, _⟩ => rfl⟩
  have hN : cfg0.N = 34 := N_0
  let t : Fin cfg0.N := ⟨17 * b.val + R.val / 512, by omega⟩
  let r : Fin 512 := ⟨R.val % 512, by omega⟩
  have ht : t.val = 17 * b.val + R.val / 512 := rfl
  have hr' : r.val = R.val % 512 := rfl
  have hr : r.val < inside t := by unfold inside; split_ifs <;> omega
  have x := (xsize_pt t).2.2.2.2
  have e := (index_rows t).2.2.2.2
  let i : (win0_9.xblock (grid0.coords t)).Idx := fun a => ⟨(ix3 (0 : Fin 1) k r a).val, by
    match a with
    | ⟨0, _⟩ => exact Nat.lt_of_lt_of_eq Nat.zero_lt_one x.1.symm
    | ⟨1, _⟩ => exact Nat.lt_of_lt_of_eq k.isLt x.2.1.symm
    | ⟨2, _⟩ => exact Nat.lt_of_lt_of_eq hr x.2.2.symm⟩
  have h := congrFun (block_left9 m c t) i
  rw [View.read_apply] at h
  refine Eq.trans ?_ (h.trans ?_)
  · congr 1
    funext a
    apply Fin.ext
    match a with
    | ⟨0, _⟩ => show b.val = win0_9.index t 0 * 1 + 1 * 0; rw [e.1]; omega
    | ⟨1, _⟩ => show k.val = win0_9.index t 1 * 8 + 1 * k.val; rw [e.2.1]; omega
    | ⟨2, _⟩ => show R.val = win0_9.index t 2 * 512 + 1 * r.val; rw [e.2.2]; omega
  · exact (outL_apply m c t b (by omega) r hr R (by omega) zO zX k).trans (logit_eq m c hm hg hq b k R)

variable (ρ : Dev nD → PrngReg)

/-- The run leaves the three results. -/
theorem run_out : θ_run defs (onTc (τ := τ) (main (F := Ideal))) ⟨m, fun _ => 0, ρ⟩ fun r => ∀ c : Dev nD,
    r.2.mem ((c : Thread nD τ).loc main_v2_0) = (dats m 0 c).arrAt 7 cfg0.N ∧ r.2.mem ((c : Thread nD τ).loc main_v2_1) = (dats m 0 c).arrAt 8 cfg0.N ∧ r.2.mem ((c : Thread nD τ).loc main_v2_2) = (dats m 0 c).arrAt 9 cfg0.N :=
  (θ_run defs _ _).mono (fun _ h c => ⟨(h c).1 7, (h c).1 8, (h c).1 9⟩) (run_main m ρ (fun c => rows_local7 m c) (fun c => rows_local8 m c) fun c => rows_local9 m c)

end Cert.ProjIdeal.Rows

end
-- ==== Proof.Proj.RefRun.lean ====
/-
  What the output projection's reference leaves, as functions of its arguments.
-/
module

public import proofs.«01_k».proof.Proof.Proj.Ref
public import proofs.«01_k».proof.Proof.Gen.ProjRefIdeal.Run

@[expose] public section

set_option maxRecDepth 16384

noncomputable section

namespace Cert.ProjRefIdeal.Value

open Cert.ProjRefIdeal Cert.ProjRefIdeal.Gen Idealize.ShloMosaic Idealize.ShloMosaic.TcCoe Idealize.SL.Sem

/-- The reference's first result, of the arguments, -/
def firstOf (m : (ℓ : Loc nD τ sig) → Buf (Elt Ideal) ℓ) (c : Dev nD) : FVec Ideal S2x8448x1024 .f32 :=
  refRes (refTotal (m ((c : Thread nD τ).loc main_arg0)) (m ((c : Thread nD τ).loc main_arg1))) (m ((c : Thread nD τ).loc main_arg2)) (m ((c : Thread nD τ).loc main_arg3)) (m ((c : Thread nD τ).loc main_arg4))
/-- and its second. -/
def secondOf (m : (ℓ : Loc nD τ sig) → Buf (Elt Ideal) ℓ) (c : Dev nD) : FVec Ideal S2x8448x1024 .f32 :=
  refNext (firstOf m c) (m ((c : Thread nD τ).loc main_arg3)) (m ((c : Thread nD τ).loc main_arg5))

/-- The reference's run leaves the second, -/
theorem res_second (m : (ℓ : Loc nD τ sig) → Buf (Elt Ideal) ℓ) (c : Dev nD) : res_main_v48 m c = secondOf m c := by
  unfold res_main_v48
  rfl

/-- and the logits of it. -/
theorem res_third (m : (ℓ : Loc nD τ sig) → Buf (Elt Ideal) ℓ) (c : Dev nD) : res_main_v50 m c = refLogits (secondOf m c) (m ((c : Thread nD τ).loc main_arg6)) := by
  unfold res_main_v50
  rfl

/-- The first result of equal arrays, -/
theorem first_congr {o o' : Vec Ideal S2x8448x1024 .bf16} {w w' : Vec Ideal S1024x1024 .bf16} {x x' : Vec Ideal S2x8448x1024 .f32} {mo mo' : Vec Ideal S8x6x1024 .f32} {g g' : Vec Ideal S1024 .f32}
    (h0 : o' = o) (h1 : w' = w) (h2 : x' = x) (h3 : mo' = mo) (h4 : g' = g) : refRes (refTotal o' w') x' mo' g' = refRes (refTotal o w) x mo g := by
  rw [h0, h1, h2, h3, h4]

/-- the second, -/
theorem second_congr {x x' : FVec Ideal S2x8448x1024 .f32} {mo mo' : Vec Ideal S8x6x1024 .f32} {g g' : Vec Ideal S1024 .f32} (h : x' = x) (h3 : mo' = mo) (h5 : g' = g) : refNext x' mo' g' = refNext x mo g := by
  rw [h, h3, h5]

/-- and the third. -/
theorem third_congr {f f' : FVec Ideal S2x8448x1024 .f32} {r r' : FVec Ideal S8x1024 .f32} (h : f' = f) (h6 : r' = r) : refLogits f' r' = refLogits f r := by
  rw [h, h6]

end Cert.ProjRefIdeal.Value

end
-- ==== Proof.Proj.Same.lean ====
/-
  The output projection's program and its ideal are the same text, read over any values; so what is proved of the ideal's run at any
  values holds of the program's.
-/
module

public import proofs.«01_k».proof.Proof.Proj.Frame
public import proofs.«01_k».proof.Proof.Gen.Proj
public import proofs.«01_k».proof.Proof.Gen.Proj.Launch

@[expose] public section

set_option maxRecDepth 16384
set_option maxHeartbeats 0

noncomputable section

namespace Cert.Proj.Rows

open Cert.Proj Cert.Proj.Gen Idealize.ShloMosaic Idealize.ShloMosaic.TcCoe Idealize.SL.Sem

variable {F : FTy → Type} [FloatOps F]

/-- The kernel bodies are equal. -/
theorem bodies_eq : @Cert.Proj.defs₀ F _ Cert.Proj.Gen.facts = @Cert.ProjIdeal.defs₀ F _ Cert.ProjIdeal.Gen.facts := by
  unfold Cert.Proj.defs₀ Cert.ProjIdeal.defs₀
  congr 1
  funext l a
  match l, a with
  | 0, (t, s) => rfl

/-- The programs' functions are equal. -/
theorem defs_eq : @Cert.Proj.defs F _ Cert.Proj.Gen.facts = @Cert.ProjIdeal.defs F _ Cert.ProjIdeal.Gen.facts :=
  congrArg (Pipeline.defs (@Cert.Proj.pcfgs F _)) bodies_eq

/-- The program runs, its arguments unchanged, every counter zero again. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (congrArg (fun D => θ_run D (onTc (τ := τ) (main (F := F))) ⟨m, fun _ => 0, ρ⟩ _) defs_eq).mpr (Cert.ProjIdeal.Rows.frame m ρ)

end Cert.Proj.Rows

end
-- ==== Proof.lean ====
/-
  The claims, assembled: the value claims pair each kernel's run, block by block, with its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_qk
public import proofs.«01_k».proof.Proof.Gen.Experts
public import proofs.«01_k».proof.Proof.Gen.Experts.Launch
public import proofs.«01_k».proof.Proof.Gen.ExpertsIdeal
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_experts_named
public import proofs.«01_k».proof.Proof.Experts.Same
public import proofs.«01_k».proof.Proof.Experts.Equal
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.Pre_gqa_finite
public import proofs.«01_k».proof.Proof.Flash.Equal
public import proofs.«01_k».proof.Proof.Gqa.Equal
public import proofs.«01_k».proof.Proof.Gen.Ffn
public import proofs.«01_k».proof.Proof.Gen.FfnIdeal
public import proofs.«01_k».proof.Proof.Gen.FfnRefIdeal.Run
public import proofs.«01_k».proof.Proof.Dense.Array
public import proofs.«01_k».proof.Proof.Dense.Same
public import proofs.«01_k».proof.Proof.Gen.Mix
public import proofs.«01_k».proof.Proof.Gen.Mix.Launch
public import proofs.«01_k».proof.Proof.Gen.MixIdeal
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Blend.Array
public import proofs.«01_k».proof.Proof.Blend.RefRun
public import proofs.«01_k».proof.Proof.Blend.Same
public import proofs.«01_k».proof.Proof.Proj.Array
public import proofs.«01_k».proof.Proof.Proj.RefRun
public import proofs.«01_k».proof.Proof.Proj.Same
public import proofs.«01_k».proof.Proof.Gen.Proj
public import proofs.«01_k».proof.Proof.Gen.Proj.Launch
public import proofs.«01_k».proof.Proof.Gen.ProjIdeal
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Pre_finite_scales
public import Idealize.ShloMosaic.Adequacy
public import Idealize.ShloMosaic.Init

@[expose] public section

noncomputable section

namespace Cert.Proof

open Idealize.ShloMosaic Idealize.SL.Sem Cert.Kernel

/-- The zeros are the reference's. -/
theorem zeros_eq (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 6 Cert.KernelIdeal.cfg0.N
      = broadcastInDim Cert.ReferenceIdeal.S37888x1024 ![] Cert.ReferenceIdeal.Gen.bcast_S_S37888x1024 (constant (F := Ideal) Cert.ReferenceIdeal.S_ .f32 0x00000000#32) := by
  funext j
  have hj : j = ix2 (j 0) (j 1) := by
    funext a
    match a with
    | ⟨0, _⟩ => rfl
    | ⟨1, _⟩ => rfl
  rw [hj]
  exact (Cert.KernelIdeal.Value.arr6_apply m c (j 0) (j 1)).trans Ideal.ofBits_zero_f32.symm

/-- The kernel and the reference end with equal results. -/
theorem attention : @Cert.algebraic_KernelIdeal_ReferenceIdeal_pre_finite_qk Cert.KernelIdeal.Gen.facts Cert.ReferenceIdeal.Gen.facts Cert.Pre_finite_qk.Gen.facts := by
  intro m g m' g' hpre hargs
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, ?_, ?_⟩
  · exact Cert.KernelIdeal.Value.run_blocks m g
  · refine (θ_run (Cert.ReferenceIdeal.defs (F := Ideal)) _ _).mono (fun r h c => ?_) (Cert.ReferenceIdeal.Value.run m' g')
    obtain ⟨e0, e1, e2, h⟩ := h c
    obtain ⟨a0, a1, a2, a3⟩ := hargs c
    obtain ⟨hq, hk⟩ := Cert.Flash.pre_real _ _ _ _ (hpre c)
    exact ⟨(e0.trans (Cert.ReferenceIdeal.Value.attn_congr a0 a1 a2)).trans (Cert.Flash.attn_eq m c hq hk).symm,
      (e1.trans (congrArg Cert.ReferenceIdeal.Value.refW a3)).trans (Cert.Flash.weights_eq m c).symm, e2.trans (zeros_eq m c).symm, h⟩

/-- The reference runs, its arguments unchanged; it declares no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run (Cert.ReferenceIdeal.defs (F := Ideal)) _ _).mono (fun r h => ⟨fun c => (h c).2.2.2, Idealize.ShloMosaic.sem_eq_zero_of_no_sems (by decide) r.2⟩) (Cert.ReferenceIdeal.Value.run m g)

/-- The experts' program runs, its arguments unchanged. -/
theorem experts_frame : @Cert.quiescent_Experts Cert.Experts.Gen.facts Cert.Pre_experts_named.Gen.facts := fun m ρ hpre =>
  Cert.Experts.Tile.frame m ρ (Cert.ExpertsIdeal.Tile.ok_named (F := Bits) m fun c => Cert.ExpertsIdeal.Tile.pre_named _ _ _ _ _ _ (hpre c))

/-- So does its ideal. -/
theorem experts_ideal_frame : @Cert.quiescent_ExpertsIdeal Cert.ExpertsIdeal.Gen.facts Cert.Pre_experts_named.Gen.facts := fun m ρ hpre =>
  Cert.ExpertsIdeal.Tile.frame m ρ (Cert.ExpertsIdeal.Tile.ok_named m fun c => Cert.ExpertsIdeal.Tile.pre_named _ _ _ _ _ _ (hpre c))

/-- The experts' reference runs, its arguments unchanged; it declares no semaphore. -/
theorem experts_reference_frame (m : (ℓ : Loc Cert.ExpertsRefIdeal.nD Cert.ExpertsRefIdeal.τ Cert.ExpertsRefIdeal.sig) → Buf (Elt Ideal) ℓ) (g : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0) :=
  (θ_run (Cert.ExpertsRefIdeal.defs (F := Ideal)) _ _).mono (fun r h => ⟨fun c => (h c).2, Idealize.ShloMosaic.sem_eq_zero_of_no_sems (by decide) r.2⟩) (Cert.ExpertsRefIdeal.Value.run m g)

/-- The experts' kernel and its reference end with equal results. -/
theorem moe : @Cert.algebraic_ExpertsIdeal_ExpertsRefIdeal Cert.ExpertsIdeal.Gen.facts Cert.ExpertsRefIdeal.Gen.facts Cert.Pre_experts_named.Gen.facts := by
  intro m g m' g' hpre hargs
  have hn := fun c => Cert.ExpertsIdeal.Tile.pre_named _ _ _ _ _ _ (hpre c)
  have hO := Cert.ExpertsIdeal.Tile.ok_named m hn
  refine ⟨fun c => (Cert.ExpertsIdeal.Tile.dats m hO 0 c).arrAt 4 (Cert.ExpertsIdeal.Tile.cfgM m hO).N, ?_, ?_⟩
  · exact (θ_run (Cert.ExpertsIdeal.defs (F := Ideal)) _ _).mono (fun r h c => ⟨h.1 c, h.2 c⟩)
      (θ_run_and (Cert.ExpertsIdeal.Tile.run_out m g hO) (Cert.ExpertsIdeal.Tile.unchanged m g hO))
  · refine (θ_run (Cert.ExpertsRefIdeal.defs (F := Ideal)) _ _).mono (fun r h c => ?_) (Cert.ExpertsRefIdeal.Value.run m' g')
    obtain ⟨e, h⟩ := h c
    obtain ⟨a0, a1, a2, a3, a4, a5⟩ := hargs c
    exact ⟨(e.trans (Cert.ExpertsRefIdeal.Value.res_eq _)).trans ((Cert.ExpertsRefIdeal.Value.moe_congr a0 a1 a2 a3 a4 a5).trans (Cert.ExpertsIdeal.Tile.moe_eq m hO c (hn c)).symm), h⟩

/-- The grouped-head call and its reference end with equal results. -/
theorem grouped : @Cert.algebraic_GqaIdeal_GqaRefIdeal_pre_gqa_finite Cert.GqaIdeal.Gen.facts Cert.GqaRefIdeal.Gen.facts Cert.Pre_gqa_finite.Gen.facts := by
  intro m g m' g' hpre hargs
  refine ⟨fun c => (Cert.GqaIdeal.Gen.dats m 0 c).arrAt 4 Cert.GqaIdeal.cfg0.N, fun c => (Cert.GqaIdeal.Gen.dats m 0 c).arrAt 5 Cert.GqaIdeal.cfg0.N, ?_, ?_⟩
  · exact Cert.GqaIdeal.Value.run_blocks m g
  · refine (θ_run (Cert.GqaRefIdeal.defs (F := Ideal)) _ _).mono (fun r h c => ?_) (Cert.GqaRefIdeal.Value.run m' g')
    obtain ⟨e0, e1, h⟩ := h c
    obtain ⟨a0, a1, a2, a3⟩ := hargs c
    obtain ⟨hq, hk⟩ := Cert.Grouped.pre_real _ _ _ _ (hpre c)
    exact ⟨((e0.trans (Cert.GqaRefIdeal.Value.res_eq m' c)).trans (Cert.GqaRefIdeal.Value.attn_congr a0 a1 a2)).trans (Cert.Grouped.attn_eq m c hq hk).symm,
      (e1.trans (congrArg Cert.GqaRefIdeal.Value.refW a3)).trans (Cert.Grouped.weights_eq m c).symm, h⟩

/-- The grouped-head reference runs, its arguments unchanged; it declares no semaphore. -/
theorem gqa_reference_frame (m : (ℓ : Loc Cert.GqaRefIdeal.nD Cert.GqaRefIdeal.τ Cert.GqaRefIdeal.sig) → Buf (Elt Ideal) ℓ) (g : Dev Cert.GqaRefIdeal.nD → PrngReg) :
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0) :=
  (θ_run (Cert.GqaRefIdeal.defs (F := Ideal)) _ _).mono (fun r h => ⟨fun c => (h c).2.2, Idealize.ShloMosaic.sem_eq_zero_of_no_sems (by decide) r.2⟩) (Cert.GqaRefIdeal.Value.run m g)

/-- The feed-forward call and its reference end with equal results. -/
theorem dense : @Cert.algebraic_FfnIdeal_FfnRefIdeal Cert.FfnIdeal.Gen.facts Cert.FfnRefIdeal.Gen.facts := by
  intro m g m' g' _ hargs
  refine ⟨fun c => (Cert.FfnIdeal.Rows.dats m 0 c).arrAt 6 Cert.FfnIdeal.cfg0.N, ?_, ?_⟩
  · exact (θ_run (Cert.FfnIdeal.defs (F := Ideal)) _ _).mono (fun r h c => ⟨h.1 c, h.2.1 c⟩)
      (θ_run_and (Cert.FfnIdeal.Rows.run_out m g) (Cert.FfnIdeal.Rows.frame m g))
  · refine (θ_run (Cert.FfnRefIdeal.defs (F := Ideal)) _ _).mono (fun r h c => ?_) (Cert.FfnRefIdeal.Value.run m' g')
    obtain ⟨e, h⟩ := h c
    obtain ⟨a0, a1, a2, a3, a4, a5⟩ := hargs c
    exact ⟨(e.trans (Cert.FfnRefIdeal.Value.res_eq m' c)).trans ((Cert.FfnRefIdeal.Value.ffn_congr a0 a1 a2 a3 a4 a5).trans (Cert.FfnIdeal.Rows.ffn_eq m c).symm), h⟩

/-- The feed-forward reference runs, its arguments unchanged; it declares no semaphore. -/
theorem ffn_reference_frame (m : (ℓ : Loc Cert.FfnRefIdeal.nD Cert.FfnRefIdeal.τ Cert.FfnRefIdeal.sig) → Buf (Elt Ideal) ℓ) (g : Dev Cert.FfnRefIdeal.nD → PrngReg) :
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0) :=
  (θ_run (Cert.FfnRefIdeal.defs (F := Ideal)) _ _).mono (fun r h => ⟨fun c => (h c).2, Idealize.ShloMosaic.sem_eq_zero_of_no_sems (by decide) r.2⟩) (Cert.FfnRefIdeal.Value.run m g)

/-- The mixing call and its reference end with equal results. -/
theorem blended : @Cert.algebraic_MixIdeal_MixRefIdeal Cert.MixIdeal.Gen.facts Cert.MixRefIdeal.Gen.facts := by
  intro m g m' g' _ hargs
  refine ⟨fun c => (Cert.MixIdeal.Rows.dats m 0 c).arrAt 10 Cert.MixIdeal.cfg0.N, fun c => (Cert.MixIdeal.Rows.dats m 0 c).arrAt 11 Cert.MixIdeal.cfg0.N, ?_, ?_⟩
  · exact (θ_run (Cert.MixIdeal.defs (F := Ideal)) _ _).mono (fun r h c => ⟨(h.1 c).1, (h.1 c).2, h.2.1 c⟩)
      (θ_run_and (Cert.MixIdeal.Rows.run_out m g) (Cert.MixIdeal.Rows.frame m g))
  · refine (θ_run (Cert.MixRefIdeal.defs (F := Ideal)) _ _).mono (fun r h c => ?_) (Cert.MixRefIdeal.Value.run m' g')
    obtain ⟨e0, e1, h⟩ := h c
    obtain ⟨a0, a1, a2, a3, a4, a5, a6, a7, a8, a9⟩ := hargs c
    have hx : Cert.MixRefIdeal.Value.firstOf m' c = Cert.MixIdeal.Rows.wantX m c := Cert.MixRefIdeal.Value.first_congr a0 a1 a2 a3 a4 a5 a6 a7 a8
    exact ⟨(e0.trans (Cert.MixRefIdeal.Value.res_first m' c)).trans (hx.trans (Cert.MixIdeal.Rows.left10 m c).symm),
      (e1.trans (Cert.MixRefIdeal.Value.res_second m' c)).trans ((Cert.MixRefIdeal.Value.second_congr hx a7 a9).trans (Cert.MixIdeal.Rows.left11 m c).symm), h⟩

/-- The mixing reference runs, its arguments unchanged; it declares no semaphore. -/
theorem mix_reference_frame (m : (ℓ : Loc Cert.MixRefIdeal.nD Cert.MixRefIdeal.τ Cert.MixRefIdeal.sig) → Buf (Elt Ideal) ℓ) (g : Dev Cert.MixRefIdeal.nD → PrngReg) :
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0) :=
  (θ_run (Cert.MixRefIdeal.defs (F := Ideal)) _ _).mono (fun r h => ⟨fun c => (h c).2.2, Idealize.ShloMosaic.sem_eq_zero_of_no_sems (by decide) r.2⟩) (Cert.MixRefIdeal.Value.run m g)

/-- The output projection's call and its reference end with equal results. -/
theorem projected : @Cert.algebraic_ProjIdeal_ProjRefIdeal_pre_finite_scales Cert.ProjIdeal.Gen.facts Cert.ProjRefIdeal.Gen.facts Cert.Pre_finite_scales.Gen.facts := by
  intro m g m' g' hpre hargs
  refine ⟨fun c => (Cert.ProjIdeal.Rows.dats m 0 c).arrAt 7 Cert.ProjIdeal.cfg0.N, fun c => (Cert.ProjIdeal.Rows.dats m 0 c).arrAt 8 Cert.ProjIdeal.cfg0.N, fun c => (Cert.ProjIdeal.Rows.dats m 0 c).arrAt 9 Cert.ProjIdeal.cfg0.N, ?_, ?_⟩
  · exact (θ_run (Cert.ProjIdeal.defs (F := Ideal)) _ _).mono (fun r h c => ⟨(h.1 c).1, (h.1 c).2.1, (h.1 c).2.2, h.2.1 c⟩)
      (θ_run_and (Cert.ProjIdeal.Rows.run_out m g) (Cert.ProjIdeal.Rows.frame m g))
  · refine (θ_run (Cert.ProjRefIdeal.defs (F := Ideal)) _ _).mono (fun r h c => ?_) (Cert.ProjRefIdeal.Value.run m' g')
    obtain ⟨e0, e1, e2, h⟩ := h c
    obtain ⟨a0, a1, a2, a3, a4, a5, a6⟩ := hargs c
    obtain ⟨hm, hg, hq⟩ := Cert.ProjIdeal.Rows.pre_real _ _ _ _ _ _ _ (hpre c)
    have hx : Cert.ProjRefIdeal.Value.firstOf m' c = Cert.ProjIdeal.Rows.wantX m c := Cert.ProjRefIdeal.Value.first_congr a0 a1 a2 a3 a4
    have hf : Cert.ProjRefIdeal.Value.secondOf m' c = Cert.ProjIdeal.Rows.wantF m c := Cert.ProjRefIdeal.Value.second_congr hx a3 a5
    exact ⟨e0.trans (hx.trans (Cert.ProjIdeal.Rows.left7 m c).symm), (e1.trans (Cert.ProjRefIdeal.Value.res_second m' c)).trans (hf.trans (Cert.ProjIdeal.Rows.left8 m c).symm),
      (e2.trans (Cert.ProjRefIdeal.Value.res_third m' c)).trans ((Cert.ProjRefIdeal.Value.third_congr hf a6).trans (Cert.ProjIdeal.Rows.left9 m c hm hg hq).symm), h⟩

/-- The output projection's reference runs, its arguments unchanged; it declares no semaphore. -/
theorem proj_reference_frame (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0) :=
  (θ_run (Cert.ProjRefIdeal.defs (F := Ideal)) _ _).mono (fun r h => ⟨fun c => (h c).2.2.2, Idealize.ShloMosaic.sem_eq_zero_of_no_sems (by decide) r.2⟩) (Cert.ProjRefIdeal.Value.run m g)

/-- Every claim. -/
theorem claim : Cert.Claim :=
  ⟨Cert.Kernel.Gen.facts, Cert.KernelIdeal.Gen.facts, Cert.ReferenceIdeal.Gen.facts, Cert.Experts.Gen.facts, Cert.ExpertsIdeal.Gen.facts, Cert.ExpertsRefIdeal.Gen.facts,
    Cert.Gqa.Gen.facts, Cert.GqaIdeal.Gen.facts, Cert.GqaRefIdeal.Gen.facts,
    Cert.Ffn.Gen.facts, Cert.FfnIdeal.Gen.facts, Cert.FfnRefIdeal.Gen.facts,
    Cert.Mix.Gen.facts, Cert.MixIdeal.Gen.facts, Cert.MixRefIdeal.Gen.facts, Cert.Proj.Gen.facts, Cert.ProjIdeal.Gen.facts, Cert.ProjRefIdeal.Gen.facts,
    Cert.Pre_finite_qk.Gen.facts, Cert.Pre_experts_named.Gen.facts, Cert.Pre_gqa_finite.Gen.facts, Cert.Pre_finite_scales.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    experts_frame, experts_ideal_frame, fun m ρ _ => experts_reference_frame m ρ, fun m ρ _ => experts_reference_frame m ρ,
    fun m ρ _ => Cert.Gqa.Gen.frame m ρ, fun m ρ _ => Cert.GqaIdeal.Gen.frame m ρ, fun m ρ _ => Cert.GqaIdeal.Gen.frame m ρ,
    fun m ρ _ => gqa_reference_frame m ρ, fun m ρ _ => gqa_reference_frame m ρ,
    fun m ρ _ => Cert.Ffn.Rows.frame m ρ, fun m ρ _ => Cert.FfnIdeal.Rows.frame m ρ, fun m ρ _ => ffn_reference_frame m ρ,
    fun m ρ _ => Cert.Mix.Rows.frame m ρ, fun m ρ _ => Cert.MixIdeal.Rows.frame m ρ, fun m ρ _ => mix_reference_frame m ρ,
    fun m ρ _ => Cert.Proj.Rows.frame m ρ, fun m ρ _ => Cert.ProjIdeal.Rows.frame m ρ, fun m ρ _ => Cert.ProjIdeal.Rows.frame m ρ,
    fun m ρ _ => proj_reference_frame m ρ, fun m ρ _ => proj_reference_frame m ρ,
    trivial, attention, trivial, moe, trivial, grouped, trivial, dense, trivial, blended, trivial, projected⟩

end Cert.Proof

end
